-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S1 : Shape := ⟨1, ![1]⟩
abbrev S16 : Shape := ⟨1, ![16]⟩
abbrev S_ : Shape := ⟨0, ![]⟩
abbrev S3 : Shape := ⟨1, ![3]⟩
abbrev S4096x2048 : Shape := ⟨2, ![4096, 2048]⟩
abbrev S3x256x256 : Shape := ⟨3, ![3, 256, 256]⟩
abbrev S256x256 : Shape := ⟨2, ![256, 256]⟩
abbrev S1x256x256 : Shape := ⟨3, ![1, 256, 256]⟩

abbrev nBuf : Space → Nat
  | .hbm => 75
  | .vmem => 13
  | .smem => 3
  | _ => 0

abbrev bufTy : (tb : Table) → Fin (tcTables nBuf tb) → BufTy
  | .hbm, ⟨0, _⟩ => ⟨S4096x256, .fp8e5m2⟩
  | .hbm, ⟨1, _⟩ => ⟨S256x2048, .fp8e5m2⟩
  | .hbm, ⟨2, _⟩ => ⟨S1, .f32⟩
  | .hbm, ⟨3, _⟩ => ⟨S1, .f32⟩
  | .hbm, ⟨4, _⟩ => ⟨S16, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S16, .i32⟩
  | .hbm, ⟨12, _⟩ => ⟨S16, .i1⟩
  | .hbm, ⟨13, _⟩ => ⟨S16, .i32⟩
  | .hbm, ⟨14, _⟩ => ⟨S_, .i1⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i1⟩
  | .hbm, ⟨33, _⟩ => ⟨S_, .i1⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S1, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i1⟩
  | .hbm, ⟨59, _⟩ => ⟨S_, .i1⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S1, .i32⟩
  | .hbm, ⟨69, _⟩ => ⟨S_, .i32⟩
  | .hbm, ⟨70, _⟩ => ⟨S1, .i32⟩
  | .hbm, ⟨71, _⟩ => ⟨S1, .i32⟩
  | .hbm, ⟨72, _⟩ => ⟨S1, .i32⟩
  | .hbm, ⟨73, _⟩ => ⟨S3, .i32⟩
  | .hbm, ⟨74, _⟩ => ⟨S4096x2048, .f32⟩
  | .local _ .vmem, ⟨0, _⟩ => ⟨S4096x256, .fp8e5m2⟩
  | .local _ .vmem, ⟨1, _⟩ => ⟨S256x2048, .fp8e5m2⟩
  | .local _ .vmem, ⟨2, _⟩ => ⟨S4096x2048, .f32⟩
  | .local _ .vmem, ⟨3, _⟩ => ⟨S4096x2048, .bf16⟩
  | .local _ .vmem, ⟨4, _⟩ => ⟨S256x2048, .bf16⟩
  | .local _ .vmem, ⟨5, _⟩ => ⟨S3x256x256, .bf16⟩
  | .local _ .vmem, ⟨6, _⟩ => ⟨S3x256x256, .bf16⟩
  | .local _ .vmem, ⟨7, _⟩ => ⟨S3x256x256, .bf16⟩
  | .local _ .vmem, ⟨8, _⟩ => ⟨S3x256x256, .bf16⟩
  | .local _ .vmem, ⟨9, _⟩ => ⟨S3x256x256, .bf16⟩
  | .local _ .vmem, ⟨10, _⟩ => ⟨S3x256x256, .bf16⟩
  | .local _ .vmem, ⟨11, _⟩ => ⟨S3x256x256, .bf16⟩
  | .local _ .vmem, ⟨12, _⟩ => ⟨S3x256x256, .bf16⟩
  | .local _ .smem, ⟨0, _⟩ => ⟨S1, .f32⟩
  | .local _ .smem, ⟨1, _⟩ => ⟨S1, .f32⟩
  | .local _ .smem, ⟨2, _⟩ => ⟨S3, .i32⟩
  | _, _ => ⟨S4096x256, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | .smem, ⟨2, _⟩ => true
  | _, _ => false

abbrev semScoped : Fin 3 → Bool
  | ⟨0, _⟩ => true
  | ⟨1, _⟩ => true
  | ⟨2, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 3 54 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_c_0 : Ref sig .tc := ⟨.hbm, 15, rfl⟩
abbrev main_call0_v1_0 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_c_3 : Ref sig .tc := ⟨.hbm, 20, rfl⟩
abbrev main_call1_v0 : Ref sig .tc := ⟨.hbm, 21, rfl⟩
abbrev main_call1_c : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_c_1 : Ref sig .tc := ⟨.hbm, 27, rfl⟩
abbrev main_call1_v4 : Ref sig .tc := ⟨.hbm, 28, rfl⟩
abbrev main_call1_c_2 : Ref sig .tc := ⟨.hbm, 29, rfl⟩
abbrev main_call1_v5 : Ref sig .tc := ⟨.hbm, 30, rfl⟩
abbrev main_call1_c_3 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_v9 : Ref sig .tc := ⟨.hbm, 36, rfl⟩
abbrev main_c_4 : Ref sig .tc := ⟨.hbm, 37, rfl⟩
abbrev main_v10 : Ref sig .tc := ⟨.hbm, 38, rfl⟩
abbrev main_c_5 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_c_6 : Ref sig .tc := ⟨.hbm, 44, rfl⟩
abbrev main_v15 : Ref sig .tc := ⟨.hbm, 45, rfl⟩
abbrev main_c_7 : Ref sig .tc := ⟨.hbm, 46, rfl⟩
abbrev main_call2_v0 : Ref sig .tc := ⟨.hbm, 47, rfl⟩
abbrev main_call2_c : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_c_1 : Ref sig .tc := ⟨.hbm, 53, rfl⟩
abbrev main_call2_v4 : Ref sig .tc := ⟨.hbm, 54, rfl⟩
abbrev main_call2_c_2 : Ref sig .tc := ⟨.hbm, 55, rfl⟩
abbrev main_call2_v5 : Ref sig .tc := ⟨.hbm, 56, rfl⟩
abbrev main_call2_c_3 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_v16 : Ref sig .tc := ⟨.hbm, 62, rfl⟩
abbrev main_c_8 : Ref sig .tc := ⟨.hbm, 63, rfl⟩
abbrev main_v17 : Ref sig .tc := ⟨.hbm, 64, rfl⟩
abbrev main_c_9 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev cc0_stg0_0 : Ref sig .tc := ⟨.vmem, 0, rfl⟩
abbrev cc0_stg1_0 : Ref sig .tc := ⟨.vmem, 1, rfl⟩
abbrev cc0_stg5_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 2

abbrev nD : Nat := 16
abbrev τ : Topo := Topo.v7x

variable {F : FTy → Type} [FloatOps F]

abbrev grid0 : Pipeline.Grid := .none

def k0_dev1 (v1 : BitVec 32) : Nat :=
  let c0_i32 : BitVec 32 := 0#32
  let c1_i32_0 : BitVec 32 := 1#32
  let v4 : BitVec 32 := Scalar.muli v1 c1_i32_0
  let v5 : BitVec 32 := Scalar.addi c0_i32 v4
  v5.toNat

def k0_dev2 (v2 : BitVec 32) : Nat :=
  let c0_i32_3 : BitVec 32 := 0#32
  let c1_i32_2 : BitVec 32 := 1#32
  let v6 : BitVec 32 := Scalar.muli v2 c1_i32_2
  let v7 : BitVec 32 := Scalar.addi c0_i32_3 v6
  v7.toNat

def k0_off1 (v0 : BitVec 32) : Fin 2 → Nat :=
  let c256_i32 : BitVec 32 := 256#32
  let v17 : BitVec 32 := Scalar.muli v0 c256_i32
  let v18 : Index := Scalar.indexCast v17
  let c0_10 : Index := 0#32
  ![v18.toNat, 0]

def k0_dev3 (v2 : BitVec 32) : Nat :=
  let c0_i32_21 : BitVec 32 := 0#32
  let c1_i32_20 : BitVec 32 := 1#32
  let v29 : BitVec 32 := Scalar.muli v2 c1_i32_20
  let v30 : BitVec 32 := Scalar.addi c0_i32_21 v29
  v30.toNat
def k0_dev4 (v1 : BitVec 32) : Nat :=
  let c0_i32_34 : BitVec 32 := 0#32
  let c1_i32_33 : BitVec 32 := 1#32
  let v43 : BitVec 32 := Scalar.muli v1 c1_i32_33
  let v44 : BitVec 32 := Scalar.addi c0_i32_34 v43
  v44.toNat
def k0_dev5 (v2 : BitVec 32) : Nat :=
  let c0_i32_47 : BitVec 32 := 0#32
  let c1_i32_46 : BitVec 32 := 1#32
  let v57 : BitVec 32 := Scalar.muli v2 c1_i32_46
  let v58 : BitVec 32 := Scalar.addi c0_i32_47 v57
  v58.toNat
def k0_dev6 (v1 : BitVec 32) : Nat :=
  let c0_i32_60 : BitVec 32 := 0#32
  let c1_i32_59 : BitVec 32 := 1#32
  let v71 : BitVec 32 := Scalar.muli v1 c1_i32_59
  let v72 : BitVec 32 := Scalar.addi c0_i32_60 v71
  v72.toNat
def k0_dev7 (v2 : BitVec 32) : Nat :=
  let c0_i32_73 : BitVec 32 := 0#32
  let c1_i32_72 : BitVec 32 := 1#32
  let v85 : BitVec 32 := Scalar.muli v2 c1_i32_72
  let v86 : BitVec 32 := Scalar.addi c0_i32_73 v85
  v86.toNat
def k0_dev8 (v1 : BitVec 32) : Nat :=
  let c0_i32_86 : BitVec 32 := 0#32
  let c1_i32_85 : BitVec 32 := 1#32
  let v99 : BitVec 32 := Scalar.muli v1 c1_i32_85
  let v100 : BitVec 32 := Scalar.addi c0_i32_86 v99
  v100.toNat
def k0_dev9 (v2 : BitVec 32) : Nat :=
  let c0_i32_99 : BitVec 32 := 0#32
  let c1_i32_98 : BitVec 32 := 1#32
  let v113 : BitVec 32 := Scalar.muli v2 c1_i32_98
  let v114 : BitVec 32 := Scalar.addi c0_i32_99 v113
  v114.toNat
def k0_dev10 (v1 : BitVec 32) : Nat :=
  let c0_i32_112 : BitVec 32 := 0#32
  let c1_i32_111 : BitVec 32 := 1#32
  let v127 : BitVec 32 := Scalar.muli v1 c1_i32_111
  let v128 : BitVec 32 := Scalar.addi c0_i32_112 v127
  v128.toNat
def k0_off2 (v0 : BitVec 32) (c0_i32_117 : BitVec 32) : Fin 2 → Nat :=
  let v137 : BitVec 32 := Scalar.subi v0 c0_i32_117
  let c1_i32_118 : BitVec 32 := 1#32
  let v138 : BitVec 32 := Scalar.subi v137 c1_i32_118
  let c16_i32 : BitVec 32 := 16#32
  let c0_i32_119 : BitVec 32 := 0#32
  let v139 : BitVec 1 := Scalar.cmpi .eq c16_i32 c0_i32_119
  let c1_i32_120 : BitVec 32 := 1#32
  let v140 : BitVec 32 := Scalar.select v139 c1_i32_120 c16_i32
  let v141 : BitVec 32 := Scalar.remsi v138 v140
  let c0_i32_122 : BitVec 32 := 0#32
  let v143 : BitVec 1 := Scalar.cmpi .slt v141 c0_i32_122
  let c0_i32_123 : BitVec 32 := 0#32
  let v144 : BitVec 1 := Scalar.cmpi .slt v140 c0_i32_123
  let v145 : BitVec 1 := Scalar.xori v143 v144
  let c0_i32_121 : BitVec 32 := 0#32
  let v142 : BitVec 1 := Scalar.cmpi .ne v141 c0_i32_121
  let v146 : BitVec 1 := Scalar.andi v145 v142
  let v147 : BitVec 32 := Scalar.addi v141 v140
  let v148 : BitVec 32 := Scalar.select v146 v147 v141
  let c256_i32_124 : BitVec 32 := 256#32
  let v149 : BitVec 32 := Scalar.muli v148 c256_i32_124
  let v150 : Index := Scalar.indexCast v149
  let c0_125 : Index := 0#32
  ![v150.toNat, 0]
def k0_off3 (v0 : BitVec 32) (c0_i32_129 : BitVec 32) : Fin 2 → Nat :=
  let v157 : BitVec 32 := Scalar.subi v0 c0_i32_129
  let c1_i32_130 : BitVec 32 := 1#32
  let v158 : BitVec 32 := Scalar.subi v157 c1_i32_130
  let c16_i32_131 : BitVec 32 := 16#32
  let c0_i32_132 : BitVec 32 := 0#32
  let v159 : BitVec 1 := Scalar.cmpi .eq c16_i32_131 c0_i32_132
  let c1_i32_133 : BitVec 32 := 1#32
  let v160 : BitVec 32 := Scalar.select v159 c1_i32_133 c16_i32_131
  let v161 : BitVec 32 := Scalar.remsi v158 v160
  let c0_i32_135 : BitVec 32 := 0#32
  let v163 : BitVec 1 := Scalar.cmpi .slt v161 c0_i32_135
  let c0_i32_136 : BitVec 32 := 0#32
  let v164 : BitVec 1 := Scalar.cmpi .slt v160 c0_i32_136
  let v165 : BitVec 1 := Scalar.xori v163 v164
  let c0_i32_134 : BitVec 32 := 0#32
  let v162 : BitVec 1 := Scalar.cmpi .ne v161 c0_i32_134
  let v166 : BitVec 1 := Scalar.andi v165 v162
  let v167 : BitVec 32 := Scalar.addi v161 v160
  let v168 : BitVec 32 := Scalar.select v166 v167 v161
  let c256_i32_137 : BitVec 32 := 256#32
  let v169 : BitVec 32 := Scalar.muli v168 c256_i32_137
  let v170 : Index := Scalar.indexCast v169
  let c0_138 : Index := 0#32
  ![v170.toNat, 0]
def k0_off4 (v0 : BitVec 32) (c0_i32_139 : BitVec 32) : Fin 2 → Nat :=
  let v174 : BitVec 32 := Scalar.addi v0 c0_i32_139
  let c1_i32_140 : BitVec 32 := 1#32
  let v175 : BitVec 32 := Scalar.addi v174 c1_i32_140
  let c16_i32_141 : BitVec 32 := 16#32
  let c0_i32_142 : BitVec 32 := 0#32
  let v176 : BitVec 1 := Scalar.cmpi .eq c16_i32_141 c0_i32_142
  let c1_i32_143 : BitVec 32 := 1#32
  let v177 : BitVec 32 := Scalar.select v176 c1_i32_143 c16_i32_141
  let v178 : BitVec 32 := Scalar.remsi v175 v177
  let c0_i32_145 : BitVec 32 := 0#32
  let v180 : BitVec 1 := Scalar.cmpi .slt v178 c0_i32_145
  let c0_i32_146 : BitVec 32 := 0#32
  let v181 : BitVec 1 := Scalar.cmpi .slt v177 c0_i32_146
  let v182 : BitVec 1 := Scalar.xori v180 v181
  let c0_i32_144 : BitVec 32 := 0#32
  let v179 : BitVec 1 := Scalar.cmpi .ne v178 c0_i32_144
  let v183 : BitVec 1 := Scalar.andi v182 v179
  let v184 : BitVec 32 := Scalar.addi v178 v177
  let v185 : BitVec 32 := Scalar.select v183 v184 v178
  let c256_i32_147 : BitVec 32 := 256#32
  let v186 : BitVec 32 := Scalar.muli v185 c256_i32_147
  let v187 : Index := Scalar.indexCast v186
  let c0_148 : Index := 0#32
  ![v187.toNat, 0]
def k0_off5 (v0 : BitVec 32) (c0_i32_152 : BitVec 32) : Fin 2 → Nat :=
  let v194 : BitVec 32 := Scalar.addi v0 c0_i32_152
  let c1_i32_153 : BitVec 32 := 1#32
  let v195 : BitVec 32 := Scalar.addi v194 c1_i32_153
  let c16_i32_154 : BitVec 32 := 16#32
  let c0_i32_155 : BitVec 32 := 0#32
  let v196 : BitVec 1 := Scalar.cmpi .eq c16_i32_154 c0_i32_155
  let c1_i32_156 : BitVec 32 := 1#32
  let v197 : BitVec 32 := Scalar.select v196 c1_i32_156 c16_i32_154
  let v198 : BitVec 32 := Scalar.remsi v195 v197
  let c0_i32_158 : BitVec 32 := 0#32
  let v200 : BitVec 1 := Scalar.cmpi .slt v198 c0_i32_158
  let c0_i32_159 : BitVec 32 := 0#32
  let v201 : BitVec 1 := Scalar.cmpi .slt v197 c0_i32_159
  let v202 : BitVec 1 := Scalar.xori v200 v201
  let c0_i32_157 : BitVec 32 := 0#32
  let v199 : BitVec 1 := Scalar.cmpi .ne v198 c0_i32_157
  let v203 : BitVec 1 := Scalar.andi v202 v199
  let v204 : BitVec 32 := Scalar.addi v198 v197
  let v205 : BitVec 32 := Scalar.select v203 v204 v198
  let c256_i32_160 : BitVec 32 := 256#32
  let v206 : BitVec 32 := Scalar.muli v205 c256_i32_160
  let v207 : Index := Scalar.indexCast v206
  let c0_161 : Index := 0#32
  ![v207.toNat, 0]
def k0_off6 (v0 : BitVec 32) (c1_i32_175 : BitVec 32) : Fin 2 → Nat :=
  let v221 : BitVec 32 := Scalar.subi v0 c1_i32_175
  let c16_i32_176 : BitVec 32 := 16#32
  let c0_i32_177 : BitVec 32 := 0#32
  let v222 : BitVec 1 := Scalar.cmpi .eq c16_i32_176 c0_i32_177
  let c1_i32_178 : BitVec 32 := 1#32
  let v223 : BitVec 32 := Scalar.select v222 c1_i32_178 c16_i32_176
  let v224 : BitVec 32 := Scalar.remsi v221 v223
  let c0_i32_180 : BitVec 32 := 0#32
  let v226 : BitVec 1 := Scalar.cmpi .slt v224 c0_i32_180
  let c0_i32_181 : BitVec 32 := 0#32
  let v227 : BitVec 1 := Scalar.cmpi .slt v223 c0_i32_181
  let v228 : BitVec 1 := Scalar.xori v226 v227
  let c0_i32_179 : BitVec 32 := 0#32
  let v225 : BitVec 1 := Scalar.cmpi .ne v224 c0_i32_179
  let v229 : BitVec 1 := Scalar.andi v228 v225
  let v230 : BitVec 32 := Scalar.addi v224 v223
  let v231 : BitVec 32 := Scalar.select v229 v230 v224
  let c256_i32_182 : BitVec 32 := 256#32
  let v232 : BitVec 32 := Scalar.muli v231 c256_i32_182
  let v233 : Index := Scalar.indexCast v232
  let c0_183 : Index := 0#32
  ![v233.toNat, 0]
def k0_dev11 (v2 : BitVec 32) : Nat :=
  let c0_i32_192 : BitVec 32 := 0#32
  let c1_i32_191 : BitVec 32 := 1#32
  let v239 : BitVec 32 := Scalar.muli v2 c1_i32_191
  let v240 : BitVec 32 := Scalar.addi c0_i32_192 v239
  v240.toNat
def k0_off7 (v0 : BitVec 32) (c_m1_i32 : BitVec 32) : Fin 2 → Nat :=
  let v259 : BitVec 32 := Scalar.subi v0 c_m1_i32
  let c16_i32_210 : BitVec 32 := 16#32
  let c0_i32_211 : BitVec 32 := 0#32
  let v260 : BitVec 1 := Scalar.cmpi .eq c16_i32_210 c0_i32_211
  let c1_i32_212 : BitVec 32 := 1#32
  let v261 : BitVec 32 := Scalar.select v260 c1_i32_212 c16_i32_210
  let v262 : BitVec 32 := Scalar.remsi v259 v261
  let c0_i32_214 : BitVec 32 := 0#32
  let v264 : BitVec 1 := Scalar.cmpi .slt v262 c0_i32_214
  let c0_i32_215 : BitVec 32 := 0#32
  let v265 : BitVec 1 := Scalar.cmpi .slt v261 c0_i32_215
  let v266 : BitVec 1 := Scalar.xori v264 v265
  let c0_i32_213 : BitVec 32 := 0#32
  let v263 : BitVec 1 := Scalar.cmpi .ne v262 c0_i32_213
  let v267 : BitVec 1 := Scalar.andi v266 v263
  let v268 : BitVec 32 := Scalar.addi v262 v261
  let v269 : BitVec 32 := Scalar.select v267 v268 v262
  let c256_i32_216 : BitVec 32 := 256#32
  let v270 : BitVec 32 := Scalar.muli v269 c256_i32_216
  let v271 : Index := Scalar.indexCast v270
  let c256 : Index := 256#32
  ![v271.toNat, 256]
def k0_off7_at (r : Fin 16) : BitVec 32 :=
  if r.val < 8 then
    if r.val < 4 then
      if r.val < 2 then
        if r.val < 1 then
          4294967295#32
        else
          4294967294#32
      else
        if r.val < 3 then
          4294967293#32
        else
          4294967292#32
    else
      if r.val < 6 then
        if r.val < 5 then
          4294967291#32
        else
          4294967290#32
      else
        if r.val < 7 then
          4294967289#32
        else
          4294967288#32
  else
    if r.val < 12 then
      if r.val < 10 then
        if r.val < 9 then
          4294967287#32
        else
          4294967286#32
      else
        if r.val < 11 then
          4294967285#32
        else
          4294967284#32
    else
      if r.val < 14 then
        if r.val < 13 then
          4294967283#32
        else
          4294967282#32
      else
        if r.val < 15 then
          4294967281#32
        else
          0#32
def k0_dev12 (v1 : BitVec 32) : Nat :=
  let c0_i32_225 : BitVec 32 := 0#32
  let c1_i32_224 : BitVec 32 := 1#32
  let v277 : BitVec 32 := Scalar.muli v1 c1_i32_224
  let v278 : BitVec 32 := Scalar.addi c0_i32_225 v277
  v278.toNat
def k0_off8 (v0 : BitVec 32) (c1_i32_243 : BitVec 32) : Fin 2 → Nat :=
  let v297 : BitVec 32 := Scalar.subi v0 c1_i32_243
  let c16_i32_244 : BitVec 32 := 16#32
  let c0_i32_245 : BitVec 32 := 0#32
  let v298 : BitVec 1 := Scalar.cmpi .eq c16_i32_244 c0_i32_245
  let c1_i32_246 : BitVec 32 := 1#32
  let v299 : BitVec 32 := Scalar.select v298 c1_i32_246 c16_i32_244
  let v300 : BitVec 32 := Scalar.remsi v297 v299
  let c0_i32_248 : BitVec 32 := 0#32
  let v302 : BitVec 1 := Scalar.cmpi .slt v300 c0_i32_248
  let c0_i32_249 : BitVec 32 := 0#32
  let v303 : BitVec 1 := Scalar.cmpi .slt v299 c0_i32_249
  let v304 : BitVec 1 := Scalar.xori v302 v303
  let c0_i32_247 : BitVec 32 := 0#32
  let v301 : BitVec 1 := Scalar.cmpi .ne v300 c0_i32_247
  let v305 : BitVec 1 := Scalar.andi v304 v301
  let v306 : BitVec 32 := Scalar.addi v300 v299
  let v307 : BitVec 32 := Scalar.select v305 v306 v300
  let c256_i32_250 : BitVec 32 := 256#32
  let v308 : BitVec 32 := Scalar.muli v307 c256_i32_250
  let v309 : Index := Scalar.indexCast v308
  let c512 : Index := 512#32
  ![v309.toNat, 512]
def k0_dev13 (v2 : BitVec 32) : Nat :=
  let c0_i32_259 : BitVec 32 := 0#32
  let c1_i32_258 : BitVec 32 := 1#32
  let v315 : BitVec 32 := Scalar.muli v2 c1_i32_258
  let v316 : BitVec 32 := Scalar.addi c0_i32_259 v315
  v316.toNat
def k0_off9 (v0 : BitVec 32) (c_m1_i32_277 : BitVec 32) : Fin 2 → Nat :=
  let v335 : BitVec 32 := Scalar.subi v0 c_m1_i32_277
  let c16_i32_278 : BitVec 32 := 16#32
  let c0_i32_279 : BitVec 32 := 0#32
  let v336 : BitVec 1 := Scalar.cmpi .eq c16_i32_278 c0_i32_279
  let c1_i32_280 : BitVec 32 := 1#32
  let v337 : BitVec 32 := Scalar.select v336 c1_i32_280 c16_i32_278
  let v338 : BitVec 32 := Scalar.remsi v335 v337
  let c0_i32_282 : BitVec 32 := 0#32
  let v340 : BitVec 1 := Scalar.cmpi .slt v338 c0_i32_282
  let c0_i32_283 : BitVec 32 := 0#32
  let v341 : BitVec 1 := Scalar.cmpi .slt v337 c0_i32_283
  let v342 : BitVec 1 := Scalar.xori v340 v341
  let c0_i32_281 : BitVec 32 := 0#32
  let v339 : BitVec 1 := Scalar.cmpi .ne v338 c0_i32_281
  let v343 : BitVec 1 := Scalar.andi v342 v339
  let v344 : BitVec 32 := Scalar.addi v338 v337
  let v345 : BitVec 32 := Scalar.select v343 v344 v338
  let c256_i32_284 : BitVec 32 := 256#32
  let v346 : BitVec 32 := Scalar.muli v345 c256_i32_284
  let v347 : Index := Scalar.indexCast v346
  let c768 : Index := 768#32
  ![v347.toNat, 768]
def k0_off9_at (r : Fin 16) : BitVec 32 :=
  if r.val < 8 then
    if r.val < 4 then
      if r.val < 2 then
        if r.val < 1 then
          4294967295#32
        else
          4294967294#32
      else
        if r.val < 3 then
          4294967293#32
        else
          4294967292#32
    else
      if r.val < 6 then
        if r.val < 5 then
          4294967291#32
        else
          4294967290#32
      else
        if r.val < 7 then
          4294967289#32
        else
          4294967288#32
  else
    if r.val < 12 then
      if r.val < 10 then
        if r.val < 9 then
          4294967287#32
        else
          4294967286#32
      else
        if r.val < 11 then
          4294967285#32
        else
          4294967284#32
    else
      if r.val < 14 then
        if r.val < 13 then
          4294967283#32
        else
          4294967282#32
      else
        if r.val < 15 then
          4294967281#32
        else
          0#32
def k0_dev14 (v1 : BitVec 32) : Nat :=
  let c0_i32_293 : BitVec 32 := 0#32
  let c1_i32_292 : BitVec 32 := 1#32
  let v353 : BitVec 32 := Scalar.muli v1 c1_i32_292
  let v354 : BitVec 32 := Scalar.addi c0_i32_293 v353
  v354.toNat
def k0_off10 (v0 : BitVec 32) (c1_i32_311 : BitVec 32) : Fin 2 → Nat :=
  let v373 : BitVec 32 := Scalar.subi v0 c1_i32_311
  let c16_i32_312 : BitVec 32 := 16#32
  let c0_i32_313 : BitVec 32 := 0#32
  let v374 : BitVec 1 := Scalar.cmpi .eq c16_i32_312 c0_i32_313
  let c1_i32_314 : BitVec 32 := 1#32
  let v375 : BitVec 32 := Scalar.select v374 c1_i32_314 c16_i32_312
  let v376 : BitVec 32 := Scalar.remsi v373 v375
  let c0_i32_316 : BitVec 32 := 0#32
  let v378 : BitVec 1 := Scalar.cmpi .slt v376 c0_i32_316
  let c0_i32_317 : BitVec 32 := 0#32
  let v379 : BitVec 1 := Scalar.cmpi .slt v375 c0_i32_317
  let v380 : BitVec 1 := Scalar.xori v378 v379
  let c0_i32_315 : BitVec 32 := 0#32
  let v377 : BitVec 1 := Scalar.cmpi .ne v376 c0_i32_315
  let v381 : BitVec 1 := Scalar.andi v380 v377
  let v382 : BitVec 32 := Scalar.addi v376 v375
  let v383 : BitVec 32 := Scalar.select v381 v382 v376
  let c256_i32_318 : BitVec 32 := 256#32
  let v384 : BitVec 32 := Scalar.muli v383 c256_i32_318
  let v385 : Index := Scalar.indexCast v384
  let c1024 : Index := 1024#32
  ![v385.toNat, 1024]
def k0_dev15 (v2 : BitVec 32) : Nat :=
  let c0_i32_327 : BitVec 32 := 0#32
  let c1_i32_326 : BitVec 32 := 1#32
  let v391 : BitVec 32 := Scalar.muli v2 c1_i32_326
  let v392 : BitVec 32 := Scalar.addi c0_i32_327 v391
  v392.toNat
def k0_off11 (v0 : BitVec 32) (c_m1_i32_345 : BitVec 32) : Fin 2 → Nat :=
  let v411 : BitVec 32 := Scalar.subi v0 c_m1_i32_345
  let c16_i32_346 : BitVec 32 := 16#32
  let c0_i32_347 : BitVec 32 := 0#32
  let v412 : BitVec 1 := Scalar.cmpi .eq c16_i32_346 c0_i32_347
  let c1_i32_348 : BitVec 32 := 1#32
  let v413 : BitVec 32 := Scalar.select v412 c1_i32_348 c16_i32_346
  let v414 : BitVec 32 := Scalar.remsi v411 v413
  let c0_i32_350 : BitVec 32 := 0#32
  let v416 : BitVec 1 := Scalar.cmpi .slt v414 c0_i32_350
  let c0_i32_351 : BitVec 32 := 0#32
  let v417 : BitVec 1 := Scalar.cmpi .slt v413 c0_i32_351
  let v418 : BitVec 1 := Scalar.xori v416 v417
  let c0_i32_349 : BitVec 32 := 0#32
  let v415 : BitVec 1 := Scalar.cmpi .ne v414 c0_i32_349
  let v419 : BitVec 1 := Scalar.andi v418 v415
  let v420 : BitVec 32 := Scalar.addi v414 v413
  let v421 : BitVec 32 := Scalar.select v419 v420 v414
  let c256_i32_352 : BitVec 32 := 256#32
  let v422 : BitVec 32 := Scalar.muli v421 c256_i32_352
  let v423 : Index := Scalar.indexCast v422
  let c1280 : Index := 1280#32
  ![v423.toNat, 1280]
def k0_off11_at (r : Fin 16) : BitVec 32 :=
  if r.val < 8 then
    if r.val < 4 then
      if r.val < 2 then
        if r.val < 1 then
          4294967295#32
        else
          4294967294#32
      else
        if r.val < 3 then
          4294967293#32
        else
          4294967292#32
    else
      if r.val < 6 then
        if r.val < 5 then
          4294967291#32
        else
          4294967290#32
      else
        if r.val < 7 then
          4294967289#32
        else
          4294967288#32
  else
    if r.val < 12 then
      if r.val < 10 then
        if r.val < 9 then
          4294967287#32
        else
          4294967286#32
      else
        if r.val < 11 then
          4294967285#32
        else
          4294967284#32
    else
      if r.val < 14 then
        if r.val < 13 then
          4294967283#32
        else
          4294967282#32
      else
        if r.val < 15 then
          4294967281#32
        else
          0#32
def k0_dev16 (v1 : BitVec 32) : Nat :=
  let c0_i32_361 : BitVec 32 := 0#32
  let c1_i32_360 : BitVec 32 := 1#32
  let v429 : BitVec 32 := Scalar.muli v1 c1_i32_360
  let v430 : BitVec 32 := Scalar.addi c0_i32_361 v429
  v430.toNat
def k0_off12 (v0 : BitVec 32) (c1_i32_379 : BitVec 32) : Fin 2 → Nat :=
  let v449 : BitVec 32 := Scalar.subi v0 c1_i32_379
  let c16_i32_380 : BitVec 32 := 16#32
  let c0_i32_381 : BitVec 32 := 0#32
  let v450 : BitVec 1 := Scalar.cmpi .eq c16_i32_380 c0_i32_381
  let c1_i32_382 : BitVec 32 := 1#32
  let v451 : BitVec 32 := Scalar.select v450 c1_i32_382 c16_i32_380
  let v452 : BitVec 32 := Scalar.remsi v449 v451
  let c0_i32_384 : BitVec 32 := 0#32
  let v454 : BitVec 1 := Scalar.cmpi .slt v452 c0_i32_384
  let c0_i32_385 : BitVec 32 := 0#32
  let v455 : BitVec 1 := Scalar.cmpi .slt v451 c0_i32_385
  let v456 : BitVec 1 := Scalar.xori v454 v455
  let c0_i32_383 : BitVec 32 := 0#32
  let v453 : BitVec 1 := Scalar.cmpi .ne v452 c0_i32_383
  let v457 : BitVec 1 := Scalar.andi v456 v453
  let v458 : BitVec 32 := Scalar.addi v452 v451
  let v459 : BitVec 32 := Scalar.select v457 v458 v452
  let c256_i32_386 : BitVec 32 := 256#32
  let v460 : BitVec 32 := Scalar.muli v459 c256_i32_386
  let v461 : Index := Scalar.indexCast v460
  let c1536 : Index := 1536#32
  ![v461.toNat, 1536]
def k0_dev17 (v2 : BitVec 32) : Nat :=
  let c0_i32_395 : BitVec 32 := 0#32
  let c1_i32_394 : BitVec 32 := 1#32
  let v467 : BitVec 32 := Scalar.muli v2 c1_i32_394
  let v468 : BitVec 32 := Scalar.addi c0_i32_395 v467
  v468.toNat
def k0_off13 (v0 : BitVec 32) (c_m1_i32_413 : BitVec 32) : Fin 2 → Nat :=
  let v487 : BitVec 32 := Scalar.subi v0 c_m1_i32_413
  let c16_i32_414 : BitVec 32 := 16#32
  let c0_i32_415 : BitVec 32 := 0#32
  let v488 : BitVec 1 := Scalar.cmpi .eq c16_i32_414 c0_i32_415
  let c1_i32_416 : BitVec 32 := 1#32
  let v489 : BitVec 32 := Scalar.select v488 c1_i32_416 c16_i32_414
  let v490 : BitVec 32 := Scalar.remsi v487 v489
  let c0_i32_418 : BitVec 32 := 0#32
  let v492 : BitVec 1 := Scalar.cmpi .slt v490 c0_i32_418
  let c0_i32_419 : BitVec 32 := 0#32
  let v493 : BitVec 1 := Scalar.cmpi .slt v489 c0_i32_419
  let v494 : BitVec 1 := Scalar.xori v492 v493
  let c0_i32_417 : BitVec 32 := 0#32
  let v491 : BitVec 1 := Scalar.cmpi .ne v490 c0_i32_417
  let v495 : BitVec 1 := Scalar.andi v494 v491
  let v496 : BitVec 32 := Scalar.addi v490 v489
  let v497 : BitVec 32 := Scalar.select v495 v496 v490
  let c256_i32_420 : BitVec 32 := 256#32
  let v498 : BitVec 32 := Scalar.muli v497 c256_i32_420
  let v499 : Index := Scalar.indexCast v498
  let c1792 : Index := 1792#32
  ![v499.toNat, 1792]
def k0_off13_at (r : Fin 16) : BitVec 32 :=
  if r.val < 8 then
    if r.val < 4 then
      if r.val < 2 then
        if r.val < 1 then
          4294967295#32
        else
          4294967294#32
      else
        if r.val < 3 then
          4294967293#32
        else
          4294967292#32
    else
      if r.val < 6 then
        if r.val < 5 then
          4294967291#32
        else
          4294967290#32
      else
        if r.val < 7 then
          4294967289#32
        else
          4294967288#32
  else
    if r.val < 12 then
      if r.val < 10 then
        if r.val < 9 then
          4294967287#32
        else
          4294967286#32
      else
        if r.val < 11 then
          4294967285#32
        else
          4294967284#32
    else
      if r.val < 14 then
        if r.val < 13 then
          4294967283#32
        else
          4294967282#32
      else
        if r.val < 15 then
          4294967281#32
        else
          0#32

def k0_chk3 (v0 : BitVec 32) : Prop :=
  (∀ a, (k0_off1 v0) a + S256x256.size a ≤ S4096x256.size a) ∧
  (∀ (r : Fin 8), ∀ a, (k0_off2 v0 (BitVec.ofNat 32 r.val)) a + S256x256.size a ≤ S4096x256.size a) ∧
  (∀ (r : Fin 8), ∀ a, (k0_off3 v0 (BitVec.ofNat 32 r.val)) a + S256x2048.size a ≤ S4096x2048.size a) ∧
  (∀ (r : Fin 8), ∀ (hinb : ∀ a, (k0_off3 v0 (BitVec.ofNat 32 r.val)) a + S256x2048.size a ≤ S4096x2048.size a), (Rect.unit (s := S4096x2048) (k0_off3 v0 (BitVec.ofNat 32 r.val)) S256x2048.size hinb).PackedRows (EltTy.packing .bf16)) ∧
  (∀ (r : Fin 7), ∀ a, (k0_off4 v0 (BitVec.ofNat 32 r.val)) a + S256x256.size a ≤ S4096x256.size a) ∧
  (∀ (r : Fin 7), ∀ a, (k0_off5 v0 (BitVec.ofNat 32 r.val)) a + S256x2048.size a ≤ S4096x2048.size a) ∧
  (∀ (r : Fin 7), ∀ (hinb : ∀ a, (k0_off5 v0 (BitVec.ofNat 32 r.val)) a + S256x2048.size a ≤ S4096x2048.size a), (Rect.unit (s := S4096x2048) (k0_off5 v0 (BitVec.ofNat 32 r.val)) S256x2048.size hinb).PackedRows (EltTy.packing .bf16)) ∧
  (∀ (r : Fin 16), ∀ a, (k0_off6 v0 (BitVec.ofNat 32 r.val)) a + S256x256.size a ≤ S4096x2048.size a) ∧
  (∀ (r : Fin 16), ∀ a, (k0_off7 v0 (k0_off7_at r)) a + S256x256.size a ≤ S4096x2048.size a) ∧
  (∀ (r : Fin 16), ∀ a, (k0_off8 v0 (BitVec.ofNat 32 r.val)) a + S256x256.size a ≤ S4096x2048.size a) ∧
  (∀ (r : Fin 16), ∀ a, (k0_off9 v0 (k0_off9_at r)) a + S256x256.size a ≤ S4096x2048.size a) ∧
  (∀ (r : Fin 16), ∀ a, (k0_off10 v0 (BitVec.ofNat 32 r.val)) a + S256x256.size a ≤ S4096x2048.size a) ∧
  (∀ (r : Fin 16), ∀ a, (k0_off11 v0 (k0_off11_at r)) a + S256x256.size a ≤ S4096x2048.size a) ∧
  (∀ (r : Fin 16), ∀ a, (k0_off12 v0 (BitVec.ofNat 32 r.val)) a + S256x256.size a ≤ S4096x2048.size a) ∧
  (∀ (r : Fin 16), ∀ a, (k0_off13 v0 (k0_off13_at r)) a + S256x256.size a ≤ S4096x2048.size a)
theorem k0_off1_inb : ∀ (v0 : BitVec 32) (k0_hw3 : k0_chk3 v0), ∀ a, (k0_off1 v0) a + S256x256.size a ≤ S4096x256.size a := fun v0 k0_hw3 => k0_hw3.1
theorem k0_off2_inb : ∀ (v0 : BitVec 32) (k0_hw3 : k0_chk3 v0), ∀ (r : Fin 8), ∀ a, (k0_off2 v0 (BitVec.ofNat 32 r.val)) a + S256x256.size a ≤ S4096x256.size a := fun v0 k0_hw3 r => k0_hw3.2.1 r
theorem k0_off3_inb : ∀ (v0 : BitVec 32) (k0_hw3 : k0_chk3 v0), ∀ (r : Fin 8), ∀ a, (k0_off3 v0 (BitVec.ofNat 32 r.val)) a + S256x2048.size a ≤ S4096x2048.size a := fun v0 k0_hw3 r => k0_hw3.2.2.1 r
theorem k0_off3_packedbf16 : ∀ (v0 : BitVec 32) (k0_hw3 : k0_chk3 v0), ∀ (r : Fin 8), (Rect.unit (s := S4096x2048) (k0_off3 v0 (BitVec.ofNat 32 r.val)) S256x2048.size (k0_off3_inb v0 k0_hw3 r)).PackedRows (EltTy.packing .bf16) := fun v0 k0_hw3 r => k0_hw3.2.2.2.1 r (k0_off3_inb v0 k0_hw3 r)
theorem k0_off4_inb : ∀ (v0 : BitVec 32) (k0_hw3 : k0_chk3 v0), ∀ (r : Fin 7), ∀ a, (k0_off4 v0 (BitVec.ofNat 32 r.val)) a + S256x256.size a ≤ S4096x256.size a := fun v0 k0_hw3 r => k0_hw3.2.2.2.2.1 r
theorem k0_off5_inb : ∀ (v0 : BitVec 32) (k0_hw3 : k0_chk3 v0), ∀ (r : Fin 7), ∀ a, (k0_off5 v0 (BitVec.ofNat 32 r.val)) a + S256x2048.size a ≤ S4096x2048.size a := fun v0 k0_hw3 r => k0_hw3.2.2.2.2.2.1 r
theorem k0_off5_packedbf16 : ∀ (v0 : BitVec 32) (k0_hw3 : k0_chk3 v0), ∀ (r : Fin 7), (Rect.unit (s := S4096x2048) (k0_off5 v0 (BitVec.ofNat 32 r.val)) S256x2048.size (k0_off5_inb v0 k0_hw3 r)).PackedRows (EltTy.packing .bf16) := fun v0 k0_hw3 r => k0_hw3.2.2.2.2.2.2.1 r (k0_off5_inb v0 k0_hw3 r)
theorem k0_off6_inb : ∀ (v0 : BitVec 32) (k0_hw3 : k0_chk3 v0), ∀ (r : Fin 16), ∀ a, (k0_off6 v0 (BitVec.ofNat 32 r.val)) a + S256x256.size a ≤ S4096x2048.size a := fun v0 k0_hw3 r => k0_hw3.2.2.2.2.2.2.2.1 r
theorem k0_off7_inb : ∀ (v0 : BitVec 32) (k0_hw3 : k0_chk3 v0), ∀ (r : Fin 16), ∀ a, (k0_off7 v0 (k0_off7_at r)) a + S256x256.size a ≤ S4096x2048.size a := fun v0 k0_hw3 r => k0_hw3.2.2.2.2.2.2.2.2.1 r
theorem k0_off8_inb : ∀ (v0 : BitVec 32) (k0_hw3 : k0_chk3 v0), ∀ (r : Fin 16), ∀ a, (k0_off8 v0 (BitVec.ofNat 32 r.val)) a + S256x256.size a ≤ S4096x2048.size a := fun v0 k0_hw3 r => k0_hw3.2.2.2.2.2.2.2.2.2.1 r
theorem k0_off9_inb : ∀ (v0 : BitVec 32) (k0_hw3 : k0_chk3 v0), ∀ (r : Fin 16), ∀ a, (k0_off9 v0 (k0_off9_at r)) a + S256x256.size a ≤ S4096x2048.size a := fun v0 k0_hw3 r => k0_hw3.2.2.2.2.2.2.2.2.2.2.1 r
theorem k0_off10_inb : ∀ (v0 : BitVec 32) (k0_hw3 : k0_chk3 v0), ∀ (r : Fin 16), ∀ a, (k0_off10 v0 (BitVec.ofNat 32 r.val)) a + S256x256.size a ≤ S4096x2048.size a := fun v0 k0_hw3 r => k0_hw3.2.2.2.2.2.2.2.2.2.2.2.1 r
theorem k0_off11_inb : ∀ (v0 : BitVec 32) (k0_hw3 : k0_chk3 v0), ∀ (r : Fin 16), ∀ a, (k0_off11 v0 (k0_off11_at r)) a + S256x256.size a ≤ S4096x2048.size a := fun v0 k0_hw3 r => k0_hw3.2.2.2.2.2.2.2.2.2.2.2.2.1 r
theorem k0_off12_inb : ∀ (v0 : BitVec 32) (k0_hw3 : k0_chk3 v0), ∀ (r : Fin 16), ∀ a, (k0_off12 v0 (BitVec.ofNat 32 r.val)) a + S256x256.size a ≤ S4096x2048.size a := fun v0 k0_hw3 r => k0_hw3.2.2.2.2.2.2.2.2.2.2.2.2.2.1 r
theorem k0_off13_inb : ∀ (v0 : BitVec 32) (k0_hw3 : k0_chk3 v0), ∀ (r : Fin 16), ∀ a, (k0_off13 v0 (k0_off13_at r)) a + S256x256.size a ≤ S4096x2048.size a := fun v0 k0_hw3 r => k0_hw3.2.2.2.2.2.2.2.2.2.2.2.2.2.2 r

def k0_dev18 (v1 : BitVec 32) : Nat :=
  let c0_i32_429 : BitVec 32 := 0#32
  let c1_i32_428 : BitVec 32 := 1#32
  let v505 : BitVec 32 := Scalar.muli v1 c1_i32_428
  let v506 : BitVec 32 := Scalar.addi c0_i32_429 v505
  v506.toNat
def k0_dev19 (v1 : BitVec 32) : Nat :=
  let c0_i32_508 : BitVec 32 := 0#32
  let c1_i32_507 : BitVec 32 := 1#32
  let v563 : BitVec 32 := Scalar.muli v1 c1_i32_507
  let v564 : BitVec 32 := Scalar.addi c0_i32_508 v563
  v564.toNat
def k0_dev20 (v2 : BitVec 32) : Nat :=
  let c0_i32_511 : BitVec 32 := 0#32
  let c1_i32_510 : BitVec 32 := 1#32
  let v565 : BitVec 32 := Scalar.muli v2 c1_i32_510
  let v566 : BitVec 32 := Scalar.addi c0_i32_511 v565
  v566.toNat
def k0_dev21 (v2 : BitVec 32) : Nat :=
  let c0_i32_590 : BitVec 32 := 0#32
  let c1_i32_589 : BitVec 32 := 1#32
  let v669 : BitVec 32 := Scalar.muli v2 c1_i32_589
  let v670 : BitVec 32 := Scalar.addi c0_i32_590 v669
  v670.toNat
def k0_dev22 (v1 : BitVec 32) : Nat :=
  let c0_i32_626 : BitVec 32 := 0#32
  let c1_i32_625 : BitVec 32 := 1#32
  let v707 : BitVec 32 := Scalar.muli v1 c1_i32_625
  let v708 : BitVec 32 := Scalar.addi c0_i32_626 v707
  v708.toNat
def k0_dev23 (v2 : BitVec 32) : Nat :=
  let c0_i32_661 : BitVec 32 := 0#32
  let c1_i32_660 : BitVec 32 := 1#32
  let v745 : BitVec 32 := Scalar.muli v2 c1_i32_660
  let v746 : BitVec 32 := Scalar.addi c0_i32_661 v745
  v746.toNat
def k0_dev24 (v1 : BitVec 32) : Nat :=
  let c0_i32_696 : BitVec 32 := 0#32
  let c1_i32_695 : BitVec 32 := 1#32
  let v783 : BitVec 32 := Scalar.muli v1 c1_i32_695
  let v784 : BitVec 32 := Scalar.addi c0_i32_696 v783
  v784.toNat
def k0_dev25 (v2 : BitVec 32) : Nat :=
  let c0_i32_731 : BitVec 32 := 0#32
  let c1_i32_730 : BitVec 32 := 1#32
  let v821 : BitVec 32 := Scalar.muli v2 c1_i32_730
  let v822 : BitVec 32 := Scalar.addi c0_i32_731 v821
  v822.toNat
def k0_dev26 (v1 : BitVec 32) : Nat :=
  let c0_i32_766 : BitVec 32 := 0#32
  let c1_i32_765 : BitVec 32 := 1#32
  let v859 : BitVec 32 := Scalar.muli v1 c1_i32_765
  let v860 : BitVec 32 := Scalar.addi c0_i32_766 v859
  v860.toNat
def k0_dev27 (v2 : BitVec 32) : Nat :=
  let c0_i32_801 : BitVec 32 := 0#32
  let c1_i32_800 : BitVec 32 := 1#32
  let v897 : BitVec 32 := Scalar.muli v2 c1_i32_800
  let v898 : BitVec 32 := Scalar.addi c0_i32_801 v897
  v898.toNat
def k0_dev28 (v1 : BitVec 32) : Nat :=
  let c0_i32_836 : BitVec 32 := 0#32
  let c1_i32_835 : BitVec 32 := 1#32
  let v935 : BitVec 32 := Scalar.muli v1 c1_i32_835
  let v936 : BitVec 32 := Scalar.addi c0_i32_836 v935
  v936.toNat
def k0_dev29 (v1 : BitVec 32) : Nat :=
  let c0_i32_915 : BitVec 32 := 0#32
  let c1_i32_914 : BitVec 32 := 1#32
  let v993 : BitVec 32 := Scalar.muli v1 c1_i32_914
  let v994 : BitVec 32 := Scalar.addi c0_i32_915 v993
  v994.toNat
def k0_dev30 (v2 : BitVec 32) : Nat :=
  let c0_i32_918 : BitVec 32 := 0#32
  let c1_i32_917 : BitVec 32 := 1#32
  let v995 : BitVec 32 := Scalar.muli v2 c1_i32_917
  let v996 : BitVec 32 := Scalar.addi c0_i32_918 v995
  v996.toNat
def k0_dev31 (v2 : BitVec 32) : Nat :=
  let c0_i32_996 : BitVec 32 := 0#32
  let c1_i32_995 : BitVec 32 := 1#32
  let v1099 : BitVec 32 := Scalar.muli v2 c1_i32_995
  let v1100 : BitVec 32 := Scalar.addi c0_i32_996 v1099
  v1100.toNat
def k0_dev32 (v1 : BitVec 32) : Nat :=
  let c0_i32_1032 : BitVec 32 := 0#32
  let c1_i32_1031 : BitVec 32 := 1#32
  let v1137 : BitVec 32 := Scalar.muli v1 c1_i32_1031
  let v1138 : BitVec 32 := Scalar.addi c0_i32_1032 v1137
  v1138.toNat
def k0_dev33 (v2 : BitVec 32) : Nat :=
  let c0_i32_1067 : BitVec 32 := 0#32
  let c1_i32_1066 : BitVec 32 := 1#32
  let v1175 : BitVec 32 := Scalar.muli v2 c1_i32_1066
  let v1176 : BitVec 32 := Scalar.addi c0_i32_1067 v1175
  v1176.toNat
def k0_dev34 (v1 : BitVec 32) : Nat :=
  let c0_i32_1102 : BitVec 32 := 0#32
  let c1_i32_1101 : BitVec 32 := 1#32
  let v1213 : BitVec 32 := Scalar.muli v1 c1_i32_1101
  let v1214 : BitVec 32 := Scalar.addi c0_i32_1102 v1213
  v1214.toNat
def k0_dev35 (v2 : BitVec 32) : Nat :=
  let c0_i32_1137 : BitVec 32 := 0#32
  let c1_i32_1136 : BitVec 32 := 1#32
  let v1251 : BitVec 32 := Scalar.muli v2 c1_i32_1136
  let v1252 : BitVec 32 := Scalar.addi c0_i32_1137 v1251
  v1252.toNat
def k0_dev36 (v1 : BitVec 32) : Nat :=
  let c0_i32_1172 : BitVec 32 := 0#32
  let c1_i32_1171 : BitVec 32 := 1#32
  let v1289 : BitVec 32 := Scalar.muli v1 c1_i32_1171
  let v1290 : BitVec 32 := Scalar.addi c0_i32_1172 v1289
  v1290.toNat
def k0_dev37 (v2 : BitVec 32) : Nat :=
  let c0_i32_1207 : BitVec 32 := 0#32
  let c1_i32_1206 : BitVec 32 := 1#32
  let v1327 : BitVec 32 := Scalar.muli v2 c1_i32_1206
  let v1328 : BitVec 32 := Scalar.addi c0_i32_1207 v1327
  v1328.toNat
def k0_dev38 (v1 : BitVec 32) : Nat :=
  let c0_i32_1242 : BitVec 32 := 0#32
  let c1_i32_1241 : BitVec 32 := 1#32
  let v1365 : BitVec 32 := Scalar.muli v1 c1_i32_1241
  let v1366 : BitVec 32 := Scalar.addi c0_i32_1242 v1365
  v1366.toNat
def k0_dev39 (v1 : BitVec 32) : Nat :=
  let c0_i32_1321 : BitVec 32 := 0#32
  let c1_i32_1320 : BitVec 32 := 1#32
  let v1423 : BitVec 32 := Scalar.muli v1 c1_i32_1320
  let v1424 : BitVec 32 := Scalar.addi c0_i32_1321 v1423
  v1424.toNat
def k0_dev40 (v2 : BitVec 32) : Nat :=
  let c0_i32_1324 : BitVec 32 := 0#32
  let c1_i32_1323 : BitVec 32 := 1#32
  let v1425 : BitVec 32 := Scalar.muli v2 c1_i32_1323
  let v1426 : BitVec 32 := Scalar.addi c0_i32_1324 v1425
  v1426.toNat
def k0_dev41 (v2 : BitVec 32) : Nat :=
  let c0_i32_1402 : BitVec 32 := 0#32
  let c1_i32_1401 : BitVec 32 := 1#32
  let v1529 : BitVec 32 := Scalar.muli v2 c1_i32_1401
  let v1530 : BitVec 32 := Scalar.addi c0_i32_1402 v1529
  v1530.toNat
def k0_dev42 (v1 : BitVec 32) : Nat :=
  let c0_i32_1438 : BitVec 32 := 0#32
  let c1_i32_1437 : BitVec 32 := 1#32
  let v1567 : BitVec 32 := Scalar.muli v1 c1_i32_1437
  let v1568 : BitVec 32 := Scalar.addi c0_i32_1438 v1567
  v1568.toNat
def k0_dev43 (v2 : BitVec 32) : Nat :=
  let c0_i32_1473 : BitVec 32 := 0#32
  let c1_i32_1472 : BitVec 32 := 1#32
  let v1605 : BitVec 32 := Scalar.muli v2 c1_i32_1472
  let v1606 : BitVec 32 := Scalar.addi c0_i32_1473 v1605
  v1606.toNat
def k0_dev44 (v1 : BitVec 32) : Nat :=
  let c0_i32_1508 : BitVec 32 := 0#32
  let c1_i32_1507 : BitVec 32 := 1#32
  let v1643 : BitVec 32 := Scalar.muli v1 c1_i32_1507
  let v1644 : BitVec 32 := Scalar.addi c0_i32_1508 v1643
  v1644.toNat
def k0_dev45 (v2 : BitVec 32) : Nat :=
  let c0_i32_1543 : BitVec 32 := 0#32
  let c1_i32_1542 : BitVec 32 := 1#32
  let v1681 : BitVec 32 := Scalar.muli v2 c1_i32_1542
  let v1682 : BitVec 32 := Scalar.addi c0_i32_1543 v1681
  v1682.toNat
def k0_dev46 (v1 : BitVec 32) : Nat :=
  let c0_i32_1578 : BitVec 32 := 0#32
  let c1_i32_1577 : BitVec 32 := 1#32
  let v1719 : BitVec 32 := Scalar.muli v1 c1_i32_1577
  let v1720 : BitVec 32 := Scalar.addi c0_i32_1578 v1719
  v1720.toNat
def k0_dev47 (v2 : BitVec 32) : Nat :=
  let c0_i32_1613 : BitVec 32 := 0#32
  let c1_i32_1612 : BitVec 32 := 1#32
  let v1757 : BitVec 32 := Scalar.muli v2 c1_i32_1612
  let v1758 : BitVec 32 := Scalar.addi c0_i32_1613 v1757
  v1758.toNat
def k0_dev48 (v1 : BitVec 32) : Nat :=
  let c0_i32_1648 : BitVec 32 := 0#32
  let c1_i32_1647 : BitVec 32 := 1#32
  let v1795 : BitVec 32 := Scalar.muli v1 c1_i32_1647
  let v1796 : BitVec 32 := Scalar.addi c0_i32_1648 v1795
  v1796.toNat
def k0_dev49 (v1 : BitVec 32) : Nat :=
  let c0_i32_1727 : BitVec 32 := 0#32
  let c1_i32_1726 : BitVec 32 := 1#32
  let v1853 : BitVec 32 := Scalar.muli v1 c1_i32_1726
  let v1854 : BitVec 32 := Scalar.addi c0_i32_1727 v1853
  v1854.toNat
def k0_dev50 (v2 : BitVec 32) : Nat :=
  let c0_i32_1730 : BitVec 32 := 0#32
  let c1_i32_1729 : BitVec 32 := 1#32
  let v1855 : BitVec 32 := Scalar.muli v2 c1_i32_1729
  let v1856 : BitVec 32 := Scalar.addi c0_i32_1730 v1855
  v1856.toNat
def k0_dev51 (v2 : BitVec 32) : Nat :=
  let c0_i32_1808 : BitVec 32 := 0#32
  let c1_i32_1807 : BitVec 32 := 1#32
  let v1959 : BitVec 32 := Scalar.muli v2 c1_i32_1807
  let v1960 : BitVec 32 := Scalar.addi c0_i32_1808 v1959
  v1960.toNat
def k0_dev52 (v1 : BitVec 32) : Nat :=
  let c0_i32_1844 : BitVec 32 := 0#32
  let c1_i32_1843 : BitVec 32 := 1#32
  let v1997 : BitVec 32 := Scalar.muli v1 c1_i32_1843
  let v1998 : BitVec 32 := Scalar.addi c0_i32_1844 v1997
  v1998.toNat
def k0_dev53 (v2 : BitVec 32) : Nat :=
  let c0_i32_1879 : BitVec 32 := 0#32
  let c1_i32_1878 : BitVec 32 := 1#32
  let v2035 : BitVec 32 := Scalar.muli v2 c1_i32_1878
  let v2036 : BitVec 32 := Scalar.addi c0_i32_1879 v2035
  v2036.toNat
def k0_dev54 (v1 : BitVec 32) : Nat :=
  let c0_i32_1914 : BitVec 32 := 0#32
  let c1_i32_1913 : BitVec 32 := 1#32
  let v2073 : BitVec 32 := Scalar.muli v1 c1_i32_1913
  let v2074 : BitVec 32 := Scalar.addi c0_i32_1914 v2073
  v2074.toNat
def k0_dev55 (v2 : BitVec 32) : Nat :=
  let c0_i32_1949 : BitVec 32 := 0#32
  let c1_i32_1948 : BitVec 32 := 1#32
  let v2111 : BitVec 32 := Scalar.muli v2 c1_i32_1948
  let v2112 : BitVec 32 := Scalar.addi c0_i32_1949 v2111
  v2112.toNat
def k0_dev56 (v1 : BitVec 32) : Nat :=
  let c0_i32_1984 : BitVec 32 := 0#32
  let c1_i32_1983 : BitVec 32 := 1#32
  let v2149 : BitVec 32 := Scalar.muli v1 c1_i32_1983
  let v2150 : BitVec 32 := Scalar.addi c0_i32_1984 v2149
  v2150.toNat
def k0_dev57 (v2 : BitVec 32) : Nat :=
  let c0_i32_2019 : BitVec 32 := 0#32
  let c1_i32_2018 : BitVec 32 := 1#32
  let v2187 : BitVec 32 := Scalar.muli v2 c1_i32_2018
  let v2188 : BitVec 32 := Scalar.addi c0_i32_2019 v2187
  v2188.toNat
def k0_dev58 (v1 : BitVec 32) : Nat :=
  let c0_i32_2054 : BitVec 32 := 0#32
  let c1_i32_2053 : BitVec 32 := 1#32
  let v2225 : BitVec 32 := Scalar.muli v1 c1_i32_2053
  let v2226 : BitVec 32 := Scalar.addi c0_i32_2054 v2225
  v2226.toNat
def k0_dev59 (v1 : BitVec 32) : Nat :=
  let c0_i32_2133 : BitVec 32 := 0#32
  let c1_i32_2132 : BitVec 32 := 1#32
  let v2283 : BitVec 32 := Scalar.muli v1 c1_i32_2132
  let v2284 : BitVec 32 := Scalar.addi c0_i32_2133 v2283
  v2284.toNat
def k0_dev60 (v2 : BitVec 32) : Nat :=
  let c0_i32_2136 : BitVec 32 := 0#32
  let c1_i32_2135 : BitVec 32 := 1#32
  let v2285 : BitVec 32 := Scalar.muli v2 c1_i32_2135
  let v2286 : BitVec 32 := Scalar.addi c0_i32_2136 v2285
  v2286.toNat
def k0_dev61 (v2 : BitVec 32) : Nat :=
  let c0_i32_2214 : BitVec 32 := 0#32
  let c1_i32_2213 : BitVec 32 := 1#32
  let v2389 : BitVec 32 := Scalar.muli v2 c1_i32_2213
  let v2390 : BitVec 32 := Scalar.addi c0_i32_2214 v2389
  v2390.toNat
def k0_dev62 (v1 : BitVec 32) : Nat :=
  let c0_i32_2250 : BitVec 32 := 0#32
  let c1_i32_2249 : BitVec 32 := 1#32
  let v2427 : BitVec 32 := Scalar.muli v1 c1_i32_2249
  let v2428 : BitVec 32 := Scalar.addi c0_i32_2250 v2427
  v2428.toNat
def k0_dev63 (v2 : BitVec 32) : Nat :=
  let c0_i32_2285 : BitVec 32 := 0#32
  let c1_i32_2284 : BitVec 32 := 1#32
  let v2465 : BitVec 32 := Scalar.muli v2 c1_i32_2284
  let v2466 : BitVec 32 := Scalar.addi c0_i32_2285 v2465
  v2466.toNat
def k0_dev64 (v1 : BitVec 32) : Nat :=
  let c0_i32_2320 : BitVec 32 := 0#32
  let c1_i32_2319 : BitVec 32 := 1#32
  let v2503 : BitVec 32 := Scalar.muli v1 c1_i32_2319
  let v2504 : BitVec 32 := Scalar.addi c0_i32_2320 v2503
  v2504.toNat
def k0_dev65 (v2 : BitVec 32) : Nat :=
  let c0_i32_2355 : BitVec 32 := 0#32
  let c1_i32_2354 : BitVec 32 := 1#32
  let v2541 : BitVec 32 := Scalar.muli v2 c1_i32_2354
  let v2542 : BitVec 32 := Scalar.addi c0_i32_2355 v2541
  v2542.toNat
def k0_dev66 (v1 : BitVec 32) : Nat :=
  let c0_i32_2390 : BitVec 32 := 0#32
  let c1_i32_2389 : BitVec 32 := 1#32
  let v2579 : BitVec 32 := Scalar.muli v1 c1_i32_2389
  let v2580 : BitVec 32 := Scalar.addi c0_i32_2390 v2579
  v2580.toNat
def k0_dev67 (v2 : BitVec 32) : Nat :=
  let c0_i32_2425 : BitVec 32 := 0#32
  let c1_i32_2424 : BitVec 32 := 1#32
  let v2617 : BitVec 32 := Scalar.muli v2 c1_i32_2424
  let v2618 : BitVec 32 := Scalar.addi c0_i32_2425 v2617
  v2618.toNat
def k0_dev68 (v1 : BitVec 32) : Nat :=
  let c0_i32_2460 : BitVec 32 := 0#32
  let c1_i32_2459 : BitVec 32 := 1#32
  let v2655 : BitVec 32 := Scalar.muli v1 c1_i32_2459
  let v2656 : BitVec 32 := Scalar.addi c0_i32_2460 v2655
  v2656.toNat
def k0_dev69 (v1 : BitVec 32) : Nat :=
  let c0_i32_2539 : BitVec 32 := 0#32
  let c1_i32_2538 : BitVec 32 := 1#32
  let v2713 : BitVec 32 := Scalar.muli v1 c1_i32_2538
  let v2714 : BitVec 32 := Scalar.addi c0_i32_2539 v2713
  v2714.toNat
def k0_dev70 (v2 : BitVec 32) : Nat :=
  let c0_i32_2542 : BitVec 32 := 0#32
  let c1_i32_2541 : BitVec 32 := 1#32
  let v2715 : BitVec 32 := Scalar.muli v2 c1_i32_2541
  let v2716 : BitVec 32 := Scalar.addi c0_i32_2542 v2715
  v2716.toNat
def k0_dev71 (v2 : BitVec 32) : Nat :=
  let c0_i32_2620 : BitVec 32 := 0#32
  let c1_i32_2619 : BitVec 32 := 1#32
  let v2819 : BitVec 32 := Scalar.muli v2 c1_i32_2619
  let v2820 : BitVec 32 := Scalar.addi c0_i32_2620 v2819
  v2820.toNat
def k0_dev72 (v1 : BitVec 32) : Nat :=
  let c0_i32_2656 : BitVec 32 := 0#32
  let c1_i32_2655 : BitVec 32 := 1#32
  let v2857 : BitVec 32 := Scalar.muli v1 c1_i32_2655
  let v2858 : BitVec 32 := Scalar.addi c0_i32_2656 v2857
  v2858.toNat
def k0_dev73 (v2 : BitVec 32) : Nat :=
  let c0_i32_2691 : BitVec 32 := 0#32
  let c1_i32_2690 : BitVec 32 := 1#32
  let v2895 : BitVec 32 := Scalar.muli v2 c1_i32_2690
  let v2896 : BitVec 32 := Scalar.addi c0_i32_2691 v2895
  v2896.toNat
def k0_dev74 (v1 : BitVec 32) : Nat :=
  let c0_i32_2726 : BitVec 32 := 0#32
  let c1_i32_2725 : BitVec 32 := 1#32
  let v2933 : BitVec 32 := Scalar.muli v1 c1_i32_2725
  let v2934 : BitVec 32 := Scalar.addi c0_i32_2726 v2933
  v2934.toNat
def k0_dev75 (v2 : BitVec 32) : Nat :=
  let c0_i32_2761 : BitVec 32 := 0#32
  let c1_i32_2760 : BitVec 32 := 1#32
  let v2971 : BitVec 32 := Scalar.muli v2 c1_i32_2760
  let v2972 : BitVec 32 := Scalar.addi c0_i32_2761 v2971
  v2972.toNat
def k0_dev76 (v1 : BitVec 32) : Nat :=
  let c0_i32_2796 : BitVec 32 := 0#32
  let c1_i32_2795 : BitVec 32 := 1#32
  let v3009 : BitVec 32 := Scalar.muli v1 c1_i32_2795
  let v3010 : BitVec 32 := Scalar.addi c0_i32_2796 v3009
  v3010.toNat
def k0_dev77 (v2 : BitVec 32) : Nat :=
  let c0_i32_2831 : BitVec 32 := 0#32
  let c1_i32_2830 : BitVec 32 := 1#32
  let v3047 : BitVec 32 := Scalar.muli v2 c1_i32_2830
  let v3048 : BitVec 32 := Scalar.addi c0_i32_2831 v3047
  v3048.toNat
def k0_dev78 (v1 : BitVec 32) : Nat :=
  let c0_i32_2866 : BitVec 32 := 0#32
  let c1_i32_2865 : BitVec 32 := 1#32
  let v3085 : BitVec 32 := Scalar.muli v1 c1_i32_2865
  let v3086 : BitVec 32 := Scalar.addi c0_i32_2866 v3085
  v3086.toNat
def k0_dev79 (v1 : BitVec 32) : Nat :=
  let c0_i32_2945 : BitVec 32 := 0#32
  let c1_i32_2944 : BitVec 32 := 1#32
  let v3143 : BitVec 32 := Scalar.muli v1 c1_i32_2944
  let v3144 : BitVec 32 := Scalar.addi c0_i32_2945 v3143
  v3144.toNat
def k0_dev80 (v2 : BitVec 32) : Nat :=
  let c0_i32_2948 : BitVec 32 := 0#32
  let c1_i32_2947 : BitVec 32 := 1#32
  let v3145 : BitVec 32 := Scalar.muli v2 c1_i32_2947
  let v3146 : BitVec 32 := Scalar.addi c0_i32_2948 v3145
  v3146.toNat
def k0_dev81 (v2 : BitVec 32) : Nat :=
  let c0_i32_3003 : BitVec 32 := 0#32
  let c1_i32_3002 : BitVec 32 := 1#32
  let v3212 : BitVec 32 := Scalar.muli v2 c1_i32_3002
  let v3213 : BitVec 32 := Scalar.addi c0_i32_3003 v3212
  v3213.toNat
def k0_dev82 (v1 : BitVec 32) : Nat :=
  let c0_i32_3039 : BitVec 32 := 0#32
  let c1_i32_3038 : BitVec 32 := 1#32
  let v3250 : BitVec 32 := Scalar.muli v1 c1_i32_3038
  let v3251 : BitVec 32 := Scalar.addi c0_i32_3039 v3250
  v3251.toNat
def k0_dev83 (v2 : BitVec 32) : Nat :=
  let c0_i32_3074 : BitVec 32 := 0#32
  let c1_i32_3073 : BitVec 32 := 1#32
  let v3288 : BitVec 32 := Scalar.muli v2 c1_i32_3073
  let v3289 : BitVec 32 := Scalar.addi c0_i32_3074 v3288
  v3289.toNat
def k0_dev84 (v1 : BitVec 32) : Nat :=
  let c0_i32_3109 : BitVec 32 := 0#32
  let c1_i32_3108 : BitVec 32 := 1#32
  let v3326 : BitVec 32 := Scalar.muli v1 c1_i32_3108
  let v3327 : BitVec 32 := Scalar.addi c0_i32_3109 v3326
  v3327.toNat
def k0_dev85 (v2 : BitVec 32) : Nat :=
  let c0_i32_3144 : BitVec 32 := 0#32
  let c1_i32_3143 : BitVec 32 := 1#32
  let v3364 : BitVec 32 := Scalar.muli v2 c1_i32_3143
  let v3365 : BitVec 32 := Scalar.addi c0_i32_3144 v3364
  v3365.toNat
def k0_dev86 (v1 : BitVec 32) : Nat :=
  let c0_i32_3179 : BitVec 32 := 0#32
  let c1_i32_3178 : BitVec 32 := 1#32
  let v3402 : BitVec 32 := Scalar.muli v1 c1_i32_3178
  let v3403 : BitVec 32 := Scalar.addi c0_i32_3179 v3402
  v3403.toNat
def k0_dev87 (v2 : BitVec 32) : Nat :=
  let c0_i32_3214 : BitVec 32 := 0#32
  let c1_i32_3213 : BitVec 32 := 1#32
  let v3440 : BitVec 32 := Scalar.muli v2 c1_i32_3213
  let v3441 : BitVec 32 := Scalar.addi c0_i32_3214 v3440
  v3441.toNat
def k0_dev88 (v1 : BitVec 32) : Nat :=
  let c0_i32_3249 : BitVec 32 := 0#32
  let c1_i32_3248 : BitVec 32 := 1#32
  let v3478 : BitVec 32 := Scalar.muli v1 c1_i32_3248
  let v3479 : BitVec 32 := Scalar.addi c0_i32_3249 v3478
  v3479.toNat
def k0_dev89 (v1 : BitVec 32) : Nat :=
  let c0_i32_3328 : BitVec 32 := 0#32
  let c1_i32_3327 : BitVec 32 := 1#32
  let v3536 : BitVec 32 := Scalar.muli v1 c1_i32_3327
  let v3537 : BitVec 32 := Scalar.addi c0_i32_3328 v3536
  v3537.toNat
def k0_dev90 (v2 : BitVec 32) : Nat :=
  let c0_i32_3331 : BitVec 32 := 0#32
  let c1_i32_3330 : BitVec 32 := 1#32
  let v3538 : BitVec 32 := Scalar.muli v2 c1_i32_3330
  let v3539 : BitVec 32 := Scalar.addi c0_i32_3331 v3538
  v3539.toNat
def k0_dev91 (v2 : BitVec 32) : Nat :=
  let c0_i32_3363 : BitVec 32 := 0#32
  let c1_i32_3362 : BitVec 32 := 1#32
  let v3568 : BitVec 32 := Scalar.muli v2 c1_i32_3362
  let v3569 : BitVec 32 := Scalar.addi c0_i32_3363 v3568
  v3569.toNat
def k0_dev92 (v1 : BitVec 32) : Nat :=
  let c0_i32_3399 : BitVec 32 := 0#32
  let c1_i32_3398 : BitVec 32 := 1#32
  let v3606 : BitVec 32 := Scalar.muli v1 c1_i32_3398
  let v3607 : BitVec 32 := Scalar.addi c0_i32_3399 v3606
  v3607.toNat
def k0_dev93 (v2 : BitVec 32) : Nat :=
  let c0_i32_3434 : BitVec 32 := 0#32
  let c1_i32_3433 : BitVec 32 := 1#32
  let v3644 : BitVec 32 := Scalar.muli v2 c1_i32_3433
  let v3645 : BitVec 32 := Scalar.addi c0_i32_3434 v3644
  v3645.toNat
def k0_dev94 (v1 : BitVec 32) : Nat :=
  let c0_i32_3469 : BitVec 32 := 0#32
  let c1_i32_3468 : BitVec 32 := 1#32
  let v3682 : BitVec 32 := Scalar.muli v1 c1_i32_3468
  let v3683 : BitVec 32 := Scalar.addi c0_i32_3469 v3682
  v3683.toNat
def k0_dev95 (v2 : BitVec 32) : Nat :=
  let c0_i32_3504 : BitVec 32 := 0#32
  let c1_i32_3503 : BitVec 32 := 1#32
  let v3720 : BitVec 32 := Scalar.muli v2 c1_i32_3503
  let v3721 : BitVec 32 := Scalar.addi c0_i32_3504 v3720
  v3721.toNat
def k0_dev96 (v1 : BitVec 32) : Nat :=
  let c0_i32_3539 : BitVec 32 := 0#32
  let c1_i32_3538 : BitVec 32 := 1#32
  let v3758 : BitVec 32 := Scalar.muli v1 c1_i32_3538
  let v3759 : BitVec 32 := Scalar.addi c0_i32_3539 v3758
  v3759.toNat
def k0_dev97 (v2 : BitVec 32) : Nat :=
  let c0_i32_3574 : BitVec 32 := 0#32
  let c1_i32_3573 : BitVec 32 := 1#32
  let v3796 : BitVec 32 := Scalar.muli v2 c1_i32_3573
  let v3797 : BitVec 32 := Scalar.addi c0_i32_3574 v3796
  v3797.toNat
def k0_dev98 (v1 : BitVec 32) : Nat :=
  let c0_i32_3609 : BitVec 32 := 0#32
  let c1_i32_3608 : BitVec 32 := 1#32
  let v3834 : BitVec 32 := Scalar.muli v1 c1_i32_3608
  let v3835 : BitVec 32 := Scalar.addi c0_i32_3609 v3834
  v3835.toNat
def k0_dev99 (v1 : BitVec 32) : Nat :=
  let c0_i32_3688 : BitVec 32 := 0#32
  let c1_i32_3687 : BitVec 32 := 1#32
  let v3892 : BitVec 32 := Scalar.muli v1 c1_i32_3687
  let v3893 : BitVec 32 := Scalar.addi c0_i32_3688 v3892
  v3893.toNat
def k0_dev100 (v2 : BitVec 32) : Nat :=
  let c0_i32_3691 : BitVec 32 := 0#32
  let c1_i32_3690 : BitVec 32 := 1#32
  let v3894 : BitVec 32 := Scalar.muli v2 c1_i32_3690
  let v3895 : BitVec 32 := Scalar.addi c0_i32_3691 v3894
  v3895.toNat
def k0_dev101 (v2 : BitVec 32) : Nat :=
  let c0_i32_3723 : BitVec 32 := 0#32
  let c1_i32_3722 : BitVec 32 := 1#32
  let v3924 : BitVec 32 := Scalar.muli v2 c1_i32_3722
  let v3925 : BitVec 32 := Scalar.addi c0_i32_3723 v3924
  v3925.toNat
def k0_dev102 (v1 : BitVec 32) : Nat :=
  let c0_i32_3759 : BitVec 32 := 0#32
  let c1_i32_3758 : BitVec 32 := 1#32
  let v3962 : BitVec 32 := Scalar.muli v1 c1_i32_3758
  let v3963 : BitVec 32 := Scalar.addi c0_i32_3759 v3962
  v3963.toNat
def k0_dev103 (v2 : BitVec 32) : Nat :=
  let c0_i32_3794 : BitVec 32 := 0#32
  let c1_i32_3793 : BitVec 32 := 1#32
  let v4000 : BitVec 32 := Scalar.muli v2 c1_i32_3793
  let v4001 : BitVec 32 := Scalar.addi c0_i32_3794 v4000
  v4001.toNat
def k0_dev104 (v1 : BitVec 32) : Nat :=
  let c0_i32_3829 : BitVec 32 := 0#32
  let c1_i32_3828 : BitVec 32 := 1#32
  let v4038 : BitVec 32 := Scalar.muli v1 c1_i32_3828
  let v4039 : BitVec 32 := Scalar.addi c0_i32_3829 v4038
  v4039.toNat
def k0_dev105 (v2 : BitVec 32) : Nat :=
  let c0_i32_3864 : BitVec 32 := 0#32
  let c1_i32_3863 : BitVec 32 := 1#32
  let v4076 : BitVec 32 := Scalar.muli v2 c1_i32_3863
  let v4077 : BitVec 32 := Scalar.addi c0_i32_3864 v4076
  v4077.toNat
def k0_dev106 (v1 : BitVec 32) : Nat :=
  let c0_i32_3899 : BitVec 32 := 0#32
  let c1_i32_3898 : BitVec 32 := 1#32
  let v4114 : BitVec 32 := Scalar.muli v1 c1_i32_3898
  let v4115 : BitVec 32 := Scalar.addi c0_i32_3899 v4114
  v4115.toNat
def k0_dev107 (v2 : BitVec 32) : Nat :=
  let c0_i32_3934 : BitVec 32 := 0#32
  let c1_i32_3933 : BitVec 32 := 1#32
  let v4152 : BitVec 32 := Scalar.muli v2 c1_i32_3933
  let v4153 : BitVec 32 := Scalar.addi c0_i32_3934 v4152
  v4153.toNat
def k0_dev108 (v1 : BitVec 32) : Nat :=
  let c0_i32_3969 : BitVec 32 := 0#32
  let c1_i32_3968 : BitVec 32 := 1#32
  let v4190 : BitVec 32 := Scalar.muli v1 c1_i32_3968
  let v4191 : BitVec 32 := Scalar.addi c0_i32_3969 v4190
  v4191.toNat
def k0_dev109 (v1 : BitVec 32) : Nat :=
  let c0_i32_4048 : BitVec 32 := 0#32
  let c1_i32_4047 : BitVec 32 := 1#32
  let v4248 : BitVec 32 := Scalar.muli v1 c1_i32_4047
  let v4249 : BitVec 32 := Scalar.addi c0_i32_4048 v4248
  v4249.toNat
def k0_dev110 (v2 : BitVec 32) : Nat :=
  let c0_i32_4051 : BitVec 32 := 0#32
  let c1_i32_4050 : BitVec 32 := 1#32
  let v4250 : BitVec 32 := Scalar.muli v2 c1_i32_4050
  let v4251 : BitVec 32 := Scalar.addi c0_i32_4051 v4250
  v4251.toNat
def k0_dev111 (v2 : BitVec 32) : Nat :=
  let c0_i32_4083 : BitVec 32 := 0#32
  let c1_i32_4082 : BitVec 32 := 1#32
  let v4280 : BitVec 32 := Scalar.muli v2 c1_i32_4082
  let v4281 : BitVec 32 := Scalar.addi c0_i32_4083 v4280
  v4281.toNat
def k0_dev112 (v1 : BitVec 32) : Nat :=
  let c0_i32_4119 : BitVec 32 := 0#32
  let c1_i32_4118 : BitVec 32 := 1#32
  let v4318 : BitVec 32 := Scalar.muli v1 c1_i32_4118
  let v4319 : BitVec 32 := Scalar.addi c0_i32_4119 v4318
  v4319.toNat
def k0_dev113 (v2 : BitVec 32) : Nat :=
  let c0_i32_4154 : BitVec 32 := 0#32
  let c1_i32_4153 : BitVec 32 := 1#32
  let v4356 : BitVec 32 := Scalar.muli v2 c1_i32_4153
  let v4357 : BitVec 32 := Scalar.addi c0_i32_4154 v4356
  v4357.toNat
def k0_dev114 (v1 : BitVec 32) : Nat :=
  let c0_i32_4189 : BitVec 32 := 0#32
  let c1_i32_4188 : BitVec 32 := 1#32
  let v4394 : BitVec 32 := Scalar.muli v1 c1_i32_4188
  let v4395 : BitVec 32 := Scalar.addi c0_i32_4189 v4394
  v4395.toNat
def k0_dev115 (v2 : BitVec 32) : Nat :=
  let c0_i32_4224 : BitVec 32 := 0#32
  let c1_i32_4223 : BitVec 32 := 1#32
  let v4432 : BitVec 32 := Scalar.muli v2 c1_i32_4223
  let v4433 : BitVec 32 := Scalar.addi c0_i32_4224 v4432
  v4433.toNat
def k0_dev116 (v1 : BitVec 32) : Nat :=
  let c0_i32_4259 : BitVec 32 := 0#32
  let c1_i32_4258 : BitVec 32 := 1#32
  let v4470 : BitVec 32 := Scalar.muli v1 c1_i32_4258
  let v4471 : BitVec 32 := Scalar.addi c0_i32_4259 v4470
  v4471.toNat
def k0_dev117 (v2 : BitVec 32) : Nat :=
  let c0_i32_4294 : BitVec 32 := 0#32
  let c1_i32_4293 : BitVec 32 := 1#32
  let v4508 : BitVec 32 := Scalar.muli v2 c1_i32_4293
  let v4509 : BitVec 32 := Scalar.addi c0_i32_4294 v4508
  v4509.toNat
def k0_dev118 (v1 : BitVec 32) : Nat :=
  let c0_i32_4329 : BitVec 32 := 0#32
  let c1_i32_4328 : BitVec 32 := 1#32
  let v4546 : BitVec 32 := Scalar.muli v1 c1_i32_4328
  let v4547 : BitVec 32 := Scalar.addi c0_i32_4329 v4546
  v4547.toNat
def k0_dev119 (v1 : BitVec 32) : Nat :=
  let c0_i32_4408 : BitVec 32 := 0#32
  let c1_i32_4407 : BitVec 32 := 1#32
  let v4604 : BitVec 32 := Scalar.muli v1 c1_i32_4407
  let v4605 : BitVec 32 := Scalar.addi c0_i32_4408 v4604
  v4605.toNat
def k0_dev120 (v2 : BitVec 32) : Nat :=
  let c0_i32_4411 : BitVec 32 := 0#32
  let c1_i32_4410 : BitVec 32 := 1#32
  let v4606 : BitVec 32 := Scalar.muli v2 c1_i32_4410
  let v4607 : BitVec 32 := Scalar.addi c0_i32_4411 v4606
  v4607.toNat
def k0_dev121 (v2 : BitVec 32) : Nat :=
  let c0_i32_4443 : BitVec 32 := 0#32
  let c1_i32_4442 : BitVec 32 := 1#32
  let v4636 : BitVec 32 := Scalar.muli v2 c1_i32_4442
  let v4637 : BitVec 32 := Scalar.addi c0_i32_4443 v4636
  v4637.toNat
def k0_dev122 (v1 : BitVec 32) : Nat :=
  let c0_i32_4479 : BitVec 32 := 0#32
  let c1_i32_4478 : BitVec 32 := 1#32
  let v4674 : BitVec 32 := Scalar.muli v1 c1_i32_4478
  let v4675 : BitVec 32 := Scalar.addi c0_i32_4479 v4674
  v4675.toNat
def k0_dev123 (v2 : BitVec 32) : Nat :=
  let c0_i32_4514 : BitVec 32 := 0#32
  let c1_i32_4513 : BitVec 32 := 1#32
  let v4712 : BitVec 32 := Scalar.muli v2 c1_i32_4513
  let v4713 : BitVec 32 := Scalar.addi c0_i32_4514 v4712
  v4713.toNat
def k0_dev124 (v1 : BitVec 32) : Nat :=
  let c0_i32_4549 : BitVec 32 := 0#32
  let c1_i32_4548 : BitVec 32 := 1#32
  let v4750 : BitVec 32 := Scalar.muli v1 c1_i32_4548
  let v4751 : BitVec 32 := Scalar.addi c0_i32_4549 v4750
  v4751.toNat
def k0_dev125 (v2 : BitVec 32) : Nat :=
  let c0_i32_4584 : BitVec 32 := 0#32
  let c1_i32_4583 : BitVec 32 := 1#32
  let v4788 : BitVec 32 := Scalar.muli v2 c1_i32_4583
  let v4789 : BitVec 32 := Scalar.addi c0_i32_4584 v4788
  v4789.toNat
def k0_dev126 (v1 : BitVec 32) : Nat :=
  let c0_i32_4619 : BitVec 32 := 0#32
  let c1_i32_4618 : BitVec 32 := 1#32
  let v4826 : BitVec 32 := Scalar.muli v1 c1_i32_4618
  let v4827 : BitVec 32 := Scalar.addi c0_i32_4619 v4826
  v4827.toNat
def k0_dev127 (v2 : BitVec 32) : Nat :=
  let c0_i32_4654 : BitVec 32 := 0#32
  let c1_i32_4653 : BitVec 32 := 1#32
  let v4864 : BitVec 32 := Scalar.muli v2 c1_i32_4653
  let v4865 : BitVec 32 := Scalar.addi c0_i32_4654 v4864
  v4865.toNat
def k0_dev128 (v1 : BitVec 32) : Nat :=
  let c0_i32_4689 : BitVec 32 := 0#32
  let c1_i32_4688 : BitVec 32 := 1#32
  let v4902 : BitVec 32 := Scalar.muli v1 c1_i32_4688
  let v4903 : BitVec 32 := Scalar.addi c0_i32_4689 v4902
  v4903.toNat
def k0_dev129 (v1 : BitVec 32) : Nat :=
  let c0_i32_4768 : BitVec 32 := 0#32
  let c1_i32_4767 : BitVec 32 := 1#32
  let v4960 : BitVec 32 := Scalar.muli v1 c1_i32_4767
  let v4961 : BitVec 32 := Scalar.addi c0_i32_4768 v4960
  v4961.toNat
def k0_dev130 (v2 : BitVec 32) : Nat :=
  let c0_i32_4771 : BitVec 32 := 0#32
  let c1_i32_4770 : BitVec 32 := 1#32
  let v4962 : BitVec 32 := Scalar.muli v2 c1_i32_4770
  let v4963 : BitVec 32 := Scalar.addi c0_i32_4771 v4962
  v4963.toNat
def k0_dev131 (v2 : BitVec 32) : Nat :=
  let c0_i32_4803 : BitVec 32 := 0#32
  let c1_i32_4802 : BitVec 32 := 1#32
  let v4992 : BitVec 32 := Scalar.muli v2 c1_i32_4802
  let v4993 : BitVec 32 := Scalar.addi c0_i32_4803 v4992
  v4993.toNat
def k0_dev132 (v1 : BitVec 32) : Nat :=
  let c0_i32_4839 : BitVec 32 := 0#32
  let c1_i32_4838 : BitVec 32 := 1#32
  let v5030 : BitVec 32 := Scalar.muli v1 c1_i32_4838
  let v5031 : BitVec 32 := Scalar.addi c0_i32_4839 v5030
  v5031.toNat
def k0_dev133 (v2 : BitVec 32) : Nat :=
  let c0_i32_4874 : BitVec 32 := 0#32
  let c1_i32_4873 : BitVec 32 := 1#32
  let v5068 : BitVec 32 := Scalar.muli v2 c1_i32_4873
  let v5069 : BitVec 32 := Scalar.addi c0_i32_4874 v5068
  v5069.toNat
def k0_dev134 (v1 : BitVec 32) : Nat :=
  let c0_i32_4909 : BitVec 32 := 0#32
  let c1_i32_4908 : BitVec 32 := 1#32
  let v5106 : BitVec 32 := Scalar.muli v1 c1_i32_4908
  let v5107 : BitVec 32 := Scalar.addi c0_i32_4909 v5106
  v5107.toNat
def k0_dev135 (v2 : BitVec 32) : Nat :=
  let c0_i32_4944 : BitVec 32 := 0#32
  let c1_i32_4943 : BitVec 32 := 1#32
  let v5144 : BitVec 32 := Scalar.muli v2 c1_i32_4943
  let v5145 : BitVec 32 := Scalar.addi c0_i32_4944 v5144
  v5145.toNat
def k0_dev136 (v1 : BitVec 32) : Nat :=
  let c0_i32_4979 : BitVec 32 := 0#32
  let c1_i32_4978 : BitVec 32 := 1#32
  let v5182 : BitVec 32 := Scalar.muli v1 c1_i32_4978
  let v5183 : BitVec 32 := Scalar.addi c0_i32_4979 v5182
  v5183.toNat
def k0_dev137 (v2 : BitVec 32) : Nat :=
  let c0_i32_5014 : BitVec 32 := 0#32
  let c1_i32_5013 : BitVec 32 := 1#32
  let v5220 : BitVec 32 := Scalar.muli v2 c1_i32_5013
  let v5221 : BitVec 32 := Scalar.addi c0_i32_5014 v5220
  v5221.toNat
def k0_dev138 (v1 : BitVec 32) : Nat :=
  let c0_i32_5049 : BitVec 32 := 0#32
  let c1_i32_5048 : BitVec 32 := 1#32
  let v5258 : BitVec 32 := Scalar.muli v1 c1_i32_5048
  let v5259 : BitVec 32 := Scalar.addi c0_i32_5049 v5258
  v5259.toNat
def k0_dev139 (v1 : BitVec 32) : Nat :=
  let c0_i32_5128 : BitVec 32 := 0#32
  let c1_i32_5127 : BitVec 32 := 1#32
  let v5316 : BitVec 32 := Scalar.muli v1 c1_i32_5127
  let v5317 : BitVec 32 := Scalar.addi c0_i32_5128 v5316
  v5317.toNat
def k0_dev140 (v2 : BitVec 32) : Nat :=
  let c0_i32_5131 : BitVec 32 := 0#32
  let c1_i32_5130 : BitVec 32 := 1#32
  let v5318 : BitVec 32 := Scalar.muli v2 c1_i32_5130
  let v5319 : BitVec 32 := Scalar.addi c0_i32_5131 v5318
  v5319.toNat
def k0_dev141 (v2 : BitVec 32) : Nat :=
  let c0_i32_5163 : BitVec 32 := 0#32
  let c1_i32_5162 : BitVec 32 := 1#32
  let v5348 : BitVec 32 := Scalar.muli v2 c1_i32_5162
  let v5349 : BitVec 32 := Scalar.addi c0_i32_5163 v5348
  v5349.toNat
def k0_dev142 (v1 : BitVec 32) : Nat :=
  let c0_i32_5199 : BitVec 32 := 0#32
  let c1_i32_5198 : BitVec 32 := 1#32
  let v5386 : BitVec 32 := Scalar.muli v1 c1_i32_5198
  let v5387 : BitVec 32 := Scalar.addi c0_i32_5199 v5386
  v5387.toNat
def k0_dev143 (v2 : BitVec 32) : Nat :=
  let c0_i32_5234 : BitVec 32 := 0#32
  let c1_i32_5233 : BitVec 32 := 1#32
  let v5424 : BitVec 32 := Scalar.muli v2 c1_i32_5233
  let v5425 : BitVec 32 := Scalar.addi c0_i32_5234 v5424
  v5425.toNat
def k0_dev144 (v1 : BitVec 32) : Nat :=
  let c0_i32_5269 : BitVec 32 := 0#32
  let c1_i32_5268 : BitVec 32 := 1#32
  let v5462 : BitVec 32 := Scalar.muli v1 c1_i32_5268
  let v5463 : BitVec 32 := Scalar.addi c0_i32_5269 v5462
  v5463.toNat
def k0_dev145 (v2 : BitVec 32) : Nat :=
  let c0_i32_5304 : BitVec 32 := 0#32
  let c1_i32_5303 : BitVec 32 := 1#32
  let v5500 : BitVec 32 := Scalar.muli v2 c1_i32_5303
  let v5501 : BitVec 32 := Scalar.addi c0_i32_5304 v5500
  v5501.toNat
def k0_dev146 (v1 : BitVec 32) : Nat :=
  let c0_i32_5339 : BitVec 32 := 0#32
  let c1_i32_5338 : BitVec 32 := 1#32
  let v5538 : BitVec 32 := Scalar.muli v1 c1_i32_5338
  let v5539 : BitVec 32 := Scalar.addi c0_i32_5339 v5538
  v5539.toNat
def k0_dev147 (v2 : BitVec 32) : Nat :=
  let c0_i32_5374 : BitVec 32 := 0#32
  let c1_i32_5373 : BitVec 32 := 1#32
  let v5576 : BitVec 32 := Scalar.muli v2 c1_i32_5373
  let v5577 : BitVec 32 := Scalar.addi c0_i32_5374 v5576
  v5577.toNat
def k0_dev148 (v1 : BitVec 32) : Nat :=
  let c0_i32_5409 : BitVec 32 := 0#32
  let c1_i32_5408 : BitVec 32 := 1#32
  let v5614 : BitVec 32 := Scalar.muli v1 c1_i32_5408
  let v5615 : BitVec 32 := Scalar.addi c0_i32_5409 v5614
  v5615.toNat
def k0_dev149 (v1 : BitVec 32) : Nat :=
  let c0_i32_5488 : BitVec 32 := 0#32
  let c1_i32_5487 : BitVec 32 := 1#32
  let v5672 : BitVec 32 := Scalar.muli v1 c1_i32_5487
  let v5673 : BitVec 32 := Scalar.addi c0_i32_5488 v5672
  v5673.toNat
def k0_dev150 (v2 : BitVec 32) : Nat :=
  let c0_i32_5491 : BitVec 32 := 0#32
  let c1_i32_5490 : BitVec 32 := 1#32
  let v5674 : BitVec 32 := Scalar.muli v2 c1_i32_5490
  let v5675 : BitVec 32 := Scalar.addi c0_i32_5491 v5674
  v5675.toNat
def k0_dev151 (v2 : BitVec 32) : Nat :=
  let c0_i32_5523 : BitVec 32 := 0#32
  let c1_i32_5522 : BitVec 32 := 1#32
  let v5704 : BitVec 32 := Scalar.muli v2 c1_i32_5522
  let v5705 : BitVec 32 := Scalar.addi c0_i32_5523 v5704
  v5705.toNat
def k0_dev152 (v1 : BitVec 32) : Nat :=
  let c0_i32_5559 : BitVec 32 := 0#32
  let c1_i32_5558 : BitVec 32 := 1#32
  let v5742 : BitVec 32 := Scalar.muli v1 c1_i32_5558
  let v5743 : BitVec 32 := Scalar.addi c0_i32_5559 v5742
  v5743.toNat
def k0_dev153 (v2 : BitVec 32) : Nat :=
  let c0_i32_5594 : BitVec 32 := 0#32
  let c1_i32_5593 : BitVec 32 := 1#32
  let v5780 : BitVec 32 := Scalar.muli v2 c1_i32_5593
  let v5781 : BitVec 32 := Scalar.addi c0_i32_5594 v5780
  v5781.toNat
def k0_dev154 (v1 : BitVec 32) : Nat :=
  let c0_i32_5629 : BitVec 32 := 0#32
  let c1_i32_5628 : BitVec 32 := 1#32
  let v5818 : BitVec 32 := Scalar.muli v1 c1_i32_5628
  let v5819 : BitVec 32 := Scalar.addi c0_i32_5629 v5818
  v5819.toNat
def k0_dev155 (v2 : BitVec 32) : Nat :=
  let c0_i32_5664 : BitVec 32 := 0#32
  let c1_i32_5663 : BitVec 32 := 1#32
  let v5856 : BitVec 32 := Scalar.muli v2 c1_i32_5663
  let v5857 : BitVec 32 := Scalar.addi c0_i32_5664 v5856
  v5857.toNat
def k0_dev156 (v1 : BitVec 32) : Nat :=
  let c0_i32_5699 : BitVec 32 := 0#32
  let c1_i32_5698 : BitVec 32 := 1#32
  let v5894 : BitVec 32 := Scalar.muli v1 c1_i32_5698
  let v5895 : BitVec 32 := Scalar.addi c0_i32_5699 v5894
  v5895.toNat
def k0_dev157 (v2 : BitVec 32) : Nat :=
  let c0_i32_5734 : BitVec 32 := 0#32
  let c1_i32_5733 : BitVec 32 := 1#32
  let v5932 : BitVec 32 := Scalar.muli v2 c1_i32_5733
  let v5933 : BitVec 32 := Scalar.addi c0_i32_5734 v5932
  v5933.toNat
def k0_dev158 (v1 : BitVec 32) : Nat :=
  let c0_i32_5769 : BitVec 32 := 0#32
  let c1_i32_5768 : BitVec 32 := 1#32
  let v5970 : BitVec 32 := Scalar.muli v1 c1_i32_5768
  let v5971 : BitVec 32 := Scalar.addi c0_i32_5769 v5970
  v5971.toNat
def k0_dev159 (v1 : BitVec 32) : Nat :=
  let c0_i32_5848 : BitVec 32 := 0#32
  let c1_i32_5847 : BitVec 32 := 1#32
  let v6028 : BitVec 32 := Scalar.muli v1 c1_i32_5847
  let v6029 : BitVec 32 := Scalar.addi c0_i32_5848 v6028
  v6029.toNat
def k0_dev160 (v2 : BitVec 32) : Nat :=
  let c0_i32_5851 : BitVec 32 := 0#32
  let c1_i32_5850 : BitVec 32 := 1#32
  let v6030 : BitVec 32 := Scalar.muli v2 c1_i32_5850
  let v6031 : BitVec 32 := Scalar.addi c0_i32_5851 v6030
  v6031.toNat
def k0_dev161 (v2 : BitVec 32) : Nat :=
  let c0_i32_5941 : BitVec 32 := 0#32
  let c1_i32_5940 : BitVec 32 := 1#32
  let v6176 : BitVec 32 := Scalar.muli v2 c1_i32_5940
  let v6177 : BitVec 32 := Scalar.addi c0_i32_5941 v6176
  v6177.toNat
def k0_dev162 (v1 : BitVec 32) : Nat :=
  let c0_i32_5963 : BitVec 32 := 0#32
  let c1_i32_5962 : BitVec 32 := 1#32
  let v6194 : BitVec 32 := Scalar.muli v1 c1_i32_5962
  let v6195 : BitVec 32 := Scalar.addi c0_i32_5963 v6194
  v6195.toNat
def k0_dev163 (v2 : BitVec 32) : Nat :=
  let c0_i32_5983 : BitVec 32 := 0#32
  let c1_i32_5982 : BitVec 32 := 1#32
  let v6212 : BitVec 32 := Scalar.muli v2 c1_i32_5982
  let v6213 : BitVec 32 := Scalar.addi c0_i32_5983 v6212
  v6213.toNat
def k0_dev164 (v1 : BitVec 32) : Nat :=
  let c0_i32_6003 : BitVec 32 := 0#32
  let c1_i32_6002 : BitVec 32 := 1#32
  let v6230 : BitVec 32 := Scalar.muli v1 c1_i32_6002
  let v6231 : BitVec 32 := Scalar.addi c0_i32_6003 v6230
  v6231.toNat
def k0_dev165 (v2 : BitVec 32) : Nat :=
  let c0_i32_6023 : BitVec 32 := 0#32
  let c1_i32_6022 : BitVec 32 := 1#32
  let v6248 : BitVec 32 := Scalar.muli v2 c1_i32_6022
  let v6249 : BitVec 32 := Scalar.addi c0_i32_6023 v6248
  v6249.toNat
def k0_dev166 (v1 : BitVec 32) : Nat :=
  let c0_i32_6043 : BitVec 32 := 0#32
  let c1_i32_6042 : BitVec 32 := 1#32
  let v6266 : BitVec 32 := Scalar.muli v1 c1_i32_6042
  let v6267 : BitVec 32 := Scalar.addi c0_i32_6043 v6266
  v6267.toNat
def k0_dev167 (v2 : BitVec 32) : Nat :=
  let c0_i32_6063 : BitVec 32 := 0#32
  let c1_i32_6062 : BitVec 32 := 1#32
  let v6284 : BitVec 32 := Scalar.muli v2 c1_i32_6062
  let v6285 : BitVec 32 := Scalar.addi c0_i32_6063 v6284
  v6285.toNat
def k0_dev168 (v1 : BitVec 32) : Nat :=
  let c0_i32_6083 : BitVec 32 := 0#32
  let c1_i32_6082 : BitVec 32 := 1#32
  let v6302 : BitVec 32 := Scalar.muli v1 c1_i32_6082
  let v6303 : BitVec 32 := Scalar.addi c0_i32_6083 v6302
  v6303.toNat
def k0_dev169 (v1 : BitVec 32) : Nat :=
  let c0_i32_6162 : BitVec 32 := 0#32
  let c1_i32_6161 : BitVec 32 := 1#32
  let v6360 : BitVec 32 := Scalar.muli v1 c1_i32_6161
  let v6361 : BitVec 32 := Scalar.addi c0_i32_6162 v6360
  v6361.toNat
def k0_dev170 (v2 : BitVec 32) : Nat :=
  let c0_i32_6165 : BitVec 32 := 0#32
  let c1_i32_6164 : BitVec 32 := 1#32
  let v6362 : BitVec 32 := Scalar.muli v2 c1_i32_6164
  let v6363 : BitVec 32 := Scalar.addi c0_i32_6165 v6362
  v6363.toNat
def k0_dev171 (v2 : BitVec 32) : Nat :=
  let c0_i32_6279 : BitVec 32 := 0#32
  let c1_i32_6278 : BitVec 32 := 1#32
  let v6524 : BitVec 32 := Scalar.muli v2 c1_i32_6278
  let v6525 : BitVec 32 := Scalar.addi c0_i32_6279 v6524
  v6525.toNat
def k0_dev172 (v1 : BitVec 32) : Nat :=
  let c0_i32_6301 : BitVec 32 := 0#32
  let c1_i32_6300 : BitVec 32 := 1#32
  let v6542 : BitVec 32 := Scalar.muli v1 c1_i32_6300
  let v6543 : BitVec 32 := Scalar.addi c0_i32_6301 v6542
  v6543.toNat
def k0_dev173 (v2 : BitVec 32) : Nat :=
  let c0_i32_6321 : BitVec 32 := 0#32
  let c1_i32_6320 : BitVec 32 := 1#32
  let v6560 : BitVec 32 := Scalar.muli v2 c1_i32_6320
  let v6561 : BitVec 32 := Scalar.addi c0_i32_6321 v6560
  v6561.toNat
def k0_dev174 (v1 : BitVec 32) : Nat :=
  let c0_i32_6341 : BitVec 32 := 0#32
  let c1_i32_6340 : BitVec 32 := 1#32
  let v6578 : BitVec 32 := Scalar.muli v1 c1_i32_6340
  let v6579 : BitVec 32 := Scalar.addi c0_i32_6341 v6578
  v6579.toNat
def k0_dev175 (v2 : BitVec 32) : Nat :=
  let c0_i32_6361 : BitVec 32 := 0#32
  let c1_i32_6360 : BitVec 32 := 1#32
  let v6596 : BitVec 32 := Scalar.muli v2 c1_i32_6360
  let v6597 : BitVec 32 := Scalar.addi c0_i32_6361 v6596
  v6597.toNat
def k0_dev176 (v1 : BitVec 32) : Nat :=
  let c0_i32_6381 : BitVec 32 := 0#32
  let c1_i32_6380 : BitVec 32 := 1#32
  let v6614 : BitVec 32 := Scalar.muli v1 c1_i32_6380
  let v6615 : BitVec 32 := Scalar.addi c0_i32_6381 v6614
  v6615.toNat
def k0_dev177 (v2 : BitVec 32) : Nat :=
  let c0_i32_6401 : BitVec 32 := 0#32
  let c1_i32_6400 : BitVec 32 := 1#32
  let v6632 : BitVec 32 := Scalar.muli v2 c1_i32_6400
  let v6633 : BitVec 32 := Scalar.addi c0_i32_6401 v6632
  v6633.toNat
def k0_dev178 (v1 : BitVec 32) : Nat :=
  let c0_i32_6421 : BitVec 32 := 0#32
  let c1_i32_6420 : BitVec 32 := 1#32
  let v6650 : BitVec 32 := Scalar.muli v1 c1_i32_6420
  let v6651 : BitVec 32 := Scalar.addi c0_i32_6421 v6650
  v6651.toNat
def k0_dev179 (v1 : BitVec 32) : Nat :=
  let c0_i32_6500 : BitVec 32 := 0#32
  let c1_i32_6499 : BitVec 32 := 1#32
  let v6708 : BitVec 32 := Scalar.muli v1 c1_i32_6499
  let v6709 : BitVec 32 := Scalar.addi c0_i32_6500 v6708
  v6709.toNat
def k0_dev180 (v2 : BitVec 32) : Nat :=
  let c0_i32_6503 : BitVec 32 := 0#32
  let c1_i32_6502 : BitVec 32 := 1#32
  let v6710 : BitVec 32 := Scalar.muli v2 c1_i32_6502
  let v6711 : BitVec 32 := Scalar.addi c0_i32_6503 v6710
  v6711.toNat
def k0_dev181 (v2 : BitVec 32) : Nat :=
  let c0_i32_6617 : BitVec 32 := 0#32
  let c1_i32_6616 : BitVec 32 := 1#32
  let v6872 : BitVec 32 := Scalar.muli v2 c1_i32_6616
  let v6873 : BitVec 32 := Scalar.addi c0_i32_6617 v6872
  v6873.toNat
def k0_dev182 (v1 : BitVec 32) : Nat :=
  let c0_i32_6639 : BitVec 32 := 0#32
  let c1_i32_6638 : BitVec 32 := 1#32
  let v6890 : BitVec 32 := Scalar.muli v1 c1_i32_6638
  let v6891 : BitVec 32 := Scalar.addi c0_i32_6639 v6890
  v6891.toNat
def k0_dev183 (v2 : BitVec 32) : Nat :=
  let c0_i32_6659 : BitVec 32 := 0#32
  let c1_i32_6658 : BitVec 32 := 1#32
  let v6908 : BitVec 32 := Scalar.muli v2 c1_i32_6658
  let v6909 : BitVec 32 := Scalar.addi c0_i32_6659 v6908
  v6909.toNat
def k0_dev184 (v1 : BitVec 32) : Nat :=
  let c0_i32_6679 : BitVec 32 := 0#32
  let c1_i32_6678 : BitVec 32 := 1#32
  let v6926 : BitVec 32 := Scalar.muli v1 c1_i32_6678
  let v6927 : BitVec 32 := Scalar.addi c0_i32_6679 v6926
  v6927.toNat
def k0_dev185 (v2 : BitVec 32) : Nat :=
  let c0_i32_6699 : BitVec 32 := 0#32
  let c1_i32_6698 : BitVec 32 := 1#32
  let v6944 : BitVec 32 := Scalar.muli v2 c1_i32_6698
  let v6945 : BitVec 32 := Scalar.addi c0_i32_6699 v6944
  v6945.toNat
def k0_dev186 (v1 : BitVec 32) : Nat :=
  let c0_i32_6719 : BitVec 32 := 0#32
  let c1_i32_6718 : BitVec 32 := 1#32
  let v6962 : BitVec 32 := Scalar.muli v1 c1_i32_6718
  let v6963 : BitVec 32 := Scalar.addi c0_i32_6719 v6962
  v6963.toNat
def k0_dev187 (v2 : BitVec 32) : Nat :=
  let c0_i32_6739 : BitVec 32 := 0#32
  let c1_i32_6738 : BitVec 32 := 1#32
  let v6980 : BitVec 32 := Scalar.muli v2 c1_i32_6738
  let v6981 : BitVec 32 := Scalar.addi c0_i32_6739 v6980
  v6981.toNat
def k0_dev188 (v1 : BitVec 32) : Nat :=
  let c0_i32_6759 : BitVec 32 := 0#32
  let c1_i32_6758 : BitVec 32 := 1#32
  let v6998 : BitVec 32 := Scalar.muli v1 c1_i32_6758
  let v6999 : BitVec 32 := Scalar.addi c0_i32_6759 v6998
  v6999.toNat
def k0_dev189 (v1 : BitVec 32) : Nat :=
  let c0_i32_6838 : BitVec 32 := 0#32
  let c1_i32_6837 : BitVec 32 := 1#32
  let v7056 : BitVec 32 := Scalar.muli v1 c1_i32_6837
  let v7057 : BitVec 32 := Scalar.addi c0_i32_6838 v7056
  v7057.toNat
def k0_dev190 (v2 : BitVec 32) : Nat :=
  let c0_i32_6841 : BitVec 32 := 0#32
  let c1_i32_6840 : BitVec 32 := 1#32
  let v7058 : BitVec 32 := Scalar.muli v2 c1_i32_6840
  let v7059 : BitVec 32 := Scalar.addi c0_i32_6841 v7058
  v7059.toNat
def k0_dev191 (v2 : BitVec 32) : Nat :=
  let c0_i32_6955 : BitVec 32 := 0#32
  let c1_i32_6954 : BitVec 32 := 1#32
  let v7220 : BitVec 32 := Scalar.muli v2 c1_i32_6954
  let v7221 : BitVec 32 := Scalar.addi c0_i32_6955 v7220
  v7221.toNat
def k0_dev192 (v1 : BitVec 32) : Nat :=
  let c0_i32_6977 : BitVec 32 := 0#32
  let c1_i32_6976 : BitVec 32 := 1#32
  let v7238 : BitVec 32 := Scalar.muli v1 c1_i32_6976
  let v7239 : BitVec 32 := Scalar.addi c0_i32_6977 v7238
  v7239.toNat
def k0_dev193 (v2 : BitVec 32) : Nat :=
  let c0_i32_6997 : BitVec 32 := 0#32
  let c1_i32_6996 : BitVec 32 := 1#32
  let v7256 : BitVec 32 := Scalar.muli v2 c1_i32_6996
  let v7257 : BitVec 32 := Scalar.addi c0_i32_6997 v7256
  v7257.toNat
def k0_dev194 (v1 : BitVec 32) : Nat :=
  let c0_i32_7017 : BitVec 32 := 0#32
  let c1_i32_7016 : BitVec 32 := 1#32
  let v7274 : BitVec 32 := Scalar.muli v1 c1_i32_7016
  let v7275 : BitVec 32 := Scalar.addi c0_i32_7017 v7274
  v7275.toNat
def k0_dev195 (v2 : BitVec 32) : Nat :=
  let c0_i32_7037 : BitVec 32 := 0#32
  let c1_i32_7036 : BitVec 32 := 1#32
  let v7292 : BitVec 32 := Scalar.muli v2 c1_i32_7036
  let v7293 : BitVec 32 := Scalar.addi c0_i32_7037 v7292
  v7293.toNat
def k0_dev196 (v1 : BitVec 32) : Nat :=
  let c0_i32_7057 : BitVec 32 := 0#32
  let c1_i32_7056 : BitVec 32 := 1#32
  let v7310 : BitVec 32 := Scalar.muli v1 c1_i32_7056
  let v7311 : BitVec 32 := Scalar.addi c0_i32_7057 v7310
  v7311.toNat
def k0_dev197 (v2 : BitVec 32) : Nat :=
  let c0_i32_7077 : BitVec 32 := 0#32
  let c1_i32_7076 : BitVec 32 := 1#32
  let v7328 : BitVec 32 := Scalar.muli v2 c1_i32_7076
  let v7329 : BitVec 32 := Scalar.addi c0_i32_7077 v7328
  v7329.toNat
def k0_dev198 (v1 : BitVec 32) : Nat :=
  let c0_i32_7097 : BitVec 32 := 0#32
  let c1_i32_7096 : BitVec 32 := 1#32
  let v7346 : BitVec 32 := Scalar.muli v1 c1_i32_7096
  let v7347 : BitVec 32 := Scalar.addi c0_i32_7097 v7346
  v7347.toNat
def k0_dev199 (v1 : BitVec 32) : Nat :=
  let c0_i32_7176 : BitVec 32 := 0#32
  let c1_i32_7175 : BitVec 32 := 1#32
  let v7404 : BitVec 32 := Scalar.muli v1 c1_i32_7175
  let v7405 : BitVec 32 := Scalar.addi c0_i32_7176 v7404
  v7405.toNat
def k0_dev200 (v2 : BitVec 32) : Nat :=
  let c0_i32_7179 : BitVec 32 := 0#32
  let c1_i32_7178 : BitVec 32 := 1#32
  let v7406 : BitVec 32 := Scalar.muli v2 c1_i32_7178
  let v7407 : BitVec 32 := Scalar.addi c0_i32_7179 v7406
  v7407.toNat
def k0_dev201 (v2 : BitVec 32) : Nat :=
  let c0_i32_7293 : BitVec 32 := 0#32
  let c1_i32_7292 : BitVec 32 := 1#32
  let v7568 : BitVec 32 := Scalar.muli v2 c1_i32_7292
  let v7569 : BitVec 32 := Scalar.addi c0_i32_7293 v7568
  v7569.toNat
def k0_dev202 (v1 : BitVec 32) : Nat :=
  let c0_i32_7315 : BitVec 32 := 0#32
  let c1_i32_7314 : BitVec 32 := 1#32
  let v7586 : BitVec 32 := Scalar.muli v1 c1_i32_7314
  let v7587 : BitVec 32 := Scalar.addi c0_i32_7315 v7586
  v7587.toNat
def k0_dev203 (v2 : BitVec 32) : Nat :=
  let c0_i32_7335 : BitVec 32 := 0#32
  let c1_i32_7334 : BitVec 32 := 1#32
  let v7604 : BitVec 32 := Scalar.muli v2 c1_i32_7334
  let v7605 : BitVec 32 := Scalar.addi c0_i32_7335 v7604
  v7605.toNat
def k0_dev204 (v1 : BitVec 32) : Nat :=
  let c0_i32_7355 : BitVec 32 := 0#32
  let c1_i32_7354 : BitVec 32 := 1#32
  let v7622 : BitVec 32 := Scalar.muli v1 c1_i32_7354
  let v7623 : BitVec 32 := Scalar.addi c0_i32_7355 v7622
  v7623.toNat
def k0_dev205 (v2 : BitVec 32) : Nat :=
  let c0_i32_7375 : BitVec 32 := 0#32
  let c1_i32_7374 : BitVec 32 := 1#32
  let v7640 : BitVec 32 := Scalar.muli v2 c1_i32_7374
  let v7641 : BitVec 32 := Scalar.addi c0_i32_7375 v7640
  v7641.toNat
def k0_dev206 (v1 : BitVec 32) : Nat :=
  let c0_i32_7395 : BitVec 32 := 0#32
  let c1_i32_7394 : BitVec 32 := 1#32
  let v7658 : BitVec 32 := Scalar.muli v1 c1_i32_7394
  let v7659 : BitVec 32 := Scalar.addi c0_i32_7395 v7658
  v7659.toNat
def k0_dev207 (v2 : BitVec 32) : Nat :=
  let c0_i32_7415 : BitVec 32 := 0#32
  let c1_i32_7414 : BitVec 32 := 1#32
  let v7676 : BitVec 32 := Scalar.muli v2 c1_i32_7414
  let v7677 : BitVec 32 := Scalar.addi c0_i32_7415 v7676
  v7677.toNat
def k0_dev208 (v1 : BitVec 32) : Nat :=
  let c0_i32_7435 : BitVec 32 := 0#32
  let c1_i32_7434 : BitVec 32 := 1#32
  let v7694 : BitVec 32 := Scalar.muli v1 c1_i32_7434
  let v7695 : BitVec 32 := Scalar.addi c0_i32_7435 v7694
  v7695.toNat
def k0_dev209 (v1 : BitVec 32) : Nat :=
  let c0_i32_7514 : BitVec 32 := 0#32
  let c1_i32_7513 : BitVec 32 := 1#32
  let v7752 : BitVec 32 := Scalar.muli v1 c1_i32_7513
  let v7753 : BitVec 32 := Scalar.addi c0_i32_7514 v7752
  v7753.toNat
def k0_dev210 (v2 : BitVec 32) : Nat :=
  let c0_i32_7517 : BitVec 32 := 0#32
  let c1_i32_7516 : BitVec 32 := 1#32
  let v7754 : BitVec 32 := Scalar.muli v2 c1_i32_7516
  let v7755 : BitVec 32 := Scalar.addi c0_i32_7517 v7754
  v7755.toNat
def k0_dev211 (v2 : BitVec 32) : Nat :=
  let c0_i32_7631 : BitVec 32 := 0#32
  let c1_i32_7630 : BitVec 32 := 1#32
  let v7916 : BitVec 32 := Scalar.muli v2 c1_i32_7630
  let v7917 : BitVec 32 := Scalar.addi c0_i32_7631 v7916
  v7917.toNat
def k0_dev212 (v1 : BitVec 32) : Nat :=
  let c0_i32_7653 : BitVec 32 := 0#32
  let c1_i32_7652 : BitVec 32 := 1#32
  let v7934 : BitVec 32 := Scalar.muli v1 c1_i32_7652
  let v7935 : BitVec 32 := Scalar.addi c0_i32_7653 v7934
  v7935.toNat
def k0_dev213 (v2 : BitVec 32) : Nat :=
  let c0_i32_7673 : BitVec 32 := 0#32
  let c1_i32_7672 : BitVec 32 := 1#32
  let v7952 : BitVec 32 := Scalar.muli v2 c1_i32_7672
  let v7953 : BitVec 32 := Scalar.addi c0_i32_7673 v7952
  v7953.toNat
def k0_dev214 (v1 : BitVec 32) : Nat :=
  let c0_i32_7693 : BitVec 32 := 0#32
  let c1_i32_7692 : BitVec 32 := 1#32
  let v7970 : BitVec 32 := Scalar.muli v1 c1_i32_7692
  let v7971 : BitVec 32 := Scalar.addi c0_i32_7693 v7970
  v7971.toNat
def k0_dev215 (v2 : BitVec 32) : Nat :=
  let c0_i32_7713 : BitVec 32 := 0#32
  let c1_i32_7712 : BitVec 32 := 1#32
  let v7988 : BitVec 32 := Scalar.muli v2 c1_i32_7712
  let v7989 : BitVec 32 := Scalar.addi c0_i32_7713 v7988
  v7989.toNat
def k0_dev216 (v1 : BitVec 32) : Nat :=
  let c0_i32_7733 : BitVec 32 := 0#32
  let c1_i32_7732 : BitVec 32 := 1#32
  let v8006 : BitVec 32 := Scalar.muli v1 c1_i32_7732
  let v8007 : BitVec 32 := Scalar.addi c0_i32_7733 v8006
  v8007.toNat
def k0_dev217 (v2 : BitVec 32) : Nat :=
  let c0_i32_7753 : BitVec 32 := 0#32
  let c1_i32_7752 : BitVec 32 := 1#32
  let v8024 : BitVec 32 := Scalar.muli v2 c1_i32_7752
  let v8025 : BitVec 32 := Scalar.addi c0_i32_7753 v8024
  v8025.toNat
def k0_dev218 (v1 : BitVec 32) : Nat :=
  let c0_i32_7773 : BitVec 32 := 0#32
  let c1_i32_7772 : BitVec 32 := 1#32
  let v8042 : BitVec 32 := Scalar.muli v1 c1_i32_7772
  let v8043 : BitVec 32 := Scalar.addi c0_i32_7773 v8042
  v8043.toNat
def k0_dev219 (v1 : BitVec 32) : Nat :=
  let c0_i32_7852 : BitVec 32 := 0#32
  let c1_i32_7851 : BitVec 32 := 1#32
  let v8100 : BitVec 32 := Scalar.muli v1 c1_i32_7851
  let v8101 : BitVec 32 := Scalar.addi c0_i32_7852 v8100
  v8101.toNat
def k0_dev220 (v2 : BitVec 32) : Nat :=
  let c0_i32_7855 : BitVec 32 := 0#32
  let c1_i32_7854 : BitVec 32 := 1#32
  let v8102 : BitVec 32 := Scalar.muli v2 c1_i32_7854
  let v8103 : BitVec 32 := Scalar.addi c0_i32_7855 v8102
  v8103.toNat
def k0_dev221 (v2 : BitVec 32) : Nat :=
  let c0_i32_7969 : BitVec 32 := 0#32
  let c1_i32_7968 : BitVec 32 := 1#32
  let v8264 : BitVec 32 := Scalar.muli v2 c1_i32_7968
  let v8265 : BitVec 32 := Scalar.addi c0_i32_7969 v8264
  v8265.toNat
def k0_dev222 (v1 : BitVec 32) : Nat :=
  let c0_i32_7991 : BitVec 32 := 0#32
  let c1_i32_7990 : BitVec 32 := 1#32
  let v8282 : BitVec 32 := Scalar.muli v1 c1_i32_7990
  let v8283 : BitVec 32 := Scalar.addi c0_i32_7991 v8282
  v8283.toNat
def k0_dev223 (v2 : BitVec 32) : Nat :=
  let c0_i32_8011 : BitVec 32 := 0#32
  let c1_i32_8010 : BitVec 32 := 1#32
  let v8300 : BitVec 32 := Scalar.muli v2 c1_i32_8010
  let v8301 : BitVec 32 := Scalar.addi c0_i32_8011 v8300
  v8301.toNat
def k0_dev224 (v1 : BitVec 32) : Nat :=
  let c0_i32_8031 : BitVec 32 := 0#32
  let c1_i32_8030 : BitVec 32 := 1#32
  let v8318 : BitVec 32 := Scalar.muli v1 c1_i32_8030
  let v8319 : BitVec 32 := Scalar.addi c0_i32_8031 v8318
  v8319.toNat
def k0_dev225 (v2 : BitVec 32) : Nat :=
  let c0_i32_8051 : BitVec 32 := 0#32
  let c1_i32_8050 : BitVec 32 := 1#32
  let v8336 : BitVec 32 := Scalar.muli v2 c1_i32_8050
  let v8337 : BitVec 32 := Scalar.addi c0_i32_8051 v8336
  v8337.toNat
def k0_dev226 (v1 : BitVec 32) : Nat :=
  let c0_i32_8071 : BitVec 32 := 0#32
  let c1_i32_8070 : BitVec 32 := 1#32
  let v8354 : BitVec 32 := Scalar.muli v1 c1_i32_8070
  let v8355 : BitVec 32 := Scalar.addi c0_i32_8071 v8354
  v8355.toNat
def k0_dev227 (v2 : BitVec 32) : Nat :=
  let c0_i32_8091 : BitVec 32 := 0#32
  let c1_i32_8090 : BitVec 32 := 1#32
  let v8372 : BitVec 32 := Scalar.muli v2 c1_i32_8090
  let v8373 : BitVec 32 := Scalar.addi c0_i32_8091 v8372
  v8373.toNat
def k0_dev228 (v1 : BitVec 32) : Nat :=
  let c0_i32_8111 : BitVec 32 := 0#32
  let c1_i32_8110 : BitVec 32 := 1#32
  let v8390 : BitVec 32 := Scalar.muli v1 c1_i32_8110
  let v8391 : BitVec 32 := Scalar.addi c0_i32_8111 v8390
  v8391.toNat
def k0_dev229 (v1 : BitVec 32) : Nat :=
  let c0_i32_8190 : BitVec 32 := 0#32
  let c1_i32_8189 : BitVec 32 := 1#32
  let v8448 : BitVec 32 := Scalar.muli v1 c1_i32_8189
  let v8449 : BitVec 32 := Scalar.addi c0_i32_8190 v8448
  v8449.toNat
def k0_dev230 (v2 : BitVec 32) : Nat :=
  let c0_i32_8193 : BitVec 32 := 0#32
  let c1_i32_8192 : BitVec 32 := 1#32
  let v8450 : BitVec 32 := Scalar.muli v2 c1_i32_8192
  let v8451 : BitVec 32 := Scalar.addi c0_i32_8193 v8450
  v8451.toNat
def k0_dev231 (v2 : BitVec 32) : Nat :=
  let c0_i32_8307 : BitVec 32 := 0#32
  let c1_i32_8306 : BitVec 32 := 1#32
  let v8612 : BitVec 32 := Scalar.muli v2 c1_i32_8306
  let v8613 : BitVec 32 := Scalar.addi c0_i32_8307 v8612
  v8613.toNat
def k0_dev232 (v1 : BitVec 32) : Nat :=
  let c0_i32_8329 : BitVec 32 := 0#32
  let c1_i32_8328 : BitVec 32 := 1#32
  let v8630 : BitVec 32 := Scalar.muli v1 c1_i32_8328
  let v8631 : BitVec 32 := Scalar.addi c0_i32_8329 v8630
  v8631.toNat
def k0_dev233 (v2 : BitVec 32) : Nat :=
  let c0_i32_8349 : BitVec 32 := 0#32
  let c1_i32_8348 : BitVec 32 := 1#32
  let v8648 : BitVec 32 := Scalar.muli v2 c1_i32_8348
  let v8649 : BitVec 32 := Scalar.addi c0_i32_8349 v8648
  v8649.toNat
def k0_dev234 (v1 : BitVec 32) : Nat :=
  let c0_i32_8369 : BitVec 32 := 0#32
  let c1_i32_8368 : BitVec 32 := 1#32
  let v8666 : BitVec 32 := Scalar.muli v1 c1_i32_8368
  let v8667 : BitVec 32 := Scalar.addi c0_i32_8369 v8666
  v8667.toNat
def k0_dev235 (v2 : BitVec 32) : Nat :=
  let c0_i32_8389 : BitVec 32 := 0#32
  let c1_i32_8388 : BitVec 32 := 1#32
  let v8684 : BitVec 32 := Scalar.muli v2 c1_i32_8388
  let v8685 : BitVec 32 := Scalar.addi c0_i32_8389 v8684
  v8685.toNat
def k0_dev236 (v1 : BitVec 32) : Nat :=
  let c0_i32_8409 : BitVec 32 := 0#32
  let c1_i32_8408 : BitVec 32 := 1#32
  let v8702 : BitVec 32 := Scalar.muli v1 c1_i32_8408
  let v8703 : BitVec 32 := Scalar.addi c0_i32_8409 v8702
  v8703.toNat
def k0_dev237 (v2 : BitVec 32) : Nat :=
  let c0_i32_8429 : BitVec 32 := 0#32
  let c1_i32_8428 : BitVec 32 := 1#32
  let v8720 : BitVec 32 := Scalar.muli v2 c1_i32_8428
  let v8721 : BitVec 32 := Scalar.addi c0_i32_8429 v8720
  v8721.toNat
def k0_dev238 (v1 : BitVec 32) : Nat :=
  let c0_i32_8449 : BitVec 32 := 0#32
  let c1_i32_8448 : BitVec 32 := 1#32
  let v8738 : BitVec 32 := Scalar.muli v1 c1_i32_8448
  let v8739 : BitVec 32 := Scalar.addi c0_i32_8449 v8738
  v8739.toNat
def k0_dev239 (v1 : BitVec 32) : Nat :=
  let c0_i32_8528 : BitVec 32 := 0#32
  let c1_i32_8527 : BitVec 32 := 1#32
  let v8796 : BitVec 32 := Scalar.muli v1 c1_i32_8527
  let v8797 : BitVec 32 := Scalar.addi c0_i32_8528 v8796
  v8797.toNat
def k0_dev240 (v2 : BitVec 32) : Nat :=
  let c0_i32_8531 : BitVec 32 := 0#32
  let c1_i32_8530 : BitVec 32 := 1#32
  let v8798 : BitVec 32 := Scalar.muli v2 c1_i32_8530
  let v8799 : BitVec 32 := Scalar.addi c0_i32_8531 v8798
  v8799.toNat
def k0_dev241 (v2 : BitVec 32) : Nat :=
  let c0_i32_8645 : BitVec 32 := 0#32
  let c1_i32_8644 : BitVec 32 := 1#32
  let v8960 : BitVec 32 := Scalar.muli v2 c1_i32_8644
  let v8961 : BitVec 32 := Scalar.addi c0_i32_8645 v8960
  v8961.toNat
def k0_dev242 (v1 : BitVec 32) : Nat :=
  let c0_i32_8667 : BitVec 32 := 0#32
  let c1_i32_8666 : BitVec 32 := 1#32
  let v8978 : BitVec 32 := Scalar.muli v1 c1_i32_8666
  let v8979 : BitVec 32 := Scalar.addi c0_i32_8667 v8978
  v8979.toNat
def k0_dev243 (v2 : BitVec 32) : Nat :=
  let c0_i32_8687 : BitVec 32 := 0#32
  let c1_i32_8686 : BitVec 32 := 1#32
  let v8996 : BitVec 32 := Scalar.muli v2 c1_i32_8686
  let v8997 : BitVec 32 := Scalar.addi c0_i32_8687 v8996
  v8997.toNat
def k0_dev244 (v1 : BitVec 32) : Nat :=
  let c0_i32_8707 : BitVec 32 := 0#32
  let c1_i32_8706 : BitVec 32 := 1#32
  let v9014 : BitVec 32 := Scalar.muli v1 c1_i32_8706
  let v9015 : BitVec 32 := Scalar.addi c0_i32_8707 v9014
  v9015.toNat
def k0_dev245 (v2 : BitVec 32) : Nat :=
  let c0_i32_8727 : BitVec 32 := 0#32
  let c1_i32_8726 : BitVec 32 := 1#32
  let v9032 : BitVec 32 := Scalar.muli v2 c1_i32_8726
  let v9033 : BitVec 32 := Scalar.addi c0_i32_8727 v9032
  v9033.toNat
def k0_dev246 (v1 : BitVec 32) : Nat :=
  let c0_i32_8747 : BitVec 32 := 0#32
  let c1_i32_8746 : BitVec 32 := 1#32
  let v9050 : BitVec 32 := Scalar.muli v1 c1_i32_8746
  let v9051 : BitVec 32 := Scalar.addi c0_i32_8747 v9050
  v9051.toNat
def k0_dev247 (v2 : BitVec 32) : Nat :=
  let c0_i32_8767 : BitVec 32 := 0#32
  let c1_i32_8766 : BitVec 32 := 1#32
  let v9068 : BitVec 32 := Scalar.muli v2 c1_i32_8766
  let v9069 : BitVec 32 := Scalar.addi c0_i32_8767 v9068
  v9069.toNat
def k0_dev248 (v1 : BitVec 32) : Nat :=
  let c0_i32_8787 : BitVec 32 := 0#32
  let c1_i32_8786 : BitVec 32 := 1#32
  let v9086 : BitVec 32 := Scalar.muli v1 c1_i32_8786
  let v9087 : BitVec 32 := Scalar.addi c0_i32_8787 v9086
  v9087.toNat
def k0_dev249 (v1 : BitVec 32) : Nat :=
  let c0_i32_8866 : BitVec 32 := 0#32
  let c1_i32_8865 : BitVec 32 := 1#32
  let v9144 : BitVec 32 := Scalar.muli v1 c1_i32_8865
  let v9145 : BitVec 32 := Scalar.addi c0_i32_8866 v9144
  v9145.toNat
def k0_dev250 (v2 : BitVec 32) : Nat :=
  let c0_i32_8869 : BitVec 32 := 0#32
  let c1_i32_8868 : BitVec 32 := 1#32
  let v9146 : BitVec 32 := Scalar.muli v2 c1_i32_8868
  let v9147 : BitVec 32 := Scalar.addi c0_i32_8869 v9146
  v9147.toNat
def k0_dev251 (v2 : BitVec 32) : Nat :=
  let c0_i32_8983 : BitVec 32 := 0#32
  let c1_i32_8982 : BitVec 32 := 1#32
  let v9308 : BitVec 32 := Scalar.muli v2 c1_i32_8982
  let v9309 : BitVec 32 := Scalar.addi c0_i32_8983 v9308
  v9309.toNat
def k0_dev252 (v1 : BitVec 32) : Nat :=
  let c0_i32_9005 : BitVec 32 := 0#32
  let c1_i32_9004 : BitVec 32 := 1#32
  let v9326 : BitVec 32 := Scalar.muli v1 c1_i32_9004
  let v9327 : BitVec 32 := Scalar.addi c0_i32_9005 v9326
  v9327.toNat
def k0_dev253 (v2 : BitVec 32) : Nat :=
  let c0_i32_9025 : BitVec 32 := 0#32
  let c1_i32_9024 : BitVec 32 := 1#32
  let v9344 : BitVec 32 := Scalar.muli v2 c1_i32_9024
  let v9345 : BitVec 32 := Scalar.addi c0_i32_9025 v9344
  v9345.toNat
def k0_dev254 (v1 : BitVec 32) : Nat :=
  let c0_i32_9045 : BitVec 32 := 0#32
  let c1_i32_9044 : BitVec 32 := 1#32
  let v9362 : BitVec 32 := Scalar.muli v1 c1_i32_9044
  let v9363 : BitVec 32 := Scalar.addi c0_i32_9045 v9362
  v9363.toNat
def k0_dev255 (v2 : BitVec 32) : Nat :=
  let c0_i32_9065 : BitVec 32 := 0#32
  let c1_i32_9064 : BitVec 32 := 1#32
  let v9380 : BitVec 32 := Scalar.muli v2 c1_i32_9064
  let v9381 : BitVec 32 := Scalar.addi c0_i32_9065 v9380
  v9381.toNat
def k0_dev256 (v1 : BitVec 32) : Nat :=
  let c0_i32_9085 : BitVec 32 := 0#32
  let c1_i32_9084 : BitVec 32 := 1#32
  let v9398 : BitVec 32 := Scalar.muli v1 c1_i32_9084
  let v9399 : BitVec 32 := Scalar.addi c0_i32_9085 v9398
  v9399.toNat
def k0_dev257 (v2 : BitVec 32) : Nat :=
  let c0_i32_9105 : BitVec 32 := 0#32
  let c1_i32_9104 : BitVec 32 := 1#32
  let v9416 : BitVec 32 := Scalar.muli v2 c1_i32_9104
  let v9417 : BitVec 32 := Scalar.addi c0_i32_9105 v9416
  v9417.toNat
def k0_dev258 (v1 : BitVec 32) : Nat :=
  let c0_i32_9125 : BitVec 32 := 0#32
  let c1_i32_9124 : BitVec 32 := 1#32
  let v9434 : BitVec 32 := Scalar.muli v1 c1_i32_9124
  let v9435 : BitVec 32 := Scalar.addi c0_i32_9125 v9434
  v9435.toNat
def k0_dev259 (v1 : BitVec 32) : Nat :=
  let c0_i32_9204 : BitVec 32 := 0#32
  let c1_i32_9203 : BitVec 32 := 1#32
  let v9492 : BitVec 32 := Scalar.muli v1 c1_i32_9203
  let v9493 : BitVec 32 := Scalar.addi c0_i32_9204 v9492
  v9493.toNat
def k0_dev260 (v2 : BitVec 32) : Nat :=
  let c0_i32_9207 : BitVec 32 := 0#32
  let c1_i32_9206 : BitVec 32 := 1#32
  let v9494 : BitVec 32 := Scalar.muli v2 c1_i32_9206
  let v9495 : BitVec 32 := Scalar.addi c0_i32_9207 v9494
  v9495.toNat
def k0_dev261 (v2 : BitVec 32) : Nat :=
  let c0_i32_9321 : BitVec 32 := 0#32
  let c1_i32_9320 : BitVec 32 := 1#32
  let v9656 : BitVec 32 := Scalar.muli v2 c1_i32_9320
  let v9657 : BitVec 32 := Scalar.addi c0_i32_9321 v9656
  v9657.toNat
def k0_dev262 (v1 : BitVec 32) : Nat :=
  let c0_i32_9343 : BitVec 32 := 0#32
  let c1_i32_9342 : BitVec 32 := 1#32
  let v9674 : BitVec 32 := Scalar.muli v1 c1_i32_9342
  let v9675 : BitVec 32 := Scalar.addi c0_i32_9343 v9674
  v9675.toNat
def k0_dev263 (v2 : BitVec 32) : Nat :=
  let c0_i32_9363 : BitVec 32 := 0#32
  let c1_i32_9362 : BitVec 32 := 1#32
  let v9692 : BitVec 32 := Scalar.muli v2 c1_i32_9362
  let v9693 : BitVec 32 := Scalar.addi c0_i32_9363 v9692
  v9693.toNat
def k0_dev264 (v1 : BitVec 32) : Nat :=
  let c0_i32_9383 : BitVec 32 := 0#32
  let c1_i32_9382 : BitVec 32 := 1#32
  let v9710 : BitVec 32 := Scalar.muli v1 c1_i32_9382
  let v9711 : BitVec 32 := Scalar.addi c0_i32_9383 v9710
  v9711.toNat
def k0_dev265 (v2 : BitVec 32) : Nat :=
  let c0_i32_9403 : BitVec 32 := 0#32
  let c1_i32_9402 : BitVec 32 := 1#32
  let v9728 : BitVec 32 := Scalar.muli v2 c1_i32_9402
  let v9729 : BitVec 32 := Scalar.addi c0_i32_9403 v9728
  v9729.toNat
def k0_dev266 (v1 : BitVec 32) : Nat :=
  let c0_i32_9423 : BitVec 32 := 0#32
  let c1_i32_9422 : BitVec 32 := 1#32
  let v9746 : BitVec 32 := Scalar.muli v1 c1_i32_9422
  let v9747 : BitVec 32 := Scalar.addi c0_i32_9423 v9746
  v9747.toNat
def k0_dev267 (v2 : BitVec 32) : Nat :=
  let c0_i32_9443 : BitVec 32 := 0#32
  let c1_i32_9442 : BitVec 32 := 1#32
  let v9764 : BitVec 32 := Scalar.muli v2 c1_i32_9442
  let v9765 : BitVec 32 := Scalar.addi c0_i32_9443 v9764
  v9765.toNat
def k0_dev268 (v1 : BitVec 32) : Nat :=
  let c0_i32_9463 : BitVec 32 := 0#32
  let c1_i32_9462 : BitVec 32 := 1#32
  let v9782 : BitVec 32 := Scalar.muli v1 c1_i32_9462
  let v9783 : BitVec 32 := Scalar.addi c0_i32_9463 v9782
  v9783.toNat
def k0_dev269 (v1 : BitVec 32) : Nat :=
  let c0_i32_9542 : BitVec 32 := 0#32
  let c1_i32_9541 : BitVec 32 := 1#32
  let v9840 : BitVec 32 := Scalar.muli v1 c1_i32_9541
  let v9841 : BitVec 32 := Scalar.addi c0_i32_9542 v9840
  v9841.toNat
def k0_dev270 (v2 : BitVec 32) : Nat :=
  let c0_i32_9545 : BitVec 32 := 0#32
  let c1_i32_9544 : BitVec 32 := 1#32
  let v9842 : BitVec 32 := Scalar.muli v2 c1_i32_9544
  let v9843 : BitVec 32 := Scalar.addi c0_i32_9545 v9842
  v9843.toNat
def k0_dev271 (v2 : BitVec 32) : Nat :=
  let c0_i32_9659 : BitVec 32 := 0#32
  let c1_i32_9658 : BitVec 32 := 1#32
  let v10004 : BitVec 32 := Scalar.muli v2 c1_i32_9658
  let v10005 : BitVec 32 := Scalar.addi c0_i32_9659 v10004
  v10005.toNat
def k0_dev272 (v1 : BitVec 32) : Nat :=
  let c0_i32_9681 : BitVec 32 := 0#32
  let c1_i32_9680 : BitVec 32 := 1#32
  let v10022 : BitVec 32 := Scalar.muli v1 c1_i32_9680
  let v10023 : BitVec 32 := Scalar.addi c0_i32_9681 v10022
  v10023.toNat
def k0_dev273 (v2 : BitVec 32) : Nat :=
  let c0_i32_9701 : BitVec 32 := 0#32
  let c1_i32_9700 : BitVec 32 := 1#32
  let v10040 : BitVec 32 := Scalar.muli v2 c1_i32_9700
  let v10041 : BitVec 32 := Scalar.addi c0_i32_9701 v10040
  v10041.toNat
def k0_dev274 (v1 : BitVec 32) : Nat :=
  let c0_i32_9721 : BitVec 32 := 0#32
  let c1_i32_9720 : BitVec 32 := 1#32
  let v10058 : BitVec 32 := Scalar.muli v1 c1_i32_9720
  let v10059 : BitVec 32 := Scalar.addi c0_i32_9721 v10058
  v10059.toNat
def k0_dev275 (v2 : BitVec 32) : Nat :=
  let c0_i32_9741 : BitVec 32 := 0#32
  let c1_i32_9740 : BitVec 32 := 1#32
  let v10076 : BitVec 32 := Scalar.muli v2 c1_i32_9740
  let v10077 : BitVec 32 := Scalar.addi c0_i32_9741 v10076
  v10077.toNat
def k0_dev276 (v1 : BitVec 32) : Nat :=
  let c0_i32_9761 : BitVec 32 := 0#32
  let c1_i32_9760 : BitVec 32 := 1#32
  let v10094 : BitVec 32 := Scalar.muli v1 c1_i32_9760
  let v10095 : BitVec 32 := Scalar.addi c0_i32_9761 v10094
  v10095.toNat
def k0_dev277 (v2 : BitVec 32) : Nat :=
  let c0_i32_9781 : BitVec 32 := 0#32
  let c1_i32_9780 : BitVec 32 := 1#32
  let v10112 : BitVec 32 := Scalar.muli v2 c1_i32_9780
  let v10113 : BitVec 32 := Scalar.addi c0_i32_9781 v10112
  v10113.toNat
def k0_dev278 (v1 : BitVec 32) : Nat :=
  let c0_i32_9801 : BitVec 32 := 0#32
  let c1_i32_9800 : BitVec 32 := 1#32
  let v10130 : BitVec 32 := Scalar.muli v1 c1_i32_9800
  let v10131 : BitVec 32 := Scalar.addi c0_i32_9801 v10130
  v10131.toNat
def k0_dev279 (v1 : BitVec 32) : Nat :=
  let c0_i32_9880 : BitVec 32 := 0#32
  let c1_i32_9879 : BitVec 32 := 1#32
  let v10188 : BitVec 32 := Scalar.muli v1 c1_i32_9879
  let v10189 : BitVec 32 := Scalar.addi c0_i32_9880 v10188
  v10189.toNat
def k0_dev280 (v2 : BitVec 32) : Nat :=
  let c0_i32_9883 : BitVec 32 := 0#32
  let c1_i32_9882 : BitVec 32 := 1#32
  let v10190 : BitVec 32 := Scalar.muli v2 c1_i32_9882
  let v10191 : BitVec 32 := Scalar.addi c0_i32_9883 v10190
  v10191.toNat
def k0_dev281 (v2 : BitVec 32) : Nat :=
  let c0_i32_9997 : BitVec 32 := 0#32
  let c1_i32_9996 : BitVec 32 := 1#32
  let v10352 : BitVec 32 := Scalar.muli v2 c1_i32_9996
  let v10353 : BitVec 32 := Scalar.addi c0_i32_9997 v10352
  v10353.toNat
def k0_dev282 (v1 : BitVec 32) : Nat :=
  let c0_i32_10019 : BitVec 32 := 0#32
  let c1_i32_10018 : BitVec 32 := 1#32
  let v10370 : BitVec 32 := Scalar.muli v1 c1_i32_10018
  let v10371 : BitVec 32 := Scalar.addi c0_i32_10019 v10370
  v10371.toNat
def k0_dev283 (v2 : BitVec 32) : Nat :=
  let c0_i32_10039 : BitVec 32 := 0#32
  let c1_i32_10038 : BitVec 32 := 1#32
  let v10388 : BitVec 32 := Scalar.muli v2 c1_i32_10038
  let v10389 : BitVec 32 := Scalar.addi c0_i32_10039 v10388
  v10389.toNat
def k0_dev284 (v1 : BitVec 32) : Nat :=
  let c0_i32_10059 : BitVec 32 := 0#32
  let c1_i32_10058 : BitVec 32 := 1#32
  let v10406 : BitVec 32 := Scalar.muli v1 c1_i32_10058
  let v10407 : BitVec 32 := Scalar.addi c0_i32_10059 v10406
  v10407.toNat
def k0_dev285 (v2 : BitVec 32) : Nat :=
  let c0_i32_10079 : BitVec 32 := 0#32
  let c1_i32_10078 : BitVec 32 := 1#32
  let v10424 : BitVec 32 := Scalar.muli v2 c1_i32_10078
  let v10425 : BitVec 32 := Scalar.addi c0_i32_10079 v10424
  v10425.toNat
def k0_dev286 (v1 : BitVec 32) : Nat :=
  let c0_i32_10099 : BitVec 32 := 0#32
  let c1_i32_10098 : BitVec 32 := 1#32
  let v10442 : BitVec 32 := Scalar.muli v1 c1_i32_10098
  let v10443 : BitVec 32 := Scalar.addi c0_i32_10099 v10442
  v10443.toNat
def k0_dev287 (v2 : BitVec 32) : Nat :=
  let c0_i32_10119 : BitVec 32 := 0#32
  let c1_i32_10118 : BitVec 32 := 1#32
  let v10460 : BitVec 32 := Scalar.muli v2 c1_i32_10118
  let v10461 : BitVec 32 := Scalar.addi c0_i32_10119 v10460
  v10461.toNat
def k0_dev288 (v1 : BitVec 32) : Nat :=
  let c0_i32_10139 : BitVec 32 := 0#32
  let c1_i32_10138 : BitVec 32 := 1#32
  let v10478 : BitVec 32 := Scalar.muli v1 c1_i32_10138
  let v10479 : BitVec 32 := Scalar.addi c0_i32_10139 v10478
  v10479.toNat
def k0_dev289 (v1 : BitVec 32) : Nat :=
  let c0_i32_10218 : BitVec 32 := 0#32
  let c1_i32_10217 : BitVec 32 := 1#32
  let v10536 : BitVec 32 := Scalar.muli v1 c1_i32_10217
  let v10537 : BitVec 32 := Scalar.addi c0_i32_10218 v10536
  v10537.toNat
def k0_dev290 (v2 : BitVec 32) : Nat :=
  let c0_i32_10221 : BitVec 32 := 0#32
  let c1_i32_10220 : BitVec 32 := 1#32
  let v10538 : BitVec 32 := Scalar.muli v2 c1_i32_10220
  let v10539 : BitVec 32 := Scalar.addi c0_i32_10221 v10538
  v10539.toNat
def k0_dev291 (v2 : BitVec 32) : Nat :=
  let c0_i32_10335 : BitVec 32 := 0#32
  let c1_i32_10334 : BitVec 32 := 1#32
  let v10700 : BitVec 32 := Scalar.muli v2 c1_i32_10334
  let v10701 : BitVec 32 := Scalar.addi c0_i32_10335 v10700
  v10701.toNat
def k0_dev292 (v1 : BitVec 32) : Nat :=
  let c0_i32_10357 : BitVec 32 := 0#32
  let c1_i32_10356 : BitVec 32 := 1#32
  let v10718 : BitVec 32 := Scalar.muli v1 c1_i32_10356
  let v10719 : BitVec 32 := Scalar.addi c0_i32_10357 v10718
  v10719.toNat
def k0_dev293 (v2 : BitVec 32) : Nat :=
  let c0_i32_10377 : BitVec 32 := 0#32
  let c1_i32_10376 : BitVec 32 := 1#32
  let v10736 : BitVec 32 := Scalar.muli v2 c1_i32_10376
  let v10737 : BitVec 32 := Scalar.addi c0_i32_10377 v10736
  v10737.toNat
def k0_dev294 (v1 : BitVec 32) : Nat :=
  let c0_i32_10397 : BitVec 32 := 0#32
  let c1_i32_10396 : BitVec 32 := 1#32
  let v10754 : BitVec 32 := Scalar.muli v1 c1_i32_10396
  let v10755 : BitVec 32 := Scalar.addi c0_i32_10397 v10754
  v10755.toNat
def k0_dev295 (v2 : BitVec 32) : Nat :=
  let c0_i32_10417 : BitVec 32 := 0#32
  let c1_i32_10416 : BitVec 32 := 1#32
  let v10772 : BitVec 32 := Scalar.muli v2 c1_i32_10416
  let v10773 : BitVec 32 := Scalar.addi c0_i32_10417 v10772
  v10773.toNat
def k0_dev296 (v1 : BitVec 32) : Nat :=
  let c0_i32_10437 : BitVec 32 := 0#32
  let c1_i32_10436 : BitVec 32 := 1#32
  let v10790 : BitVec 32 := Scalar.muli v1 c1_i32_10436
  let v10791 : BitVec 32 := Scalar.addi c0_i32_10437 v10790
  v10791.toNat
def k0_dev297 (v2 : BitVec 32) : Nat :=
  let c0_i32_10457 : BitVec 32 := 0#32
  let c1_i32_10456 : BitVec 32 := 1#32
  let v10808 : BitVec 32 := Scalar.muli v2 c1_i32_10456
  let v10809 : BitVec 32 := Scalar.addi c0_i32_10457 v10808
  v10809.toNat

def k0_chk2_0 (v2 : BitVec 32) : Prop :=
  ((k0_dev2 v2) < nD) ∧
  ((k0_dev3 v2) < nD) ∧
  ((k0_dev5 v2) < nD) ∧
  ((k0_dev7 v2) < nD) ∧
  ((k0_dev9 v2) < nD) ∧
  ((k0_dev11 v2) < nD) ∧
  ((k0_dev13 v2) < nD) ∧
  ((k0_dev15 v2) < nD) ∧
  ((k0_dev17 v2) < nD) ∧
  ((k0_dev20 v2) < nD) ∧
  ((k0_dev21 v2) < nD) ∧
  ((k0_dev23 v2) < nD) ∧
  ((k0_dev25 v2) < nD) ∧
  ((k0_dev27 v2) < nD) ∧
  ((k0_dev30 v2) < nD) ∧
  ((k0_dev31 v2) < nD) ∧
  ((k0_dev33 v2) < nD) ∧
  ((k0_dev35 v2) < nD) ∧
  ((k0_dev37 v2) < nD) ∧
  ((k0_dev40 v2) < nD) ∧
  ((k0_dev41 v2) < nD) ∧
  ((k0_dev43 v2) < nD) ∧
  ((k0_dev45 v2) < nD) ∧
  ((k0_dev47 v2) < nD) ∧
  ((k0_dev50 v2) < nD) ∧
  ((k0_dev51 v2) < nD) ∧
  ((k0_dev53 v2) < nD) ∧
  ((k0_dev55 v2) < nD) ∧
  ((k0_dev57 v2) < nD) ∧
  ((k0_dev60 v2) < nD) ∧
  ((k0_dev61 v2) < nD) ∧
  ((k0_dev63 v2) < nD)
def k0_chk2_1 (v2 : BitVec 32) : Prop :=
  ((k0_dev65 v2) < nD) ∧
  ((k0_dev67 v2) < nD) ∧
  ((k0_dev70 v2) < nD) ∧
  ((k0_dev71 v2) < nD) ∧
  ((k0_dev73 v2) < nD) ∧
  ((k0_dev75 v2) < nD) ∧
  ((k0_dev77 v2) < nD) ∧
  ((k0_dev80 v2) < nD) ∧
  ((k0_dev81 v2) < nD) ∧
  ((k0_dev83 v2) < nD) ∧
  ((k0_dev85 v2) < nD) ∧
  ((k0_dev87 v2) < nD) ∧
  ((k0_dev90 v2) < nD) ∧
  ((k0_dev91 v2) < nD) ∧
  ((k0_dev93 v2) < nD) ∧
  ((k0_dev95 v2) < nD) ∧
  ((k0_dev97 v2) < nD) ∧
  ((k0_dev100 v2) < nD) ∧
  ((k0_dev101 v2) < nD) ∧
  ((k0_dev103 v2) < nD) ∧
  ((k0_dev105 v2) < nD) ∧
  ((k0_dev107 v2) < nD) ∧
  ((k0_dev110 v2) < nD) ∧
  ((k0_dev111 v2) < nD) ∧
  ((k0_dev113 v2) < nD) ∧
  ((k0_dev115 v2) < nD) ∧
  ((k0_dev117 v2) < nD) ∧
  ((k0_dev120 v2) < nD) ∧
  ((k0_dev121 v2) < nD) ∧
  ((k0_dev123 v2) < nD) ∧
  ((k0_dev125 v2) < nD) ∧
  ((k0_dev127 v2) < nD)
def k0_chk2_2 (v2 : BitVec 32) : Prop :=
  ((k0_dev130 v2) < nD) ∧
  ((k0_dev131 v2) < nD) ∧
  ((k0_dev133 v2) < nD) ∧
  ((k0_dev135 v2) < nD) ∧
  ((k0_dev137 v2) < nD) ∧
  ((k0_dev140 v2) < nD) ∧
  ((k0_dev141 v2) < nD) ∧
  ((k0_dev143 v2) < nD) ∧
  ((k0_dev145 v2) < nD) ∧
  ((k0_dev147 v2) < nD) ∧
  ((k0_dev150 v2) < nD) ∧
  ((k0_dev151 v2) < nD) ∧
  ((k0_dev153 v2) < nD) ∧
  ((k0_dev155 v2) < nD) ∧
  ((k0_dev157 v2) < nD) ∧
  ((k0_dev160 v2) < nD) ∧
  ((k0_dev161 v2) < nD) ∧
  ((k0_dev163 v2) < nD) ∧
  ((k0_dev165 v2) < nD) ∧
  ((k0_dev167 v2) < nD) ∧
  ((k0_dev170 v2) < nD) ∧
  ((k0_dev171 v2) < nD) ∧
  ((k0_dev173 v2) < nD) ∧
  ((k0_dev175 v2) < nD) ∧
  ((k0_dev177 v2) < nD) ∧
  ((k0_dev180 v2) < nD) ∧
  ((k0_dev181 v2) < nD) ∧
  ((k0_dev183 v2) < nD) ∧
  ((k0_dev185 v2) < nD) ∧
  ((k0_dev187 v2) < nD) ∧
  ((k0_dev190 v2) < nD) ∧
  ((k0_dev191 v2) < nD)
def k0_chk2_3 (v2 : BitVec 32) : Prop :=
  ((k0_dev193 v2) < nD) ∧
  ((k0_dev195 v2) < nD) ∧
  ((k0_dev197 v2) < nD) ∧
  ((k0_dev200 v2) < nD) ∧
  ((k0_dev201 v2) < nD) ∧
  ((k0_dev203 v2) < nD) ∧
  ((k0_dev205 v2) < nD) ∧
  ((k0_dev207 v2) < nD) ∧
  ((k0_dev210 v2) < nD) ∧
  ((k0_dev211 v2) < nD) ∧
  ((k0_dev213 v2) < nD) ∧
  ((k0_dev215 v2) < nD) ∧
  ((k0_dev217 v2) < nD) ∧
  ((k0_dev220 v2) < nD) ∧
  ((k0_dev221 v2) < nD) ∧
  ((k0_dev223 v2) < nD) ∧
  ((k0_dev225 v2) < nD) ∧
  ((k0_dev227 v2) < nD) ∧
  ((k0_dev230 v2) < nD) ∧
  ((k0_dev231 v2) < nD) ∧
  ((k0_dev233 v2) < nD) ∧
  ((k0_dev235 v2) < nD) ∧
  ((k0_dev237 v2) < nD) ∧
  ((k0_dev240 v2) < nD) ∧
  ((k0_dev241 v2) < nD) ∧
  ((k0_dev243 v2) < nD) ∧
  ((k0_dev245 v2) < nD) ∧
  ((k0_dev247 v2) < nD) ∧
  ((k0_dev250 v2) < nD) ∧
  ((k0_dev251 v2) < nD) ∧
  ((k0_dev253 v2) < nD) ∧
  ((k0_dev255 v2) < nD)
def k0_chk2_4 (v2 : BitVec 32) : Prop :=
  ((k0_dev257 v2) < nD) ∧
  ((k0_dev260 v2) < nD) ∧
  ((k0_dev261 v2) < nD) ∧
  ((k0_dev263 v2) < nD) ∧
  ((k0_dev265 v2) < nD) ∧
  ((k0_dev267 v2) < nD) ∧
  ((k0_dev270 v2) < nD) ∧
  ((k0_dev271 v2) < nD) ∧
  ((k0_dev273 v2) < nD) ∧
  ((k0_dev275 v2) < nD) ∧
  ((k0_dev277 v2) < nD) ∧
  ((k0_dev280 v2) < nD) ∧
  ((k0_dev281 v2) < nD) ∧
  ((k0_dev283 v2) < nD) ∧
  ((k0_dev285 v2) < nD) ∧
  ((k0_dev287 v2) < nD) ∧
  ((k0_dev290 v2) < nD) ∧
  ((k0_dev291 v2) < nD) ∧
  ((k0_dev293 v2) < nD) ∧
  ((k0_dev295 v2) < nD) ∧
  ((k0_dev297 v2) < nD)
def k0_chk2 (v2 : BitVec 32) : Prop :=
  k0_chk2_0 v2 ∧
  k0_chk2_1 v2 ∧
  k0_chk2_2 v2 ∧
  k0_chk2_3 v2 ∧
  k0_chk2_4 v2
theorem k0_dev2_lt : ∀ (v2 : BitVec 32) (k0_hw2 : k0_chk2 v2), (k0_dev2 v2) < nD := fun v2 k0_hw2 => k0_hw2.1.1
theorem k0_dev3_lt : ∀ (v2 : BitVec 32) (k0_hw2 : k0_chk2 v2), (k0_dev3 v2) < nD := fun v2 k0_hw2 => k0_hw2.1.2.1
theorem k0_dev5_lt : ∀ (v2 : BitVec 32) (k0_hw2 : k0_chk2 v2), (k0_dev5 v2) < nD := fun v2 k0_hw2 => k0_hw2.1.2.2.1
theorem k0_dev7_lt : ∀ (v2 : BitVec 32) (k0_hw2 : k0_chk2 v2), (k0_dev7 v2) < nD := fun v2 k0_hw2 => k0_hw2.1.2.2.2.1
theorem k0_dev9_lt : ∀ (v2 : BitVec 32) (k0_hw2 : k0_chk2 v2), (k0_dev9 v2) < nD := fun v2 k0_hw2 => k0_hw2.1.2.2.2.2.1
theorem k0_dev11_lt : ∀ (v2 : BitVec 32) (k0_hw2 : k0_chk2 v2), (k0_dev11 v2) < nD := fun v2 k0_hw2 => k0_hw2.1.2.2.2.2.2.1
theorem k0_dev13_lt : ∀ (v2 : BitVec 32) (k0_hw2 : k0_chk2 v2), (k0_dev13 v2) < nD := fun v2 k0_hw2 => k0_hw2.1.2.2.2.2.2.2.1
theorem k0_dev15_lt : ∀ (v2 : BitVec 32) (k0_hw2 : k0_chk2 v2), (k0_dev15 v2) < nD := fun v2 k0_hw2 => k0_hw2.1.2.2.2.2.2.2.2.1
theorem k0_dev17_lt : ∀ (v2 : BitVec 32) (k0_hw2 : k0_chk2 v2), (k0_dev17 v2) < nD := fun v2 k0_hw2 => k0_hw2.1.2.2.2.2.2.2.2.2.1
theorem k0_dev20_lt : ∀ (v2 : BitVec 32) (k0_hw2 : k0_chk2 v2), (k0_dev20 v2) < nD := fun v2 k0_hw2 => k0_hw2.1.2.2.2.2.2.2.2.2.2.1
theorem k0_dev21_lt : ∀ (v2 : BitVec 32) (k0_hw2 : k0_chk2 v2), (k0_dev21 v2) < nD := fun v2 k0_hw2 => k0_hw2.1.2.2.2.2.2.2.2.2.2.2.1
theorem k0_dev23_lt : ∀ (v2 : BitVec 32) (k0_hw2 : k0_chk2 v2), (k0_dev23 v2) < nD := fun v2 k0_hw2 => k0_hw2.1.2.2.2.2.2.2.2.2.2.2.2.1
theorem k0_dev25_lt : ∀ (v2 : BitVec 32) (k0_hw2 : k0_chk2 v2), (k0_dev25 v2) < nD := fun v2 k0_hw2 => k0_hw2.1.2.2.2.2.2.2.2.2.2.2.2.2.1
theorem k0_dev27_lt : ∀ (v2 : BitVec 32) (k0_hw2 : k0_chk2 v2), (k0_dev27 v2) < nD := fun v2 k0_hw2 => k0_hw2.1.2.2.2.2.2.2.2.2.2.2.2.2.2.1
theorem k0_dev30_lt : ∀ (v2 : BitVec 32) (k0_hw2 : k0_chk2 v2), (k0_dev30 v2) < nD := fun v2 k0_hw2 => k0_hw2.1.2.2.2.2.2.2.2.2.2.2.2.2.2.2.1
theorem k0_dev31_lt : ∀ (v2 : BitVec 32) (k0_hw2 : k0_chk2 v2), (k0_dev31 v2) < nD := fun v2 k0_hw2 => k0_hw2.1.2.2.2.2.2.2.2.2.2.2.2.2.2.2.2.1
theorem k0_dev33_lt : ∀ (v2 : BitVec 32) (k0_hw2 : k0_chk2 v2), (k0_dev33 v2) < nD := fun v2 k0_hw2 => k0_hw2.1.2.2.2.2.2.2.2.2.2.2.2.2.2.2.2.2.1
theorem k0_dev35_lt : ∀ (v2 : BitVec 32) (k0_hw2 : k0_chk2 v2), (k0_dev35 v2) < nD := fun v2 k0_hw2 => k0_hw2.1.2.2.2.2.2.2.2.2.2.2.2.2.2.2.2.2.2.1
theorem k0_dev37_lt : ∀ (v2 : BitVec 32) (k0_hw2 : k0_chk2 v2), (k0_dev37 v2) < nD := fun v2 k0_hw2 => k0_hw2.1.2.2.2.2.2.2.2.2.2.2.2.2.2.2.2.2.2.2.1
theorem k0_dev40_lt : ∀ (v2 : BitVec 32) (k0_hw2 : k0_chk2 v2), (k0_dev40 v2) < nD := fun v2 k0_hw2 => k0_hw2.1.2.2.2.2.2.2.2.2.2.2.2.2.2.2.2.2.2.2.2.1
theorem k0_dev41_lt : ∀ (v2 : BitVec 32) (k0_hw2 : k0_chk2 v2), (k0_dev41 v2) < nD := fun v2 k0_hw2 => k0_hw2.1.2.2.2.2.2.2.2.2.2.2.2.2.2.2.2.2.2.2.2.2.1
theorem k0_dev43_lt : ∀ (v2 : BitVec 32) (k0_hw2 : k0_chk2 v2), (k0_dev43 v2) < nD := fun v2 k0_hw2 => k0_hw2.1.2.2.2.2.2.2.2.2.2.2.2.2.2.2.2.2.2.2.2.2.2.1
theorem k0_dev45_lt : ∀ (v2 : BitVec 32) (k0_hw2 : k0_chk2 v2), (k0_dev45 v2) < nD := fun v2 k0_hw2 => k0_hw2.1.2.2.2.2.2.2.2.2.2.2.2.2.2.2.2.2.2.2.2.2.2.2.1
theorem k0_dev47_lt : ∀ (v2 : BitVec 32) (k0_hw2 : k0_chk2 v2), (k0_dev47 v2) < nD := fun v2 k0_hw2 => k0_hw2.1.2.2.2.2.2.2.2.2.2.2.2.2.2.2.2.2.2.2.2.2.2.2.2.1
theorem k0_dev50_lt : ∀ (v2 : BitVec 32) (k0_hw2 : k0_chk2 v2), (k0_dev50 v2) < nD := fun v2 k0_hw2 => k0_hw2.1.2.2.2.2.2.2.2.2.2.2.2.2.2.2.2.2.2.2.2.2.2.2.2.2.1
theorem k0_dev51_lt : ∀ (v2 : BitVec 32) (k0_hw2 : k0_chk2 v2), (k0_dev51 v2) < nD := fun v2 k0_hw2 => k0_hw2.1.2.2.2.2.2.2.2.2.2.2.2.2.2.2.2.2.2.2.2.2.2.2.2.2.2.1
theorem k0_dev53_lt : ∀ (v2 : BitVec 32) (k0_hw2 : k0_chk2 v2), (k0_dev53 v2) < nD := fun v2 k0_hw2 => k0_hw2.1.2.2.2.2.2.2.2.2.2.2.2.2.2.2.2.2.2.2.2.2.2.2.2.2.2.2.1
theorem k0_dev55_lt : ∀ (v2 : BitVec 32) (k0_hw2 : k0_chk2 v2), (k0_dev55 v2) < nD := fun v2 k0_hw2 => k0_hw2.1.2.2.2.2.2.2.2.2.2.2.2.2.2.2.2.2.2.2.2.2.2.2.2.2.2.2.2.1
theorem k0_dev57_lt : ∀ (v2 : BitVec 32) (k0_hw2 : k0_chk2 v2), (k0_dev57 v2) < nD := fun v2 k0_hw2 => k0_hw2.1.2.2.2.2.2.2.2.2.2.2.2.2.2.2.2.2.2.2.2.2.2.2.2.2.2.2.2.2.1
theorem k0_dev60_lt : ∀ (v2 : BitVec 32) (k0_hw2 : k0_chk2 v2), (k0_dev60 v2) < nD := fun v2 k0_hw2 => k0_hw2.1.2.2.2.2.2.2.2.2.2.2.2.2.2.2.2.2.2.2.2.2.2.2.2.2.2.2.2.2.2.1
theorem k0_dev61_lt : ∀ (v2 : BitVec 32) (k0_hw2 : k0_chk2 v2), (k0_dev61 v2) < nD := fun v2 k0_hw2 => k0_hw2.1.2.2.2.2.2.2.2.2.2.2.2.2.2.2.2.2.2.2.2.2.2.2.2.2.2.2.2.2.2.2.1
theorem k0_dev63_lt : ∀ (v2 : BitVec 32) (k0_hw2 : k0_chk2 v2), (k0_dev63 v2) < nD := fun v2 k0_hw2 => k0_hw2.1.2.2.2.2.2.2.2.2.2.2.2.2.2.2.2.2.2.2.2.2.2.2.2.2.2.2.2.2.2.2.2
theorem k0_dev65_lt : ∀ (v2 : BitVec 32) (k0_hw2 : k0_chk2 v2), (k0_dev65 v2) < nD := fun v2 k0_hw2 => k0_hw2.2.1.1
theorem k0_dev67_lt : ∀ (v2 : BitVec 32) (k0_hw2 : k0_chk2 v2), (k0_dev67 v2) < nD := fun v2 k0_hw2 => k0_hw2.2.1.2.1
theorem k0_dev70_lt : ∀ (v2 : BitVec 32) (k0_hw2 : k0_chk2 v2), (k0_dev70 v2) < nD := fun v2 k0_hw2 => k0_hw2.2.1.2.2.1
theorem k0_dev71_lt : ∀ (v2 : BitVec 32) (k0_hw2 : k0_chk2 v2), (k0_dev71 v2) < nD := fun v2 k0_hw2 => k0_hw2.2.1.2.2.2.1
theorem k0_dev73_lt : ∀ (v2 : BitVec 32) (k0_hw2 : k0_chk2 v2), (k0_dev73 v2) < nD := fun v2 k0_hw2 => k0_hw2.2.1.2.2.2.2.1
theorem k0_dev75_lt : ∀ (v2 : BitVec 32) (k0_hw2 : k0_chk2 v2), (k0_dev75 v2) < nD := fun v2 k0_hw2 => k0_hw2.2.1.2.2.2.2.2.1
theorem k0_dev77_lt : ∀ (v2 : BitVec 32) (k0_hw2 : k0_chk2 v2), (k0_dev77 v2) < nD := fun v2 k0_hw2 => k0_hw2.2.1.2.2.2.2.2.2.1
theorem k0_dev80_lt : ∀ (v2 : BitVec 32) (k0_hw2 : k0_chk2 v2), (k0_dev80 v2) < nD := fun v2 k0_hw2 => k0_hw2.2.1.2.2.2.2.2.2.2.1
theorem k0_dev81_lt : ∀ (v2 : BitVec 32) (k0_hw2 : k0_chk2 v2), (k0_dev81 v2) < nD := fun v2 k0_hw2 => k0_hw2.2.1.2.2.2.2.2.2.2.2.1
theorem k0_dev83_lt : ∀ (v2 : BitVec 32) (k0_hw2 : k0_chk2 v2), (k0_dev83 v2) < nD := fun v2 k0_hw2 => k0_hw2.2.1.2.2.2.2.2.2.2.2.2.1
theorem k0_dev85_lt : ∀ (v2 : BitVec 32) (k0_hw2 : k0_chk2 v2), (k0_dev85 v2) < nD := fun v2 k0_hw2 => k0_hw2.2.1.2.2.2.2.2.2.2.2.2.2.1
theorem k0_dev87_lt : ∀ (v2 : BitVec 32) (k0_hw2 : k0_chk2 v2), (k0_dev87 v2) < nD := fun v2 k0_hw2 => k0_hw2.2.1.2.2.2.2.2.2.2.2.2.2.2.1
theorem k0_dev90_lt : ∀ (v2 : BitVec 32) (k0_hw2 : k0_chk2 v2), (k0_dev90 v2) < nD := fun v2 k0_hw2 => k0_hw2.2.1.2.2.2.2.2.2.2.2.2.2.2.2.1
theorem k0_dev91_lt : ∀ (v2 : BitVec 32) (k0_hw2 : k0_chk2 v2), (k0_dev91 v2) < nD := fun v2 k0_hw2 => k0_hw2.2.1.2.2.2.2.2.2.2.2.2.2.2.2.2.1
theorem k0_dev93_lt : ∀ (v2 : BitVec 32) (k0_hw2 : k0_chk2 v2), (k0_dev93 v2) < nD := fun v2 k0_hw2 => k0_hw2.2.1.2.2.2.2.2.2.2.2.2.2.2.2.2.2.1
theorem k0_dev95_lt : ∀ (v2 : BitVec 32) (k0_hw2 : k0_chk2 v2), (k0_dev95 v2) < nD := fun v2 k0_hw2 => k0_hw2.2.1.2.2.2.2.2.2.2.2.2.2.2.2.2.2.2.1
theorem k0_dev97_lt : ∀ (v2 : BitVec 32) (k0_hw2 : k0_chk2 v2), (k0_dev97 v2) < nD := fun v2 k0_hw2 => k0_hw2.2.1.2.2.2.2.2.2.2.2.2.2.2.2.2.2.2.2.1
theorem k0_dev100_lt : ∀ (v2 : BitVec 32) (k0_hw2 : k0_chk2 v2), (k0_dev100 v2) < nD := fun v2 k0_hw2 => k0_hw2.2.1.2.2.2.2.2.2.2.2.2.2.2.2.2.2.2.2.2.1
theorem k0_dev101_lt : ∀ (v2 : BitVec 32) (k0_hw2 : k0_chk2 v2), (k0_dev101 v2) < nD := fun v2 k0_hw2 => k0_hw2.2.1.2.2.2.2.2.2.2.2.2.2.2.2.2.2.2.2.2.2.1
theorem k0_dev103_lt : ∀ (v2 : BitVec 32) (k0_hw2 : k0_chk2 v2), (k0_dev103 v2) < nD := fun v2 k0_hw2 => k0_hw2.2.1.2.2.2.2.2.2.2.2.2.2.2.2.2.2.2.2.2.2.2.1
theorem k0_dev105_lt : ∀ (v2 : BitVec 32) (k0_hw2 : k0_chk2 v2), (k0_dev105 v2) < nD := fun v2 k0_hw2 => k0_hw2.2.1.2.2.2.2.2.2.2.2.2.2.2.2.2.2.2.2.2.2.2.2.1
theorem k0_dev107_lt : ∀ (v2 : BitVec 32) (k0_hw2 : k0_chk2 v2), (k0_dev107 v2) < nD := fun v2 k0_hw2 => k0_hw2.2.1.2.2.2.2.2.2.2.2.2.2.2.2.2.2.2.2.2.2.2.2.2.1
theorem k0_dev110_lt : ∀ (v2 : BitVec 32) (k0_hw2 : k0_chk2 v2), (k0_dev110 v2) < nD := fun v2 k0_hw2 => k0_hw2.2.1.2.2.2.2.2.2.2.2.2.2.2.2.2.2.2.2.2.2.2.2.2.2.1
theorem k0_dev111_lt : ∀ (v2 : BitVec 32) (k0_hw2 : k0_chk2 v2), (k0_dev111 v2) < nD := fun v2 k0_hw2 => k0_hw2.2.1.2.2.2.2.2.2.2.2.2.2.2.2.2.2.2.2.2.2.2.2.2.2.2.1
theorem k0_dev113_lt : ∀ (v2 : BitVec 32) (k0_hw2 : k0_chk2 v2), (k0_dev113 v2) < nD := fun v2 k0_hw2 => k0_hw2.2.1.2.2.2.2.2.2.2.2.2.2.2.2.2.2.2.2.2.2.2.2.2.2.2.2.1
theorem k0_dev115_lt : ∀ (v2 : BitVec 32) (k0_hw2 : k0_chk2 v2), (k0_dev115 v2) < nD := fun v2 k0_hw2 => k0_hw2.2.1.2.2.2.2.2.2.2.2.2.2.2.2.2.2.2.2.2.2.2.2.2.2.2.2.2.1
theorem k0_dev117_lt : ∀ (v2 : BitVec 32) (k0_hw2 : k0_chk2 v2), (k0_dev117 v2) < nD := fun v2 k0_hw2 => k0_hw2.2.1.2.2.2.2.2.2.2.2.2.2.2.2.2.2.2.2.2.2.2.2.2.2.2.2.2.2.1
theorem k0_dev120_lt : ∀ (v2 : BitVec 32) (k0_hw2 : k0_chk2 v2), (k0_dev120 v2) < nD := fun v2 k0_hw2 => k0_hw2.2.1.2.2.2.2.2.2.2.2.2.2.2.2.2.2.2.2.2.2.2.2.2.2.2.2.2.2.2.1
theorem k0_dev121_lt : ∀ (v2 : BitVec 32) (k0_hw2 : k0_chk2 v2), (k0_dev121 v2) < nD := fun v2 k0_hw2 => k0_hw2.2.1.2.2.2.2.2.2.2.2.2.2.2.2.2.2.2.2.2.2.2.2.2.2.2.2.2.2.2.2.1
theorem k0_dev123_lt : ∀ (v2 : BitVec 32) (k0_hw2 : k0_chk2 v2), (k0_dev123 v2) < nD := fun v2 k0_hw2 => k0_hw2.2.1.2.2.2.2.2.2.2.2.2.2.2.2.2.2.2.2.2.2.2.2.2.2.2.2.2.2.2.2.2.1
theorem k0_dev125_lt : ∀ (v2 : BitVec 32) (k0_hw2 : k0_chk2 v2), (k0_dev125 v2) < nD := fun v2 k0_hw2 => k0_hw2.2.1.2.2.2.2.2.2.2.2.2.2.2.2.2.2.2.2.2.2.2.2.2.2.2.2.2.2.2.2.2.2.1
theorem k0_dev127_lt : ∀ (v2 : BitVec 32) (k0_hw2 : k0_chk2 v2), (k0_dev127 v2) < nD := fun v2 k0_hw2 => k0_hw2.2.1.2.2.2.2.2.2.2.2.2.2.2.2.2.2.2.2.2.2.2.2.2.2.2.2.2.2.2.2.2.2.2
theorem k0_dev130_lt : ∀ (v2 : BitVec 32) (k0_hw2 : k0_chk2 v2), (k0_dev130 v2) < nD := fun v2 k0_hw2 => k0_hw2.2.2.1.1
theorem k0_dev131_lt : ∀ (v2 : BitVec 32) (k0_hw2 : k0_chk2 v2), (k0_dev131 v2) < nD := fun v2 k0_hw2 => k0_hw2.2.2.1.2.1
theorem k0_dev133_lt : ∀ (v2 : BitVec 32) (k0_hw2 : k0_chk2 v2), (k0_dev133 v2) < nD := fun v2 k0_hw2 => k0_hw2.2.2.1.2.2.1
theorem k0_dev135_lt : ∀ (v2 : BitVec 32) (k0_hw2 : k0_chk2 v2), (k0_dev135 v2) < nD := fun v2 k0_hw2 => k0_hw2.2.2.1.2.2.2.1
theorem k0_dev137_lt : ∀ (v2 : BitVec 32) (k0_hw2 : k0_chk2 v2), (k0_dev137 v2) < nD := fun v2 k0_hw2 => k0_hw2.2.2.1.2.2.2.2.1
theorem k0_dev140_lt : ∀ (v2 : BitVec 32) (k0_hw2 : k0_chk2 v2), (k0_dev140 v2) < nD := fun v2 k0_hw2 => k0_hw2.2.2.1.2.2.2.2.2.1
theorem k0_dev141_lt : ∀ (v2 : BitVec 32) (k0_hw2 : k0_chk2 v2), (k0_dev141 v2) < nD := fun v2 k0_hw2 => k0_hw2.2.2.1.2.2.2.2.2.2.1
theorem k0_dev143_lt : ∀ (v2 : BitVec 32) (k0_hw2 : k0_chk2 v2), (k0_dev143 v2) < nD := fun v2 k0_hw2 => k0_hw2.2.2.1.2.2.2.2.2.2.2.1
theorem k0_dev145_lt : ∀ (v2 : BitVec 32) (k0_hw2 : k0_chk2 v2), (k0_dev145 v2) < nD := fun v2 k0_hw2 => k0_hw2.2.2.1.2.2.2.2.2.2.2.2.1
theorem k0_dev147_lt : ∀ (v2 : BitVec 32) (k0_hw2 : k0_chk2 v2), (k0_dev147 v2) < nD := fun v2 k0_hw2 => k0_hw2.2.2.1.2.2.2.2.2.2.2.2.2.1
theorem k0_dev150_lt : ∀ (v2 : BitVec 32) (k0_hw2 : k0_chk2 v2), (k0_dev150 v2) < nD := fun v2 k0_hw2 => k0_hw2.2.2.1.2.2.2.2.2.2.2.2.2.2.1
theorem k0_dev151_lt : ∀ (v2 : BitVec 32) (k0_hw2 : k0_chk2 v2), (k0_dev151 v2) < nD := fun v2 k0_hw2 => k0_hw2.2.2.1.2.2.2.2.2.2.2.2.2.2.2.1
theorem k0_dev153_lt : ∀ (v2 : BitVec 32) (k0_hw2 : k0_chk2 v2), (k0_dev153 v2) < nD := fun v2 k0_hw2 => k0_hw2.2.2.1.2.2.2.2.2.2.2.2.2.2.2.2.1
theorem k0_dev155_lt : ∀ (v2 : BitVec 32) (k0_hw2 : k0_chk2 v2), (k0_dev155 v2) < nD := fun v2 k0_hw2 => k0_hw2.2.2.1.2.2.2.2.2.2.2.2.2.2.2.2.2.1
theorem k0_dev157_lt : ∀ (v2 : BitVec 32) (k0_hw2 : k0_chk2 v2), (k0_dev157 v2) < nD := fun v2 k0_hw2 => k0_hw2.2.2.1.2.2.2.2.2.2.2.2.2.2.2.2.2.2.1
theorem k0_dev160_lt : ∀ (v2 : BitVec 32) (k0_hw2 : k0_chk2 v2), (k0_dev160 v2) < nD := fun v2 k0_hw2 => k0_hw2.2.2.1.2.2.2.2.2.2.2.2.2.2.2.2.2.2.2.1
theorem k0_dev161_lt : ∀ (v2 : BitVec 32) (k0_hw2 : k0_chk2 v2), (k0_dev161 v2) < nD := fun v2 k0_hw2 => k0_hw2.2.2.1.2.2.2.2.2.2.2.2.2.2.2.2.2.2.2.2.1
theorem k0_dev163_lt : ∀ (v2 : BitVec 32) (k0_hw2 : k0_chk2 v2), (k0_dev163 v2) < nD := fun v2 k0_hw2 => k0_hw2.2.2.1.2.2.2.2.2.2.2.2.2.2.2.2.2.2.2.2.2.1
theorem k0_dev165_lt : ∀ (v2 : BitVec 32) (k0_hw2 : k0_chk2 v2), (k0_dev165 v2) < nD := fun v2 k0_hw2 => k0_hw2.2.2.1.2.2.2.2.2.2.2.2.2.2.2.2.2.2.2.2.2.2.1
theorem k0_dev167_lt : ∀ (v2 : BitVec 32) (k0_hw2 : k0_chk2 v2), (k0_dev167 v2) < nD := fun v2 k0_hw2 => k0_hw2.2.2.1.2.2.2.2.2.2.2.2.2.2.2.2.2.2.2.2.2.2.2.1
theorem k0_dev170_lt : ∀ (v2 : BitVec 32) (k0_hw2 : k0_chk2 v2), (k0_dev170 v2) < nD := fun v2 k0_hw2 => k0_hw2.2.2.1.2.2.2.2.2.2.2.2.2.2.2.2.2.2.2.2.2.2.2.2.1
theorem k0_dev171_lt : ∀ (v2 : BitVec 32) (k0_hw2 : k0_chk2 v2), (k0_dev171 v2) < nD := fun v2 k0_hw2 => k0_hw2.2.2.1.2.2.2.2.2.2.2.2.2.2.2.2.2.2.2.2.2.2.2.2.2.1
theorem k0_dev173_lt : ∀ (v2 : BitVec 32) (k0_hw2 : k0_chk2 v2), (k0_dev173 v2) < nD := fun v2 k0_hw2 => k0_hw2.2.2.1.2.2.2.2.2.2.2.2.2.2.2.2.2.2.2.2.2.2.2.2.2.2.1
theorem k0_dev175_lt : ∀ (v2 : BitVec 32) (k0_hw2 : k0_chk2 v2), (k0_dev175 v2) < nD := fun v2 k0_hw2 => k0_hw2.2.2.1.2.2.2.2.2.2.2.2.2.2.2.2.2.2.2.2.2.2.2.2.2.2.2.1
theorem k0_dev177_lt : ∀ (v2 : BitVec 32) (k0_hw2 : k0_chk2 v2), (k0_dev177 v2) < nD := fun v2 k0_hw2 => k0_hw2.2.2.1.2.2.2.2.2.2.2.2.2.2.2.2.2.2.2.2.2.2.2.2.2.2.2.2.1
theorem k0_dev180_lt : ∀ (v2 : BitVec 32) (k0_hw2 : k0_chk2 v2), (k0_dev180 v2) < nD := fun v2 k0_hw2 => k0_hw2.2.2.1.2.2.2.2.2.2.2.2.2.2.2.2.2.2.2.2.2.2.2.2.2.2.2.2.2.1
theorem k0_dev181_lt : ∀ (v2 : BitVec 32) (k0_hw2 : k0_chk2 v2), (k0_dev181 v2) < nD := fun v2 k0_hw2 => k0_hw2.2.2.1.2.2.2.2.2.2.2.2.2.2.2.2.2.2.2.2.2.2.2.2.2.2.2.2.2.2.1
theorem k0_dev183_lt : ∀ (v2 : BitVec 32) (k0_hw2 : k0_chk2 v2), (k0_dev183 v2) < nD := fun v2 k0_hw2 => k0_hw2.2.2.1.2.2.2.2.2.2.2.2.2.2.2.2.2.2.2.2.2.2.2.2.2.2.2.2.2.2.2.1
theorem k0_dev185_lt : ∀ (v2 : BitVec 32) (k0_hw2 : k0_chk2 v2), (k0_dev185 v2) < nD := fun v2 k0_hw2 => k0_hw2.2.2.1.2.2.2.2.2.2.2.2.2.2.2.2.2.2.2.2.2.2.2.2.2.2.2.2.2.2.2.2.1
theorem k0_dev187_lt : ∀ (v2 : BitVec 32) (k0_hw2 : k0_chk2 v2), (k0_dev187 v2) < nD := fun v2 k0_hw2 => k0_hw2.2.2.1.2.2.2.2.2.2.2.2.2.2.2.2.2.2.2.2.2.2.2.2.2.2.2.2.2.2.2.2.2.1
theorem k0_dev190_lt : ∀ (v2 : BitVec 32) (k0_hw2 : k0_chk2 v2), (k0_dev190 v2) < nD := fun v2 k0_hw2 => k0_hw2.2.2.1.2.2.2.2.2.2.2.2.2.2.2.2.2.2.2.2.2.2.2.2.2.2.2.2.2.2.2.2.2.2.1
theorem k0_dev191_lt : ∀ (v2 : BitVec 32) (k0_hw2 : k0_chk2 v2), (k0_dev191 v2) < nD := fun v2 k0_hw2 => k0_hw2.2.2.1.2.2.2.2.2.2.2.2.2.2.2.2.2.2.2.2.2.2.2.2.2.2.2.2.2.2.2.2.2.2.2
theorem k0_dev193_lt : ∀ (v2 : BitVec 32) (k0_hw2 : k0_chk2 v2), (k0_dev193 v2) < nD := fun v2 k0_hw2 => k0_hw2.2.2.2.1.1
theorem k0_dev195_lt : ∀ (v2 : BitVec 32) (k0_hw2 : k0_chk2 v2), (k0_dev195 v2) < nD := fun v2 k0_hw2 => k0_hw2.2.2.2.1.2.1
theorem k0_dev197_lt : ∀ (v2 : BitVec 32) (k0_hw2 : k0_chk2 v2), (k0_dev197 v2) < nD := fun v2 k0_hw2 => k0_hw2.2.2.2.1.2.2.1
theorem k0_dev200_lt : ∀ (v2 : BitVec 32) (k0_hw2 : k0_chk2 v2), (k0_dev200 v2) < nD := fun v2 k0_hw2 => k0_hw2.2.2.2.1.2.2.2.1
theorem k0_dev201_lt : ∀ (v2 : BitVec 32) (k0_hw2 : k0_chk2 v2), (k0_dev201 v2) < nD := fun v2 k0_hw2 => k0_hw2.2.2.2.1.2.2.2.2.1
theorem k0_dev203_lt : ∀ (v2 : BitVec 32) (k0_hw2 : k0_chk2 v2), (k0_dev203 v2) < nD := fun v2 k0_hw2 => k0_hw2.2.2.2.1.2.2.2.2.2.1
theorem k0_dev205_lt : ∀ (v2 : BitVec 32) (k0_hw2 : k0_chk2 v2), (k0_dev205 v2) < nD := fun v2 k0_hw2 => k0_hw2.2.2.2.1.2.2.2.2.2.2.1
theorem k0_dev207_lt : ∀ (v2 : BitVec 32) (k0_hw2 : k0_chk2 v2), (k0_dev207 v2) < nD := fun v2 k0_hw2 => k0_hw2.2.2.2.1.2.2.2.2.2.2.2.1
theorem k0_dev210_lt : ∀ (v2 : BitVec 32) (k0_hw2 : k0_chk2 v2), (k0_dev210 v2) < nD := fun v2 k0_hw2 => k0_hw2.2.2.2.1.2.2.2.2.2.2.2.2.1
theorem k0_dev211_lt : ∀ (v2 : BitVec 32) (k0_hw2 : k0_chk2 v2), (k0_dev211 v2) < nD := fun v2 k0_hw2 => k0_hw2.2.2.2.1.2.2.2.2.2.2.2.2.2.1
theorem k0_dev213_lt : ∀ (v2 : BitVec 32) (k0_hw2 : k0_chk2 v2), (k0_dev213 v2) < nD := fun v2 k0_hw2 => k0_hw2.2.2.2.1.2.2.2.2.2.2.2.2.2.2.1
theorem k0_dev215_lt : ∀ (v2 : BitVec 32) (k0_hw2 : k0_chk2 v2), (k0_dev215 v2) < nD := fun v2 k0_hw2 => k0_hw2.2.2.2.1.2.2.2.2.2.2.2.2.2.2.2.1
theorem k0_dev217_lt : ∀ (v2 : BitVec 32) (k0_hw2 : k0_chk2 v2), (k0_dev217 v2) < nD := fun v2 k0_hw2 => k0_hw2.2.2.2.1.2.2.2.2.2.2.2.2.2.2.2.2.1
theorem k0_dev220_lt : ∀ (v2 : BitVec 32) (k0_hw2 : k0_chk2 v2), (k0_dev220 v2) < nD := fun v2 k0_hw2 => k0_hw2.2.2.2.1.2.2.2.2.2.2.2.2.2.2.2.2.2.1
theorem k0_dev221_lt : ∀ (v2 : BitVec 32) (k0_hw2 : k0_chk2 v2), (k0_dev221 v2) < nD := fun v2 k0_hw2 => k0_hw2.2.2.2.1.2.2.2.2.2.2.2.2.2.2.2.2.2.2.1
theorem k0_dev223_lt : ∀ (v2 : BitVec 32) (k0_hw2 : k0_chk2 v2), (k0_dev223 v2) < nD := fun v2 k0_hw2 => k0_hw2.2.2.2.1.2.2.2.2.2.2.2.2.2.2.2.2.2.2.2.1
theorem k0_dev225_lt : ∀ (v2 : BitVec 32) (k0_hw2 : k0_chk2 v2), (k0_dev225 v2) < nD := fun v2 k0_hw2 => k0_hw2.2.2.2.1.2.2.2.2.2.2.2.2.2.2.2.2.2.2.2.2.1
theorem k0_dev227_lt : ∀ (v2 : BitVec 32) (k0_hw2 : k0_chk2 v2), (k0_dev227 v2) < nD := fun v2 k0_hw2 => k0_hw2.2.2.2.1.2.2.2.2.2.2.2.2.2.2.2.2.2.2.2.2.2.1
theorem k0_dev230_lt : ∀ (v2 : BitVec 32) (k0_hw2 : k0_chk2 v2), (k0_dev230 v2) < nD := fun v2 k0_hw2 => k0_hw2.2.2.2.1.2.2.2.2.2.2.2.2.2.2.2.2.2.2.2.2.2.2.1
theorem k0_dev231_lt : ∀ (v2 : BitVec 32) (k0_hw2 : k0_chk2 v2), (k0_dev231 v2) < nD := fun v2 k0_hw2 => k0_hw2.2.2.2.1.2.2.2.2.2.2.2.2.2.2.2.2.2.2.2.2.2.2.2.1
theorem k0_dev233_lt : ∀ (v2 : BitVec 32) (k0_hw2 : k0_chk2 v2), (k0_dev233 v2) < nD := fun v2 k0_hw2 => k0_hw2.2.2.2.1.2.2.2.2.2.2.2.2.2.2.2.2.2.2.2.2.2.2.2.2.1
theorem k0_dev235_lt : ∀ (v2 : BitVec 32) (k0_hw2 : k0_chk2 v2), (k0_dev235 v2) < nD := fun v2 k0_hw2 => k0_hw2.2.2.2.1.2.2.2.2.2.2.2.2.2.2.2.2.2.2.2.2.2.2.2.2.2.1
theorem k0_dev237_lt : ∀ (v2 : BitVec 32) (k0_hw2 : k0_chk2 v2), (k0_dev237 v2) < nD := fun v2 k0_hw2 => k0_hw2.2.2.2.1.2.2.2.2.2.2.2.2.2.2.2.2.2.2.2.2.2.2.2.2.2.2.1
theorem k0_dev240_lt : ∀ (v2 : BitVec 32) (k0_hw2 : k0_chk2 v2), (k0_dev240 v2) < nD := fun v2 k0_hw2 => k0_hw2.2.2.2.1.2.2.2.2.2.2.2.2.2.2.2.2.2.2.2.2.2.2.2.2.2.2.2.1
theorem k0_dev241_lt : ∀ (v2 : BitVec 32) (k0_hw2 : k0_chk2 v2), (k0_dev241 v2) < nD := fun v2 k0_hw2 => k0_hw2.2.2.2.1.2.2.2.2.2.2.2.2.2.2.2.2.2.2.2.2.2.2.2.2.2.2.2.2.1
theorem k0_dev243_lt : ∀ (v2 : BitVec 32) (k0_hw2 : k0_chk2 v2), (k0_dev243 v2) < nD := fun v2 k0_hw2 => k0_hw2.2.2.2.1.2.2.2.2.2.2.2.2.2.2.2.2.2.2.2.2.2.2.2.2.2.2.2.2.2.1
theorem k0_dev245_lt : ∀ (v2 : BitVec 32) (k0_hw2 : k0_chk2 v2), (k0_dev245 v2) < nD := fun v2 k0_hw2 => k0_hw2.2.2.2.1.2.2.2.2.2.2.2.2.2.2.2.2.2.2.2.2.2.2.2.2.2.2.2.2.2.2.1
theorem k0_dev247_lt : ∀ (v2 : BitVec 32) (k0_hw2 : k0_chk2 v2), (k0_dev247 v2) < nD := fun v2 k0_hw2 => k0_hw2.2.2.2.1.2.2.2.2.2.2.2.2.2.2.2.2.2.2.2.2.2.2.2.2.2.2.2.2.2.2.2.1
theorem k0_dev250_lt : ∀ (v2 : BitVec 32) (k0_hw2 : k0_chk2 v2), (k0_dev250 v2) < nD := fun v2 k0_hw2 => k0_hw2.2.2.2.1.2.2.2.2.2.2.2.2.2.2.2.2.2.2.2.2.2.2.2.2.2.2.2.2.2.2.2.2.1
theorem k0_dev251_lt : ∀ (v2 : BitVec 32) (k0_hw2 : k0_chk2 v2), (k0_dev251 v2) < nD := fun v2 k0_hw2 => k0_hw2.2.2.2.1.2.2.2.2.2.2.2.2.2.2.2.2.2.2.2.2.2.2.2.2.2.2.2.2.2.2.2.2.2.1
theorem k0_dev253_lt : ∀ (v2 : BitVec 32) (k0_hw2 : k0_chk2 v2), (k0_dev253 v2) < nD := fun v2 k0_hw2 => k0_hw2.2.2.2.1.2.2.2.2.2.2.2.2.2.2.2.2.2.2.2.2.2.2.2.2.2.2.2.2.2.2.2.2.2.2.1
theorem k0_dev255_lt : ∀ (v2 : BitVec 32) (k0_hw2 : k0_chk2 v2), (k0_dev255 v2) < nD := fun v2 k0_hw2 => k0_hw2.2.2.2.1.2.2.2.2.2.2.2.2.2.2.2.2.2.2.2.2.2.2.2.2.2.2.2.2.2.2.2.2.2.2.2
theorem k0_dev257_lt : ∀ (v2 : BitVec 32) (k0_hw2 : k0_chk2 v2), (k0_dev257 v2) < nD := fun v2 k0_hw2 => k0_hw2.2.2.2.2.1
theorem k0_dev260_lt : ∀ (v2 : BitVec 32) (k0_hw2 : k0_chk2 v2), (k0_dev260 v2) < nD := fun v2 k0_hw2 => k0_hw2.2.2.2.2.2.1
theorem k0_dev261_lt : ∀ (v2 : BitVec 32) (k0_hw2 : k0_chk2 v2), (k0_dev261 v2) < nD := fun v2 k0_hw2 => k0_hw2.2.2.2.2.2.2.1
theorem k0_dev263_lt : ∀ (v2 : BitVec 32) (k0_hw2 : k0_chk2 v2), (k0_dev263 v2) < nD := fun v2 k0_hw2 => k0_hw2.2.2.2.2.2.2.2.1
theorem k0_dev265_lt : ∀ (v2 : BitVec 32) (k0_hw2 : k0_chk2 v2), (k0_dev265 v2) < nD := fun v2 k0_hw2 => k0_hw2.2.2.2.2.2.2.2.2.1
theorem k0_dev267_lt : ∀ (v2 : BitVec 32) (k0_hw2 : k0_chk2 v2), (k0_dev267 v2) < nD := fun v2 k0_hw2 => k0_hw2.2.2.2.2.2.2.2.2.2.1
theorem k0_dev270_lt : ∀ (v2 : BitVec 32) (k0_hw2 : k0_chk2 v2), (k0_dev270 v2) < nD := fun v2 k0_hw2 => k0_hw2.2.2.2.2.2.2.2.2.2.2.1
theorem k0_dev271_lt : ∀ (v2 : BitVec 32) (k0_hw2 : k0_chk2 v2), (k0_dev271 v2) < nD := fun v2 k0_hw2 => k0_hw2.2.2.2.2.2.2.2.2.2.2.2.1
theorem k0_dev273_lt : ∀ (v2 : BitVec 32) (k0_hw2 : k0_chk2 v2), (k0_dev273 v2) < nD := fun v2 k0_hw2 => k0_hw2.2.2.2.2.2.2.2.2.2.2.2.2.1
theorem k0_dev275_lt : ∀ (v2 : BitVec 32) (k0_hw2 : k0_chk2 v2), (k0_dev275 v2) < nD := fun v2 k0_hw2 => k0_hw2.2.2.2.2.2.2.2.2.2.2.2.2.2.1
theorem k0_dev277_lt : ∀ (v2 : BitVec 32) (k0_hw2 : k0_chk2 v2), (k0_dev277 v2) < nD := fun v2 k0_hw2 => k0_hw2.2.2.2.2.2.2.2.2.2.2.2.2.2.2.1
theorem k0_dev280_lt : ∀ (v2 : BitVec 32) (k0_hw2 : k0_chk2 v2), (k0_dev280 v2) < nD := fun v2 k0_hw2 => k0_hw2.2.2.2.2.2.2.2.2.2.2.2.2.2.2.2.1
theorem k0_dev281_lt : ∀ (v2 : BitVec 32) (k0_hw2 : k0_chk2 v2), (k0_dev281 v2) < nD := fun v2 k0_hw2 => k0_hw2.2.2.2.2.2.2.2.2.2.2.2.2.2.2.2.2.1
theorem k0_dev283_lt : ∀ (v2 : BitVec 32) (k0_hw2 : k0_chk2 v2), (k0_dev283 v2) < nD := fun v2 k0_hw2 => k0_hw2.2.2.2.2.2.2.2.2.2.2.2.2.2.2.2.2.2.1
theorem k0_dev285_lt : ∀ (v2 : BitVec 32) (k0_hw2 : k0_chk2 v2), (k0_dev285 v2) < nD := fun v2 k0_hw2 => k0_hw2.2.2.2.2.2.2.2.2.2.2.2.2.2.2.2.2.2.2.1
theorem k0_dev287_lt : ∀ (v2 : BitVec 32) (k0_hw2 : k0_chk2 v2), (k0_dev287 v2) < nD := fun v2 k0_hw2 => k0_hw2.2.2.2.2.2.2.2.2.2.2.2.2.2.2.2.2.2.2.2.1
theorem k0_dev290_lt : ∀ (v2 : BitVec 32) (k0_hw2 : k0_chk2 v2), (k0_dev290 v2) < nD := fun v2 k0_hw2 => k0_hw2.2.2.2.2.2.2.2.2.2.2.2.2.2.2.2.2.2.2.2.2.1
theorem k0_dev291_lt : ∀ (v2 : BitVec 32) (k0_hw2 : k0_chk2 v2), (k0_dev291 v2) < nD := fun v2 k0_hw2 => k0_hw2.2.2.2.2.2.2.2.2.2.2.2.2.2.2.2.2.2.2.2.2.2.1
theorem k0_dev293_lt : ∀ (v2 : BitVec 32) (k0_hw2 : k0_chk2 v2), (k0_dev293 v2) < nD := fun v2 k0_hw2 => k0_hw2.2.2.2.2.2.2.2.2.2.2.2.2.2.2.2.2.2.2.2.2.2.2.1
theorem k0_dev295_lt : ∀ (v2 : BitVec 32) (k0_hw2 : k0_chk2 v2), (k0_dev295 v2) < nD := fun v2 k0_hw2 => k0_hw2.2.2.2.2.2.2.2.2.2.2.2.2.2.2.2.2.2.2.2.2.2.2.2.1
theorem k0_dev297_lt : ∀ (v2 : BitVec 32) (k0_hw2 : k0_chk2 v2), (k0_dev297 v2) < nD := fun v2 k0_hw2 => k0_hw2.2.2.2.2.2.2.2.2.2.2.2.2.2.2.2.2.2.2.2.2.2.2.2.2

def k0_dev298 (v1 : BitVec 32) : Nat :=
  let c0_i32_10477 : BitVec 32 := 0#32
  let c1_i32_10476 : BitVec 32 := 1#32
  let v10826 : BitVec 32 := Scalar.muli v1 c1_i32_10476
  let v10827 : BitVec 32 := Scalar.addi c0_i32_10477 v10826
  v10827.toNat

def k0_chk1_0 (v1 : BitVec 32) : Prop :=
  ((k0_dev1 v1) < nD) ∧
  ((k0_dev4 v1) < nD) ∧
  ((k0_dev6 v1) < nD) ∧
  ((k0_dev8 v1) < nD) ∧
  ((k0_dev10 v1) < nD) ∧
  ((k0_dev12 v1) < nD) ∧
  ((k0_dev14 v1) < nD) ∧
  ((k0_dev16 v1) < nD) ∧
  ((k0_dev18 v1) < nD) ∧
  ((k0_dev19 v1) < nD) ∧
  ((k0_dev22 v1) < nD) ∧
  ((k0_dev24 v1) < nD) ∧
  ((k0_dev26 v1) < nD) ∧
  ((k0_dev28 v1) < nD) ∧
  ((k0_dev29 v1) < nD) ∧
  ((k0_dev32 v1) < nD) ∧
  ((k0_dev34 v1) < nD) ∧
  ((k0_dev36 v1) < nD) ∧
  ((k0_dev38 v1) < nD) ∧
  ((k0_dev39 v1) < nD) ∧
  ((k0_dev42 v1) < nD) ∧
  ((k0_dev44 v1) < nD) ∧
  ((k0_dev46 v1) < nD) ∧
  ((k0_dev48 v1) < nD) ∧
  ((k0_dev49 v1) < nD) ∧
  ((k0_dev52 v1) < nD) ∧
  ((k0_dev54 v1) < nD) ∧
  ((k0_dev56 v1) < nD) ∧
  ((k0_dev58 v1) < nD) ∧
  ((k0_dev59 v1) < nD) ∧
  ((k0_dev62 v1) < nD) ∧
  ((k0_dev64 v1) < nD)
def k0_chk1_1 (v1 : BitVec 32) : Prop :=
  ((k0_dev66 v1) < nD) ∧
  ((k0_dev68 v1) < nD) ∧
  ((k0_dev69 v1) < nD) ∧
  ((k0_dev72 v1) < nD) ∧
  ((k0_dev74 v1) < nD) ∧
  ((k0_dev76 v1) < nD) ∧
  ((k0_dev78 v1) < nD) ∧
  ((k0_dev79 v1) < nD) ∧
  ((k0_dev82 v1) < nD) ∧
  ((k0_dev84 v1) < nD) ∧
  ((k0_dev86 v1) < nD) ∧
  ((k0_dev88 v1) < nD) ∧
  ((k0_dev89 v1) < nD) ∧
  ((k0_dev92 v1) < nD) ∧
  ((k0_dev94 v1) < nD) ∧
  ((k0_dev96 v1) < nD) ∧
  ((k0_dev98 v1) < nD) ∧
  ((k0_dev99 v1) < nD) ∧
  ((k0_dev102 v1) < nD) ∧
  ((k0_dev104 v1) < nD) ∧
  ((k0_dev106 v1) < nD) ∧
  ((k0_dev108 v1) < nD) ∧
  ((k0_dev109 v1) < nD) ∧
  ((k0_dev112 v1) < nD) ∧
  ((k0_dev114 v1) < nD) ∧
  ((k0_dev116 v1) < nD) ∧
  ((k0_dev118 v1) < nD) ∧
  ((k0_dev119 v1) < nD) ∧
  ((k0_dev122 v1) < nD) ∧
  ((k0_dev124 v1) < nD) ∧
  ((k0_dev126 v1) < nD) ∧
  ((k0_dev128 v1) < nD)
def k0_chk1_2 (v1 : BitVec 32) : Prop :=
  ((k0_dev129 v1) < nD) ∧
  ((k0_dev132 v1) < nD) ∧
  ((k0_dev134 v1) < nD) ∧
  ((k0_dev136 v1) < nD) ∧
  ((k0_dev138 v1) < nD) ∧
  ((k0_dev139 v1) < nD) ∧
  ((k0_dev142 v1) < nD) ∧
  ((k0_dev144 v1) < nD) ∧
  ((k0_dev146 v1) < nD) ∧
  ((k0_dev148 v1) < nD) ∧
  ((k0_dev149 v1) < nD) ∧
  ((k0_dev152 v1) < nD) ∧
  ((k0_dev154 v1) < nD) ∧
  ((k0_dev156 v1) < nD) ∧
  ((k0_dev158 v1) < nD) ∧
  ((k0_dev159 v1) < nD) ∧
  ((k0_dev162 v1) < nD) ∧
  ((k0_dev164 v1) < nD) ∧
  ((k0_dev166 v1) < nD) ∧
  ((k0_dev168 v1) < nD) ∧
  ((k0_dev169 v1) < nD) ∧
  ((k0_dev172 v1) < nD) ∧
  ((k0_dev174 v1) < nD) ∧
  ((k0_dev176 v1) < nD) ∧
  ((k0_dev178 v1) < nD) ∧
  ((k0_dev179 v1) < nD) ∧
  ((k0_dev182 v1) < nD) ∧
  ((k0_dev184 v1) < nD) ∧
  ((k0_dev186 v1) < nD) ∧
  ((k0_dev188 v1) < nD) ∧
  ((k0_dev189 v1) < nD) ∧
  ((k0_dev192 v1) < nD)
def k0_chk1_3 (v1 : BitVec 32) : Prop :=
  ((k0_dev194 v1) < nD) ∧
  ((k0_dev196 v1) < nD) ∧
  ((k0_dev198 v1) < nD) ∧
  ((k0_dev199 v1) < nD) ∧
  ((k0_dev202 v1) < nD) ∧
  ((k0_dev204 v1) < nD) ∧
  ((k0_dev206 v1) < nD) ∧
  ((k0_dev208 v1) < nD) ∧
  ((k0_dev209 v1) < nD) ∧
  ((k0_dev212 v1) < nD) ∧
  ((k0_dev214 v1) < nD) ∧
  ((k0_dev216 v1) < nD) ∧
  ((k0_dev218 v1) < nD) ∧
  ((k0_dev219 v1) < nD) ∧
  ((k0_dev222 v1) < nD) ∧
  ((k0_dev224 v1) < nD) ∧
  ((k0_dev226 v1) < nD) ∧
  ((k0_dev228 v1) < nD) ∧
  ((k0_dev229 v1) < nD) ∧
  ((k0_dev232 v1) < nD) ∧
  ((k0_dev234 v1) < nD) ∧
  ((k0_dev236 v1) < nD) ∧
  ((k0_dev238 v1) < nD) ∧
  ((k0_dev239 v1) < nD) ∧
  ((k0_dev242 v1) < nD) ∧
  ((k0_dev244 v1) < nD) ∧
  ((k0_dev246 v1) < nD) ∧
  ((k0_dev248 v1) < nD) ∧
  ((k0_dev249 v1) < nD) ∧
  ((k0_dev252 v1) < nD) ∧
  ((k0_dev254 v1) < nD) ∧
  ((k0_dev256 v1) < nD)
def k0_chk1_4 (v1 : BitVec 32) : Prop :=
  ((k0_dev258 v1) < nD) ∧
  ((k0_dev259 v1) < nD) ∧
  ((k0_dev262 v1) < nD) ∧
  ((k0_dev264 v1) < nD) ∧
  ((k0_dev266 v1) < nD) ∧
  ((k0_dev268 v1) < nD) ∧
  ((k0_dev269 v1) < nD) ∧
  ((k0_dev272 v1) < nD) ∧
  ((k0_dev274 v1) < nD) ∧
  ((k0_dev276 v1) < nD) ∧
  ((k0_dev278 v1) < nD) ∧
  ((k0_dev279 v1) < nD) ∧
  ((k0_dev282 v1) < nD) ∧
  ((k0_dev284 v1) < nD) ∧
  ((k0_dev286 v1) < nD) ∧
  ((k0_dev288 v1) < nD) ∧
  ((k0_dev289 v1) < nD) ∧
  ((k0_dev292 v1) < nD) ∧
  ((k0_dev294 v1) < nD) ∧
  ((k0_dev296 v1) < nD) ∧
  ((k0_dev298 v1) < nD)
def k0_chk1 (v1 : BitVec 32) : Prop :=
  k0_chk1_0 v1 ∧
  k0_chk1_1 v1 ∧
  k0_chk1_2 v1 ∧
  k0_chk1_3 v1 ∧
  k0_chk1_4 v1
theorem k0_dev1_lt : ∀ (v1 : BitVec 32) (k0_hw1 : k0_chk1 v1), (k0_dev1 v1) < nD := fun v1 k0_hw1 => k0_hw1.1.1
theorem k0_dev4_lt : ∀ (v1 : BitVec 32) (k0_hw1 : k0_chk1 v1), (k0_dev4 v1) < nD := fun v1 k0_hw1 => k0_hw1.1.2.1
theorem k0_dev6_lt : ∀ (v1 : BitVec 32) (k0_hw1 : k0_chk1 v1), (k0_dev6 v1) < nD := fun v1 k0_hw1 => k0_hw1.1.2.2.1
theorem k0_dev8_lt : ∀ (v1 : BitVec 32) (k0_hw1 : k0_chk1 v1), (k0_dev8 v1) < nD := fun v1 k0_hw1 => k0_hw1.1.2.2.2.1
theorem k0_dev10_lt : ∀ (v1 : BitVec 32) (k0_hw1 : k0_chk1 v1), (k0_dev10 v1) < nD := fun v1 k0_hw1 => k0_hw1.1.2.2.2.2.1
theorem k0_dev12_lt : ∀ (v1 : BitVec 32) (k0_hw1 : k0_chk1 v1), (k0_dev12 v1) < nD := fun v1 k0_hw1 => k0_hw1.1.2.2.2.2.2.1
theorem k0_dev14_lt : ∀ (v1 : BitVec 32) (k0_hw1 : k0_chk1 v1), (k0_dev14 v1) < nD := fun v1 k0_hw1 => k0_hw1.1.2.2.2.2.2.2.1
theorem k0_dev16_lt : ∀ (v1 : BitVec 32) (k0_hw1 : k0_chk1 v1), (k0_dev16 v1) < nD := fun v1 k0_hw1 => k0_hw1.1.2.2.2.2.2.2.2.1
theorem k0_dev18_lt : ∀ (v1 : BitVec 32) (k0_hw1 : k0_chk1 v1), (k0_dev18 v1) < nD := fun v1 k0_hw1 => k0_hw1.1.2.2.2.2.2.2.2.2.1
theorem k0_dev19_lt : ∀ (v1 : BitVec 32) (k0_hw1 : k0_chk1 v1), (k0_dev19 v1) < nD := fun v1 k0_hw1 => k0_hw1.1.2.2.2.2.2.2.2.2.2.1
theorem k0_dev22_lt : ∀ (v1 : BitVec 32) (k0_hw1 : k0_chk1 v1), (k0_dev22 v1) < nD := fun v1 k0_hw1 => k0_hw1.1.2.2.2.2.2.2.2.2.2.2.1
theorem k0_dev24_lt : ∀ (v1 : BitVec 32) (k0_hw1 : k0_chk1 v1), (k0_dev24 v1) < nD := fun v1 k0_hw1 => k0_hw1.1.2.2.2.2.2.2.2.2.2.2.2.1
theorem k0_dev26_lt : ∀ (v1 : BitVec 32) (k0_hw1 : k0_chk1 v1), (k0_dev26 v1) < nD := fun v1 k0_hw1 => k0_hw1.1.2.2.2.2.2.2.2.2.2.2.2.2.1
theorem k0_dev28_lt : ∀ (v1 : BitVec 32) (k0_hw1 : k0_chk1 v1), (k0_dev28 v1) < nD := fun v1 k0_hw1 => k0_hw1.1.2.2.2.2.2.2.2.2.2.2.2.2.2.1
theorem k0_dev29_lt : ∀ (v1 : BitVec 32) (k0_hw1 : k0_chk1 v1), (k0_dev29 v1) < nD := fun v1 k0_hw1 => k0_hw1.1.2.2.2.2.2.2.2.2.2.2.2.2.2.2.1
theorem k0_dev32_lt : ∀ (v1 : BitVec 32) (k0_hw1 : k0_chk1 v1), (k0_dev32 v1) < nD := fun v1 k0_hw1 => k0_hw1.1.2.2.2.2.2.2.2.2.2.2.2.2.2.2.2.1
theorem k0_dev34_lt : ∀ (v1 : BitVec 32) (k0_hw1 : k0_chk1 v1), (k0_dev34 v1) < nD := fun v1 k0_hw1 => k0_hw1.1.2.2.2.2.2.2.2.2.2.2.2.2.2.2.2.2.1
theorem k0_dev36_lt : ∀ (v1 : BitVec 32) (k0_hw1 : k0_chk1 v1), (k0_dev36 v1) < nD := fun v1 k0_hw1 => k0_hw1.1.2.2.2.2.2.2.2.2.2.2.2.2.2.2.2.2.2.1
theorem k0_dev38_lt : ∀ (v1 : BitVec 32) (k0_hw1 : k0_chk1 v1), (k0_dev38 v1) < nD := fun v1 k0_hw1 => k0_hw1.1.2.2.2.2.2.2.2.2.2.2.2.2.2.2.2.2.2.2.1
theorem k0_dev39_lt : ∀ (v1 : BitVec 32) (k0_hw1 : k0_chk1 v1), (k0_dev39 v1) < nD := fun v1 k0_hw1 => k0_hw1.1.2.2.2.2.2.2.2.2.2.2.2.2.2.2.2.2.2.2.2.1
theorem k0_dev42_lt : ∀ (v1 : BitVec 32) (k0_hw1 : k0_chk1 v1), (k0_dev42 v1) < nD := fun v1 k0_hw1 => k0_hw1.1.2.2.2.2.2.2.2.2.2.2.2.2.2.2.2.2.2.2.2.2.1
theorem k0_dev44_lt : ∀ (v1 : BitVec 32) (k0_hw1 : k0_chk1 v1), (k0_dev44 v1) < nD := fun v1 k0_hw1 => k0_hw1.1.2.2.2.2.2.2.2.2.2.2.2.2.2.2.2.2.2.2.2.2.2.1
theorem k0_dev46_lt : ∀ (v1 : BitVec 32) (k0_hw1 : k0_chk1 v1), (k0_dev46 v1) < nD := fun v1 k0_hw1 => k0_hw1.1.2.2.2.2.2.2.2.2.2.2.2.2.2.2.2.2.2.2.2.2.2.2.1
theorem k0_dev48_lt : ∀ (v1 : BitVec 32) (k0_hw1 : k0_chk1 v1), (k0_dev48 v1) < nD := fun v1 k0_hw1 => k0_hw1.1.2.2.2.2.2.2.2.2.2.2.2.2.2.2.2.2.2.2.2.2.2.2.2.1
theorem k0_dev49_lt : ∀ (v1 : BitVec 32) (k0_hw1 : k0_chk1 v1), (k0_dev49 v1) < nD := fun v1 k0_hw1 => k0_hw1.1.2.2.2.2.2.2.2.2.2.2.2.2.2.2.2.2.2.2.2.2.2.2.2.2.1
theorem k0_dev52_lt : ∀ (v1 : BitVec 32) (k0_hw1 : k0_chk1 v1), (k0_dev52 v1) < nD := fun v1 k0_hw1 => k0_hw1.1.2.2.2.2.2.2.2.2.2.2.2.2.2.2.2.2.2.2.2.2.2.2.2.2.2.1
theorem k0_dev54_lt : ∀ (v1 : BitVec 32) (k0_hw1 : k0_chk1 v1), (k0_dev54 v1) < nD := fun v1 k0_hw1 => k0_hw1.1.2.2.2.2.2.2.2.2.2.2.2.2.2.2.2.2.2.2.2.2.2.2.2.2.2.2.1
theorem k0_dev56_lt : ∀ (v1 : BitVec 32) (k0_hw1 : k0_chk1 v1), (k0_dev56 v1) < nD := fun v1 k0_hw1 => k0_hw1.1.2.2.2.2.2.2.2.2.2.2.2.2.2.2.2.2.2.2.2.2.2.2.2.2.2.2.2.1
theorem k0_dev58_lt : ∀ (v1 : BitVec 32) (k0_hw1 : k0_chk1 v1), (k0_dev58 v1) < nD := fun v1 k0_hw1 => k0_hw1.1.2.2.2.2.2.2.2.2.2.2.2.2.2.2.2.2.2.2.2.2.2.2.2.2.2.2.2.2.1
theorem k0_dev59_lt : ∀ (v1 : BitVec 32) (k0_hw1 : k0_chk1 v1), (k0_dev59 v1) < nD := fun v1 k0_hw1 => k0_hw1.1.2.2.2.2.2.2.2.2.2.2.2.2.2.2.2.2.2.2.2.2.2.2.2.2.2.2.2.2.2.1
theorem k0_dev62_lt : ∀ (v1 : BitVec 32) (k0_hw1 : k0_chk1 v1), (k0_dev62 v1) < nD := fun v1 k0_hw1 => k0_hw1.1.2.2.2.2.2.2.2.2.2.2.2.2.2.2.2.2.2.2.2.2.2.2.2.2.2.2.2.2.2.2.1
theorem k0_dev64_lt : ∀ (v1 : BitVec 32) (k0_hw1 : k0_chk1 v1), (k0_dev64 v1) < nD := fun v1 k0_hw1 => k0_hw1.1.2.2.2.2.2.2.2.2.2.2.2.2.2.2.2.2.2.2.2.2.2.2.2.2.2.2.2.2.2.2.2
theorem k0_dev66_lt : ∀ (v1 : BitVec 32) (k0_hw1 : k0_chk1 v1), (k0_dev66 v1) < nD := fun v1 k0_hw1 => k0_hw1.2.1.1
theorem k0_dev68_lt : ∀ (v1 : BitVec 32) (k0_hw1 : k0_chk1 v1), (k0_dev68 v1) < nD := fun v1 k0_hw1 => k0_hw1.2.1.2.1
theorem k0_dev69_lt : ∀ (v1 : BitVec 32) (k0_hw1 : k0_chk1 v1), (k0_dev69 v1) < nD := fun v1 k0_hw1 => k0_hw1.2.1.2.2.1
theorem k0_dev72_lt : ∀ (v1 : BitVec 32) (k0_hw1 : k0_chk1 v1), (k0_dev72 v1) < nD := fun v1 k0_hw1 => k0_hw1.2.1.2.2.2.1
theorem k0_dev74_lt : ∀ (v1 : BitVec 32) (k0_hw1 : k0_chk1 v1), (k0_dev74 v1) < nD := fun v1 k0_hw1 => k0_hw1.2.1.2.2.2.2.1
theorem k0_dev76_lt : ∀ (v1 : BitVec 32) (k0_hw1 : k0_chk1 v1), (k0_dev76 v1) < nD := fun v1 k0_hw1 => k0_hw1.2.1.2.2.2.2.2.1
theorem k0_dev78_lt : ∀ (v1 : BitVec 32) (k0_hw1 : k0_chk1 v1), (k0_dev78 v1) < nD := fun v1 k0_hw1 => k0_hw1.2.1.2.2.2.2.2.2.1
theorem k0_dev79_lt : ∀ (v1 : BitVec 32) (k0_hw1 : k0_chk1 v1), (k0_dev79 v1) < nD := fun v1 k0_hw1 => k0_hw1.2.1.2.2.2.2.2.2.2.1
theorem k0_dev82_lt : ∀ (v1 : BitVec 32) (k0_hw1 : k0_chk1 v1), (k0_dev82 v1) < nD := fun v1 k0_hw1 => k0_hw1.2.1.2.2.2.2.2.2.2.2.1
theorem k0_dev84_lt : ∀ (v1 : BitVec 32) (k0_hw1 : k0_chk1 v1), (k0_dev84 v1) < nD := fun v1 k0_hw1 => k0_hw1.2.1.2.2.2.2.2.2.2.2.2.1
theorem k0_dev86_lt : ∀ (v1 : BitVec 32) (k0_hw1 : k0_chk1 v1), (k0_dev86 v1) < nD := fun v1 k0_hw1 => k0_hw1.2.1.2.2.2.2.2.2.2.2.2.2.1
theorem k0_dev88_lt : ∀ (v1 : BitVec 32) (k0_hw1 : k0_chk1 v1), (k0_dev88 v1) < nD := fun v1 k0_hw1 => k0_hw1.2.1.2.2.2.2.2.2.2.2.2.2.2.1
theorem k0_dev89_lt : ∀ (v1 : BitVec 32) (k0_hw1 : k0_chk1 v1), (k0_dev89 v1) < nD := fun v1 k0_hw1 => k0_hw1.2.1.2.2.2.2.2.2.2.2.2.2.2.2.1
theorem k0_dev92_lt : ∀ (v1 : BitVec 32) (k0_hw1 : k0_chk1 v1), (k0_dev92 v1) < nD := fun v1 k0_hw1 => k0_hw1.2.1.2.2.2.2.2.2.2.2.2.2.2.2.2.1
theorem k0_dev94_lt : ∀ (v1 : BitVec 32) (k0_hw1 : k0_chk1 v1), (k0_dev94 v1) < nD := fun v1 k0_hw1 => k0_hw1.2.1.2.2.2.2.2.2.2.2.2.2.2.2.2.2.1
theorem k0_dev96_lt : ∀ (v1 : BitVec 32) (k0_hw1 : k0_chk1 v1), (k0_dev96 v1) < nD := fun v1 k0_hw1 => k0_hw1.2.1.2.2.2.2.2.2.2.2.2.2.2.2.2.2.2.1
theorem k0_dev98_lt : ∀ (v1 : BitVec 32) (k0_hw1 : k0_chk1 v1), (k0_dev98 v1) < nD := fun v1 k0_hw1 => k0_hw1.2.1.2.2.2.2.2.2.2.2.2.2.2.2.2.2.2.2.1
theorem k0_dev99_lt : ∀ (v1 : BitVec 32) (k0_hw1 : k0_chk1 v1), (k0_dev99 v1) < nD := fun v1 k0_hw1 => k0_hw1.2.1.2.2.2.2.2.2.2.2.2.2.2.2.2.2.2.2.2.1
theorem k0_dev102_lt : ∀ (v1 : BitVec 32) (k0_hw1 : k0_chk1 v1), (k0_dev102 v1) < nD := fun v1 k0_hw1 => k0_hw1.2.1.2.2.2.2.2.2.2.2.2.2.2.2.2.2.2.2.2.2.1
theorem k0_dev104_lt : ∀ (v1 : BitVec 32) (k0_hw1 : k0_chk1 v1), (k0_dev104 v1) < nD := fun v1 k0_hw1 => k0_hw1.2.1.2.2.2.2.2.2.2.2.2.2.2.2.2.2.2.2.2.2.2.1
theorem k0_dev106_lt : ∀ (v1 : BitVec 32) (k0_hw1 : k0_chk1 v1), (k0_dev106 v1) < nD := fun v1 k0_hw1 => k0_hw1.2.1.2.2.2.2.2.2.2.2.2.2.2.2.2.2.2.2.2.2.2.2.1
theorem k0_dev108_lt : ∀ (v1 : BitVec 32) (k0_hw1 : k0_chk1 v1), (k0_dev108 v1) < nD := fun v1 k0_hw1 => k0_hw1.2.1.2.2.2.2.2.2.2.2.2.2.2.2.2.2.2.2.2.2.2.2.2.1
theorem k0_dev109_lt : ∀ (v1 : BitVec 32) (k0_hw1 : k0_chk1 v1), (k0_dev109 v1) < nD := fun v1 k0_hw1 => k0_hw1.2.1.2.2.2.2.2.2.2.2.2.2.2.2.2.2.2.2.2.2.2.2.2.2.1
theorem k0_dev112_lt : ∀ (v1 : BitVec 32) (k0_hw1 : k0_chk1 v1), (k0_dev112 v1) < nD := fun v1 k0_hw1 => k0_hw1.2.1.2.2.2.2.2.2.2.2.2.2.2.2.2.2.2.2.2.2.2.2.2.2.2.1
theorem k0_dev114_lt : ∀ (v1 : BitVec 32) (k0_hw1 : k0_chk1 v1), (k0_dev114 v1) < nD := fun v1 k0_hw1 => k0_hw1.2.1.2.2.2.2.2.2.2.2.2.2.2.2.2.2.2.2.2.2.2.2.2.2.2.2.1
theorem k0_dev116_lt : ∀ (v1 : BitVec 32) (k0_hw1 : k0_chk1 v1), (k0_dev116 v1) < nD := fun v1 k0_hw1 => k0_hw1.2.1.2.2.2.2.2.2.2.2.2.2.2.2.2.2.2.2.2.2.2.2.2.2.2.2.2.1
theorem k0_dev118_lt : ∀ (v1 : BitVec 32) (k0_hw1 : k0_chk1 v1), (k0_dev118 v1) < nD := fun v1 k0_hw1 => k0_hw1.2.1.2.2.2.2.2.2.2.2.2.2.2.2.2.2.2.2.2.2.2.2.2.2.2.2.2.2.1
theorem k0_dev119_lt : ∀ (v1 : BitVec 32) (k0_hw1 : k0_chk1 v1), (k0_dev119 v1) < nD := fun v1 k0_hw1 => k0_hw1.2.1.2.2.2.2.2.2.2.2.2.2.2.2.2.2.2.2.2.2.2.2.2.2.2.2.2.2.2.1
theorem k0_dev122_lt : ∀ (v1 : BitVec 32) (k0_hw1 : k0_chk1 v1), (k0_dev122 v1) < nD := fun v1 k0_hw1 => k0_hw1.2.1.2.2.2.2.2.2.2.2.2.2.2.2.2.2.2.2.2.2.2.2.2.2.2.2.2.2.2.2.1
theorem k0_dev124_lt : ∀ (v1 : BitVec 32) (k0_hw1 : k0_chk1 v1), (k0_dev124 v1) < nD := fun v1 k0_hw1 => k0_hw1.2.1.2.2.2.2.2.2.2.2.2.2.2.2.2.2.2.2.2.2.2.2.2.2.2.2.2.2.2.2.2.1
theorem k0_dev126_lt : ∀ (v1 : BitVec 32) (k0_hw1 : k0_chk1 v1), (k0_dev126 v1) < nD := fun v1 k0_hw1 => k0_hw1.2.1.2.2.2.2.2.2.2.2.2.2.2.2.2.2.2.2.2.2.2.2.2.2.2.2.2.2.2.2.2.2.1
theorem k0_dev128_lt : ∀ (v1 : BitVec 32) (k0_hw1 : k0_chk1 v1), (k0_dev128 v1) < nD := fun v1 k0_hw1 => k0_hw1.2.1.2.2.2.2.2.2.2.2.2.2.2.2.2.2.2.2.2.2.2.2.2.2.2.2.2.2.2.2.2.2.2
theorem k0_dev129_lt : ∀ (v1 : BitVec 32) (k0_hw1 : k0_chk1 v1), (k0_dev129 v1) < nD := fun v1 k0_hw1 => k0_hw1.2.2.1.1
theorem k0_dev132_lt : ∀ (v1 : BitVec 32) (k0_hw1 : k0_chk1 v1), (k0_dev132 v1) < nD := fun v1 k0_hw1 => k0_hw1.2.2.1.2.1
theorem k0_dev134_lt : ∀ (v1 : BitVec 32) (k0_hw1 : k0_chk1 v1), (k0_dev134 v1) < nD := fun v1 k0_hw1 => k0_hw1.2.2.1.2.2.1
theorem k0_dev136_lt : ∀ (v1 : BitVec 32) (k0_hw1 : k0_chk1 v1), (k0_dev136 v1) < nD := fun v1 k0_hw1 => k0_hw1.2.2.1.2.2.2.1
theorem k0_dev138_lt : ∀ (v1 : BitVec 32) (k0_hw1 : k0_chk1 v1), (k0_dev138 v1) < nD := fun v1 k0_hw1 => k0_hw1.2.2.1.2.2.2.2.1
theorem k0_dev139_lt : ∀ (v1 : BitVec 32) (k0_hw1 : k0_chk1 v1), (k0_dev139 v1) < nD := fun v1 k0_hw1 => k0_hw1.2.2.1.2.2.2.2.2.1
theorem k0_dev142_lt : ∀ (v1 : BitVec 32) (k0_hw1 : k0_chk1 v1), (k0_dev142 v1) < nD := fun v1 k0_hw1 => k0_hw1.2.2.1.2.2.2.2.2.2.1
theorem k0_dev144_lt : ∀ (v1 : BitVec 32) (k0_hw1 : k0_chk1 v1), (k0_dev144 v1) < nD := fun v1 k0_hw1 => k0_hw1.2.2.1.2.2.2.2.2.2.2.1
theorem k0_dev146_lt : ∀ (v1 : BitVec 32) (k0_hw1 : k0_chk1 v1), (k0_dev146 v1) < nD := fun v1 k0_hw1 => k0_hw1.2.2.1.2.2.2.2.2.2.2.2.1
theorem k0_dev148_lt : ∀ (v1 : BitVec 32) (k0_hw1 : k0_chk1 v1), (k0_dev148 v1) < nD := fun v1 k0_hw1 => k0_hw1.2.2.1.2.2.2.2.2.2.2.2.2.1
theorem k0_dev149_lt : ∀ (v1 : BitVec 32) (k0_hw1 : k0_chk1 v1), (k0_dev149 v1) < nD := fun v1 k0_hw1 => k0_hw1.2.2.1.2.2.2.2.2.2.2.2.2.2.1
theorem k0_dev152_lt : ∀ (v1 : BitVec 32) (k0_hw1 : k0_chk1 v1), (k0_dev152 v1) < nD := fun v1 k0_hw1 => k0_hw1.2.2.1.2.2.2.2.2.2.2.2.2.2.2.1
theorem k0_dev154_lt : ∀ (v1 : BitVec 32) (k0_hw1 : k0_chk1 v1), (k0_dev154 v1) < nD := fun v1 k0_hw1 => k0_hw1.2.2.1.2.2.2.2.2.2.2.2.2.2.2.2.1
theorem k0_dev156_lt : ∀ (v1 : BitVec 32) (k0_hw1 : k0_chk1 v1), (k0_dev156 v1) < nD := fun v1 k0_hw1 => k0_hw1.2.2.1.2.2.2.2.2.2.2.2.2.2.2.2.2.1
theorem k0_dev158_lt : ∀ (v1 : BitVec 32) (k0_hw1 : k0_chk1 v1), (k0_dev158 v1) < nD := fun v1 k0_hw1 => k0_hw1.2.2.1.2.2.2.2.2.2.2.2.2.2.2.2.2.2.1
theorem k0_dev159_lt : ∀ (v1 : BitVec 32) (k0_hw1 : k0_chk1 v1), (k0_dev159 v1) < nD := fun v1 k0_hw1 => k0_hw1.2.2.1.2.2.2.2.2.2.2.2.2.2.2.2.2.2.2.1
theorem k0_dev162_lt : ∀ (v1 : BitVec 32) (k0_hw1 : k0_chk1 v1), (k0_dev162 v1) < nD := fun v1 k0_hw1 => k0_hw1.2.2.1.2.2.2.2.2.2.2.2.2.2.2.2.2.2.2.2.1
theorem k0_dev164_lt : ∀ (v1 : BitVec 32) (k0_hw1 : k0_chk1 v1), (k0_dev164 v1) < nD := fun v1 k0_hw1 => k0_hw1.2.2.1.2.2.2.2.2.2.2.2.2.2.2.2.2.2.2.2.2.1
theorem k0_dev166_lt : ∀ (v1 : BitVec 32) (k0_hw1 : k0_chk1 v1), (k0_dev166 v1) < nD := fun v1 k0_hw1 => k0_hw1.2.2.1.2.2.2.2.2.2.2.2.2.2.2.2.2.2.2.2.2.2.1
theorem k0_dev168_lt : ∀ (v1 : BitVec 32) (k0_hw1 : k0_chk1 v1), (k0_dev168 v1) < nD := fun v1 k0_hw1 => k0_hw1.2.2.1.2.2.2.2.2.2.2.2.2.2.2.2.2.2.2.2.2.2.2.1
theorem k0_dev169_lt : ∀ (v1 : BitVec 32) (k0_hw1 : k0_chk1 v1), (k0_dev169 v1) < nD := fun v1 k0_hw1 => k0_hw1.2.2.1.2.2.2.2.2.2.2.2.2.2.2.2.2.2.2.2.2.2.2.2.1
theorem k0_dev172_lt : ∀ (v1 : BitVec 32) (k0_hw1 : k0_chk1 v1), (k0_dev172 v1) < nD := fun v1 k0_hw1 => k0_hw1.2.2.1.2.2.2.2.2.2.2.2.2.2.2.2.2.2.2.2.2.2.2.2.2.1
theorem k0_dev174_lt : ∀ (v1 : BitVec 32) (k0_hw1 : k0_chk1 v1), (k0_dev174 v1) < nD := fun v1 k0_hw1 => k0_hw1.2.2.1.2.2.2.2.2.2.2.2.2.2.2.2.2.2.2.2.2.2.2.2.2.2.1
theorem k0_dev176_lt : ∀ (v1 : BitVec 32) (k0_hw1 : k0_chk1 v1), (k0_dev176 v1) < nD := fun v1 k0_hw1 => k0_hw1.2.2.1.2.2.2.2.2.2.2.2.2.2.2.2.2.2.2.2.2.2.2.2.2.2.2.1
theorem k0_dev178_lt : ∀ (v1 : BitVec 32) (k0_hw1 : k0_chk1 v1), (k0_dev178 v1) < nD := fun v1 k0_hw1 => k0_hw1.2.2.1.2.2.2.2.2.2.2.2.2.2.2.2.2.2.2.2.2.2.2.2.2.2.2.2.1
theorem k0_dev179_lt : ∀ (v1 : BitVec 32) (k0_hw1 : k0_chk1 v1), (k0_dev179 v1) < nD := fun v1 k0_hw1 => k0_hw1.2.2.1.2.2.2.2.2.2.2.2.2.2.2.2.2.2.2.2.2.2.2.2.2.2.2.2.2.1
theorem k0_dev182_lt : ∀ (v1 : BitVec 32) (k0_hw1 : k0_chk1 v1), (k0_dev182 v1) < nD := fun v1 k0_hw1 => k0_hw1.2.2.1.2.2.2.2.2.2.2.2.2.2.2.2.2.2.2.2.2.2.2.2.2.2.2.2.2.2.1
theorem k0_dev184_lt : ∀ (v1 : BitVec 32) (k0_hw1 : k0_chk1 v1), (k0_dev184 v1) < nD := fun v1 k0_hw1 => k0_hw1.2.2.1.2.2.2.2.2.2.2.2.2.2.2.2.2.2.2.2.2.2.2.2.2.2.2.2.2.2.2.1
theorem k0_dev186_lt : ∀ (v1 : BitVec 32) (k0_hw1 : k0_chk1 v1), (k0_dev186 v1) < nD := fun v1 k0_hw1 => k0_hw1.2.2.1.2.2.2.2.2.2.2.2.2.2.2.2.2.2.2.2.2.2.2.2.2.2.2.2.2.2.2.2.1
theorem k0_dev188_lt : ∀ (v1 : BitVec 32) (k0_hw1 : k0_chk1 v1), (k0_dev188 v1) < nD := fun v1 k0_hw1 => k0_hw1.2.2.1.2.2.2.2.2.2.2.2.2.2.2.2.2.2.2.2.2.2.2.2.2.2.2.2.2.2.2.2.2.1
theorem k0_dev189_lt : ∀ (v1 : BitVec 32) (k0_hw1 : k0_chk1 v1), (k0_dev189 v1) < nD := fun v1 k0_hw1 => k0_hw1.2.2.1.2.2.2.2.2.2.2.2.2.2.2.2.2.2.2.2.2.2.2.2.2.2.2.2.2.2.2.2.2.2.1
theorem k0_dev192_lt : ∀ (v1 : BitVec 32) (k0_hw1 : k0_chk1 v1), (k0_dev192 v1) < nD := fun v1 k0_hw1 => k0_hw1.2.2.1.2.2.2.2.2.2.2.2.2.2.2.2.2.2.2.2.2.2.2.2.2.2.2.2.2.2.2.2.2.2.2
theorem k0_dev194_lt : ∀ (v1 : BitVec 32) (k0_hw1 : k0_chk1 v1), (k0_dev194 v1) < nD := fun v1 k0_hw1 => k0_hw1.2.2.2.1.1
theorem k0_dev196_lt : ∀ (v1 : BitVec 32) (k0_hw1 : k0_chk1 v1), (k0_dev196 v1) < nD := fun v1 k0_hw1 => k0_hw1.2.2.2.1.2.1
theorem k0_dev198_lt : ∀ (v1 : BitVec 32) (k0_hw1 : k0_chk1 v1), (k0_dev198 v1) < nD := fun v1 k0_hw1 => k0_hw1.2.2.2.1.2.2.1
theorem k0_dev199_lt : ∀ (v1 : BitVec 32) (k0_hw1 : k0_chk1 v1), (k0_dev199 v1) < nD := fun v1 k0_hw1 => k0_hw1.2.2.2.1.2.2.2.1
theorem k0_dev202_lt : ∀ (v1 : BitVec 32) (k0_hw1 : k0_chk1 v1), (k0_dev202 v1) < nD := fun v1 k0_hw1 => k0_hw1.2.2.2.1.2.2.2.2.1
theorem k0_dev204_lt : ∀ (v1 : BitVec 32) (k0_hw1 : k0_chk1 v1), (k0_dev204 v1) < nD := fun v1 k0_hw1 => k0_hw1.2.2.2.1.2.2.2.2.2.1
theorem k0_dev206_lt : ∀ (v1 : BitVec 32) (k0_hw1 : k0_chk1 v1), (k0_dev206 v1) < nD := fun v1 k0_hw1 => k0_hw1.2.2.2.1.2.2.2.2.2.2.1
theorem k0_dev208_lt : ∀ (v1 : BitVec 32) (k0_hw1 : k0_chk1 v1), (k0_dev208 v1) < nD := fun v1 k0_hw1 => k0_hw1.2.2.2.1.2.2.2.2.2.2.2.1
theorem k0_dev209_lt : ∀ (v1 : BitVec 32) (k0_hw1 : k0_chk1 v1), (k0_dev209 v1) < nD := fun v1 k0_hw1 => k0_hw1.2.2.2.1.2.2.2.2.2.2.2.2.1
theorem k0_dev212_lt : ∀ (v1 : BitVec 32) (k0_hw1 : k0_chk1 v1), (k0_dev212 v1) < nD := fun v1 k0_hw1 => k0_hw1.2.2.2.1.2.2.2.2.2.2.2.2.2.1
theorem k0_dev214_lt : ∀ (v1 : BitVec 32) (k0_hw1 : k0_chk1 v1), (k0_dev214 v1) < nD := fun v1 k0_hw1 => k0_hw1.2.2.2.1.2.2.2.2.2.2.2.2.2.2.1
theorem k0_dev216_lt : ∀ (v1 : BitVec 32) (k0_hw1 : k0_chk1 v1), (k0_dev216 v1) < nD := fun v1 k0_hw1 => k0_hw1.2.2.2.1.2.2.2.2.2.2.2.2.2.2.2.1
theorem k0_dev218_lt : ∀ (v1 : BitVec 32) (k0_hw1 : k0_chk1 v1), (k0_dev218 v1) < nD := fun v1 k0_hw1 => k0_hw1.2.2.2.1.2.2.2.2.2.2.2.2.2.2.2.2.1
theorem k0_dev219_lt : ∀ (v1 : BitVec 32) (k0_hw1 : k0_chk1 v1), (k0_dev219 v1) < nD := fun v1 k0_hw1 => k0_hw1.2.2.2.1.2.2.2.2.2.2.2.2.2.2.2.2.2.1
theorem k0_dev222_lt : ∀ (v1 : BitVec 32) (k0_hw1 : k0_chk1 v1), (k0_dev222 v1) < nD := fun v1 k0_hw1 => k0_hw1.2.2.2.1.2.2.2.2.2.2.2.2.2.2.2.2.2.2.1
theorem k0_dev224_lt : ∀ (v1 : BitVec 32) (k0_hw1 : k0_chk1 v1), (k0_dev224 v1) < nD := fun v1 k0_hw1 => k0_hw1.2.2.2.1.2.2.2.2.2.2.2.2.2.2.2.2.2.2.2.1
theorem k0_dev226_lt : ∀ (v1 : BitVec 32) (k0_hw1 : k0_chk1 v1), (k0_dev226 v1) < nD := fun v1 k0_hw1 => k0_hw1.2.2.2.1.2.2.2.2.2.2.2.2.2.2.2.2.2.2.2.2.1
theorem k0_dev228_lt : ∀ (v1 : BitVec 32) (k0_hw1 : k0_chk1 v1), (k0_dev228 v1) < nD := fun v1 k0_hw1 => k0_hw1.2.2.2.1.2.2.2.2.2.2.2.2.2.2.2.2.2.2.2.2.2.1
theorem k0_dev229_lt : ∀ (v1 : BitVec 32) (k0_hw1 : k0_chk1 v1), (k0_dev229 v1) < nD := fun v1 k0_hw1 => k0_hw1.2.2.2.1.2.2.2.2.2.2.2.2.2.2.2.2.2.2.2.2.2.2.1
theorem k0_dev232_lt : ∀ (v1 : BitVec 32) (k0_hw1 : k0_chk1 v1), (k0_dev232 v1) < nD := fun v1 k0_hw1 => k0_hw1.2.2.2.1.2.2.2.2.2.2.2.2.2.2.2.2.2.2.2.2.2.2.2.1
theorem k0_dev234_lt : ∀ (v1 : BitVec 32) (k0_hw1 : k0_chk1 v1), (k0_dev234 v1) < nD := fun v1 k0_hw1 => k0_hw1.2.2.2.1.2.2.2.2.2.2.2.2.2.2.2.2.2.2.2.2.2.2.2.2.1
theorem k0_dev236_lt : ∀ (v1 : BitVec 32) (k0_hw1 : k0_chk1 v1), (k0_dev236 v1) < nD := fun v1 k0_hw1 => k0_hw1.2.2.2.1.2.2.2.2.2.2.2.2.2.2.2.2.2.2.2.2.2.2.2.2.2.1
theorem k0_dev238_lt : ∀ (v1 : BitVec 32) (k0_hw1 : k0_chk1 v1), (k0_dev238 v1) < nD := fun v1 k0_hw1 => k0_hw1.2.2.2.1.2.2.2.2.2.2.2.2.2.2.2.2.2.2.2.2.2.2.2.2.2.2.1
theorem k0_dev239_lt : ∀ (v1 : BitVec 32) (k0_hw1 : k0_chk1 v1), (k0_dev239 v1) < nD := fun v1 k0_hw1 => k0_hw1.2.2.2.1.2.2.2.2.2.2.2.2.2.2.2.2.2.2.2.2.2.2.2.2.2.2.2.1
theorem k0_dev242_lt : ∀ (v1 : BitVec 32) (k0_hw1 : k0_chk1 v1), (k0_dev242 v1) < nD := fun v1 k0_hw1 => k0_hw1.2.2.2.1.2.2.2.2.2.2.2.2.2.2.2.2.2.2.2.2.2.2.2.2.2.2.2.2.1
theorem k0_dev244_lt : ∀ (v1 : BitVec 32) (k0_hw1 : k0_chk1 v1), (k0_dev244 v1) < nD := fun v1 k0_hw1 => k0_hw1.2.2.2.1.2.2.2.2.2.2.2.2.2.2.2.2.2.2.2.2.2.2.2.2.2.2.2.2.2.1
theorem k0_dev246_lt : ∀ (v1 : BitVec 32) (k0_hw1 : k0_chk1 v1), (k0_dev246 v1) < nD := fun v1 k0_hw1 => k0_hw1.2.2.2.1.2.2.2.2.2.2.2.2.2.2.2.2.2.2.2.2.2.2.2.2.2.2.2.2.2.2.1
theorem k0_dev248_lt : ∀ (v1 : BitVec 32) (k0_hw1 : k0_chk1 v1), (k0_dev248 v1) < nD := fun v1 k0_hw1 => k0_hw1.2.2.2.1.2.2.2.2.2.2.2.2.2.2.2.2.2.2.2.2.2.2.2.2.2.2.2.2.2.2.2.1
theorem k0_dev249_lt : ∀ (v1 : BitVec 32) (k0_hw1 : k0_chk1 v1), (k0_dev249 v1) < nD := fun v1 k0_hw1 => k0_hw1.2.2.2.1.2.2.2.2.2.2.2.2.2.2.2.2.2.2.2.2.2.2.2.2.2.2.2.2.2.2.2.2.1
theorem k0_dev252_lt : ∀ (v1 : BitVec 32) (k0_hw1 : k0_chk1 v1), (k0_dev252 v1) < nD := fun v1 k0_hw1 => k0_hw1.2.2.2.1.2.2.2.2.2.2.2.2.2.2.2.2.2.2.2.2.2.2.2.2.2.2.2.2.2.2.2.2.2.1
theorem k0_dev254_lt : ∀ (v1 : BitVec 32) (k0_hw1 : k0_chk1 v1), (k0_dev254 v1) < nD := fun v1 k0_hw1 => k0_hw1.2.2.2.1.2.2.2.2.2.2.2.2.2.2.2.2.2.2.2.2.2.2.2.2.2.2.2.2.2.2.2.2.2.2.1
theorem k0_dev256_lt : ∀ (v1 : BitVec 32) (k0_hw1 : k0_chk1 v1), (k0_dev256 v1) < nD := fun v1 k0_hw1 => k0_hw1.2.2.2.1.2.2.2.2.2.2.2.2.2.2.2.2.2.2.2.2.2.2.2.2.2.2.2.2.2.2.2.2.2.2.2
theorem k0_dev258_lt : ∀ (v1 : BitVec 32) (k0_hw1 : k0_chk1 v1), (k0_dev258 v1) < nD := fun v1 k0_hw1 => k0_hw1.2.2.2.2.1
theorem k0_dev259_lt : ∀ (v1 : BitVec 32) (k0_hw1 : k0_chk1 v1), (k0_dev259 v1) < nD := fun v1 k0_hw1 => k0_hw1.2.2.2.2.2.1
theorem k0_dev262_lt : ∀ (v1 : BitVec 32) (k0_hw1 : k0_chk1 v1), (k0_dev262 v1) < nD := fun v1 k0_hw1 => k0_hw1.2.2.2.2.2.2.1
theorem k0_dev264_lt : ∀ (v1 : BitVec 32) (k0_hw1 : k0_chk1 v1), (k0_dev264 v1) < nD := fun v1 k0_hw1 => k0_hw1.2.2.2.2.2.2.2.1
theorem k0_dev266_lt : ∀ (v1 : BitVec 32) (k0_hw1 : k0_chk1 v1), (k0_dev266 v1) < nD := fun v1 k0_hw1 => k0_hw1.2.2.2.2.2.2.2.2.1
theorem k0_dev268_lt : ∀ (v1 : BitVec 32) (k0_hw1 : k0_chk1 v1), (k0_dev268 v1) < nD := fun v1 k0_hw1 => k0_hw1.2.2.2.2.2.2.2.2.2.1
theorem k0_dev269_lt : ∀ (v1 : BitVec 32) (k0_hw1 : k0_chk1 v1), (k0_dev269 v1) < nD := fun v1 k0_hw1 => k0_hw1.2.2.2.2.2.2.2.2.2.2.1
theorem k0_dev272_lt : ∀ (v1 : BitVec 32) (k0_hw1 : k0_chk1 v1), (k0_dev272 v1) < nD := fun v1 k0_hw1 => k0_hw1.2.2.2.2.2.2.2.2.2.2.2.1
theorem k0_dev274_lt : ∀ (v1 : BitVec 32) (k0_hw1 : k0_chk1 v1), (k0_dev274 v1) < nD := fun v1 k0_hw1 => k0_hw1.2.2.2.2.2.2.2.2.2.2.2.2.1
theorem k0_dev276_lt : ∀ (v1 : BitVec 32) (k0_hw1 : k0_chk1 v1), (k0_dev276 v1) < nD := fun v1 k0_hw1 => k0_hw1.2.2.2.2.2.2.2.2.2.2.2.2.2.1
theorem k0_dev278_lt : ∀ (v1 : BitVec 32) (k0_hw1 : k0_chk1 v1), (k0_dev278 v1) < nD := fun v1 k0_hw1 => k0_hw1.2.2.2.2.2.2.2.2.2.2.2.2.2.2.1
theorem k0_dev279_lt : ∀ (v1 : BitVec 32) (k0_hw1 : k0_chk1 v1), (k0_dev279 v1) < nD := fun v1 k0_hw1 => k0_hw1.2.2.2.2.2.2.2.2.2.2.2.2.2.2.2.1
theorem k0_dev282_lt : ∀ (v1 : BitVec 32) (k0_hw1 : k0_chk1 v1), (k0_dev282 v1) < nD := fun v1 k0_hw1 => k0_hw1.2.2.2.2.2.2.2.2.2.2.2.2.2.2.2.2.1
theorem k0_dev284_lt : ∀ (v1 : BitVec 32) (k0_hw1 : k0_chk1 v1), (k0_dev284 v1) < nD := fun v1 k0_hw1 => k0_hw1.2.2.2.2.2.2.2.2.2.2.2.2.2.2.2.2.2.1
theorem k0_dev286_lt : ∀ (v1 : BitVec 32) (k0_hw1 : k0_chk1 v1), (k0_dev286 v1) < nD := fun v1 k0_hw1 => k0_hw1.2.2.2.2.2.2.2.2.2.2.2.2.2.2.2.2.2.2.1
theorem k0_dev288_lt : ∀ (v1 : BitVec 32) (k0_hw1 : k0_chk1 v1), (k0_dev288 v1) < nD := fun v1 k0_hw1 => k0_hw1.2.2.2.2.2.2.2.2.2.2.2.2.2.2.2.2.2.2.2.1
theorem k0_dev289_lt : ∀ (v1 : BitVec 32) (k0_hw1 : k0_chk1 v1), (k0_dev289 v1) < nD := fun v1 k0_hw1 => k0_hw1.2.2.2.2.2.2.2.2.2.2.2.2.2.2.2.2.2.2.2.2.1
theorem k0_dev292_lt : ∀ (v1 : BitVec 32) (k0_hw1 : k0_chk1 v1), (k0_dev292 v1) < nD := fun v1 k0_hw1 => k0_hw1.2.2.2.2.2.2.2.2.2.2.2.2.2.2.2.2.2.2.2.2.2.1
theorem k0_dev294_lt : ∀ (v1 : BitVec 32) (k0_hw1 : k0_chk1 v1), (k0_dev294 v1) < nD := fun v1 k0_hw1 => k0_hw1.2.2.2.2.2.2.2.2.2.2.2.2.2.2.2.2.2.2.2.2.2.2.1
theorem k0_dev296_lt : ∀ (v1 : BitVec 32) (k0_hw1 : k0_chk1 v1), (k0_dev296 v1) < nD := fun v1 k0_hw1 => k0_hw1.2.2.2.2.2.2.2.2.2.2.2.2.2.2.2.2.2.2.2.2.2.2.2.1
theorem k0_dev298_lt : ∀ (v1 : BitVec 32) (k0_hw1 : k0_chk1 v1), (k0_dev298 v1) < nD := fun v1 k0_hw1 => k0_hw1.2.2.2.2.2.2.2.2.2.2.2.2.2.2.2.2.2.2.2.2.2.2.2.2

abbrev stage0_0 : Fin 1 → Memref sig .tc .vmem S4096x256 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S3 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e5m2⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Prog.lean ====
/- The body of the kernel written once more, by steps and lanes: eight lanes move a chunk of 256 rows
   and 256 columns each around the ring, in thirty steps. The printed text unrolls both loops; here they are
   loops, and `body_eq` says the two are the same program. -/
module

public import proofs.«01_k».proof.Proof.Gen.KernelIdeal
public import proofs.«01_k».proof.Proof.Gen.KernelIdeal.Launch
public import proofs.«01_k».proof.Proof.Gen.KernelIdeal.Points

@[expose] public section

noncomputable section

namespace Cert.Ring

open Idealize.ShloMosaic Idealize.ShloMosaic.TcCoe Idealize.SL Idealize.SL.Sem
open Cert.KernelIdeal Cert.KernelIdeal.Gen

variable {F : FTy → Type} [FloatOps F]

/-- The programs of a TensorCore of this kernel. -/
abbrev Pg (F : FTy → Type) [FloatOps F] (α : Type) : Type 1 := Prog (TpuEff nD τ sig (Elt F) Λ₀ .tc) α

/-- The exchange buffer of lane `k`: three slots of 256 by 256. -/
def bufR : Fin 8 → Ref sig .tc
  | 0 => cc0_scratch2 | 1 => cc0_scratch3 | 2 => cc0_scratch4 | 3 => cc0_scratch5
  | 4 => cc0_scratch6 | 5 => cc0_scratch7 | 6 => cc0_scratch8 | 7 => cc0_scratch9

/-- The same as a view of its shape. -/
def bufM : Fin 8 → Memref sig .tc .vmem S3x256x256 .bf16
  | 0 => Memref.whole cc0_scratch2 | 1 => Memref.whole cc0_scratch3
  | 2 => Memref.whole cc0_scratch4 | 3 => Memref.whole cc0_scratch5
  | 4 => Memref.whole cc0_scratch6 | 5 => Memref.whole cc0_scratch7
  | 6 => Memref.whole cc0_scratch8 | 7 => Memref.whole cc0_scratch9

/-- It is the whole of its buffer. -/
theorem bufM_whole : ∀ k, (bufM k).IsWhole
  | 0 => Memref.isWhole_whole _ | 1 => Memref.isWhole_whole _
  | 2 => Memref.isWhole_whole _ | 3 => Memref.isWhole_whole _
  | 4 => Memref.isWhole_whole _ | 5 => Memref.isWhole_whole _
  | 6 => Memref.isWhole_whole _ | 7 => Memref.isWhole_whole _

/-- The three send semaphores of lane `k`. -/
def ssem : Fin 8 → DmaSems sig S3
  | 0 => cc0_scratch10 | 1 => cc0_scratch12 | 2 => cc0_scratch14 | 3 => cc0_scratch16
  | 4 => cc0_scratch18 | 5 => cc0_scratch20 | 6 => cc0_scratch22 | 7 => cc0_scratch24

/-- The three receive semaphores of lane `k`. -/
def rsem : Fin 8 → DmaSems sig S3
  | 0 => cc0_scratch11 | 1 => cc0_scratch13 | 2 => cc0_scratch15 | 3 => cc0_scratch17
  | 4 => cc0_scratch19 | 5 => cc0_scratch21 | 6 => cc0_scratch23 | 7 => cc0_scratch25

/-- A slot lies in the buffer. -/
theorem slot_inb : ∀ (s : Fin 3) (a : Fin 3), (![s.val, 0, 0] : Fin 3 → Nat) a + S1x256x256.size a ≤ S3x256x256.size a
  | 0 => inb_S3x256x256_S1x256x256_0_0_0
  | 1 => inb_S3x256x256_S1x256x256_1_0_0
  | 2 => inb_S3x256x256_S1x256x256_2_0_0

/-- Slot `s` of a buffer. -/
abbrev slotRect (s : Fin 3) : Rect S3x256x256 := Rect.unit (s := S3x256x256) ![s.val, 0, 0] S1x256x256.size (slot_inb s)

/-- A slot is whole rows. -/
theorem slot_packed : ∀ s : Fin 3, (slotRect s).PackedRows (EltTy.packing .bf16)
  | 0 => packedbf16_S3x256x256_S1x256x256_0_0_0
  | 1 => packedbf16_S3x256x256_S1x256x256_1_0_0
  | 2 => packedbf16_S3x256x256_S1x256x256_2_0_0

/-- A slot is whole words. -/
theorem slot_words : ∀ s : Fin 3, (slotRect s).WholeWords (EltTy.packing .bf16)
  | 0 => wordsbf16_S3x256x256_S1x256x256_0_0_0
  | 1 => wordsbf16_S3x256x256_S1x256x256_1_0_0
  | 2 => wordsbf16_S3x256x256_S1x256x256_2_0_0

/-- Slot `s` of lane `k`'s buffer, as copies name it. -/
abbrev slotM (k : Fin 8) (s : Fin 3) : Memref sig .tc .vmem S256x256 .bf16 :=
  ((bufM k).slice (slotRect s) (fun _ => rfl)).squeeze S256x256 squeezes_S1x256x256_S256x256

/-- A semaphore index lies among the three. -/
theorem sem_inb : ∀ (s : Fin 3) (a : Fin 1), (![s.val] : Fin 1 → Nat) a + S1.size a ≤ S3.size a
  | 0 => inb_S3_S1_0
  | 1 => inb_S3_S1_1
  | 2 => inb_S3_S1_2

/-- Semaphore `s` of three. -/
abbrev semOf (a : DmaSems sig S3) (s : Fin 3) : DmaSem sig :=
  ((a.slice (Rect.unit (s := S3) ![s.val] S1.size (sem_inb s))).squeeze S_ squeezes_S1_S_).sem

/-- The slot, of three, that a number names. -/
abbrev sl (n : Nat) : Fin 3 := ⟨n % 3, Nat.mod_lt _ (by decide)⟩
/-- The chunk offset, of sixteen, that a number names. -/
abbrev ch (n : Nat) : Fin 16 := ⟨n % 16, Nat.mod_lt _ (by decide)⟩

/-- Whether lane `k` runs with the ring (to the right) or against it. -/
def fwd : Fin 8 → Bool
  | 0 => true | 1 => false | 2 => true | 3 => false | 4 => true | 5 => false | 6 => true | 7 => false

/-- Where lane `k`'s block of the chunk `t` places behind starts. -/
def offP : Fin 8 → BitVec 32 → Fin 16 → Fin 2 → Nat
  | 0 => fun v t => k0_off6 v (BitVec.ofNat 32 t.val)
  | 1 => fun v t => k0_off7 v (BitVec.ofNat 32 ((4294967296 - t.val) % 4294967296))
  | 2 => fun v t => k0_off8 v (BitVec.ofNat 32 t.val)
  | 3 => fun v t => k0_off9 v (BitVec.ofNat 32 ((4294967296 - t.val) % 4294967296))
  | 4 => fun v t => k0_off10 v (BitVec.ofNat 32 t.val)
  | 5 => fun v t => k0_off11 v (BitVec.ofNat 32 ((4294967296 - t.val) % 4294967296))
  | 6 => fun v t => k0_off12 v (BitVec.ofNat 32 t.val)
  | 7 => fun v t => k0_off13 v (BitVec.ofNat 32 ((4294967296 - t.val) % 4294967296))

/-- The side condition of the words read keeps every such block inside the array. -/
theorem offP_inb (v : BitVec 32) (h : k0_chk3 v) : ∀ (k : Fin 8) (t : Fin 16) (a : Fin 2), offP k v t a + S256x256.size a ≤ S4096x2048.size a
  | 0 => k0_off6_inb v h
  | 2 => k0_off8_inb v h
  | 4 => k0_off10_inb v h
  | 6 => k0_off12_inb v h
  | 1 => fun t => by
    have e : ∀ t : Fin 16, ∃ r, k0_off7_at r = BitVec.ofNat 32 ((4294967296 - t.val) % 4294967296) := by decide +kernel
    obtain ⟨r, hr⟩ := e t
    intro a; have := k0_off7_inb v h r a; rw [hr] at this; exact this
  | 3 => fun t => by
    have e : ∀ t : Fin 16, ∃ r, k0_off9_at r = BitVec.ofNat 32 ((4294967296 - t.val) % 4294967296) := by decide +kernel
    obtain ⟨r, hr⟩ := e t
    intro a; have := k0_off9_inb v h r a; rw [hr] at this; exact this
  | 5 => fun t => by
    have e : ∀ t : Fin 16, ∃ r, k0_off11_at r = BitVec.ofNat 32 ((4294967296 - t.val) % 4294967296) := by decide +kernel
    obtain ⟨r, hr⟩ := e t
    intro a; have := k0_off11_inb v h r a; rw [hr] at this; exact this
  | 7 => fun t => by
    have e : ∀ t : Fin 16, ∃ r, k0_off13_at r = BitVec.ofNat 32 ((4294967296 - t.val) % 4294967296) := by decide +kernel
    obtain ⟨r, hr⟩ := e t
    intro a; have := k0_off13_inb v h r a; rw [hr] at this; exact this

/-- Lane `k`'s block of a chunk, 256 rows by 256 columns. -/
abbrev rectP (v : BitVec 32) (h : k0_chk3 v) (k : Fin 8) (t : Fin 16) : Rect S4096x2048 :=
  Rect.unit (s := S4096x2048) (offP k v t) S256x256.size (offP_inb v h k t)

/-- One lane's columns of a chunk of products, as a value. -/
def cut (x : FVec F S256x2048 .bf16) : Fin 8 → FVec F S256x256 .bf16
  | 0 => extractStridedSlice S256x256 ![0, 0] x slices_S256x2048_o0_0_S256x256
  | 1 => extractStridedSlice S256x256 ![0, 256] x slices_S256x2048_o0_256_S256x256
  | 2 => extractStridedSlice S256x256 ![0, 512] x slices_S256x2048_o0_512_S256x256
  | 3 => extractStridedSlice S256x256 ![0, 768] x slices_S256x2048_o0_768_S256x256
  | 4 => extractStridedSlice S256x256 ![0, 1024] x slices_S256x2048_o0_1024_S256x256
  | 5 => extractStridedSlice S256x256 ![0, 1280] x slices_S256x2048_o0_1280_S256x256
  | 6 => extractStridedSlice S256x256 ![0, 1536] x slices_S256x2048_o0_1536_S256x256
  | 7 => extractStridedSlice S256x256 ![0, 1792] x slices_S256x2048_o0_1792_S256x256

/-- Run a program for each lane in turn. -/
def forL (f : Fin 8 → Pg F PUnit) : List (Fin 8) → Pg F PUnit
  | [] => .ret ⟨⟩
  | k :: l => f k >>= fun _ => forL f l

/-- Run a program for each lane in turn and hand the results on. -/
def mapL {α : Type} (f : Fin 8 → Pg F α) : List (Fin 8) → Pg F (List α)
  | [] => .ret []
  | k :: l => f k >>= fun a => mapL f l >>= fun b => .ret (a :: b)

/-- The lanes in order. -/
abbrev lanes : List (Fin 8) := [0, 1, 2, 3, 4, 5, 6, 7]

/-- The words a device works with: its place on the ring and its two neighbours. -/
structure Wd where
  v0 : BitVec 32
  h0 : k0_chk3 v0
  v1 : BitVec 32
  h1 : k0_chk1 v1
  v2 : BitVec 32
  h2 : k0_chk2 v2

/-- The left neighbour. -/
abbrev Wd.left (w : Wd) : Dev nD := ⟨k0_dev1 w.v1, k0_dev1_lt w.v1 w.h1⟩
/-- The right neighbour. -/
abbrev Wd.right (w : Wd) : Dev nD := ⟨k0_dev2 w.v2, k0_dev2_lt w.v2 w.h2⟩
/-- The device lane `k` sends to. -/
abbrev Wd.to (w : Wd) (k : Fin 8) : Dev nD := cond (fwd k) w.right w.left

/-- Lane `k`'s send of step `g`, from slot `g` to the neighbour's slot `g + 1`. -/
abbrev send (w : Wd) (g : Nat) (k : Fin 8) : Pg F PUnit :=
  .lift (.enqueueDma (slotM k (sl g)) (.remote (Dev.tc (w.to k)) (slotM k (sl (g + 1))) (.dma (semOf (ssem k) (sl g))))
    (.dma (semOf (rsem k) (sl (g + 1))))
    (((bufM_whole k).wordExact_slice rfl _ (slot_words (sl g))).reshape _ _)
    (((bufM_whole k).wordExact_slice rfl _ (slot_words (sl (g + 1)))).reshape _ _) ⟨⟨rfl, Or.inl rfl⟩, trivial⟩)

/-- The wait for what lane `k` receives in step `g`. -/
abbrev waitRecv (g : Nat) (k : Fin 8) : Pg F PUnit :=
  .lift (.waitDma2 (semOf (rsem k) (sl (g + 1))) (slotM k (sl g)) (slotM k (sl (g + 1)))
    (((bufM_whole k).wordExact_slice rfl _ (slot_words (sl g))).reshape _ _)
    (((bufM_whole k).wordExact_slice rfl _ (slot_words (sl (g + 1)))).reshape _ _))

/-- The wait for lane `k`'s own send of step `g` to have left. -/
abbrev waitSend (g : Nat) (k : Fin 8) : Pg F PUnit :=
  .lift (.waitDma2 (semOf (ssem k) (sl g)) (slotM k (sl (g + 1))) (slotM k (sl g))
    (((bufM_whole k).wordExact_slice rfl _ (slot_words (sl (g + 1)))).reshape _ _)
    (((bufM_whole k).wordExact_slice rfl _ (slot_words (sl g))).reshape _ _))

/-- Read a slot. -/
abbrev loadSlot (k : Fin 8) (s : Fin 3) : Pg F (Vec F S1x256x256 .bf16) :=
  .lift (.load (bufM k) (slotRect s).toLoadRect (View.loadsAt_vmem h_S1x256x256))

/-- Write a slot. -/
abbrev storeSlot (k : Fin 8) (s : Fin 3) (x : FVec F S1x256x256 .bf16) : Pg F PUnit :=
  .lift (.store (bufM k) (slotRect s) x Finset.univ
    (View.stores_vmem h_S1x256x256 ((bufM_whole k).storeExact_slice rfl _ (slot_packed s)) (fun _ => rfl)) (.inl rfl))

/-- The chunks of products this device keeps. -/
abbrev pM : Memref sig .tc .vmem S4096x2048 .bf16 := Memref.whole cc0_scratch0
/-- The second factor, widened. -/
abbrev wM : Memref sig .tc .vmem S256x2048 .bf16 := Memref.whole cc0_scratch1

/-- The whole of the second factor, as a rectangle. -/
abbrev rectW : Rect S256x2048 := Rect.unit (s := S256x2048) ![0, 0] S256x2048.size inb_S256x2048_S256x2048_0_0

/-- A chunk of products: 256 rows of the first factor times the second, accumulated and narrowed. -/
def gemmV (x : Vec F S256x256 .fp8e5m2) (y : Vec F S256x2048 .bf16) : FVec F S256x2048 .bf16 :=
  truncf .bf16 (matmul dot_S256x256_S256x2048_S256x2048_1_0_0_1_n_n none
    (extf .bf16 (shapeCast S256x256 x shapeCasts_S256x256_S256x256 : FVec F S256x256 .fp8e5m2) bitsLt_fp8e5m2_bf16)
    y (constant S256x2048 .f32 0x00000000#32)) bitsLt_bf16_f32

/-- Compute a chunk of products from the rows at `o` and keep it at `o'`. -/
abbrev gemmTo (ax : Memref sig .tc .vmem S4096x256 .fp8e5m2) (o o' : Fin 2 → Nat)
    (h : ∀ a, o a + S256x256.size a ≤ S4096x256.size a) (h' : ∀ a, o' a + S256x2048.size a ≤ S4096x2048.size a)
    (hp : (Rect.unit (s := S4096x2048) o' S256x2048.size h').PackedRows (EltTy.packing .bf16)) : Pg F PUnit := do
  let x : Vec F S256x256 .fp8e5m2 ← .lift (.load ax (Rect.unit (s := S4096x256) o S256x256.size h).toLoadRect (View.loadsAt_vmem h_S256x256))
  let y : Vec F S256x2048 .bf16 ← .lift (.load wM rectW.toLoadRect (View.loadsAt_vmem h_S256x2048))
  let _ : Vec F S256x2048 .bf16 ← .lift (.load pM (Rect.unit (s := S4096x2048) o' S256x2048.size h').toLoadRect (View.loadsAt_vmem h_S256x2048))
  .lift (.store pM (Rect.unit (s := S4096x2048) o' S256x2048.size h')
    (shapeCast S256x2048 (gemmV x y) shapeCasts_S256x2048_S256x2048 : FVec F S256x2048 .bf16) Finset.univ
    (View.stores_vmem h_S256x2048 ((Memref.isWhole_whole cc0_scratch0).storeExact_slice rfl _ hp) (fun _ => rfl)) (.inl rfl))

/-- The products of step `g`: the chunk `g + 1` places behind, then the one `g + 1` places ahead. -/
def gemms (ax : Memref sig .tc .vmem S4096x256 .fp8e5m2) (w : Wd) (g : Nat) : Pg F PUnit := do
  cond (Nat.blt g 8)
    (gemmTo ax (k0_off2 w.v0 (BitVec.ofNat 32 (g % 8))) (k0_off3 w.v0 (BitVec.ofNat 32 (g % 8)))
      (k0_off2_inb w.v0 w.h0 ⟨g % 8, Nat.mod_lt _ (by decide)⟩) (k0_off3_inb w.v0 w.h0 ⟨g % 8, Nat.mod_lt _ (by decide)⟩)
      (k0_off3_packedbf16 w.v0 w.h0 ⟨g % 8, Nat.mod_lt _ (by decide)⟩)) (.ret ⟨⟩)
  cond (Nat.blt g 7)
    (gemmTo ax (k0_off4 w.v0 (BitVec.ofNat 32 (g % 7))) (k0_off5 w.v0 (BitVec.ofNat 32 (g % 7)))
      (k0_off4_inb w.v0 w.h0 ⟨g % 7, Nat.mod_lt _ (by decide)⟩) (k0_off5_inb w.v0 w.h0 ⟨g % 7, Nat.mod_lt _ (by decide)⟩)
      (k0_off5_packedbf16 w.v0 w.h0 ⟨g % 7, Nat.mod_lt _ (by decide)⟩)) (.ret ⟨⟩)

/-- The counter lane `k` waits on before it sends again. -/
abbrev crSem (b : Bool) : Sem sig := cond b (SemArray.sem cc0_scratch26) (SemArray.sem cc0_scratch27)

/-- Wait for one credit before the first send of each direction, from step 1 on. -/
abbrev credWait (g : Nat) (k : Fin 8) : Pg F PUnit :=
  cond (Nat.blt 0 g && Nat.blt k.val 2) (semWaitWord (crSem (fwd k)) 1#32) (.ret ⟨⟩)

/-- Lane `k` of a summing step: what arrived plus this device's own block, kept and sent on. -/
abbrev laneRS (w : Wd) (g : Nat) (k : Fin 8) : Pg F (FVec F S256x256 .bf16) := do
  waitRecv g k
  let a ← loadSlot k (sl (g + 1))
  let p : Vec F S256x256 .bf16 ← .lift (.load pM (rectP w.v0 w.h0 k (ch (g + 1))).toLoadRect (View.loadsAt_vmem h_S256x256))
  let _ ← loadSlot (F := F) k (sl (g + 1))
  let acc : FVec F S256x256 .bf16 := addf (shapeCast S256x256 a shapeCasts_S1x256x256_S256x256 : FVec F S256x256 .bf16) p
  storeSlot k (sl (g + 1)) (shapeCast S1x256x256 acc shapeCasts_S256x256_S1x256x256)
  credWait g k
  send w (g + 1) k
  .ret acc

/-- Lane `k` of a copying step: what arrived is sent on. -/
abbrev laneAG (w : Wd) (g : Nat) (k : Fin 8) : Pg F PUnit := do
  waitRecv g k
  cond (Nat.blt g 29) (credWait g k >>= fun _ => send w (g + 1) k) (.ret ⟨⟩)

/-- Tell both neighbours that a slot is free. -/
abbrev credits (w : Wd) : Pg F PUnit := do
  semSignalWord w.left (crSem true) 1#32
  semSignalWord w.right (crSem false) 1#32

/-- A block of the result: widened and scaled. -/
def outV (sc : F .f32) (a : FVec F S256x256 .bf16) : FVec F S256x256 .f32 :=
  mulf (extf .f32 a bitsLt_bf16_f32) (broadcast S256x256 sc)

/-- Write lane `k`'s block of the chunk `t` places behind of the result. -/
abbrev outTo (ao : Memref sig .tc .vmem S4096x2048 .f32) (w : Wd) (sc : F .f32) (t : Fin 16) (k : Fin 8) (a : FVec F S256x256 .bf16) : Pg F PUnit := do
  let _ : Vec F S256x256 .f32 ← .lift (.load ao (rectP w.v0 w.h0 k t).toLoadRect (View.loadsAt_vmem h_S256x256))
  .lift (.store ao (rectP w.v0 w.h0 k t) (outV sc a) Finset.univ (View.stores_vmem_bits_univ h_S256x256 rfl) (.inl rfl))

/-- The first sends: slot 0 takes this device's own chunk. -/
abbrev seedL (w : Wd) (x : FVec F S256x2048 .bf16) (k : Fin 8) : Pg F PUnit := do
  let _ ← loadSlot (F := F) k 0
  storeSlot k 0 (shapeCast S1x256x256 (cut x k) shapeCasts_S256x256_S1x256x256)
  send w 0 k

/-- A summing step but the last. -/
abbrev stepRS (ax : Memref sig .tc .vmem S4096x256 .fp8e5m2) (w : Wd) (g : Nat) : Pg F PUnit := do
  gemms ax w g
  forL (fun k => laneRS w g k >>= fun _ => .ret ⟨⟩) lanes
  forL (waitSend g) lanes
  credits w

/-- The last summing step also writes the chunk it completes. -/
abbrev stepFin (ao : Memref sig .tc .vmem S4096x2048 .f32) (w : Wd) (sc : F .f32) : Pg F PUnit := do
  let b ← mapL (laneRS w 14) lanes
  forL (waitSend 14) lanes
  credits w
  forL (fun k => outTo ao w sc (ch 15) k (b.getD k.val (cut (constant S256x2048 .bf16 0) k))) lanes

/-- A copying step: send on, and write the chunk that arrived. -/
abbrev stepAG (ao : Memref sig .tc .vmem S4096x2048 .f32) (w : Wd) (sc : F .f32) (g : Nat) : Pg F PUnit := do
  forL (laneAG w g) lanes
  forL (waitSend g) lanes
  cond (Nat.blt g 28) (credits w) (.ret ⟨⟩)
  forL (fun k => loadSlot k (sl (g + 1)) >>= fun a =>
    outTo ao w sc (ch (g + 1)) k (shapeCast S256x256 a shapeCasts_S1x256x256_S256x256)) lanes

/-- Run the steps of a list in turn. -/
def forN (f : Nat → Pg F PUnit) : List Nat → Pg F PUnit
  | [] => .ret ⟨⟩
  | g :: l => f g >>= fun _ => forN f l

/-- What follows the handshake: the second factor is widened, then the thirty steps. -/
def afterBar (ax : Memref sig .tc .vmem S4096x256 .fp8e5m2) (aw : Memref sig .tc .vmem S256x2048 .fp8e5m2)
    (asx asw : Memref sig .tc .smem S1 .f32) (ao : Memref sig .tc .vmem S4096x2048 .f32) (w : Wd) : Pg F PUnit := do
  let x ← smemLoad asx (Rect.unit (s := S1) ![0] S1.size inb_S1_S1_0) numel1_S1 rfl
  let y ← smemLoad asw (Rect.unit (s := S1) ![0] S1.size inb_S1_S1_0) numel1_S1 rfl
  let sc : F .f32 := Scalar.mulf x y
  let b : Vec F S256x2048 .fp8e5m2 ← .lift (.load aw rectW.toLoadRect (View.loadsAt_vmem h_S256x2048))
  let _ : Vec F S256x2048 .bf16 ← .lift (.load wM rectW.toLoadRect (View.loadsAt_vmem h_S256x2048))
  .lift (.store wM rectW (shapeCast S256x2048 (extf .bf16 (shapeCast S256x2048 b shapeCasts_S256x2048_S256x2048 : FVec F S256x2048 .fp8e5m2) bitsLt_fp8e5m2_bf16 : FVec F S256x2048 .bf16) shapeCasts_S256x2048_S256x2048 : FVec F S256x2048 .bf16) Finset.univ
    (View.stores_vmem h_S256x2048 ((Memref.isWhole_whole cc0_scratch1).storeExact_slice rfl _ packedbf16_S256x2048_S256x2048_0_0) (fun _ => rfl)) (.inl rfl))
  let xs : Vec F S256x256 .fp8e5m2 ← .lift (.load ax (Rect.unit (s := S4096x256) (k0_off1 w.v0) S256x256.size (k0_off1_inb w.v0 w.h0)).toLoadRect (View.loadsAt_vmem h_S256x256))
  let ys : Vec F S256x2048 .bf16 ← .lift (.load wM rectW.toLoadRect (View.loadsAt_vmem h_S256x2048))
  forL (seedL w (gemmV xs ys)) lanes
  forN (stepRS ax w) [0, 1, 2, 3, 4, 5, 6, 7, 8, 9, 10, 11, 12, 13]
  stepFin ao w sc
  forN (stepAG ao w sc) [15, 16, 17, 18, 19, 20, 21, 22, 23, 24, 25, 26, 27, 28, 29]

/-- The barrier's semaphore. -/
abbrev barS : Sem sig := (SemArray.scalar (sig.barrier 0 rfl) : Sems sig S_).sem

/-- The whole body. -/
def body (ax : Memref sig .tc .vmem S4096x256 .fp8e5m2) (aw : Memref sig .tc .vmem S256x2048 .fp8e5m2)
    (asx asw : Memref sig .tc .smem S1 .f32) (am : Memref sig .tc .smem S3 .i32) (ao : Memref sig .tc .vmem S4096x2048 .f32) : Pg F PUnit := do
  let v0 : Elt F .i32 ← smemLoad am (Rect.unit (s := S3) ![0] S1.size inb_S3_S1_0) numel1_S1 rfl
  have h0 : k0_chk3 v0 := (← Prog.lift (TpuEff.assume (k0_chk3 v0) (k0_chk3.dec v0))).down
  let v1 : Elt F .i32 ← smemLoad am (Rect.unit (s := S3) ![1] S1.size inb_S3_S1_1) numel1_S1 rfl
  have h1 : k0_chk1 v1 := (← Prog.lift (TpuEff.assume (k0_chk1 v1) (k0_chk1.dec v1))).down
  let v2 : Elt F .i32 ← smemLoad am (Rect.unit (s := S3) ![2] S1.size inb_S3_S1_2) numel1_S1 rfl
  have h2 : k0_chk2 v2 := (← Prog.lift (TpuEff.assume (k0_chk2 v2) (k0_chk2.dec v2))).down
  let w : Wd := ⟨v0, h0, v1, h1, v2, h2⟩
  semSignalWord w.left barS 1#32
  semSignalWord w.right barS 1#32
  semWaitWord barS 2#32
  afterBar ax aw asx asw ao w

end Cert.Ring

end
-- ==== Proof.Geo.lean ====
/- The ring's geometry: which device stands where, who its neighbours are, what words the body reads,
   and what the addresses computed from those words are. -/
module

public import proofs.«01_k».proof.Proof.Prog

@[expose] public section

noncomputable section

namespace Cert.Ring

open Idealize.ShloMosaic Idealize.ShloMosaic.TcCoe Idealize.SL Idealize.SL.Sem
open Cert.KernelIdeal Cert.KernelIdeal.Gen

/-- The device at each place of the ring. -/
def ringV (p : Fin 16) : Dev nD := (![0, 1, 5, 9, 13, 14, 10, 6, 2, 3, 7, 11, 15, 12, 8, 4] : Fin 16 → Dev nD) p

/-- The place of each device on the ring. -/
def place (c : Dev nD) : Fin 16 := (![0, 1, 8, 9, 15, 2, 7, 10, 14, 3, 6, 11, 13, 4, 5, 12] : Fin 16 → Fin 16) c

theorem place_ringV : ∀ p, place (ringV p) = p := by decide
theorem ringV_place : ∀ c, ringV (place c) = c := by decide

/-- The right neighbour, and the left. -/
def rgt (c : Dev nD) : Dev nD := ringV (place c + 1)
def lft (c : Dev nD) : Dev nD := ringV (place c - 1)

theorem place_rgt (c : Dev nD) : place (rgt c) = place c + 1 := place_ringV _
theorem place_lft (c : Dev nD) : place (lft c) = place c - 1 := place_ringV _
theorem lft_rgt : ∀ c, lft (rgt c) = c := by decide
theorem rgt_lft : ∀ c, rgt (lft c) = c := by decide

/-- The neighbour on one side: the right one for `true`, the left one for `false`. -/
def nb (b : Bool) (c : Dev nD) : Dev nD := cond b (rgt c) (lft c)

theorem nb_nb : ∀ (b : Bool) (c : Dev nD), nb (!b) (nb b c) = c
  | true, c => lft_rgt c
  | false, c => rgt_lft c

theorem nb_nb' (b : Bool) (c : Dev nD) : nb b (nb (!b) c) = c := by
  have := nb_nb (!b) c; rwa [Bool.not_not] at this

/-- Going to one side is a bijection of the devices. -/
def nbEquiv (b : Bool) : Dev nD ≃ Dev nD := ⟨nb b, nb (!b), nb_nb b, fun c => nb_nb' b c⟩

/-- The words device `c` works with. -/
def wd (c : Dev nD) : Wd where
  v0 := BitVec.ofNat 32 (place c).val
  h0 := by revert c; decide +kernel
  v1 := BitVec.ofNat 32 (lft c).val
  h1 := by revert c; decide +kernel
  v2 := BitVec.ofNat 32 (rgt c).val
  h2 := by revert c; decide +kernel

theorem wd_left : ∀ c, (wd c).left = lft c := by decide +kernel
theorem wd_right : ∀ c, (wd c).right = rgt c := by decide +kernel

theorem wd_to (c : Dev nD) (k : Fin 8) : (wd c).to k = nb (fwd k) c := by
  unfold Wd.to nb; rw [wd_left, wd_right]

/-- The chunk that is `t` places back along a direction from device `c`'s. -/
def chunkAt (b : Bool) (c : Dev nD) (t : Fin 16) : Fin 16 := cond b (place c - t) (place c + t)

theorem chunkAt_nb : ∀ (b : Bool) (c : Dev nD) (t : Fin 16), chunkAt b (nb (!b) c) t = chunkAt b c (t + 1) := by decide +kernel

theorem off1_eq : ∀ c, k0_off1 (wd c).v0 = ![256 * (place c).val, 0] := by decide +kernel
theorem off2_eq : ∀ (c : Dev nD) (r : Fin 8), k0_off2 (wd c).v0 (BitVec.ofNat 32 r.val) = ![256 * (place c - ch (r.val + 1)).val, 0] := by decide +kernel
theorem off3_eq : ∀ (c : Dev nD) (r : Fin 8), k0_off3 (wd c).v0 (BitVec.ofNat 32 r.val) = ![256 * (place c - ch (r.val + 1)).val, 0] := by decide +kernel
theorem off4_eq : ∀ (c : Dev nD) (r : Fin 7), k0_off4 (wd c).v0 (BitVec.ofNat 32 r.val) = ![256 * (place c + ch (r.val + 1)).val, 0] := by decide +kernel
theorem off5_eq : ∀ (c : Dev nD) (r : Fin 7), k0_off5 (wd c).v0 (BitVec.ofNat 32 r.val) = ![256 * (place c + ch (r.val + 1)).val, 0] := by decide +kernel
theorem offP_eq : ∀ (k : Fin 8) (c : Dev nD) (t : Fin 16), offP k (wd c).v0 t = ![256 * (chunkAt (fwd k) c t).val, 256 * k.val] := by decide +kernel

end Cert.Ring

end
-- ==== Proof.Own.lean ====
/- Loads and stores of a TensorCore, in terms of what a view is owned to read. -/
module

public import proofs.«01_k».proof.Proof.Geo
public import Idealize.ShloMosaic.Lib.MemrefSat
public import Idealize.ShloMosaic.Lib.Rounds
public import Idealize.ShloMosaic.Lib.Release
public import Idealize.ShloMosaic.Lib.Pipeline.Kit
public import Idealize.ShloMosaic.Lib.Tactic
public import Idealize.SL.BI.BigOpNat
public import Idealize.SL.ProofMode.BigOp

@[expose] public section

noncomputable section

namespace Cert.Ring

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Cert.KernelIdeal Cert.KernelIdeal.Gen

variable {F : FTy → Type} [FloatOps F]

/-- The cells, copies and duties of the exchange; which lane's slot of which device a key names. -/
abbrev Key : Type := Dev nD × Fin 8 × Fin 3

/-- The proof's resources: the launch's own rounds; the exchange's rounds; the slots' releases. -/
abbrev UU : Type := UR sig nD τ × (Rounds.URounds (GSem nD τ sig) ℕ × Release.USlots Key)

/-- The machine's resources with them, at the values `F`. -/
abbrev MM (F : FTy → Type) [FloatOps F] : Type := MT nD τ sig ℕ (Elt F) ℕ UU ℕ

/-- Nothing is shared between loops here. -/
abbrev vars : Variants := Variants.none

section Big

variable {M : Type} [URA M] {ι : Type}

theorem bs_elim {s : Finset ι} {i : ι} (Φ : ι → sProp M) (h : i ∈ s) : bigSep s Φ ⊢ Φ i := by
  classical exact bigSep_elim h
theorem bs_insert [DecidableEq ι] {s : Finset ι} {i : ι} (Φ : ι → sProp M) (h : i ∉ s) : bigSep (insert i s) Φ = iprop(Φ i ∗ bigSep s Φ) := bigSep_insert h
theorem bs_empty (Φ : ι → sProp M) : bigSep ∅ Φ = iprop(emp) := rfl
theorem bs_subset {s t : Finset ι} (Φ : ι → sProp M) (h : t ⊆ s) : bigSep s Φ ⊢ bigSep t Φ := by
  classical exact bigSep_subset h

theorem bs_Ico {a b : ℕ} (h : a < b) (Φ : ℕ → sProp M) : bigSep (Finset.Ico a b) Φ = iprop(Φ a ∗ bigSep (Finset.Ico (a + 1) b) Φ) :=
  bigSep_Ico_succ_bot h Φ

end Big

variable (c : Dev nD) {Q : PUnit → sProp (MM F)} {s : Shape} {e : EltTy}

/-- The weakest precondition of a program on device `c`'s TensorCore. -/
abbrev wpC {α : Type} (c : Dev nD) (p : Pg F α) (Q : α → sProp (MM F)) : sProp (MM F) :=
  wp frame (wpE (defs₀ (F := F)) vars (c : Thread nD τ) none) Set.univ p Q

/-- A load of part of a view reads that part. -/
theorem load_owns {α : Type} {Q : α → sProp (MM F)} {cs : CoreSpace} {m : Memref sig .tc cs s e} {r : Rect s}
    {hl : m.view.LoadsAt r.toLoadRect} {k : (r.shape.Idx → Elt F e) → Pg F α} {q : PosShare TreeShare} {X : s.Idx → Elt F e} :
    (owns (c : Thread nD τ) m q X : sProp (MM F))
      ⊢ iprop((owns (c : Thread nD τ) m q X -∗ wpC c (k fun j => X (r.emb j)) Q) -∗ wpC c (.op (.load m r.toLoadRect hl) k) Q) := by
  iintro H Hk
  ihave H' := (show owns (c : Thread nD τ) m q X ⊢ iprop(∃ g, ⌜m.view.read (Elt F) g = X⌝ ∗ m.view.loc (c : Thread nD τ) ↦[m.view.set]{q} g) from .rfl) $$ H
  icases H' with ⟨%g, %hg, H⟩
  iapply (wp_load_rect vars (c : Thread nD τ) none Set.univ (m := m) (r := r) (hl := hl) (k := k) (S := m.view.set) (q := q) (f := g)
    (View.set_slice_subset _ _)) $$ H
  iintro H
  subst hg
  iapply Hk
  iapply (owns_intro (c : Thread nD τ) m q g)
  iexact H

/-- A word of scalar memory. -/
theorem smem_owns {α : Type} {Q : α → sProp (MM F)} {m : Memref sig .tc .smem s e} {r : Rect s} {h1 : r.shape.numel = 1} {hp : e.packing = 1}
    {k : Elt F e → Pg F α} {q : PosShare TreeShare} {X : s.Idx → Elt F e} :
    (owns (c : Thread nD τ) m q X : sProp (MM F))
      ⊢ iprop((owns (c : Thread nD τ) m q X -∗ wpC c (k (X (r.emb (Shape.Idx.first (h1.symm ▸ Nat.one_pos))))) Q)
          -∗ wpC c (smemLoad m r h1 hp >>= k) Q) :=
  load_owns c (m := m) (r := r) (hl := View.loadsAt_rect (View.loads_smem_one hp h1)) (k := fun f => k (f (Shape.Idx.first (h1.symm ▸ Nat.one_pos))))

/-- A store to part of a view changes that part. -/
theorem store_owns {α : Type} {Q : α → sProp (MM F)} {cs : CoreSpace} {m : Memref sig .tc cs s e} {r : Rect s} {w : r.shape.Idx → Elt F e}
    {hx : (m.access r).Stores Finset.univ} {hm : (Finset.univ : Finset r.shape.Idx) = Finset.univ ∨ ∀ a, r.stride a = 1} {k : PUnit → Pg F α} {X : s.Idx → Elt F e} :
    (owns (c : Thread nD τ) m fullShare X : sProp (MM F))
      ⊢ iprop((owns (c : Thread nD τ) m fullShare (r.overlay X w) -∗ wpC c (k ⟨⟩) Q) -∗ wpC c (.op (.store m r w Finset.univ hx hm) k) Q) := by
  iintro H Hk
  ihave H' := (show owns (c : Thread nD τ) m fullShare X ⊢ iprop(∃ g, ⌜m.view.read (Elt F) g = X⌝ ∗ m.view.loc (c : Thread nD τ) ↦[m.view.set]{fullShare} g) from .rfl) $$ H
  icases H' with ⟨%g, %hg, H⟩
  iapply (wp_store vars (c : Thread nD τ) none Set.univ (m := m) (r := r) (w := w) (hx := hx) (hm := hm) (k := k) (S := m.view.set) (f := g)
    (show (m.access r).setOn Finset.univ ⊆ m.view.set from by rw [View.setOn_univ]; exact View.set_slice_subset _ _)) $$ H
  iintro H
  iapply Hk
  have hr : m.view.read (Elt F) ((m.access r).write (Elt F) g w Finset.univ) = r.overlay X w := by
    funext j
    by_cases hj : j ∈ r.set
    · obtain ⟨i, rfl⟩ := r.exists_idx_of_mem hj
      change m.view.read _ _ (r.emb i) = r.overlay _ w (r.emb i)
      rw [Rect.overlay_emb, View.read_apply]
      exact congrFun (View.read_write_univ (v := m.access r) g w) i
    · rw [Rect.overlay_of_not_mem _ _ _ hj, View.read_apply, View.write_of_not_mem, ← View.read_apply, hg]
      rw [View.setOn_univ, show (m.access r).set = r.set.map m.view.emb from View.set_slice _ _, Finset.mem_map' m.view.emb]; exact hj
  rw [← hr]
  iapply (owns_intro (c : Thread nD τ) m fullShare _)
  iexact H

end Cert.Ring

end
-- ==== Proof.Proto.lean ====
/- The protocol of the exchange: what the devices compute, the cells and rounds, what each landing
   hands over, what a device owes, and the levels that order the waits. -/
module

public import proofs.«01_k».proof.Proof.Own

@[expose] public section

noncomputable section

namespace Cert.Ring

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds (dutyTok atPos reached openTok cellInv)
open Idealize.ShloMosaic.Release (released readerAt writeTok slotInv)
open Cert.KernelIdeal Cert.KernelIdeal.Gen

variable {F : FTy → Type} [FloatOps F]

/-! ## The values -/

/-- What every device is given. -/
structure Ins (F : FTy → Type) where
  x : Dev nD → Vec F S4096x256 .fp8e5m2
  w : Dev nD → Vec F S256x2048 .fp8e5m2
  sx : Dev nD → Vec F S1 .f32
  sw : Dev nD → Vec F S1 .f32

/-- Chunk `a` lies among the rows of the first factor. -/
theorem rows_inb (a : Fin 16) (i : Fin 2) : (![256 * a.val, 0] : Fin 2 → Nat) i + S256x256.size i ≤ S4096x256.size i := by
  revert a i; decide

/-- The rows of chunk `a` of the first factor. -/
abbrev rowRect (a : Fin 16) : Rect S4096x256 := Rect.unit (s := S4096x256) ![256 * a.val, 0] S256x256.size (rows_inb a)

/-- Chunk `a` lies among the rows of the products. -/
theorem prods_inb (a : Fin 16) (i : Fin 2) : (![256 * a.val, 0] : Fin 2 → Nat) i + S256x2048.size i ≤ S4096x2048.size i := by
  revert a i; decide

/-- The rows of chunk `a` of the products. -/
abbrev prodRect (a : Fin 16) : Rect S4096x2048 := Rect.unit (s := S4096x2048) ![256 * a.val, 0] S256x2048.size (prods_inb a)

/-- Lane `k`'s block of chunk `a` lies inside. -/
theorem blk_inb (a : Fin 16) (k : Fin 8) (i : Fin 2) : (![256 * a.val, 256 * k.val] : Fin 2 → Nat) i + S256x256.size i ≤ S4096x2048.size i := by
  revert a k i; decide +kernel

/-- Lane `k`'s block of chunk `a`. -/
abbrev blkRect (a : Fin 16) (k : Fin 8) : Rect S4096x2048 := Rect.unit (s := S4096x2048) ![256 * a.val, 256 * k.val] S256x256.size (blk_inb a k)

/-- The second factor widened. -/
def w16 (w : Vec F S256x2048 .fp8e5m2) : FVec F S256x2048 .bf16 :=
  shapeCast S256x2048 (extf .bf16 (shapeCast S256x2048 (fun j => w (rectW.emb j)) shapeCasts_S256x2048_S256x2048 : FVec F S256x2048 .fp8e5m2) bitsLt_fp8e5m2_bf16 : FVec F S256x2048 .bf16) shapeCasts_S256x2048_S256x2048

/-- Device `c`'s part of chunk `a` of the product. -/
def prod (I : Ins F) (c : Dev nD) (a : Fin 16) : FVec F S256x2048 .bf16 :=
  gemmV (fun j => I.x c ((rowRect a).emb j)) (w16 (I.w c))

/-- Where lane `k` sends, and where it receives from. -/
abbrev dst (k : Fin 8) (c : Dev nD) : Dev nD := nb (fwd k) c
abbrev frm (k : Fin 8) (c : Dev nD) : Dev nD := nb (!fwd k) c

theorem frm_dst (k : Fin 8) (c : Dev nD) : frm k (dst k c) = c := nb_nb _ c
theorem dst_frm (k : Fin 8) (c : Dev nD) : dst k (frm k c) = c := nb_nb' _ c

/-- What lane `k` of device `c` sends in step `g`: its own block first; then, for fifteen steps, what
    it received with its own block of that chunk added; then what it received. -/
def Dv (I : Ins F) (k : Fin 8) : ℕ → Dev nD → FVec F S256x256 .bf16
  | 0, c => cut (prod I c (place c)) k
  | g + 1, c => if g < 15 then addf (Dv I k g (frm k c)) (cut (prod I c (chunkAt (fwd k) c (ch (g + 1)))) k) else Dv I k g (frm k c)

theorem Dv_rs (I : Ins F) (k : Fin 8) {g : ℕ} (h : g < 15) (c : Dev nD) :
    Dv I k (g + 1) c = addf (Dv I k g (frm k c)) (cut (prod I c (chunkAt (fwd k) c (ch (g + 1)))) k) := if_pos h

theorem Dv_ag (I : Ins F) (k : Fin 8) {g : ℕ} (h : ¬g < 15) (c : Dev nD) : Dv I k (g + 1) c = Dv I k g (frm k c) := if_neg h

/-- The scale of device `c`. -/
def scale (I : Ins F) (c : Dev nD) : F .f32 :=
  Scalar.mulf (I.sx c ((Rect.unit (s := S1) ![0] S1.size inb_S1_S1_0).emb (Shape.Idx.first (numel1_S1.symm ▸ Nat.one_pos))))
    (I.sw c ((Rect.unit (s := S1) ![0] S1.size inb_S1_S1_0).emb (Shape.Idx.first (numel1_S1.symm ▸ Nat.one_pos))))

/-- A slot's contents from a block. -/
abbrev toSlot (X : FVec F S256x256 .bf16) : FVec F S1x256x256 .bf16 := shapeCast S1x256x256 X shapeCasts_S256x256_S1x256x256

/-- Slot `s` of lane `k`'s buffer. -/
abbrev bufS (k : Fin 8) (s : Fin 3) : Memref sig .tc .vmem S1x256x256 .bf16 := (bufM k).slice (slotRect s) (fun _ => rfl)

/-! ## The cells -/

/-- What a semaphore is for: the barrier, the credits of a direction, what leaves and what arrives. -/
inductive Kd where
  | bar | cr (b : Bool) | snd (k : Fin 8) (s : Fin 3) | rcv (k : Fin 8) (s : Fin 3) | oth
deriving DecidableEq

/-- The semaphore of a purpose. -/
abbrev semK : Kd → SemLoc sig
  | .bar => .reg barS
  | .cr b => .reg (crSem b)
  | .snd k s => .dma (semOf (ssem k) s)
  | .rcv k s => .dma (semOf (rsem k) s)
  | .oth => .dma ⟨0, by decide⟩

/-- The purpose of a semaphore. -/
def kd : SemLoc sig → Kd
  | .reg i => if i = barS then .bar else if i = crSem true then .cr true else if i = crSem false then .cr false else .oth
  | .dma i => if i.val < 6 then .oth else
      if (i.val - 6) % 6 < 3 then .snd ⟨(i.val - 6) / 6 % 8, Nat.mod_lt _ (by decide)⟩ (sl (i.val - 6))
      else .rcv ⟨(i.val - 6) / 6 % 8, Nat.mod_lt _ (by decide)⟩ (sl (i.val - 6))

theorem kd_cr : ∀ b, kd (.reg (crSem b)) = .cr b := by decide +kernel
theorem kd_snd : ∀ k s, kd (.dma (semOf (ssem k) s)) = .snd k s := by decide +kernel
theorem kd_rcv : ∀ k s, kd (.dma (semOf (rsem k) s)) = .rcv k s := by decide +kernel
theorem kd_semK : ∀ x, kd (semK x) = x
  | .bar => by decide +kernel
  | .cr b => kd_cr b
  | .snd k s => kd_snd k s
  | .rcv k s => kd_rcv k s
  | .oth => by decide +kernel

/-- Device `c`'s semaphore of a purpose. -/
abbrev cell (c : Dev nD) (x : Kd) : GSem nD τ sig := ((c : Thread nD τ), semK x)

theorem cell_inj {c c' : Dev nD} {x x' : Kd} (h : cell c x = cell c' x') : c = c' ∧ x = x' := by
  have h1 := congrArg (fun g : GSem nD τ sig => g.1.1) h
  have h2 := congrArg (fun g : GSem nD τ sig => kd g.2) h
  simp only [kd_semK] at h2
  exact ⟨h1, h2⟩

/-- The credit of one landing. -/
abbrev N : ℕ := (slotM 0 0).view.dmaCredit

theorem N_eq : ∀ k s, (slotM k s).view.dmaCredit = N := by decide +kernel
theorem N_pos : 0 < N := by decide +kernel

/-! ## The resources -/

/-- The embeddings of the launch's rounds, of the exchange's rounds and of the slots' releases. -/
abbrev EP : Emb (UR sig nD τ) (MM F) := embL
abbrev ER : Emb (Rounds.URounds (GSem nD τ sig) ℕ) (MM F) := Emb.inl.trans embR
abbrev ES : Emb (Release.USlots Key) (MM F) := Emb.inr.trans embR

instance ER_lands : (ER (F := F)).LandsIn (upEmb : UEmb _ (MM F)) := by unfold ER; infer_instance
instance ES_lands : (ES (F := F)).LandsIn (upEmb : UEmb _ (MM F)) := by unfold ES; infer_instance

/-- Device `e`'s slot for what lane `k` receives in step `g` is free for it. -/
abbrev fs (e : Dev nD) (g : ℕ) (k : Fin 8) : sProp (MM F) :=
  iprop(released ES (e, k, sl (g + 1)) (g / 3 + 1) ∗ reached ER (cell e (.rcv k (sl (g + 1)))) (g / 3))

/-- Device `e`'s slots are free for everything the lanes of direction `b` receive in the steps before `n`. -/
def Free (e : Dev nD) (b : Bool) (n : ℕ) : sProp (MM F) :=
  bigSep (Finset.range n) fun g => bigSep (Finset.univ.filter fun k => fwd k = b) fun k => fs e g k

instance Free_persistent (e : Dev nD) (b : Bool) (n : ℕ) : BI.Persistent (Free (F := F) e b n) := by unfold Free; infer_instance
instance Free_storable (e : Dev nD) (b : Bool) (n : ℕ) : BI.Storable (upEmb : UEmb _ (MM F)) (Free (F := F) e b n) := by
  unfold Free; infer_instance

theorem Free_elim {e : Dev nD} {b : Bool} {n g : ℕ} {k : Fin 8} (hg : g < n) (hk : fwd k = b) :
    Free (F := F) e b n ⊢ fs e g k :=
  (bs_elim _ (Finset.mem_range.mpr hg)).trans (bs_elim (fun k => fs e g k) (Finset.mem_filter.mpr ⟨Finset.mem_univ k, hk⟩))

theorem Free_mono {e : Dev nD} {b : Bool} {n n' : ℕ} (h : n ≤ n') : Free (F := F) e b n' ⊢ Free e b n :=
  bs_subset _ (Finset.range_mono h)

theorem Free_succ {e : Dev nD} {b : Bool} {n : ℕ} :
    iprop(Free (F := F) e b n ∗ bigSep Finset.univ fun k => fs e n k) ⊢ Free e b (n + 1) := by
  unfold Free
  rw [Finset.range_add_one, bs_insert _ Finset.notMem_range_self]
  iintro ⟨H1, H2⟩
  isplitl [H2]
  · iapply (bs_subset (fun k => fs e n k) (Finset.filter_subset _ _)); iexact H2
  · iexact H1

theorem Free_zero {e : Dev nD} {b : Bool} : (iprop(emp) : sProp (MM F)) ⊢ Free e b 0 := by
  unfold Free; rw [Finset.range_zero, bs_empty]

/-- Device `c` owns slot `s` of lane `k` at whatever it holds. -/
def slotAny (y : Key) : sProp (MM F) := iprop(∃ X, owns (y.1 : Thread nD τ) (bufS y.2.1 y.2.2) fullShare X)

instance slotAny_storable (y : Key) : BI.Storable (upEmb : UEmb _ (MM F)) (slotAny (F := F) y) := by unfold slotAny; infer_instance

/-! ## The schedule -/

variable (I : Ins F)

/-- The duties of a round. -/
def dutK : Kd → ℕ → Finset ℕ
  | .bar, r => if r = 0 then {0, 1} else ∅
  | .cr _, r => if r = 0 then Finset.range 28 else ∅
  | .snd _ _, r => if r < 10 then {0} else ∅
  | .rcv _ _, r => if r < 10 then {0} else ∅
  | .oth, _ => ∅

/-- What a duty counts. -/
def amtK : Kd → ℕ
  | .bar => 1
  | .cr _ => 1
  | _ => N

/-- What a duty hands to device `c`. The barrier: the neighbour's slots are free for the first two steps, and its
    credit counter is in use. A credit: the neighbour's slots are free for one step more. What left: half the slot
    it left from. What arrived: the slot, at what the neighbour sent. -/
def payK : Kd → Dev nD → ℕ → ℕ → sProp (MM F)
  | .bar, c, _, d => iprop(Free (nb (d == 0) c) (d == 0) 2 ∗ reached ER (cell (nb (d == 0) c) (.cr (!(d == 0)))) 0)
  | .cr b, c, _, d => Free (nb b c) b (d + 3)
  | .snd k s, c, r, _ => owns (c : Thread nD τ) (bufS k s) fullShare.left (toSlot (Dv I k (3 * r + s.val) c))
  | .rcv k s, c, r, _ => owns (c : Thread nD τ) (bufS k s) fullShare (toSlot (Dv I k (3 * r + (s.val + 2) % 3) (frm k c)))
  | .oth, _, _, _ => iprop(emp)

/-- The schedule of the exchange. -/
def ringRd : Rounds.Schedule (GSem nD τ sig) ℕ (MM F) where
  duties g r := if g.1.2 = (.tc : Proc τ) then dutK (kd g.2) r else ∅
  unitless _ := False
  amount g _ _ := amtK (kd g.2)
  payload g r d := payK I (kd g.2) g.1.1 r d
  amount_pos g _ _ _ := by
    cases kd g.2 <;> first | exact Nat.one_pos | exact N_pos

instance ringRd_storable (g : GSem nD τ sig) (r : ℕ) (d : ℕ) :
    BI.Storable (upEmb : UEmb _ (MM F)) ((ringRd I).payload g r d) := by
  change BI.Storable upEmb (payK I (kd g.2) g.1.1 r d)
  cases kd g.2 <;> (unfold payK; infer_instance)

theorem duties_cell (c : Dev nD) (x : Kd) (r : ℕ) : (ringRd I).duties (cell c x) r = dutK x r := by
  change (if (cell c x).1.2 = (.tc : Proc τ) then dutK (kd (semK x)) r else ∅) = _
  rw [if_pos rfl, kd_semK]
theorem amount_cell (c : Dev nD) (x : Kd) (r d : ℕ) : (ringRd I).amount (cell c x) r d = amtK x := by
  change amtK (kd (semK x)) = _
  rw [kd_semK]
theorem payload_cell (c : Dev nD) (x : Kd) (r d : ℕ) : (ringRd I).payload (cell c x) r d = payK I x c r d := by
  change payK I (kd (semK x)) c r d = _
  rw [kd_semK]
theorem expect_cell (c : Dev nD) (x : Kd) (r : ℕ) : (ringRd I).expect (cell c x) r = (dutK x r).card * amtK x := by
  unfold Rounds.Schedule.expect Rounds.Schedule.amountOf
  rw [duties_cell, Finset.sum_congr rfl fun d _ => amount_cell I c x r d, Finset.sum_const, smul_eq_mul]

/-! ## What is owed, and the levels -/

/-- The level of a wait: what a step receives comes before the credit it earns, and that before the next step. -/
def lvK : Kd → ℕ → ℕ
  | .oth, _ => 0
  | .snd _ _, _ => 1
  | .bar, _ => 2
  | .rcv _ _, i => 2 * i + 3
  | .cr _, i => 2 * i + 4

def L (g : GSem nD τ sig) : Finset ℕ := if g.1.2 = .tc then Finset.range 30 else ∅
def lv (g : GSem nD τ sig) (i : ℕ) : ℕ := lvK (kd g.2) i

theorem L_of_ne (g : GSem nD τ sig) (h : g.1.2 ≠ .tc) : L g = ∅ := if_neg h
theorem L_tc (c : Dev nD) (sm : SemLoc sig) : L ((c : Thread nD τ), sm) = Finset.range 30 := if_pos rfl
theorem lv_cell (c : Dev nD) (x : Kd) (i : ℕ) : lv (cell c x) i = lvK x i := by
  change lvK (kd (semK x)) i = _
  rw [kd_semK]

/-- One thing owed: so many units to a cell of a device, under an index. -/
structure Ob where
  dev : Dev nD
  kind : Kd
  ix : ℕ

/-- The tally of one thing owed. -/
abbrev Ob.tally (o : Ob) : CellTallies nD τ sig ℕ := tallyAt (cell o.dev o.kind) o.ix (amtK o.kind)

/-- The tally of a list of them. -/
def due : List Ob → CellTallies nD τ sig ℕ
  | [] => 0
  | o :: l => due l + o.tally

theorem due_append (l l' : List Ob) : due (l ++ l') = due l + due l' := by
  induction l with
  | nil => exact (zero_add _).symm
  | cons o l ih => change due (l ++ l') + _ = due l + _ + _; rw [ih, add_right_comm]

/-- Everything in the list has level at least `n`. -/
def Above (n : ℕ) (l : List Ob) : Prop := ∀ o ∈ l, n ≤ lvK o.kind o.ix ∧ o.ix < 30

theorem due_pos {l : List Ob} {g : GSem nD τ sig} {i : ℕ} (h : 0 < due l g i) : ∃ o ∈ l, g = cell o.dev o.kind ∧ i = o.ix := by
  induction l with
  | nil => exact absurd h (Nat.lt_irrefl 0)
  | cons o l ih =>
    by_cases h' : 0 < due l g i
    · obtain ⟨o', ho', e⟩ := ih h'; exact ⟨o', List.mem_cons_of_mem _ ho', e⟩
    · have h2 : 0 < o.tally g i := by
        have e : due (o :: l) g i = due l g i + o.tally g i := rfl
        omega
      refine ⟨o, List.mem_cons_self .., ?_⟩
      rw [Ob.tally, tallyAt_apply] at h2
      by_contra hc
      rw [if_neg hc] at h2; exact absurd h2 (Nat.lt_irrefl 0)

/-- The levels of all waits. -/
@[irreducible] def levs : sProp (MM F) := levAts L lv

instance levs_persistent : BI.Persistent (levs (F := F)) := by unfold levs; infer_instance

/-- A wait below everything owed is allowed. -/
theorem mayWait (c : Dev nD) (x : Kd) (i : ℕ) (l : List Ob) (hi : i < 30) (h : Above (lvK x i + 1) l) :
    levs (F := F) ⊢ MayWait (c : Thread nD τ) (semK x) i (due l) := by
  unfold levs
  exact MayOwe.of_cut (L := L) (lev := lv) (lvK x i)
    (fun p hp => by rw [Finset.mem_singleton.mp hp, L_tc]; exact Finset.mem_range.mpr hi)
    (fun g u hg => by
      obtain ⟨o, ho, rfl, rfl⟩ := due_pos hg
      rw [L_tc]; exact Finset.mem_range.mpr (h o ho).2)
    (fun p hp => by rw [Finset.mem_singleton.mp hp]; exact (lv_cell c x i).le)
    (fun g u hg => by
      obtain ⟨o, ho, rfl, rfl⟩ := due_pos hg
      rw [lv_cell]; exact (h o ho).1)

/-- What device `c` owes: the landing of lane `k` in step `g`, and the credit of step `g`. -/
abbrev obS (c : Dev nD) (g : ℕ) (k : Fin 8) : Ob := ⟨dst k c, .rcv k (sl (g + 1)), g⟩
abbrev obC (c : Dev nD) (g : ℕ) (b : Bool) : Ob := ⟨nb (!b) c, .cr b, g⟩

/-- What is left of the sends of step `g` when the lanes in the list have still to send. -/
def obSends (c : Dev nD) (g : ℕ) (l : List (Fin 8)) : List Ob := if g < 30 then l.map (obS c g) else []
/-- The credits of step `g`. -/
def obCr (c : Dev nD) (g : ℕ) : List Ob := if g < 28 then [obC c g true, obC c g false] else []

/-- What iteration `g` pays: the sends of the next step and its credits; and all from there on. -/
def obFrom (c : Dev nD) : ℕ → ℕ → List Ob
  | _, 0 => []
  | g, n + 1 => obSends c (g + 1) lanes ++ (obCr c g ++ obFrom c (g + 1) n)

/-- What is owed from iteration `g` on. -/
abbrev obG (c : Dev nD) (g : ℕ) : List Ob := obFrom c g (30 - g)

theorem obG_eq (c : Dev nD) {g : ℕ} (h : g < 30) : obG c g = obSends c (g + 1) lanes ++ (obCr c g ++ obG c (g + 1)) := by
  unfold obG
  obtain ⟨n, hn⟩ : ∃ n, 30 - g = n + 1 := ⟨30 - g - 1, by omega⟩
  rw [hn, show 30 - (g + 1) = n by omega]; rfl

theorem obG_end (c : Dev nD) : obG c 30 = [] := rfl

theorem Above.append {n : ℕ} {l l' : List Ob} (h : Above n l) (h' : Above n l') : Above n (l ++ l') := fun o ho =>
  (List.mem_append.mp ho).elim (h o) (h' o)
theorem Above.mono {n n' : ℕ} {l : List Ob} (h : Above n' l) (hn : n ≤ n') : Above n l := fun o ho => ⟨hn.trans (h o ho).1, (h o ho).2⟩
theorem Above.nil (n : ℕ) : Above n [] := fun _ h => absurd h List.not_mem_nil

theorem above_sends (c : Dev nD) (g : ℕ) (l : List (Fin 8)) : Above (2 * g + 3) (obSends c g l) := fun o ho => by
  unfold obSends at ho
  split at ho
  · obtain ⟨k, -, rfl⟩ := List.mem_map.mp ho
    exact ⟨le_rfl, by assumption⟩
  · exact absurd ho List.not_mem_nil

theorem above_cr (c : Dev nD) (g : ℕ) : Above (2 * g + 4) (obCr c g) := fun o ho => by
  unfold obCr at ho
  split at ho
  · rcases List.mem_cons.mp ho with rfl | ho
    · exact ⟨le_rfl, by dsimp only [obC]; omega⟩
    · rcases List.mem_cons.mp ho with rfl | ho
      · exact ⟨le_rfl, by dsimp only [obC]; omega⟩
      · exact absurd ho List.not_mem_nil
  · exact absurd ho List.not_mem_nil

theorem above_from (c : Dev nD) : ∀ (n g : ℕ), Above (2 * g + 4) (obFrom c g n)
  | 0, _ => Above.nil _
  | n + 1, g => ((above_sends c (g + 1) lanes).mono (by omega)).append ((above_cr c g).append ((above_from c n (g + 1)).mono (by omega)))

theorem above_G (c : Dev nD) (g : ℕ) : Above (2 * g + 4) (obG c g) := above_from c _ g

/-- Everything device `c` owes when the body starts. -/
def obAll (c : Dev nD) : List Ob := ⟨lft c, .bar, 0⟩ :: ⟨rgt c, .bar, 0⟩ :: (obSends c 0 lanes ++ obG c 0)

/-! ## The standing knowledge -/

variable (K : GSem nD τ sig → ℕ) (J : Key → ℕ)

/-- A cell's invariant, at the name the launch gave it. -/
abbrev cI (c : Dev nD) (x : Kd) : sProp (MM F) := cellInv ER (ringRd I) (K (cell c x)) (cell c x)
/-- A slot's invariant, at the name the launch gave it. -/
abbrev sI (y : Key) : sProp (MM F) := slotInv ES (J y) y (slotAny y)

/-- All cells' and all slots' invariants, and the levels. -/
def know : sProp (MM F) :=
  iprop((bigSep Finset.univ fun c => cI I K c .bar) ∗ (bigSep Finset.univ fun p : Dev nD × Bool => cI I K p.1 (.cr p.2))
    ∗ (bigSep Finset.univ fun y : Key => cI I K y.1 (.snd y.2.1 y.2.2)) ∗ (bigSep Finset.univ fun y : Key => cI I K y.1 (.rcv y.2.1 y.2.2))
    ∗ (bigSep Finset.univ fun y : Key => sI J y) ∗ levs)

instance know_persistent : BI.Persistent (know I K J) := by unfold know; infer_instance

theorem know_bar (c : Dev nD) : know I K J ⊢ cI I K c .bar := by
  unfold know; iintro ⟨H, -, -, -, -, -⟩; iapply (bs_elim (fun c => cI I K c .bar) (Finset.mem_univ c)); iexact H
theorem know_cr (c : Dev nD) (b : Bool) : know I K J ⊢ cI I K c (.cr b) := by
  unfold know; iintro ⟨-, H, -, -, -, -⟩
  iapply (bs_elim (fun p : Dev nD × Bool => cI I K p.1 (.cr p.2)) (Finset.mem_univ (c, b))); iexact H
theorem know_snd (c : Dev nD) (k : Fin 8) (s : Fin 3) : know I K J ⊢ cI I K c (.snd k s) := by
  unfold know; iintro ⟨-, -, H, -, -, -⟩
  iapply (bs_elim (fun y : Key => cI I K y.1 (.snd y.2.1 y.2.2)) (Finset.mem_univ (c, k, s))); iexact H
theorem know_rcv (c : Dev nD) (k : Fin 8) (s : Fin 3) : know I K J ⊢ cI I K c (.rcv k s) := by
  unfold know; iintro ⟨-, -, -, H, -, -⟩
  iapply (bs_elim (fun y : Key => cI I K y.1 (.rcv y.2.1 y.2.2)) (Finset.mem_univ (c, k, s))); iexact H
theorem know_slot (y : Key) : know I K J ⊢ sI J y := by
  unfold know; iintro ⟨-, -, -, -, H, -⟩
  iapply (bs_elim (fun y : Key => sI (F := F) J y) (Finset.mem_univ y)); iexact H
theorem know_lev : know I K J ⊢ levs := by
  unfold know; iintro ⟨-, -, -, -, -, H⟩; iexact H

end Cert.Ring

end
-- ==== Proof.Act.lean ====
/- Each action of a device, as one rule: a send, the two waits, a credit given and a credit taken. -/
module

public import proofs.«01_k».proof.Proof.Proto
public import Idealize.ShloMosaic.Lib.Pipeline.Value

@[expose] public section

noncomputable section

namespace Cert.Ring

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds (dutyTok atPos reached openTok cellInv)
open Idealize.ShloMosaic.Release (released readerAt writeTok slotInv)
open Cert.KernelIdeal Cert.KernelIdeal.Gen

variable {F : FTy → Type} [FloatOps F]
variable (I : Ins F) (K : GSem nD τ sig → ℕ) (J : Key → ℕ) (c : Dev nD)

/-- What device `c` owes, whatever waits are on record. -/
def ow (c : Dev nD) (l : List Ob) : sProp (MM F) := iprop(∃ W, owes (c : Thread nD τ) (due l) W)

/-- The rights lane `k` of device `c` spends on its send of step `g`. -/
def toks (c : Dev nD) (k : Fin 8) (g : ℕ) : sProp (MM F) :=
  iprop(dutyTok ER (cell c (.snd k (sl g))) (g / 3) 0 ∗ dutyTok ER (cell (dst k c) (.rcv k (sl (g + 1)))) (g / 3) 0
    ∗ writeTok ES (dst k c, k, sl (g + 1)) (g / 3 + 1))

/-- Owning a view with the axes of one element dropped is owning the view. -/
theorem owns_squeeze {cs : CoreSpace} {sh sh' : Shape} {e : EltTy} (m : Memref sig .tc cs sh e) (h : Shape.Squeezes sh sh') (q : PosShare TreeShare) (X : sh.Idx → Elt F e) :
    (owns (c : Thread nD τ) (m.squeeze sh' h) q (fun j => X (Shape.reshapeEquiv h.numel_eq j)) : sProp (MM F)) = owns (c : Thread nD τ) m q X := by
  unfold owns
  have hset : (m.squeeze sh' h).view.set = m.view.set := View.set_reshape _ _
  congr 1
  funext f
  rw [show ((m.squeeze sh' h).view.read (Elt F) f = fun j => X (Shape.reshapeEquiv h.numel_eq j)) = (m.view.read (Elt F) f = X) from propext
    ⟨fun hh => by
      funext i
      have := congrFun hh ((Shape.reshapeEquiv h.numel_eq).symm i)
      rw [View.read_apply] at this
      rw [View.read_apply]
      have e : (m.squeeze sh' h).view.emb ((Shape.reshapeEquiv h.numel_eq).symm i) = m.view.emb i := by
        change m.view.emb (Shape.reshapeEquiv h.numel_eq ((Shape.reshapeEquiv h.numel_eq).symm i)) = _
        rw [Equiv.apply_symm_apply]
      rw [e, Equiv.apply_symm_apply] at this
      exact this,
     fun hh => by
      funext j
      rw [← hh]; rfl⟩, hset]

/-- A slot as copies name it. -/
theorem owns_slot (k : Fin 8) (s : Fin 3) (q : PosShare TreeShare) (X : FVec F S256x256 .bf16) :
    (owns (c : Thread nD τ) (slotM k s) q X : sProp (MM F)) = owns (c : Thread nD τ) (bufS k s) q (toSlot X) := by
  rw [← owns_squeeze c (bufS k s) squeezes_S1x256x256_S256x256]
  congr 1
  exact (shapeCast_shapeCast X shapeCasts_S256x256_S1x256x256 shapeCasts_S1x256x256_S256x256).symm

theorem owns_slot_any (k : Fin 8) (s : Fin 3) (q : PosShare TreeShare) (X : FVec F S1x256x256 .bf16) :
    (owns (c : Thread nD τ) (bufS k s) q X : sProp (MM F)) = owns (c : Thread nD τ) (slotM k s) q (fun j => X (Shape.reshapeEquiv squeezes_S1x256x256_S256x256.numel_eq j)) :=
  (owns_squeeze c (bufS k s) squeezes_S1x256x256_S256x256 q X).symm

theorem dut_snd {k : Fin 8} {s : Fin 3} {r : ℕ} (h : r < 10) : dutK (.snd k s) r = {0} := if_pos h
theorem dut_rcv {k : Fin 8} {s : Fin 3} {r : ℕ} (h : r < 10) : dutK (.rcv k s) r = {0} := if_pos h

theorem dut_cr (b : Bool) : dutK (.cr b) 0 = Finset.range 28 := by unfold dutK; exact if_pos rfl

theorem ix_snd (g : ℕ) : 3 * (g / 3) + (sl g).val = g := by dsimp only [sl]; omega
theorem ix_rcv (g : ℕ) : 3 * (g / 3) + ((sl (g + 1)).val + 2) % 3 = g := by dsimp only [sl]; omega

/-- What the send of step `g` hands back, and what it lands. -/
theorem pay_snd (k : Fin 8) (g d : ℕ) : (ringRd I).payload (cell c (.snd k (sl g))) (g / 3) d
    = owns (c : Thread nD τ) (bufS k (sl g)) fullShare.left (toSlot (Dv I k g c)) := by
  rw [payload_cell, payK, ix_snd]
theorem pay_rcv (k : Fin 8) (g d : ℕ) : (ringRd I).payload (cell c (.rcv k (sl (g + 1)))) (g / 3) d
    = owns (c : Thread nD τ) (bufS k (sl (g + 1))) fullShare (toSlot (Dv I k g (frm k c))) := by
  rw [payload_cell, payK, ix_rcv]

/-- A send to a device named by its number. -/
abbrev sendTo (d : Dev nD) (g : Nat) (k : Fin 8) : Pg F PUnit :=
  .lift (.enqueueDma (slotM k (sl g)) (.remote (Dev.tc d) (slotM k (sl (g + 1))) (.dma (semOf (ssem k) (sl g))))
    (.dma (semOf (rsem k) (sl (g + 1))))
    (((bufM_whole k).wordExact_slice rfl _ (slot_words (sl g))).reshape _ _)
    (((bufM_whole k).wordExact_slice rfl _ (slot_words (sl (g + 1)))).reshape _ _) ⟨⟨rfl, Or.inl rfl⟩, trivial⟩)

/-- A send: half of the slot goes with it, the neighbour's slot is taken, and one landing less is owed. -/
theorem act_send {k : Fin 8} {g : ℕ} (hg : g < 30) {l : List Ob} {Q : PUnit → sProp (MM F)} :
    iprop(know I K J ∗ owns (c : Thread nD τ) (bufS k (sl g)) fullShare.left (toSlot (Dv I k g c)) ∗ ow c (obS c g k :: l)
        ∗ toks c k g ∗ reached ER (cell c (.snd k (sl g))) (g / 3) ∗ fs (dst k c) g k)
      ⊢ iprop(((cred (tallyAt (cell c (.snd k (sl g))) g N) ∗ ow c l) -∗ Q ⟨⟩) -∗ wpC c (send (wd c) g k) Q) := by
  change _ ⊢ iprop(_ -∗ wpC c (sendTo ((wd c).to k) g k) Q)
  rw [wd_to]
  unfold toks ow
  iintro ⟨#Hk, Hs, ⟨%W, HO⟩, ⟨Ht1, Ht2, Ht3⟩, #Hr1, ⟨#Hrel, #Hr2⟩⟩ HQ
  ihave #Hsl := (know_slot I K J (dst k c, k, sl (g + 1))) $$ Hk
  imod (Release.slot_take ES (Set.mem_univ _) (g / 3 + 1)) $$ [Ht3] with HS
  · isplitr; · iexact Hsl
    isplitr; · iexact Hrel
    iexact Ht3
  unfold slotAny
  icases HS with ⟨%X, HD⟩
  ihave HD := (Entails.of_eq (owns_slot_any (dst k c) k (sl (g + 1)) fullShare X)) $$ HD
  ihave HD := (show owns (dst k c : Thread nD τ) (slotM k (sl (g + 1))) fullShare (fun j => X (Shape.reshapeEquiv squeezes_S1x256x256_S256x256.numel_eq j))
      ⊢ (iprop(∃ f, (slotM k (sl (g + 1))).view.loc (dst k c : Thread nD τ) ↦[(slotM k (sl (g + 1))).view.set]{fullShare} f) : sProp (MM F)) from by
    unfold owns; iintro ⟨%f, -, H⟩; iexists f; iexact H) $$ HD
  icases HD with ⟨%fd, HD⟩
  ihave Hs := (Entails.of_eq (owns_slot c k (sl g) fullShare.left (Dv I k g c)).symm) $$ Hs
  ihave Hs := (show owns (c : Thread nD τ) (slotM k (sl g)) fullShare.left (Dv I k g c)
      ⊢ (iprop(∃ f, ⌜(slotM k (sl g)).view.read (Elt F) f = Dv I k g c⌝ ∗ (slotM k (sl g)).view.loc (c : Thread nD τ) ↦[(slotM k (sl g)).view.set]{fullShare.left} f) : sProp (MM F)) from by
    unfold owns; exact .rfl) $$ Hs
  icases Hs with ⟨%f, %hf, Hs⟩
  ihave #Hi1 := (know_snd I K J c k (sl g)) $$ Hk
  ihave #Hi2 := (know_rcv I K J (dst k c) k (sl (g + 1))) $$ Hk
  iapply (Rounds.wp_send_pointsTo vars ER (ringRd I) (c : Thread nD τ) none (c' := (dst k c : Thread nD τ)) (src := slotM k (sl g)) (dst := slotM k (sl (g + 1)))
      (sS := .dma (semOf (ssem k) (sl g))) (sem := .dma (semOf (rsem k) (sl (g + 1)))) (q := fullShare.left) (fs := f) (fd := fd)
      (κ₁ := K (cell c (.snd k (sl g)))) (κ₂ := K (cell (dst k c) (.rcv k (sl (g + 1)))))
      (r₁ := g / 3) (r₂ := g / 3) (d₁ := 0) (d₂ := 0)
      ((duties_cell I c (.snd k (sl g)) (g / 3)).trans (dut_snd (by omega)) ▸ Finset.mem_singleton_self _)
      ((duties_cell I (dst k c) (.rcv k (sl (g + 1))) (g / 3)).trans (dut_rcv (by omega)) ▸ Finset.mem_singleton_self _)
      g g N (N_eq k (sl (g + 1))) (amount_cell I c (.snd k (sl g)) _ _) (amount_cell I (dst k c) (.rcv k (sl (g + 1))) _ _)
      (due l) (show due (obS c g k :: l) = due l + (obS c g k).tally from rfl) (W := W)
      (((owns_intro (c : Thread nD τ) (slotM k (sl g)) fullShare.left f).trans (Entails.of_eq (by rw [hf]))).trans
        (Entails.of_eq ((owns_slot c k (sl g) fullShare.left (Dv I k g c)).trans (pay_snd I c k g 0).symm)))
      (((owns_intro (dst k c : Thread nD τ) (slotM k (sl (g + 1))) fullShare _).trans (Entails.of_eq (by rw [View.read_write_univ, hf]))).trans
        (Entails.of_eq ((owns_slot (dst k c) k (sl (g + 1)) fullShare (Dv I k g c)).trans
          (by rw [pay_rcv I (dst k c) k g 0, frm_dst]))))) $$ [Hs HD HO Ht1 Ht2]
  · isplitr; · iexact Hi1
    isplitr; · iexact Hi2
    isplitl [Hs]; · iexact Hs
    isplitl [HD]; · iexact HD
    isplitl [HO]; · iexact HO
    isplitl [Ht1]; · iexact Ht1
    isplitr; · iexact Hr1
    isplitl [Ht2]; · iexact Ht2
    iexact Hr2
  iintro ⟨Hc, HO⟩
  rw [wp_ret]
  imodintro
  iapply HQ
  isplitl [Hc]; · iexact Hc
  iexists W; iexact HO

/-- The wait for what arrives in step `g`. -/
theorem act_recv {k : Fin 8} {g : ℕ} (hg : g < 30) {l : List Ob} (hl : Above (2 * g + 4) l) {Q : PUnit → sProp (MM F)} :
    iprop(know I K J ∗ cred (tallyAt (cell c (.rcv k (sl (g + 1)))) g N) ∗ ow c l ∗ atPos ER (cell c (.rcv k (sl (g + 1)))) (g / 3) ∅ 0)
      ⊢ iprop(((owns (c : Thread nD τ) (bufS k (sl (g + 1))) fullShare (toSlot (Dv I k g (frm k c))) ∗ ow c l
            ∗ atPos ER (cell c (.rcv k (sl (g + 1)))) (g / 3 + 1) ∅ 0 ∗ reached ER (cell c (.rcv k (sl (g + 1)))) (g / 3 + 1)) -∗ Q ⟨⟩)
          -∗ wpC c (waitRecv g k) Q) := by
  unfold ow
  have hmw := mayWait (F := F) c (.rcv k (sl (g + 1))) g l hg (show Above (lvK (.rcv k (sl (g + 1))) g + 1) l from hl)
  iintro ⟨#Hk, Hc, ⟨%W, HO⟩, Hat⟩ HQ
  ihave #Hi := (know_rcv I K J c k (sl (g + 1))) $$ Hk
  ihave #Hlev := (know_lev I K J) $$ Hk
  iapply (Rounds.wp_wait_rest_token vars ER (ringRd I) (c : Thread nD τ) none (κ := K (cell c (.rcv k (sl (g + 1)))))
      (wpE_waitDma2_eq vars (c : Thread nD τ) none Set.univ) (Set.mem_univ _) g (O := due l) (W := W) (R := g / 3) (m := 0) (T := ∅)
      (show 0 + (slotM k (sl (g + 1))).view.dmaCredit = _ from by
        rw [show (((c : Thread nD τ), SemLoc.dma (semOf (rsem k) (sl (g + 1)))) : GSem nD τ sig) = cell c (.rcv k (sl (g + 1))) from rfl,
          expect_cell, dut_rcv (by omega), N_eq, Finset.card_singleton, one_mul, zero_add]; rfl)) $$ [Hc HO Hat]
  · isplitr; · iexact Hi
    isplitl [Hc]; · rw [N_eq]; iexact Hc
    isplitl [HO]; · iexact HO
    isplitr; · ihave Hmw := hmw $$ Hlev; iexact Hmw
    iexact Hat
  iintro ⟨HO, Hat, #Hr, Hp⟩
  rw [wp_ret]
  imodintro
  iapply HQ
  isplitl [Hp]
  · iapply (show bigSep ((ringRd I).duties (cell c (.rcv k (sl (g + 1)))) (g / 3) \ ∅) (fun d => (ringRd I).payload (cell c (.rcv k (sl (g + 1)))) (g / 3) d)
        ⊢ owns (c : Thread nD τ) (bufS k (sl (g + 1))) fullShare (toSlot (Dv I k g (frm k c))) from by
      rw [duties_cell, dut_rcv (by omega), Finset.sdiff_empty, bigSep_singleton, pay_rcv])
    iexact Hp
  isplitl [HO]; · iexists _; iexact HO
  isplitl [Hat]; · iexact Hat
  iexact Hr

/-- The wait for the send of step `g` to have left. -/
theorem act_left {k : Fin 8} {g : ℕ} (hg : g < 30) {l : List Ob} (hl : Above 2 l) {Q : PUnit → sProp (MM F)} :
    iprop(know I K J ∗ cred (tallyAt (cell c (.snd k (sl g))) g N) ∗ ow c l ∗ atPos ER (cell c (.snd k (sl g))) (g / 3) ∅ 0)
      ⊢ iprop(((owns (c : Thread nD τ) (bufS k (sl g)) fullShare.left (toSlot (Dv I k g c)) ∗ ow c l
            ∗ atPos ER (cell c (.snd k (sl g))) (g / 3 + 1) ∅ 0 ∗ reached ER (cell c (.snd k (sl g))) (g / 3 + 1)) -∗ Q ⟨⟩)
          -∗ wpC c (waitSend g k) Q) := by
  unfold ow
  have hmw := mayWait (F := F) c (.snd k (sl g)) g l hg (show Above (lvK (.snd k (sl g)) g + 1) l from hl)
  iintro ⟨#Hk, Hc, ⟨%W, HO⟩, Hat⟩ HQ
  ihave #Hi := (know_snd I K J c k (sl g)) $$ Hk
  ihave #Hlev := (know_lev I K J) $$ Hk
  iapply (Rounds.wp_wait_rest_token vars ER (ringRd I) (c : Thread nD τ) none (κ := K (cell c (.snd k (sl g))))
      (wpE_waitDma2_eq vars (c : Thread nD τ) none Set.univ) (Set.mem_univ _) g (O := due l) (W := W) (R := g / 3) (m := 0) (T := ∅)
      (show 0 + (slotM k (sl g)).view.dmaCredit = _ from by
        rw [show (((c : Thread nD τ), SemLoc.dma (semOf (ssem k) (sl g))) : GSem nD τ sig) = cell c (.snd k (sl g)) from rfl,
          expect_cell, dut_snd (by omega), N_eq, Finset.card_singleton, one_mul, zero_add]; rfl)) $$ [Hc HO Hat]
  · isplitr; · iexact Hi
    isplitl [Hc]; · rw [N_eq]; iexact Hc
    isplitl [HO]; · iexact HO
    isplitr; · ihave Hmw := hmw $$ Hlev; iexact Hmw
    iexact Hat
  iintro ⟨HO, Hat, #Hr, Hp⟩
  rw [wp_ret]
  imodintro
  iapply HQ
  isplitl [Hp]
  · iapply (show bigSep ((ringRd I).duties (cell c (.snd k (sl g))) (g / 3) \ ∅) (fun d => (ringRd I).payload (cell c (.snd k (sl g))) (g / 3) d)
        ⊢ owns (c : Thread nD τ) (bufS k (sl g)) fullShare.left (toSlot (Dv I k g c)) from by
      rw [duties_cell, dut_snd (by omega), Finset.sdiff_empty, bigSep_singleton, pay_snd])
    iexact Hp
  isplitl [HO]; · iexists _; iexact HO
  isplitl [Hat]; · iexact Hat
  iexact Hr

/-- A credit of step `j` to the neighbour that direction `b` receives from. -/
theorem act_give {b : Bool} {j : ℕ} (hj : j < 28) {l : List Ob} {Q : PUnit → sProp (MM F)} :
    iprop(know I K J ∗ ow c (obC c j b :: l) ∗ dutyTok ER (cell (nb (!b) c) (.cr b)) 0 j ∗ Free c b (j + 3)
        ∗ reached ER (cell (nb (!b) c) (.cr b)) 0)
      ⊢ iprop((ow c l -∗ Q ⟨⟩) -∗ wpC c (semSignalWord (nb (!b) c) (crSem b) 1#32) Q) := by
  unfold ow
  iintro ⟨#Hk, ⟨%W, HO⟩, Ht, Hf, #Hr⟩ HQ
  ihave #Hi := (know_cr I K J (nb (!b) c) b) $$ Hk
  iapply (Rounds.wp_signal vars ER (ringRd I) (c : Thread nD τ) none (dst := (nb (!b) c : Thread nD τ)) (sem := crSem b) (r := 0) (d := j) (k' := 1)
      (κ := K (cell (nb (!b) c) (.cr b)))
      ((duties_cell I (nb (!b) c) (.cr b) 0).trans (dut_cr b) ▸ Finset.mem_range.mpr hj)
      (amount_cell I (nb (!b) c) (.cr b) _ _) j (due l) (show due (obC c j b :: l) = due l + (obC c j b).tally from rfl)) $$ [HO Ht Hf]
  · isplitr; · iexact Hi
    isplitl [HO]; · iexact HO
    isplitl [Ht]; · iexact Ht
    isplitl [Hf]
    · rw [payload_cell I (nb (!b) c) (.cr b), payK, nb_nb']; iexact Hf
    iexact Hr
  iintro HO
  rw [wp_ret]
  imodintro
  iapply HQ
  iexists W; iexact HO

/-- What device `c` holds of direction `b`'s credits when it has taken `n`. -/
def crs (c : Dev nD) (b : Bool) (n : ℕ) : sProp (MM F) :=
  iprop(∃ S : Finset ℕ, ⌜S ⊆ Finset.range 28 ∧ n ≤ S.card⌝ ∗ atPos ER (cell c (.cr b)) 0 S n
    ∗ (bigSep (Finset.Ico n 28) fun j => cred (tallyAt (cell c (.cr b)) j 1))
    ∗ (bigSep S fun j => Free (nb b c) b (j + 3)) ∗ Free (nb b c) b (n + 2))

/-- A set of more than `n` numbers has one that is at least `n`. -/
theorem exists_ge {S : Finset ℕ} {n : ℕ} (h : n < S.card) : ∃ j ∈ S, n ≤ j := by
  by_contra hc
  have : S ⊆ Finset.range n := fun j hj => Finset.mem_range.mpr (by
    by_contra hn; exact hc ⟨j, hj, by omega⟩)
  have := Finset.card_le_card this
  rw [Finset.card_range] at this; omega

/-- Taking the next credit: the neighbour's slots are free for one step more. -/
theorem act_take {b : Bool} {n : ℕ} (hn : n < 28) {l : List Ob} (hl : Above (2 * n + 5) l) {Q : PUnit → sProp (MM F)} :
    iprop(know I K J ∗ crs c b n ∗ ow c l)
      ⊢ iprop(((crs c b (n + 1) ∗ ow c l) -∗ Q ⟨⟩) -∗ wpC c (semWaitWord (crSem b) 1#32) Q) := by
  unfold ow crs
  have hmw := mayWait (F := F) c (.cr b) n l (by omega) (show Above (lvK (.cr b) n + 1) l from hl)
  iintro ⟨#Hk, ⟨%S, %hS, Hat, Hc, #Hf, #Hf2⟩, ⟨%W, HO⟩⟩ HQ
  ihave #Hi := (know_cr I K J c b) $$ Hk
  ihave #Hlev := (know_lev I K J) $$ Hk
  ihave Hc := (Entails.of_eq (bs_Ico (show n < 28 from hn) (fun j => cred (tallyAt (cell c (.cr b)) j 1)))) $$ Hc
  icases Hc with ⟨Hc, Hcs⟩
  iapply (Rounds.wp_wait vars ER (ringRd I) (c : Thread nD τ) none (κ := K (cell c (.cr b))) (k' := 1)
      (wpE_semWait_eq vars (c : Thread nD τ) none Set.univ) (Set.mem_univ _) (cr := Finsupp.single n 1) (O := due l) (W := W) {(.reg (crSem b), n)} (R := 0) (m := n) (T := S)
      (by rw [Util.total_single]) (image_single_subset _ _ _)) $$ [Hc HO Hat]
  · isplitr; · iexact Hi
    isplitl [Hc]; · iexact Hc
    isplitl [HO]; · iexact HO
    isplitr; · ihave Hmw := hmw $$ Hlev; iexact Hmw
    iexact Hat
  iintro %S' ⟨%hS', HO, Hat, Hp⟩
  rw [duties_cell I c (.cr b), expect_cell I c (.cr b), dut_cr b, Finset.card_range] at hS'
  obtain ⟨h1, h2, h3⟩ := hS'
  have h4 : n + 1 ≤ S'.card := by
    have := Finset.card_sdiff_add_card_eq_card h2
    rw [Finset.card_range] at this
    have h5 : amtK (.cr b) = 1 := rfl
    rw [h5] at h3; omega
  rw [wp_ret]
  imodintro
  iapply HQ
  isplitr [HO]
  · ihave #Hp := (show bigSep (S' \ S) (fun d => (ringRd I).payload (cell c (.cr b)) 0 d) ⊢ bigSep (S' \ S) (fun j => Free (F := F) (nb b c) b (j + 3)) from
      Entails.of_eq (bigSep_congr fun d _ => by rw [payload_cell, payK])) $$ Hp
    iexists S'
    ihave #Hall := (show iprop(bigSep (S' \ S) (fun j => Free (F := F) (nb b c) b (j + 3)) ∗ bigSep S (fun j => Free (F := F) (nb b c) b (j + 3)))
        ⊢ bigSep S' (fun j => Free (F := F) (nb b c) b (j + 3)) from by
      have h := bigSep_sep_union (S' \ S) S (Φ := fun j => Free (F := F) (nb b c) b (j + 3))
      rw [Finset.sdiff_union_of_subset h1] at h
      exact h) $$ []
    · isplitr; · iexact Hp
      iexact Hf
    obtain ⟨j, hj, hnj⟩ := exists_ge (show n < S'.card from h4)
    isplitr; · ipureintro; exact ⟨h2, h4⟩
    isplitl [Hat]; · iexact Hat
    isplitl [Hcs]; · iexact Hcs
    isplitr; · iexact Hall
    iapply ((bs_elim (fun j => Free (F := F) (nb b c) b (j + 3)) hj).trans (Free_mono (by omega)))
    iexact Hall
  iexists _; iexact HO

/-- Two owners of one slot are one too many. -/
theorem slotAny_twice (y : Key) : iprop(slotAny (F := F) y ∗ slotAny y) ⊢ (False : sProp (MM F)) := by
  refine BIBase.Entails.trans ?_ (Release.slot_slot_false (ℓ := (bufS y.2.1 y.2.2).view.loc (y.1 : Thread nD τ)) (I := (bufS y.2.1 y.2.2).view.set) ?_)
  · unfold slotAny owns Release.slot
    iintro ⟨⟨%X, %f, -, H⟩, ⟨%X', %f', -, H'⟩⟩
    isplitl [H]
    · iexists f; iexact H
    · iexists f'; iexact H'
  · have : (0 : ℕ) < S1x256x256.numel := by decide
    obtain ⟨i⟩ : Nonempty S1x256x256.Idx := ⟨Shape.Idx.first this⟩
    exact ⟨_, Finset.mem_map_of_mem _ (Finset.mem_univ i)⟩

/-- The owner of a slot gives it up for the next write. -/
theorem act_free {k : Fin 8} {s : Fin 3} {n : ℕ} {X : FVec F S1x256x256 .bf16} :
    iprop(know I K J ∗ readerAt ES ((c, k, s) : Key) n ∗ owns (c : Thread nD τ) (bufS k s) fullShare X)
      ⊢ (|={Set.univ}=> (readerAt ES ((c, k, s) : Key) (n + 1) ∗ released ES ((c, k, s) : Key) (n + 1)) : sProp (MM F)) := by
  iintro ⟨#Hk, Hr, Hs⟩
  ihave #Hi := (know_slot I K J (c, k, s)) $$ Hk
  iapply (Release.slot_release ES (Set.mem_univ _) (slotAny_twice (c, k, s)) n)
  isplitr; · iexact Hi
  isplitl [Hr]; · iexact Hr
  unfold slotAny; iexists X; iexact Hs

end Cert.Ring

end
-- ==== Proof.Mem.lean ====
/- The memory side of the body: slots read and written, chunks of products computed and kept, blocks of the result written. -/
module

public import proofs.«01_k».proof.Proof.Act

@[expose] public section

noncomputable section

namespace Cert.Ring

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Cert.KernelIdeal Cert.KernelIdeal.Gen

variable {F : FTy → Type} [FloatOps F]
variable (I : Ins F) (c : Dev nD)

theorem wpC_bind {α β : Type} (p : Pg F α) (f : α → Pg F β) (Q : β → sProp (MM F)) :
    wpC c (p >>= f) Q = wpC c p (fun a => wpC c (f a) Q) := by
  unfold wpC
  rw [wp_bind]

theorem wpC_ret {α : Type} {a : α} {Q : α → sProp (MM F)} : (Q a : sProp (MM F)) ⊢ wpC c (.ret a) Q := by
  unfold wpC
  rw [wp_ret]
  iintro H
  imodintro
  iexact H

/-! ## Slots -/

/-- Reading a slot. -/
theorem load_slot {k : Fin 8} {s : Fin 3} {q : PosShare TreeShare} {X : FVec F S1x256x256 .bf16} {Q : FVec F S1x256x256 .bf16 → sProp (MM F)} :
    (owns (c : Thread nD τ) (bufS k s) q X : sProp (MM F))
      ⊢ iprop((owns (c : Thread nD τ) (bufS k s) q X -∗ Q X) -∗ wpC c (loadSlot k s) Q) := by
  iintro H HQ
  ihave H := (show owns (c : Thread nD τ) (bufS k s) q X ⊢ (iprop(∃ g, ⌜(bufS k s).view.read (Elt F) g = X⌝ ∗ (bufS k s).view.loc (c : Thread nD τ) ↦[(bufS k s).view.set]{q} g) : sProp (MM F)) from .rfl) $$ H
  icases H with ⟨%g, %hg, H⟩
  iapply (wp_load_rect vars (c : Thread nD τ) none Set.univ (m := bufM k) (r := slotRect s) (hl := View.loadsAt_vmem h_S1x256x256) (k := .ret)
    (S := (bufS k s).view.set) (q := q) (f := g) (show ((bufM k).access (slotRect s)).set ⊆ (bufS k s).view.set from subset_rfl)) $$ H
  iintro H
  iapply (wpC_ret c)
  rw [show ((bufM k).access (slotRect s)).read (Elt F) g = X from hg]
  iapply HQ
  rw [← hg]
  iapply (owns_intro (c : Thread nD τ) (bufS k s) q g)
  iexact H

/-- Writing a slot. -/
theorem store_slot {k : Fin 8} {s : Fin 3} {X w : FVec F S1x256x256 .bf16} {Q : PUnit → sProp (MM F)} :
    (owns (c : Thread nD τ) (bufS k s) fullShare X : sProp (MM F))
      ⊢ iprop((owns (c : Thread nD τ) (bufS k s) fullShare w -∗ Q ⟨⟩) -∗ wpC c (storeSlot k s w) Q) := by
  iintro H HQ
  ihave H := (show owns (c : Thread nD τ) (bufS k s) fullShare X ⊢ (iprop(∃ g, ⌜(bufS k s).view.read (Elt F) g = X⌝ ∗ (bufS k s).view.loc (c : Thread nD τ) ↦[(bufS k s).view.set]{fullShare} g) : sProp (MM F)) from .rfl) $$ H
  icases H with ⟨%g, %hg, H⟩
  iapply (wp_store vars (c : Thread nD τ) none Set.univ (m := bufM k) (r := slotRect s) (w := w) (k := .ret)
    (S := (bufS k s).view.set) (f := g) (show ((bufM k).access (slotRect s)).setOn Finset.univ ⊆ (bufS k s).view.set from by rw [View.setOn_univ])) $$ H
  iintro H
  iapply (wpC_ret c)
  iapply HQ
  have hw : (bufS k s).view.read (Elt F) (((bufM k).access (slotRect s)).write (Elt F) g w Finset.univ) = w := View.read_write_univ (v := (bufS k s).view) g w
  rw [← hw]
  iapply (owns_intro (c : Thread nD τ) (bufS k s) fullShare _)
  rw [hw]
  iexact H

/-! ## Blocks of an array -/

theorem unit_congr {s : Shape} {o o' : Fin s.rank → Nat} {n : Fin s.rank → Nat} {h : ∀ a, o a + n a ≤ s.size a} {h' : ∀ a, o' a + n a ≤ s.size a} (e : o = o') :
    Rect.unit (s := s) o n h = Rect.unit (s := s) o' n h' := by subst e; rfl

theorem overlay_congr {s : Shape} {o o' : Fin s.rank → Nat} {n : Fin s.rank → Nat} {h : ∀ a, o a + n a ≤ s.size a} {h' : ∀ a, o' a + n a ≤ s.size a} (e : o = o')
    {V : Type} (Z : s.Idx → V) (v : (⟨s.rank, n⟩ : Shape).Idx → V) :
    (Rect.unit (s := s) o n h).overlay Z v = (Rect.unit (s := s) o' n h').overlay Z v := by subst e; rfl

theorem emb_congr {s : Shape} {o o' : Fin s.rank → Nat} {n : Fin s.rank → Nat} {h : ∀ a, o a + n a ≤ s.size a} {h' : ∀ a, o' a + n a ≤ s.size a} (e : o = o')
    {V : Type} (Z : s.Idx → V) :
    (fun j : (⟨s.rank, n⟩ : Shape).Idx => Z ((Rect.unit (s := s) o n h).emb j)) = fun j => Z ((Rect.unit (s := s) o' n h').emb j) := by subst e; rfl

/-- A load on its own. -/
theorem load_one {cs : CoreSpace} {s : Shape} {e : EltTy} {m : Memref sig .tc cs s e} {r : Rect s} {hl : m.view.LoadsAt r.toLoadRect}
    {q : PosShare TreeShare} {X : s.Idx → Elt F e} {Q : (r.shape.Idx → Elt F e) → sProp (MM F)} :
    (owns (c : Thread nD τ) m q X : sProp (MM F)) ⊢ iprop((owns (c : Thread nD τ) m q X -∗ Q (fun j => X (r.emb j))) -∗ wpC c (.lift (.load m r.toLoadRect hl)) Q) := by
  iintro H HQ
  iapply (load_owns c (m := m) (r := r) (hl := hl) (k := .ret)) $$ H
  iintro H
  iapply (wpC_ret c)
  iapply HQ
  iexact H

theorem rectP_eq (k : Fin 8) (t : Fin 16) : rectP (wd c).v0 (wd c).h0 k t = blkRect (chunkAt (fwd k) c t) k := unit_congr (offP_eq k c t)

/-- Where an index of a block of whole rows lies. -/
theorem prod_emb0 (a : Fin 16) (j : S256x2048.Idx) : ((prodRect a).emb j 0 : ℕ) = 256 * a.val + (j 0 : ℕ) := by
  rw [Rect.emb_apply]; change 256 * a.val + 1 * _ = _; rw [one_mul]
theorem prod_emb1 (a : Fin 16) (j : S256x2048.Idx) : ((prodRect a).emb j 1 : ℕ) = (j 1 : ℕ) := by
  rw [Rect.emb_apply]; change 0 + 1 * _ = _; rw [one_mul, zero_add]
theorem blk_emb0 (a : Fin 16) (k : Fin 8) (j : S256x256.Idx) : ((blkRect a k).emb j 0 : ℕ) = 256 * a.val + (j 0 : ℕ) := by
  rw [Rect.emb_apply]; change 256 * a.val + 1 * _ = _; rw [one_mul]
theorem blk_emb1 (a : Fin 16) (k : Fin 8) (j : S256x256.Idx) : ((blkRect a k).emb j 1 : ℕ) = 256 * k.val + (j 1 : ℕ) := by
  rw [Rect.emb_apply]; change 256 * k.val + 1 * _ = _; rw [one_mul]

/-- An index of two axes is its two coordinates. -/
theorem idx2_ext {m n : ℕ} {i j : (⟨2, ![m, n]⟩ : Shape).Idx} (h0 : (i 0 : ℕ) = (j 0 : ℕ)) (h1 : (i 1 : ℕ) = (j 1 : ℕ)) : i = j := by
  funext a
  match a with
  | 0 => exact Fin.ext h0
  | 1 => exact Fin.ext h1

/-- Lane `k`'s column of a chunk. -/
def colIdx (k : Fin 8) (j : S256x256.Idx) : S256x2048.Idx := fun a => match a with
  | 0 => ⟨(j 0 : ℕ), (j 0).isLt⟩
  | 1 => ⟨256 * k.val + (j 1 : ℕ), by
    have h1 : (j 1 : ℕ) < 256 := (j 1).isLt
    have h2 := k.isLt
    change _ < 2048
    omega⟩

theorem cut_apply (x : FVec F S256x2048 .bf16) (j : S256x256.Idx) : ∀ k, cut x k j = x (colIdx k j) := by
  have e : ∀ (o : Fin 2 → Nat) (h : Shape.Slices S256x2048 o S256x256) (k : Fin 8), o = ![0, 256 * k.val] →
      extractStridedSlice S256x256 o x h j = x (colIdx k j) := by
    rintro o h k rfl
    refine extractStridedSlice_apply _ x h j _ fun a => ?_
    match a with
    | 0 => exact (zero_add _).symm
    | 1 => rfl
  intro k
  match k with
  | 0 => exact e ![0, 0] slices_S256x2048_o0_0_S256x256 0 (by decide)
  | 1 => exact e ![0, 256] slices_S256x2048_o0_256_S256x256 1 (by decide)
  | 2 => exact e ![0, 512] slices_S256x2048_o0_512_S256x256 2 (by decide)
  | 3 => exact e ![0, 768] slices_S256x2048_o0_768_S256x256 3 (by decide)
  | 4 => exact e ![0, 1024] slices_S256x2048_o0_1024_S256x256 4 (by decide)
  | 5 => exact e ![0, 1280] slices_S256x2048_o0_1280_S256x256 5 (by decide)
  | 6 => exact e ![0, 1536] slices_S256x2048_o0_1536_S256x256 6 (by decide)
  | 7 => exact e ![0, 1792] slices_S256x2048_o0_1792_S256x256 7 (by decide)

/-- A block is its lane's columns of its chunk. -/
theorem blk_emb_eq (a : Fin 16) (k : Fin 8) (j : S256x256.Idx) : (blkRect a k).emb j = (prodRect a).emb (colIdx k j) :=
  idx2_ext (by rw [blk_emb0, prod_emb0]; rfl) (by rw [blk_emb1, prod_emb1]; rfl)

theorem prod_not_mem {a b : Fin 16} (h : a ≠ b) (j : S256x2048.Idx) : (prodRect a).emb j ∉ (prodRect b).set := by
  intro hm
  obtain ⟨i, hi⟩ := (prodRect b).exists_idx_of_mem hm
  have h0 := congrArg (fun x => (x 0 : ℕ)) hi
  simp only [] at h0
  rw [show (((prodRect b).idx i) 0 : ℕ) = ((prodRect b).emb i 0 : ℕ) from rfl, prod_emb0, prod_emb0] at h0
  have h1 : (i 0 : ℕ) < 256 := (i 0).isLt
  have h2 : (j 0 : ℕ) < 256 := (j 0).isLt
  exact h (Fin.ext (by omega))

theorem blk_not_mem {a b : Fin 16} {k k' : Fin 8} (h : ¬(a = b ∧ k = k')) (j : S256x256.Idx) : (blkRect a k).emb j ∉ (blkRect b k').set := by
  intro hm
  obtain ⟨i, hi⟩ := (blkRect b k').exists_idx_of_mem hm
  have h0 := congrArg (fun x => (x 0 : ℕ)) hi
  have h0' := congrArg (fun x => (x 1 : ℕ)) hi
  simp only [] at h0 h0'
  rw [show (((blkRect b k').idx i) 0 : ℕ) = ((blkRect b k').emb i 0 : ℕ) from rfl, blk_emb0, blk_emb0] at h0
  rw [show (((blkRect b k').idx i) 1 : ℕ) = ((blkRect b k').emb i 1 : ℕ) from rfl, blk_emb1, blk_emb1] at h0'
  have h1 : (i 0 : ℕ) < 256 := (i 0).isLt
  have h2 : (j 0 : ℕ) < 256 := (j 0).isLt
  have h3 : (i 1 : ℕ) < 256 := (i 1).isLt
  have h4 : (j 1 : ℕ) < 256 := (j 1).isLt
  exact h ⟨Fin.ext (by omega), Fin.ext (by omega)⟩

/-! ## The products kept -/

/-- Whether the chunk `t` places behind has been computed after `n` steps. -/
def Done (n : ℕ) (t : Fin 16) : Prop := (1 ≤ t.val ∧ t.val ≤ min n 8) ∨ 16 ≤ t.val + min n 7

/-- The array of products holds what has been computed after `n` steps. -/
def POk (n : ℕ) (Y : S4096x2048.Idx → Elt F .bf16) : Prop :=
  ∀ t, Done n t → ∀ j, Y ((prodRect (place c - t)).emb j) = prod I c (place c - t) j

theorem POk_zero (Y : S4096x2048.Idx → Elt F .bf16) : POk I c 0 Y := fun t h => by
  unfold Done at h; have := t.isLt; omega

/-- What lane `k` adds in step `g` has been computed. -/
theorem POk_read {g : ℕ} (hg : g < 15) {Y : S4096x2048.Idx → Elt F .bf16} (h : POk I c (g + 1) Y) (k : Fin 8) :
    (fun j => Y ((blkRect (chunkAt (fwd k) c (ch (g + 1))) k).emb j)) = cut (prod I c (chunkAt (fwd k) c (ch (g + 1)))) k := by
  funext j
  rw [blk_emb_eq, cut_apply]
  obtain ⟨t, ht, e⟩ : ∃ t, Done (g + 1) t ∧ place c - t = chunkAt (fwd k) c (ch (g + 1)) := by
    cases hb : fwd k
    · refine ⟨ch (15 - g), ?_, ?_⟩
      · unfold Done ch; dsimp only; omega
      · have : ∀ (p : Fin 16) (g : Fin 15), p - ch (15 - g.val) = p + ch (g.val + 1) := by decide +kernel
        exact this (place c) ⟨g, hg⟩
    · refine ⟨ch (g + 1), ?_, rfl⟩
      unfold Done ch; dsimp only; omega
  rw [← e]
  exact h t ht _

/-- The second factor as it is kept. -/
def WOk (Wv : S256x2048.Idx → Elt F .bf16) : Prop := (fun j => Wv (rectW.emb j)) = w16 (I.w c)

variable {cs : CoreSpace}

/-- What the products need and change. -/
def pst (ax : Memref sig .tc .vmem S4096x256 .fp8e5m2) (Y : S4096x2048.Idx → Elt F .bf16) : sProp (MM F) :=
  iprop(owns (c : Thread nD τ) ax fullShare (I.x c) ∗ (∃ Wv, ⌜WOk I c Wv⌝ ∗ owns (c : Thread nD τ) wM fullShare Wv)
    ∗ owns (c : Thread nD τ) pM fullShare Y)

/-- One chunk of products. -/
theorem gemmTo_wp {ax : Memref sig .tc .vmem S4096x256 .fp8e5m2} {Y : S4096x2048.Idx → Elt F .bf16} {o o' : Fin 2 → Nat}
    {h : ∀ a, o a + S256x256.size a ≤ S4096x256.size a} {h' : ∀ a, o' a + S256x2048.size a ≤ S4096x2048.size a}
    {hp : (Rect.unit (s := S4096x2048) o' S256x2048.size h').PackedRows (EltTy.packing .bf16)} (a : Fin 16)
    (ho : o = ![256 * a.val, 0]) (ho' : o' = ![256 * a.val, 0]) {Q : PUnit → sProp (MM F)} :
    pst I c ax Y ⊢ iprop((pst I c ax ((prodRect a).overlay Y (prod I c a)) -∗ Q ⟨⟩) -∗ wpC c (gemmTo ax o o' h h' hp) Q) := by
  subst ho ho'
  unfold pst
  iintro ⟨Hx, ⟨%Wv, %hW, Hw⟩, HY⟩ HQ
  iapply (load_owns c (m := ax) (r := rowRect a) (hl := View.loadsAt_vmem h_S256x256)) $$ Hx
  iintro Hx
  iapply (load_owns c (m := wM) (r := rectW) (hl := View.loadsAt_vmem h_S256x2048)) $$ Hw
  iintro Hw
  iapply (load_owns c (m := pM) (r := prodRect a) (hl := View.loadsAt_vmem h_S256x2048)) $$ HY
  iintro HY
  iapply (store_owns c (m := pM) (r := prodRect a)) $$ HY
  iintro HY
  iapply (wpC_ret c)
  iapply HQ
  isplitl [Hx]; · iexact Hx
  isplitl [Hw]
  · iexists Wv; isplitr; · ipureintro; exact hW
    iexact Hw
  rw [hW, shapeCast_self]
  iexact HY

theorem POk_step {Y : S4096x2048.Idx → Elt F .bf16} {D D' : Fin 16 → Prop} (t₀ : Fin 16)
    (h : ∀ t, D t → ∀ j, Y ((prodRect (place c - t)).emb j) = prod I c (place c - t) j) (hD : ∀ t, D' t → D t ∨ t = t₀)
    (t : Fin 16) (ht : D' t) (j : S256x2048.Idx) :
    (prodRect (place c - t₀)).overlay Y (prod I c (place c - t₀)) ((prodRect (place c - t)).emb j) = prod I c (place c - t) j := by
  by_cases e : place c - t = place c - t₀
  · rw [e, Rect.overlay_emb]
  · rw [Rect.overlay_of_not_mem _ _ _ (prod_not_mem e j)]
    rcases hD t ht with h1 | rfl
    · exact h t h1 j
    · exact absurd rfl e

/-- The products of a step. -/
theorem gemms_wp {ax : Memref sig .tc .vmem S4096x256 .fp8e5m2} {g : ℕ} {Y : S4096x2048.Idx → Elt F .bf16} (hY : POk I c g Y) {Q : PUnit → sProp (MM F)} :
    pst I c ax Y ⊢ iprop(((∃ Y', ⌜POk I c (g + 1) Y'⌝ ∗ pst I c ax Y') -∗ Q ⟨⟩) -∗ wpC c (gemms ax (wd c) g) Q) := by
  unfold gemms
  rw [wpC_bind]
  iintro H HQ
  by_cases h8 : g < 8
  · rw [show Nat.blt g 8 = true from by rw [Nat.blt_eq]; exact h8]
    dsimp only [cond_true]
    have e : ch (g % 8 + 1) = ch (g + 1) := Fin.ext (by dsimp only [ch]; omega)
    iapply (gemmTo_wp I c (ax := ax) (Y := Y) (place c - ch (g + 1)) ((off2_eq c ⟨g % 8, Nat.mod_lt _ (by decide)⟩).trans (by rw [e]))
      ((off3_eq c ⟨g % 8, Nat.mod_lt _ (by decide)⟩).trans (by rw [e]))) $$ H
    iintro H
    have hY1 := POk_step I c (D' := fun t => Done g t ∨ t = ch (g + 1)) (ch (g + 1)) hY (fun t h => h)
    by_cases h7 : g < 7
    · rw [show Nat.blt g 7 = true from by rw [Nat.blt_eq]; exact h7]
      dsimp only [cond_true]
      have e : ch (g % 7 + 1) = ch (g + 1) := Fin.ext (by dsimp only [ch]; omega)
      have e2 : ∀ (p : Fin 16) (g : Fin 7), p + ch (g.val + 1) = p - ch (15 - g.val) := by decide +kernel
      have e3 := e2 (place c) ⟨g, h7⟩
      iapply (gemmTo_wp I c (ax := ax) (place c - ch (15 - g)) ((off4_eq c ⟨g % 7, Nat.mod_lt _ (by decide)⟩).trans (by rw [e, e3]))
        ((off5_eq c ⟨g % 7, Nat.mod_lt _ (by decide)⟩).trans (by rw [e, e3]))) $$ H
      iintro H
      iapply HQ
      iexists _
      isplitr [H]
      rotate_left
      · iexact H
      · ipureintro
        refine POk_step I c (ch (15 - g)) hY1 fun t ht => ?_
        unfold Done at ht ⊢
        by_cases h1 : t = ch (15 - g)
        · exact .inr h1
        · refine .inl ?_
          by_cases h2 : t = ch (g + 1)
          · exact .inr h2
          · refine .inl ?_
            have h1' : t.val ≠ (15 - g) % 16 := fun h => h1 (Fin.ext h)
            have h2' : t.val ≠ (g + 1) % 16 := fun h => h2 (Fin.ext h)
            have := t.isLt
            omega
    · rw [show Nat.blt g 7 = false from by rw [← Bool.not_eq_true, Nat.blt_eq]; exact h7]
      dsimp only [cond_false]
      iapply (wpC_ret c)
      iapply HQ
      iexists _
      isplitr [H]
      rotate_left
      · iexact H
      · ipureintro
        intro t ht
        refine hY1 t ?_
        unfold Done at ht ⊢
        by_cases h2 : t = ch (g + 1)
        · exact .inr h2
        · refine .inl ?_
          have h2' : t.val ≠ (g + 1) % 16 := fun h => h2 (Fin.ext h)
          have := t.isLt
          omega
  · rw [show Nat.blt g 8 = false from by rw [← Bool.not_eq_true, Nat.blt_eq]; exact h8,
      show Nat.blt g 7 = false from by rw [← Bool.not_eq_true, Nat.blt_eq]; omega]
    dsimp only [cond_false]
    iapply (wpC_ret c)
    iapply (wpC_ret c)
    iapply HQ
    iexists Y
    isplitr
    · ipureintro
      intro t ht
      refine hY t ?_
      unfold Done at ht ⊢
      omega
    · iexact H

/-! ## The result -/

/-- The block of the result that lane `k` delivers at the chunk `t` places behind. -/
def outB (t : Fin 16) (k : Fin 8) : FVec F S256x256 .f32 := outV (scale I c) (Dv I k (if t.val = 15 then 15 else 16 + t.val) c)

/-- The blocks told of have been delivered. -/
def ZOk (D : Fin 16 → Fin 8 → Prop) (Z : S4096x2048.Idx → Elt F .f32) : Prop :=
  ∀ t k, D t k → ∀ j, Z ((blkRect (chunkAt (fwd k) c t) k).emb j) = outB I c t k j

theorem chunkAt_inj {b : Bool} {c : Dev nD} {t t' : Fin 16} (h : chunkAt b c t = chunkAt b c t') : t = t' := by
  revert h
  unfold chunkAt
  generalize place c = p
  revert b p t t'
  decide +kernel

/-- One block is delivered. -/
theorem outTo_wp {ao : Memref sig .tc .vmem S4096x2048 .f32} {D D' : Fin 16 → Fin 8 → Prop} {Z : S4096x2048.Idx → Elt F .f32} (hZ : ZOk I c D Z)
    {t : Fin 16} {k : Fin 8} {v : FVec F S256x256 .bf16} (hv : outV (scale I c) v = outB I c t k) (hD : ∀ t' k', D' t' k' → D t' k' ∨ (t' = t ∧ k' = k)) {Q : PUnit → sProp (MM F)} :
    (owns (c : Thread nD τ) ao fullShare Z : sProp (MM F))
      ⊢ iprop(((∃ Z', ⌜ZOk I c D' Z'⌝ ∗ owns (c : Thread nD τ) ao fullShare Z') -∗ Q ⟨⟩)
        -∗ wpC c (outTo ao (wd c) (scale I c) t k v) Q) := by
  iintro H HQ
  iapply (load_owns c (m := ao) (r := rectP (wd c).v0 (wd c).h0 k t) (hl := View.loadsAt_vmem h_S256x256)) $$ H
  iintro H
  iapply (store_owns c (m := ao) (r := rectP (wd c).v0 (wd c).h0 k t)) $$ H
  iintro H
  iapply (wpC_ret c)
  iapply HQ
  iexists _
  isplitr [H]
  rotate_left
  · iexact H
  · ipureintro
    rw [hv, show (rectP (wd c).v0 (wd c).h0 k t).overlay Z (outB I c t k) = (blkRect (chunkAt (fwd k) c t) k).overlay Z (outB I c t k) from
      overlay_congr (s := S4096x2048) (offP_eq k c t) Z (outB I c t k)]
    intro t' k' hp j
    by_cases e : chunkAt (fwd k') c t' = chunkAt (fwd k) c t ∧ k' = k
    · obtain ⟨e1, rfl⟩ := e
      obtain rfl := chunkAt_inj e1
      rw [Rect.overlay_emb]
    · rw [Rect.overlay_of_not_mem _ _ _ (blk_not_mem e j)]
      rcases hD t' k' hp with h | ⟨rfl, rfl⟩
      · exact hZ t' k' h j
      · exact absurd ⟨rfl, rfl⟩ e

end Cert.Ring

end
-- ==== Proof.Lane.lean ====
/- One lane of a step: what a lane holds, and what each part of a step does to it. -/
module

public import proofs.«01_k».proof.Proof.Mem

@[expose] public section

noncomputable section

namespace Cert.Ring

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds (dutyTok atPos reached openTok cellInv)
open Idealize.ShloMosaic.Release (released readerAt writeTok slotInv)
open Cert.KernelIdeal Cert.KernelIdeal.Gen

variable {F : FTy → Type} [FloatOps F]
variable (I : Ins F) (K : GSem nD τ sig → ℕ) (J : Key → ℕ) (c : Dev nD)

/-! ## Loops over the lanes -/

/-- A proposition for each lane of a list. -/
def sepL (P : Fin 8 → sProp (MM F)) : List (Fin 8) → sProp (MM F)
  | [] => iprop(emp)
  | k :: l => iprop(P k ∗ sepL P l)

theorem sepL_bigSep (P : Fin 8 → sProp (MM F)) : ∀ l : List (Fin 8), l.Nodup → sepL P l = bigSep l.toFinset P
  | [], _ => (bs_empty P).symm
  | k :: l, h => by
    rw [List.toFinset_cons, bs_insert P (fun hm => (List.nodup_cons.mp h).1 (List.mem_toFinset.mp hm)), ← sepL_bigSep P l (List.nodup_cons.mp h).2]
    rfl

theorem sepL_lanes (P : Fin 8 → sProp (MM F)) : sepL P lanes = bigSep Finset.univ P := by
  rw [sepL_bigSep P lanes (by decide)]
  congr 1

theorem sepL_mono {P Q : Fin 8 → sProp (MM F)} (h : ∀ k, P k ⊢ Q k) : ∀ l, sepL P l ⊢ sepL Q l
  | [] => .rfl
  | k :: l => by
    unfold sepL
    iintro ⟨H1, H2⟩
    isplitl [H1]; · iapply (h k); iexact H1
    iapply (sepL_mono h l); iexact H2

theorem sepL_fupd {P Q S : Fin 8 → sProp (MM F)} {R : sProp (MM F)} [BI.Persistent R] (h : ∀ k, iprop(R ∗ P k) ⊢ (|={Set.univ}=> (Q k ∗ S k) : sProp (MM F))) :
    ∀ l, iprop(R ∗ sepL P l) ⊢ (|={Set.univ}=> (sepL Q l ∗ sepL S l) : sProp (MM F))
  | [] => by
    iintro ⟨-, H⟩
    imodintro
    unfold sepL
    isplitl <;> iempintro
  | k :: l => by
    unfold sepL
    iintro ⟨#HR, H1, H2⟩
    imod (h k) $$ [H1] with H1
    · isplitr; · iexact HR
      iexact H1
    icases H1 with ⟨Hq, Hs⟩
    imod (sepL_fupd h l) $$ [H2] with H2
    · isplitr; · iexact HR
      iexact H2
    icases H2 with ⟨Hqs, Hss⟩
    imodintro
    isplitl [Hq Hqs]
    · isplitl [Hq]; · iexact Hq
      iexact Hqs
    · isplitl [Hs]; · iexact Hs
      iexact Hss

/-- A loop over the lanes. -/
theorem forL_loop {f : Fin 8 → Pg F PUnit} {R : sProp (MM F)} [BI.Persistent R] {P Q : Fin 8 → sProp (MM F)} {A : List (Fin 8) → sProp (MM F)}
    (h : ∀ k l, (k :: l) <:+ lanes → ∀ Φ : PUnit → sProp (MM F), iprop(R ∗ P k ∗ A (k :: l)) ⊢ iprop(((Q k ∗ A l) -∗ Φ ⟨⟩) -∗ wpC c (f k) Φ)) :
    ∀ l, l <:+ lanes → ∀ Φ : PUnit → sProp (MM F), iprop(R ∗ sepL P l ∗ A l) ⊢ iprop(((sepL Q l ∗ A []) -∗ Φ ⟨⟩) -∗ wpC c (forL f l) Φ)
  | [], _, Φ => by
    unfold forL
    iintro ⟨-, HP, HA⟩ HΦ
    iapply (wpC_ret c)
    iapply HΦ
    isplitl [HP]; · iapply (show sepL P [] ⊢ sepL Q [] from .rfl); iexact HP
    iexact HA
  | k :: l, hl, Φ => by
    unfold forL
    rw [wpC_bind]
    unfold sepL
    iintro ⟨#HR, ⟨HP, HPs⟩, HA⟩ HΦ
    iapply (h k l hl (fun _ => wpC c (forL f l) Φ)) $$ [HP HA]
    · isplitr; · iexact HR
      isplitl [HP]; · iexact HP
      iexact HA
    iintro ⟨HQ, HA⟩
    iapply (forL_loop h l ((List.suffix_cons k l).trans hl) Φ) $$ [HPs HA]
    · isplitr; · iexact HR
      isplitl [HPs]; · iexact HPs
      iexact HA
    iintro ⟨HQs, HA⟩
    iapply HΦ
    isplitl [HQ HQs]
    · isplitl [HQ]; · iexact HQ
      iexact HQs
    iexact HA

/-- A loop over the lanes whose results are handed on. -/
theorem mapL_loop {α : Type} {f : Fin 8 → Pg F α} {v : Fin 8 → α} {R : sProp (MM F)} [BI.Persistent R] {P Q : Fin 8 → sProp (MM F)} {A : List (Fin 8) → sProp (MM F)}
    (h : ∀ k l, (k :: l) <:+ lanes → ∀ Φ : α → sProp (MM F), iprop(R ∗ P k ∗ A (k :: l)) ⊢ iprop(((Q k ∗ A l) -∗ Φ (v k)) -∗ wpC c (f k) Φ)) :
    ∀ l, l <:+ lanes → ∀ Φ : List α → sProp (MM F), iprop(R ∗ sepL P l ∗ A l) ⊢ iprop(((sepL Q l ∗ A []) -∗ Φ (l.map v)) -∗ wpC c (mapL f l) Φ)
  | [], _, Φ => by
    unfold mapL
    iintro ⟨-, HP, HA⟩ HΦ
    iapply (wpC_ret c)
    rw [List.map_nil]
    iapply HΦ
    isplitl [HP]; · iapply (show sepL P [] ⊢ sepL Q [] from .rfl); iexact HP
    iexact HA
  | k :: l, hl, Φ => by
    unfold mapL
    rw [wpC_bind]
    unfold sepL
    iintro ⟨#HR, ⟨HP, HPs⟩, HA⟩ HΦ
    iapply (h k l hl (fun a => wpC c (mapL f l >>= fun b => .ret (a :: b)) Φ)) $$ [HP HA]
    · isplitr; · iexact HR
      isplitl [HP]; · iexact HP
      iexact HA
    iintro ⟨HQ, HA⟩
    rw [wpC_bind]
    iapply (mapL_loop h l ((List.suffix_cons k l).trans hl) (fun b => wpC c (.ret (v k :: b)) Φ)) $$ [HPs HA]
    · isplitr; · iexact HR
      isplitl [HPs]; · iexact HPs
      iexact HA
    iintro ⟨HQs, HA⟩
    iapply (wpC_ret c)
    rw [List.map_cons]
    iapply HΦ
    isplitl [HQ HQs]
    · isplitl [HQ]; · iexact HQ
      iexact HQs
    iexact HA

theorem suffix_cases {k : Fin 8} {l : List (Fin 8)} (h : (k :: l) <:+ lanes) :
    (k = 0 ∧ l = [1, 2, 3, 4, 5, 6, 7]) ∨ (k = 1 ∧ l = [2, 3, 4, 5, 6, 7]) ∨ (2 ≤ k.val ∧ (0 : Fin 8) ∉ k :: l ∧ (1 : Fin 8) ∉ k :: l) := by
  simp only [lanes, List.suffix_cons_iff, List.cons.injEq, List.suffix_nil, reduceCtorEq, or_false] at h
  rcases h with ⟨rfl, rfl⟩ | ⟨rfl, rfl⟩ | ⟨rfl, rfl⟩ | ⟨rfl, rfl⟩ | ⟨rfl, rfl⟩ | ⟨rfl, rfl⟩ | ⟨rfl, rfl⟩ | ⟨rfl, rfl⟩ <;> decide

theorem suffix_not_mem {k : Fin 8} {l : List (Fin 8)} (h : (k :: l) <:+ lanes) : k ∉ l := by
  have h2 : (k :: l).Nodup := h.sublist.nodup (by decide)
  exact (List.nodup_cons.mp h2).1

/-! ## What a lane holds -/

/-- Lane `k`'s place at the cell its send of step `n` leaves through. -/
def Sp (k : Fin 8) (n : ℕ) : sProp (MM F) :=
  iprop(atPos ER (cell c (.snd k (sl n))) (n / 3) ∅ 0 ∗ reached ER (cell c (.snd k (sl n))) (n / 3))
/-- Lane `k`'s place at the cell step `n` arrives through. -/
def Rp (k : Fin 8) (n : ℕ) : sProp (MM F) :=
  iprop(atPos ER (cell c (.rcv k (sl (n + 1)))) (n / 3) ∅ 0 ∗ reached ER (cell c (.rcv k (sl (n + 1)))) (n / 3))
/-- Lane `k`'s right to give slot `n` up. -/
def Cp (k : Fin 8) (n : ℕ) : sProp (MM F) := readerAt ES ((c, k, sl n) : Key) ((n + 2) / 3)

def SS (k : Fin 8) (n : ℕ) : sProp (MM F) := iprop(Sp c k n ∗ Sp c k (n + 1) ∗ Sp c k (n + 2))
def RR (k : Fin 8) (n : ℕ) : sProp (MM F) :=
  iprop((Rp c k n ∗ Rp c k (n + 1) ∗ Rp c k (n + 2)) ∗ bigSep (Finset.Ico n 30) fun j => cred (tallyAt (cell c (.rcv k (sl (j + 1)))) j N))
def CC (k : Fin 8) (n : ℕ) : sProp (MM F) := iprop(Cp c k n ∗ Cp c k (n + 1) ∗ Cp c k (n + 2))
def TT (k : Fin 8) (n : ℕ) : sProp (MM F) := bigSep (Finset.Ico n 30) fun j => toks c k j

/-- Slot `n` of lane `k` at what is delivered there in step `n`. -/
def Hs (q : PosShare TreeShare) (k : Fin 8) (n : ℕ) : sProp (MM F) := owns (c : Thread nD τ) (bufS k (sl n)) q (toSlot (Dv I k n c))
/-- What stays of slot `n` while it is being sent. -/
def sent (k : Fin 8) (n : ℕ) : sProp (MM F) := iprop(Hs I c fullShare.right k n ∗ cred (tallyAt (cell c (.snd k (sl n))) n N))
/-- Slot `g + 1` once lane `k` has done its part of step `g`. -/
def nxt (k : Fin 8) (g : ℕ) : sProp (MM F) := if g < 29 then sent I c k (g + 1) else Hs I c fullShare k (g + 1)

/-- Lane `k` before its part of step `g`. -/
def L0 (g : ℕ) (k : Fin 8) : sProp (MM F) := iprop(SS c k g ∗ RR c k g ∗ CC c k (min g 28) ∗ TT c k (g + 1) ∗ sent I c k g)
/-- Lane `k` after its part of step `g`. -/
def L1 (g : ℕ) (k : Fin 8) : sProp (MM F) := iprop(SS c k g ∗ RR c k (g + 1) ∗ CC c k (min g 28) ∗ TT c k (g + 2) ∗ sent I c k g ∗ nxt I c k g)
/-- Lane `k` when its send of step `g` has left. -/
def L2 (g : ℕ) (k : Fin 8) : sProp (MM F) :=
  iprop(SS c k (g + 1) ∗ RR c k (g + 1) ∗ CC c k (min g 28) ∗ TT c k (g + 2) ∗ Hs I c fullShare k g ∗ nxt I c k g)

theorem sl_add (n : ℕ) : sl (n + 3) = sl n := Fin.ext (Nat.add_mod_right n 3)
theorem sl_add1 (n : ℕ) : sl (n + 3 + 1) = sl (n + 1) := Fin.ext (by dsimp only [sl]; omega)
theorem div_add (n : ℕ) : (n + 3) / 3 = n / 3 + 1 := Nat.add_div_right n (by decide)

/-- What arrives in step `g` is in the slot. -/
theorem lane_recv {k : Fin 8} {g : ℕ} (hg : g < 30) {l : List Ob} (hl : Above (2 * g + 4) l) {Φ : PUnit → sProp (MM F)} :
    iprop(know I K J ∗ RR c k g ∗ ow c l)
      ⊢ iprop(((owns (c : Thread nD τ) (bufS k (sl (g + 1))) fullShare (toSlot (Dv I k g (frm k c))) ∗ RR c k (g + 1) ∗ ow c l) -∗ Φ ⟨⟩)
          -∗ wpC c (waitRecv g k) Φ) := by
  unfold RR Rp
  rw [bs_Ico hg]
  iintro ⟨#Hk, ⟨⟨HR0, HR1, HR2⟩, Hc, Hcs⟩, HO⟩ HΦ
  icases HR0 with ⟨Hat, -⟩
  iapply (act_recv I K J c (k := k) hg hl) $$ [Hc HO Hat]
  · isplitr; · iexact Hk
    isplitl [Hc]; · iexact Hc
    isplitl [HO]; · iexact HO
    iexact Hat
  iintro ⟨Hs, HO, Hat, #Hr⟩
  iapply HΦ
  isplitl [Hs]; · iexact Hs
  isplitr [HO]
  · isplitr [Hcs]
    · isplitl [HR1]; · iexact HR1
      isplitl [HR2]; · iexact HR2
      rw [show g + 1 + 2 = g + 3 from rfl, sl_add1, div_add]
      isplitl [Hat]; · iexact Hat
      iexact Hr
    · iexact Hcs
  iexact HO

/-- Step `g` is sent. -/
theorem lane_send {k : Fin 8} {g : ℕ} (hg : g < 30) {l : List Ob} {Φ : PUnit → sProp (MM F)} :
    iprop(know I K J ∗ Hs I c fullShare k g ∗ ow c (obS c g k :: l) ∗ TT c k g ∗ reached ER (cell c (.snd k (sl g))) (g / 3) ∗ fs (dst k c) g k)
      ⊢ iprop(((sent I c k g ∗ ow c l ∗ TT c k (g + 1)) -∗ Φ ⟨⟩) -∗ wpC c (send (wd c) g k) Φ) := by
  unfold TT
  rw [bs_Ico hg]
  unfold Hs
  iintro ⟨#Hk, Hs, HO, ⟨Ht, Hts⟩, #Hr, #Hf⟩ HΦ
  ihave Hs := (owns_halves (c : Thread nD τ) (bufS k (sl g)) fullShare (toSlot (Dv I k g c))).1 $$ Hs
  icases Hs with ⟨Hl, Hr'⟩
  iapply (act_send I K J c (k := k) hg (l := l)) $$ [Hl HO Ht]
  · isplitr; · iexact Hk
    isplitl [Hl]; · iexact Hl
    isplitl [HO]; · iexact HO
    isplitl [Ht]; · iexact Ht
    isplitr; · iexact Hr
    iexact Hf
  iintro ⟨Hc, HO⟩
  iapply HΦ
  isplitl [Hc Hr']
  · unfold sent Hs
    isplitl [Hr']; · iexact Hr'
    iexact Hc
  isplitl [HO]; · iexact HO
  iexact Hts

/-- The send of step `g` has left. -/
theorem lane_left {k : Fin 8} {g : ℕ} (hg : g < 30) {l : List Ob} (hl : Above 2 l) {Φ : PUnit → sProp (MM F)} :
    iprop(know I K J ∗ L1 I c g k ∗ ow c l) ⊢ iprop(((L2 I c g k ∗ ow c l) -∗ Φ ⟨⟩) -∗ wpC c (waitSend g k) Φ) := by
  unfold L1 L2 SS sent Sp
  iintro ⟨#Hk, ⟨⟨HS0, HS1, HS2⟩, HR, HC, HT, ⟨Hh, Hc⟩, Hn⟩, HO⟩ HΦ
  icases HS0 with ⟨Hat, -⟩
  iapply (act_left I K J c (k := k) hg hl) $$ [Hc HO Hat]
  · isplitr; · iexact Hk
    isplitl [Hc]; · iexact Hc
    isplitl [HO]; · iexact HO
    iexact Hat
  iintro ⟨Hs, HO, Hat, #Hr⟩
  iapply HΦ
  isplitr [HO]
  · isplitl [HS1 HS2 Hat]
    · isplitl [HS1]; · iexact HS1
      isplitl [HS2]; · iexact HS2
      rw [show g + 1 + 2 = g + 3 from rfl, sl_add, div_add]
      isplitl [Hat]; · iexact Hat
      iexact Hr
    isplitl [HR]; · iexact HR
    isplitl [HC]; · iexact HC
    isplitl [HT]; · iexact HT
    isplitl [Hh Hs]
    · unfold Hs
      iapply (owns_halves (c : Thread nD τ) (bufS k (sl g)) fullShare (toSlot (Dv I k g c))).2
      isplitl [Hs]; · iexact Hs
      iexact Hh
    iexact Hn
  iexact HO

/-- Slot `g` is given up for the neighbour's send of step `g + 2`. -/
theorem lane_free {k : Fin 8} {g : ℕ} (hg : g < 28) :
    iprop(know I K J ∗ L2 I c g k) ⊢ (|={Set.univ}=> (L0 I c (g + 1) k ∗ fs c (g + 2) k) : sProp (MM F)) := by
  unfold L2 L0 CC
  rw [show min g 28 = g by omega, show min (g + 1) 28 = g + 1 by omega]
  iintro ⟨#Hk, HS, HR, ⟨HC0, HC1, HC2⟩, HT, Hh, Hn⟩
  imod (act_free I K J c (k := k) (s := sl g) (n := (g + 2) / 3) (X := toSlot (Dv I k g c))) $$ [HC0 Hh] with H
  · isplitr; · iexact Hk
    isplitl [HC0]; · unfold Cp; iexact HC0
    unfold Hs; iexact Hh
  icases H with ⟨HC0, #Hrel⟩
  imodintro
  unfold RR Rp
  icases HR with ⟨⟨HR0, HR1, HR2⟩, Hcs⟩
  icases HR1 with ⟨Hat, #Hr⟩
  isplitl
  · isplitl [HS]; · iexact HS
    isplitl [HR0 Hat HR2 Hcs]
    · isplitr [Hcs]
      · isplitl [HR0]; · iexact HR0
        isplitl [Hat]
        · isplitl [Hat]; · iexact Hat
          iexact Hr
        iexact HR2
      iexact Hcs
    isplitl [HC0 HC1 HC2]
    · isplitl [HC1]; · iexact HC1
      isplitl [HC2]; · iexact HC2
      unfold Cp
      rw [show g + 1 + 2 = g + 3 from rfl, sl_add, show (g + 3 + 2) / 3 = (g + 2) / 3 + 1 by omega]
      iexact HC0
    isplitl [HT]; · iexact HT
    iapply (show nxt I c k g ⊢ sent I c k (g + 1) from Entails.of_eq (if_pos (by omega)))
    iexact Hn
  · unfold fs
    rw [show sl (g + 2 + 1) = sl g from sl_add g]
    isplitr; · iexact Hrel
    rw [show sl g = sl (g + 1 + 1 + 1) from (sl_add g).symm]
    iexact Hr

/-! ## Credits among the lanes -/

/-- How many credits of direction `b` have been taken in step `g` when the lanes in the list are still to come. -/
def cn (g : ℕ) (b : Bool) (l : List (Fin 8)) : ℕ := if (cond b 0 1 : Fin 8) ∈ l then g - 1 else min g 28

def crb (g : ℕ) (l : List (Fin 8)) : sProp (MM F) := iprop(crs c true (cn g true l) ∗ crs c false (cn g false l))

theorem cn_end (g : ℕ) (b : Bool) : cn g b [] = min g 28 := if_neg List.not_mem_nil

theorem crb_next {g : ℕ} (hg : g ≤ 28) : crb (F := F) c g [] = crb c (g + 1) lanes := by
  unfold crb
  rw [cn_end, cn_end, show cn (g + 1) true lanes = g from rfl, show cn (g + 1) false lanes = g from rfl, Nat.min_eq_left hg]

theorem fwd_cases (k : Fin 8) : fwd k = true ∨ fwd k = false := by cases fwd k <;> simp

/-- The wait for a credit before a send. -/
theorem lane_credit {k : Fin 8} {m : List (Fin 8)} (hm : (k :: m) <:+ lanes) {g : ℕ} (hg : g ≤ 28) {l : List Ob} (hl : Above (2 * g + 3) l) {Φ : PUnit → sProp (MM F)} :
    iprop(know I K J ∗ crb c g (k :: m) ∗ ow c l) ⊢ iprop(((crb c g m ∗ ow c l) -∗ Φ ⟨⟩) -∗ wpC c (credWait g k) Φ) := by
  by_cases h0 : g = 0
  · subst h0
    have e : ∀ b l, cn 0 b l = 0 := fun b l => by unfold cn; split <;> rfl
    unfold crb
    simp only [e]
    change _ ⊢ iprop(_ -∗ wpC c (.ret ⟨⟩) Φ)
    iintro ⟨-, H⟩ HΦ
    iapply (wpC_ret c)
    iapply HΦ
    iexact H
  · have h0' : Nat.blt 0 g = true := by rw [Nat.blt_eq]; omega
    rcases suffix_cases hm with ⟨rfl, rfl⟩ | ⟨rfl, rfl⟩ | ⟨h2, hn0, hn1⟩
    · rw [show credWait (F := F) g 0 = semWaitWord (crSem true) 1#32 from by unfold credWait; rw [h0']; rfl]
      unfold crb
      rw [show cn g true (0 :: [1, 2, 3, 4, 5, 6, 7]) = g - 1 from rfl, show cn g false (0 :: [1, 2, 3, 4, 5, 6, 7]) = g - 1 from rfl,
        show cn g true [1, 2, 3, 4, 5, 6, 7] = min g 28 from rfl, show cn g false [1, 2, 3, 4, 5, 6, 7] = g - 1 from rfl]
      iintro ⟨#Hk, ⟨H1, H2⟩, HO⟩ HΦ
      iapply (act_take I K J c (b := true) (n := g - 1) (by omega) (hl.mono (by omega))) $$ [H1 HO]
      · isplitr; · iexact Hk
        isplitl [H1]; · iexact H1
        iexact HO
      iintro ⟨H1, HO⟩
      iapply HΦ
      rw [show min g 28 = g - 1 + 1 by omega]
      isplitr [HO]
      · isplitl [H1]; · iexact H1
        iexact H2
      iexact HO
    · rw [show credWait (F := F) g 1 = semWaitWord (crSem false) 1#32 from by unfold credWait; rw [h0']; rfl]
      unfold crb
      rw [show cn g true (1 :: [2, 3, 4, 5, 6, 7]) = min g 28 from rfl, show cn g false (1 :: [2, 3, 4, 5, 6, 7]) = g - 1 from rfl,
        show cn g true [2, 3, 4, 5, 6, 7] = min g 28 from rfl, show cn g false [2, 3, 4, 5, 6, 7] = min g 28 from rfl]
      iintro ⟨#Hk, ⟨H1, H2⟩, HO⟩ HΦ
      iapply (act_take I K J c (b := false) (n := g - 1) (by omega) (hl.mono (by omega))) $$ [H2 HO]
      · isplitr; · iexact Hk
        isplitl [H2]; · iexact H2
        iexact HO
      iintro ⟨H2, HO⟩
      iapply HΦ
      rw [show min g 28 = g - 1 + 1 by omega]
      isplitr [HO]
      · isplitl [H1]; · iexact H1
        iexact H2
      iexact HO
    · have e : ∀ b, cn g b (k :: m) = cn g b m := fun b => by
        have h : (cond b 0 1 : Fin 8) ∉ k :: m := by cases b; exacts [hn1, hn0]
        unfold cn
        rw [if_neg h, if_neg fun h' => h (List.mem_cons_of_mem _ h')]
      unfold crb
      rw [e, e, show credWait (F := F) g k = .ret ⟨⟩ from by
        unfold credWait
        rw [h0', show Nat.blt k.val 2 = false from by rw [← Bool.not_eq_true, Nat.blt_eq]; omega]; rfl]
      iintro ⟨-, H⟩ HΦ
      iapply (wpC_ret c)
      iapply HΦ
      iexact H

/-- Once the credit is taken the neighbour's slot is free. -/
theorem crb_free {k : Fin 8} {m : List (Fin 8)} (hm : (k :: m) <:+ lanes) {g : ℕ} (hg : g ≤ 28) : crb (F := F) c g m ⊢ iprop(fs (dst k c) (g + 1) k) := by
  have hb : (cond (fwd k) 0 1 : Fin 8) ∉ m := by
    rcases suffix_cases hm with ⟨rfl, rfl⟩ | ⟨rfl, rfl⟩ | ⟨h2, hn0, hn1⟩
    · decide
    · decide
    · cases fwd k
      · exact fun h => hn1 (List.mem_cons_of_mem _ h)
      · exact fun h => hn0 (List.mem_cons_of_mem _ h)
  have e : cn g (fwd k) m = g := by unfold cn; rw [if_neg hb]; omega
  have h1 : crb (F := F) c g m ⊢ crs c (fwd k) g := by
    unfold crb
    cases hk : fwd k
    · rw [hk] at e; rw [e]; iintro ⟨-, H⟩; iexact H
    · rw [hk] at e; rw [e]; iintro ⟨H, -⟩; iexact H
  refine h1.trans ?_
  unfold crs
  iintro ⟨%S, -, -, -, -, Hf⟩
  iapply (Free_elim (e := nb (fwd k) c) (b := fwd k) (n := g + 2) (g := g + 1) (k := k) (by omega) rfl)
  iexact Hf

end Cert.Ring

end
-- ==== Proof.Step.lean ====
/- The steps: all lanes of one iteration, the credits that follow, and the blocks delivered. -/
module

public import proofs.«01_k».proof.Proof.Lane

@[expose] public section

noncomputable section

namespace Cert.Ring

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds (dutyTok atPos reached openTok cellInv)
open Idealize.ShloMosaic.Release (released readerAt writeTok slotInv)
open Cert.KernelIdeal Cert.KernelIdeal.Gen

variable {F : FTy → Type} [FloatOps F]
variable (I : Ins F) (K : GSem nD τ sig → ℕ) (J : Key → ℕ) (c : Dev nD)

theorem obSends_cons {g : ℕ} (hg : g < 30) (k : Fin 8) (l : List (Fin 8)) : obSends c g (k :: l) = obS c g k :: obSends c g l := by
  unfold obSends; rw [if_pos hg, if_pos hg]; rfl
theorem obSends_none {g : ℕ} (hg : 30 ≤ g) (l : List (Fin 8)) : obSends c g l = [] := if_neg (by omega)
theorem obSends_nil (g : ℕ) : obSends c g [] = [] := by unfold obSends; split <;> rfl

/-- What the lanes of step `g` share while those in the list are still to come. -/
def Ln (g : ℕ) (rest : List Ob) (Y : S4096x2048.Idx → Elt F .bf16) (l : List (Fin 8)) : sProp (MM F) :=
  iprop(ow c (obSends c (g + 1) l ++ rest) ∗ crb c g l ∗ owns (c : Thread nD τ) pM fullShare Y)

theorem SS_mid {k : Fin 8} {g : ℕ} : SS (F := F) c k g ⊢ reached ER (cell c (.snd k (sl (g + 1)))) ((g + 1) / 3) := by
  unfold SS Sp
  iintro ⟨-, ⟨-, H⟩, -⟩
  iexact H
theorem SS_fst {k : Fin 8} {g : ℕ} : SS (F := F) c k g ⊢ reached ER (cell c (.snd k (sl g))) (g / 3) := by
  unfold SS Sp
  iintro ⟨⟨-, H⟩, -, -⟩
  iexact H

/-- The credit is taken and the next step is sent. -/
theorem lane_on {g : ℕ} (hg : g ≤ 28) {k : Fin 8} {l : List (Fin 8)} (hm : (k :: l) <:+ lanes) {rest : List Ob} (hr : Above (2 * g + 4) rest)
    {Φ : PUnit → sProp (MM F)} :
    iprop(know I K J ∗ SS c k g ∗ TT c k (g + 1) ∗ Hs I c fullShare k (g + 1) ∗ ow c (obSends c (g + 1) (k :: l) ++ rest) ∗ crb c g (k :: l))
      ⊢ iprop(((SS c k g ∗ TT c k (g + 2) ∗ sent I c k (g + 1) ∗ ow c (obSends c (g + 1) l ++ rest) ∗ crb c g l) -∗ Φ ⟨⟩)
          -∗ wpC c (credWait g k) (fun _ => wpC c (send (wd c) (g + 1) k) Φ)) := by
  iintro ⟨#Hk, HS, HT, Hh, HO, HC⟩ HΦ
  iapply (lane_credit I K J c hm hg (l := obSends c (g + 1) (k :: l) ++ rest)
    (((above_sends c (g + 1) _).mono (by omega)).append (hr.mono (by omega)))) $$ [HO HC]
  · isplitr; · iexact Hk
    isplitl [HC]; · iexact HC
    iexact HO
  iintro ⟨HC, HO⟩
  ihave #Hf := (crb_free c hm hg) $$ HC
  ihave #Hr := (SS_mid c) $$ HS
  rw [obSends_cons c (show g + 1 < 30 by omega)]
  iapply (lane_send I K J c (k := k) (g := g + 1) (by omega) (l := obSends c (g + 1) l ++ rest)) $$ [HT Hh HO]
  · isplitr; · iexact Hk
    isplitl [Hh]; · iexact Hh
    isplitl [HO]; · iexact HO
    isplitl [HT]; · iexact HT
    isplitr; · iexact Hr
    iexact Hf
  iintro ⟨Hn, HO, HT⟩
  iapply HΦ
  isplitl [HS]; · iexact HS
  isplitl [HT]; · iexact HT
  isplitl [Hn]; · iexact Hn
  isplitl [HO]; · iexact HO
  iexact HC

theorem toSlot_val (X : FVec F S256x256 .bf16) : shapeCast S256x256 (toSlot X) shapeCasts_S1x256x256_S256x256 = X := by
  rw [toSlot, shapeCast_shapeCast]

/-- Lane `k` of a summing step. -/
theorem laneRS_wp {g : ℕ} (hg : g < 15) {Y : S4096x2048.Idx → Elt F .bf16} (hY : POk I c (g + 1) Y) {rest : List Ob} (hr : Above (2 * g + 4) rest)
    (k : Fin 8) (l : List (Fin 8)) (hm : (k :: l) <:+ lanes) (Φ : FVec F S256x256 .bf16 → sProp (MM F)) :
    iprop(know I K J ∗ L0 I c g k ∗ Ln c g rest Y (k :: l))
      ⊢ iprop(((L1 I c g k ∗ Ln c g rest Y l) -∗ Φ (Dv I k (g + 1) c)) -∗ wpC c (laneRS (wd c) g k) Φ) := by
  unfold L0 Ln
  rw [wpC_bind]
  iintro ⟨#Hk, ⟨HS, HR, HC, HT, Hn⟩, HO, Hcr, HY⟩ HΦ
  iapply (lane_recv I K J c (k := k) (g := g) (by omega) (l := obSends c (g + 1) (k :: l) ++ rest)
    (((above_sends c (g + 1) _).mono (by omega)).append hr)) $$ [HR HO]
  · isplitr; · iexact Hk
    isplitl [HR]; · iexact HR
    iexact HO
  iintro ⟨Hh, HR, HO⟩
  rw [wpC_bind]
  iapply (load_slot c (k := k) (s := sl (g + 1))) $$ Hh
  iintro Hh
  rw [wpC_bind]
  iapply (load_one c (m := pM) (r := rectP (wd c).v0 (wd c).h0 k (ch (g + 1))) (hl := View.loadsAt_vmem h_S256x256)) $$ HY
  iintro HY
  rw [wpC_bind]
  iapply (load_slot c (k := k) (s := sl (g + 1))) $$ Hh
  iintro Hh
  rw [wpC_bind]
  iapply (store_slot c (k := k) (s := sl (g + 1))) $$ Hh
  iintro Hh
  rw [show (fun j => Y ((rectP (wd c).v0 (wd c).h0 k (ch (g + 1))).emb j)) = cut (prod I c (chunkAt (fwd k) c (ch (g + 1)))) k from
      (emb_congr (s := S4096x2048) (offP_eq k c (ch (g + 1))) Y).trans (POk_read I c hg hY k), toSlot_val, ← Dv_rs I k hg c]
  simp only [wpC_bind]
  iapply (lane_on I K J c (k := k) (g := g) (by omega) hm hr (Φ := fun _ => wpC c (.ret (Dv I k (g + 1) c)) Φ)) $$ [HS HT Hh HO Hcr]
  · isplitr; · iexact Hk
    isplitl [HS]; · iexact HS
    isplitl [HT]; · iexact HT
    isplitl [Hh]; · unfold Hs; iexact Hh
    isplitl [HO]; · iexact HO
    iexact Hcr
  iintro ⟨HS, HT, Hn', HO, Hcr⟩
  iapply (wpC_ret c)
  iapply HΦ
  isplitr [HO Hcr HY]
  · unfold L1
    isplitl [HS]; · iexact HS
    isplitl [HR]; · iexact HR
    isplitl [HC]; · iexact HC
    isplitl [HT]; · iexact HT
    isplitl [Hn]; · iexact Hn
    iapply (show sent I c k (g + 1) ⊢ nxt I c k g from Entails.of_eq (if_pos (show g < 29 by omega)).symm)
    iexact Hn'
  isplitl [HO]; · iexact HO
  isplitl [Hcr]; · iexact Hcr
  iexact HY

/-- Lane `k` of a copying step. -/
theorem laneAG_wp {g : ℕ} (h15 : 15 ≤ g) (hg : g < 30) {Y : S4096x2048.Idx → Elt F .bf16} {rest : List Ob} (hr : Above (2 * g + 4) rest)
    (k : Fin 8) (l : List (Fin 8)) (hm : (k :: l) <:+ lanes) (Φ : PUnit → sProp (MM F)) :
    iprop(know I K J ∗ L0 I c g k ∗ Ln c g rest Y (k :: l))
      ⊢ iprop(((L1 I c g k ∗ Ln c g rest Y l) -∗ Φ ⟨⟩) -∗ wpC c (laneAG (wd c) g k) Φ) := by
  unfold L0 Ln
  rw [wpC_bind]
  iintro ⟨#Hk, ⟨HS, HR, HC, HT, Hn⟩, HO, Hcr, HY⟩ HΦ
  iapply (lane_recv I K J c (k := k) (g := g) (by omega) (l := obSends c (g + 1) (k :: l) ++ rest)
    (((above_sends c (g + 1) _).mono (by omega)).append hr)) $$ [HR HO]
  · isplitr; · iexact Hk
    isplitl [HR]; · iexact HR
    iexact HO
  iintro ⟨Hh, HR, HO⟩
  rw [← Dv_ag I k (show ¬g < 15 by omega) c]
  by_cases h29 : g < 29
  · rw [show Nat.blt g 29 = true from by rw [Nat.blt_eq]; exact h29, cond_true, wpC_bind]
    iapply (lane_on I K J c (k := k) (g := g) (by omega) hm hr) $$ [HS HT Hh HO Hcr]
    · isplitr; · iexact Hk
      isplitl [HS]; · iexact HS
      isplitl [HT]; · iexact HT
      isplitl [Hh]; · unfold Hs; iexact Hh
      isplitl [HO]; · iexact HO
      iexact Hcr
    iintro ⟨HS, HT, Hn', HO, Hcr⟩
    iapply HΦ
    isplitr [HO Hcr HY]
    · unfold L1
      isplitl [HS]; · iexact HS
      isplitl [HR]; · iexact HR
      isplitl [HC]; · iexact HC
      isplitl [HT]; · iexact HT
      isplitl [Hn]; · iexact Hn
      iapply (show sent I c k (g + 1) ⊢ nxt I c k g from Entails.of_eq (if_pos h29).symm)
      iexact Hn'
    isplitl [HO]; · iexact HO
    isplitl [Hcr]; · iexact Hcr
    iexact HY
  · obtain rfl : g = 29 := by omega
    iapply (wpC_ret c)
    iapply HΦ
    isplitr [HO Hcr HY]
    · unfold L1
      isplitl [HS]; · iexact HS
      isplitl [HR]; · iexact HR
      isplitl [HC]; · iexact HC
      isplitl [HT]
      · iapply (show TT (F := F) c k (29 + 1) ⊢ TT c k (29 + 2) from by
          unfold TT; rw [Finset.Ico_self, show Finset.Ico (29 + 2) 30 = ∅ from rfl])
        iexact HT
      isplitl [Hn]; · iexact Hn
      iapply (show Hs I c fullShare k (29 + 1) ⊢ nxt I c k 29 from Entails.of_eq (if_neg (by decide)).symm)
      unfold Hs; iexact Hh
    isplitl [HO]
    · rw [obSends_none c (by decide), obSends_none c (by decide)]; iexact HO
    isplitl [Hcr]
    · iapply (show crb (F := F) c 29 (k :: l) ⊢ crb c 29 l from by
        have e : ∀ b l, cn 29 b l = 28 := fun b l => by unfold cn; split <;> rfl
        unfold crb; simp only [e]; exact .rfl)
      iexact Hcr
    iexact HY

/-- All sends of step `g` have left. -/
theorem lefts_wp {g : ℕ} (hg : g < 30) {l : List Ob} (hl : Above 2 l) {Φ : PUnit → sProp (MM F)} :
    iprop(know I K J ∗ sepL (L1 I c g) lanes ∗ ow c l) ⊢ iprop(((sepL (L2 I c g) lanes ∗ ow c l) -∗ Φ ⟨⟩) -∗ wpC c (forL (waitSend g) lanes) Φ) :=
  forL_loop c (R := know I K J) (P := L1 I c g) (Q := L2 I c g) (A := fun _ => ow c l) (fun k _ _ Φ => lane_left I K J c (k := k) hg hl (Φ := Φ)) lanes (List.suffix_refl _) Φ

/-! ## Credits -/

/-- What device `c` needs to tell its neighbours that slots are free, from step `g` on. -/
def crd (g : ℕ) : sProp (MM F) :=
  iprop((bigSep (Finset.Ico g 28) fun j => iprop(dutyTok ER (cell (nb (!true) c) (.cr true)) 0 j ∗ dutyTok ER (cell (nb (!false) c) (.cr false)) 0 j))
    ∗ (Free c true (g + 2) ∗ Free c false (g + 2))
    ∗ reached ER (cell (nb (!true) c) (.cr true)) 0 ∗ reached ER (cell (nb (!false) c) (.cr false)) 0)

/-- The slots of step `g` are given up and both neighbours are told. -/
theorem credits_wp {g : ℕ} (hg : g < 28) {rest : List Ob} {Φ : PUnit → sProp (MM F)} :
    iprop(know I K J ∗ sepL (L2 I c g) lanes ∗ ow c (obCr c g ++ rest) ∗ crd c g)
      ⊢ iprop(((sepL (L0 I c (g + 1)) lanes ∗ ow c rest ∗ crd c (g + 1)) -∗ Φ ⟨⟩) -∗ wpC c (credits (wd c)) Φ) := by
  rw [wpC_bind, wd_left, wd_right]
  unfold crd
  rw [bs_Ico hg, show obCr c g = [obC c g true, obC c g false] from if_pos hg]
  iintro ⟨#Hk, HL, HO, ⟨⟨⟨Ht1, Ht2⟩, Hts⟩, ⟨#Hf1, #Hf2⟩, #Hr1, #Hr2⟩⟩ HΦ
  iapply (fupd_wp)
  imod (sepL_fupd (R := know I K J) (P := L2 I c g) (Q := L0 I c (g + 1)) (S := fun k => iprop(fs c (g + 2) k))
    (fun k => lane_free I K J c (k := k) hg) lanes) $$ [HL] with H
  · isplitr; · iexact Hk
    iexact HL
  imodintro
  icases H with ⟨HL, HF⟩
  ihave #HF := (Entails.of_eq (sepL_lanes (fun k => iprop(fs c (g + 2) k)))) $$ HF
  ihave #Hf1' := (Free_succ (e := c) (b := true) (n := g + 2)) $$ []
  · isplitr; · iexact Hf1
    iexact HF
  ihave #Hf2' := (Free_succ (e := c) (b := false) (n := g + 2)) $$ []
  · isplitr; · iexact Hf2
    iexact HF
  iapply (act_give I K J c (b := true) hg (l := obC c g false :: rest)) $$ [HO Ht1]
  · isplitr; · iexact Hk
    isplitl [HO]; · iexact HO
    isplitl [Ht1]; · iexact Ht1
    isplitr; · iexact Hf1'
    iexact Hr1
  iintro HO
  iapply (act_give I K J c (b := false) hg (l := rest)) $$ [HO Ht2]
  · isplitr; · iexact Hk
    isplitl [HO]; · iexact HO
    isplitl [Ht2]; · iexact Ht2
    isplitr; · iexact Hf2'
    iexact Hr2
  iintro HO
  iapply HΦ
  isplitl [HL]; · iexact HL
  isplitl [HO]; · iexact HO
  isplitl [Hts]; · iexact Hts
  isplitr
  · isplitr; · iexact Hf1'
    iexact Hf2'
  isplitr; · iexact Hr1
  iexact Hr2

end Cert.Ring

end
-- ==== Proof.Iter.lean ====
/- The iterations: a summing step, the last of them, a copying step, and the three kinds in turn. -/
module

public import proofs.«01_k».proof.Proof.Step

@[expose] public section

noncomputable section

namespace Cert.Ring

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Cert.KernelIdeal Cert.KernelIdeal.Gen

variable {F : FTy → Type} [FloatOps F]
variable (I : Ins F) (K : GSem nD τ sig → ℕ) (J : Key → ℕ) (c : Dev nD)
variable (ax : Memref sig .tc .vmem S4096x256 .fp8e5m2) (ao : Memref sig .tc .vmem S4096x2048 .f32)

/-! ## What is delivered -/

/-- The blocks delivered once slot `n` has been: none before the fifteenth. -/
def Od (n : ℕ) : Fin 16 → Fin 8 → Prop := fun t _ => 15 ≤ n ∧ (t.val = 15 ∨ t.val + 16 ≤ n)

/-- The result so far. -/
def outSt (n : ℕ) : sProp (MM F) := iprop(∃ Z, ⌜ZOk I c (Od n) Z⌝ ∗ owns (c : Thread nD τ) ao fullShare Z)

theorem outB_eq {n : ℕ} (h : 15 ≤ n) (h' : n ≤ 30) (k : Fin 8) : outV (scale I c) (Dv I k n c) = outB I c (ch n) k := by
  unfold outB
  congr 2
  dsimp only [ch]
  split <;> omega

/-- The result while the lanes in the list have still to deliver slot `n`. -/
def outMid (n : ℕ) (l : List (Fin 8)) : sProp (MM F) :=
  iprop(∃ Z, ⌜ZOk I c (fun t k => Od (n - 1) t k ∨ (t = ch n ∧ k ∉ l)) Z⌝ ∗ owns (c : Thread nD τ) ao fullShare Z)

theorem out_start {n : ℕ} : outSt I c ao (n - 1) ⊢ outMid I c ao n lanes := by
  unfold outSt outMid
  iintro ⟨%Z, %hZ, H⟩
  iexists Z
  isplitr
  · ipureintro
    intro t k h
    refine hZ t k (h.resolve_right fun h' => h'.2 ?_)
    exact (show ∀ k : Fin 8, k ∈ lanes from by decide) k
  iexact H

theorem out_end {n : ℕ} (h : 15 ≤ n) (h' : n ≤ 30) : outMid I c ao n [] ⊢ outSt I c ao n := by
  unfold outSt outMid
  iintro ⟨%Z, %hZ, H⟩
  iexists Z
  isplitr
  · ipureintro
    intro t k hd
    refine hZ t k ?_
    by_cases e : t = ch n
    · exact .inr ⟨e, List.not_mem_nil⟩
    · refine .inl ?_
      have e' : t.val ≠ n % 16 := fun h => e (Fin.ext h)
      have ht := t.isLt
      unfold Od at hd ⊢
      omega
  iexact H

/-- Lane `k` delivers slot `n`. -/
theorem out_lane {n : ℕ} (h : 15 ≤ n) (h' : n ≤ 30) {k : Fin 8} {l : List (Fin 8)} {t : Fin 16} (ht : t = ch n) {Φ : PUnit → sProp (MM F)} :
    outMid I c ao n (k :: l) ⊢ iprop((outMid I c ao n l -∗ Φ ⟨⟩) -∗ wpC c (outTo ao (wd c) (scale I c) t k (Dv I k n c)) Φ) := by
  subst ht
  iintro H HΦ
  unfold outMid
  icases H with ⟨%Z, %hZ, H⟩
  iapply (outTo_wp I c (ao := ao) (D' := fun t' k' => Od (n - 1) t' k' ∨ (t' = ch n ∧ k' ∉ l)) hZ (outB_eq I c h h' k) (fun t' k' hd => by
    rcases hd with hd | ⟨rfl, hd⟩
    · exact .inl (.inl hd)
    · by_cases e : k' = k
      · exact .inr ⟨rfl, e⟩
      · exact .inl (.inr ⟨rfl, fun hm => (List.mem_cons.mp hm).elim e hd⟩))) $$ H
  iexact HΦ

/-- All lanes deliver what is in slot `n`. -/
theorem outs_wp {n : ℕ} (h : 15 ≤ n) (h' : n ≤ 30) {t : Fin 16} (ht : t = ch n) {q : PosShare TreeShare} {P : Fin 8 → sProp (MM F)} (hP : ∀ k, P k ⊢ iprop(Hs I c q k n ∗ (Hs I c q k n -∗ P k)))
    {Φ : PUnit → sProp (MM F)} :
    iprop(sepL P lanes ∗ outSt I c ao (n - 1)) ⊢ iprop(((sepL P lanes ∗ outSt I c ao n) -∗ Φ ⟨⟩)
      -∗ wpC c (forL (fun k => loadSlot k (sl n) >>= fun a => outTo ao (wd c) (scale I c) t k (shapeCast S256x256 a shapeCasts_S1x256x256_S256x256)) lanes) Φ) := by
  iintro ⟨HP, HZ⟩ HΦ
  iapply (forL_loop c (R := iprop(emp)) (P := P) (Q := P) (A := outMid I c ao n) (fun k l _ Φ => by
    rw [wpC_bind]
    iintro ⟨-, H, HA⟩ HΦ
    ihave H := (hP k) $$ H
    icases H with ⟨H, Hback⟩
    unfold Hs
    iapply (load_slot c (k := k) (s := sl n)) $$ H
    iintro H
    rw [toSlot_val]
    iapply (out_lane I c ao h h' (k := k) (l := l) ht) $$ HA
    iintro HA
    iapply HΦ
    isplitr [HA]
    · iapply Hback; iexact H
    iexact HA) lanes (List.suffix_refl _) Φ) $$ [HP HZ]
  · isplitr; · iempintro
    isplitl [HP]; · iexact HP
    iapply (out_start I c ao (n := n)); iexact HZ
  iintro ⟨HP, HA⟩
  iapply HΦ
  isplitl [HP]; · iexact HP
  iapply (out_end I c ao h h'); iexact HA

theorem getD_lanes {α : Type} (v : Fin 8 → α) (d : α) : ∀ k : Fin 8, (lanes.map v).getD k.val d = v k
  | 0 => rfl | 1 => rfl | 2 => rfl | 3 => rfl | 4 => rfl | 5 => rfl | 6 => rfl | 7 => rfl

/-! ## The iterations -/

/-- The products at hand in step `g`. -/
def prods (g : ℕ) : sProp (MM F) := iprop(∃ Y, ⌜POk I c g Y⌝ ∗ pst I c ax Y)

/-- Everything at the start of step `g` but the tickets for telling that slots are free. -/
def St (g : ℕ) : sProp (MM F) := iprop(sepL (L0 I c g) lanes ∗ ow c (obG c g) ∗ crb c g lanes ∗ prods I c ax g)

theorem above_tail (g : ℕ) : Above (2 * g + 4) (obCr c g ++ obG c (g + 1)) := (above_cr c g).append ((above_G c (g + 1)).mono (by omega))

theorem Ln_start {g : ℕ} (hg : g < 30) {Y : S4096x2048.Idx → Elt F .bf16} :
    iprop(ow c (obG c g) ∗ crb c g lanes ∗ owns (c : Thread nD τ) pM fullShare Y) ⊢ Ln c g (obCr c g ++ obG c (g + 1)) Y lanes := by
  unfold Ln
  rw [obG_eq c hg]

theorem Ln_end {g : ℕ} (hg : g ≤ 28) {l : List Ob} {Y : S4096x2048.Idx → Elt F .bf16} :
    Ln c g l Y [] ⊢ iprop(ow c l ∗ crb c (g + 1) lanes ∗ owns (c : Thread nD τ) pM fullShare Y) := by
  unfold Ln
  rw [obSends_nil, List.nil_append, crb_next c hg]

theorem prods_flat {g : ℕ} (h : 8 ≤ g) : prods I c ax g ⊢ prods I c ax (g + 1) := by
  unfold prods
  iintro ⟨%Y, %hY, H⟩
  iexists Y
  isplitr
  · ipureintro
    intro t ht
    refine hY t ?_
    unfold Done at ht ⊢
    omega
  iexact H

/-- A summing step but the last. -/
theorem stepRS_wp {g : ℕ} (hg : g < 14) {Φ : PUnit → sProp (MM F)} :
    iprop(know I K J ∗ St I c ax g ∗ crd c g) ⊢ iprop(((St I c ax (g + 1) ∗ crd c (g + 1)) -∗ Φ ⟨⟩) -∗ wpC c (stepRS ax (wd c) g) Φ) := by
  unfold St prods
  simp only [stepRS, wpC_bind]
  iintro ⟨#Hk, ⟨HL, HO, HC, ⟨%Y, %hY, HP⟩⟩, Hd⟩ HΦ
  iapply (gemms_wp I c hY) $$ HP
  iintro ⟨%Y', %hY', HP⟩
  unfold pst
  icases HP with ⟨Hx, Hw, HY⟩
  iapply (forL_loop c (R := know I K J) (P := L0 I c g) (Q := L1 I c g) (A := Ln c g (obCr c g ++ obG c (g + 1)) Y') (fun k l hm Φ => by
    rw [wpC_bind]
    exact laneRS_wp I K J c (show g < 15 by omega) hY' (above_tail c g) k l hm (fun _ => wpC c (.ret ⟨⟩) Φ) |>.trans (by
      iintro H HΦ
      iapply H
      iintro H2
      iapply (wpC_ret c)
      iapply HΦ
      iexact H2)) lanes (List.suffix_refl _)) $$ [HL HO HC HY]
  · isplitr; · iexact Hk
    isplitl [HL]; · iexact HL
    iapply (Ln_start c (g := g) (by omega))
    isplitl [HO]; · iexact HO
    isplitl [HC]; · iexact HC
    iexact HY
  iintro ⟨HL, HA⟩
  ihave HA := (Ln_end c (g := g) (by omega)) $$ HA
  icases HA with ⟨HO, HC, HY⟩
  iapply (lefts_wp I K J c (g := g) (by omega) ((above_tail c g).mono (by omega))) $$ [HL HO]
  · isplitr; · iexact Hk
    isplitl [HL]; · iexact HL
    iexact HO
  iintro ⟨HL, HO⟩
  have hcr := credits_wp I K J c (g := g) (by omega) (rest := obG c (g + 1)) (Φ := Φ)
  simp only [credits, wpC_bind] at hcr
  iapply hcr $$ [HL HO Hd]
  · isplitr; · iexact Hk
    isplitl [HL]; · iexact HL
    isplitl [HO]; · iexact HO
    iexact Hd
  iintro ⟨HL, HO, Hd⟩
  iapply HΦ
  isplitr [Hd]
  · isplitl [HL]; · iexact HL
    isplitl [HO]; · iexact HO
    isplitl [HC]; · iexact HC
    iexists Y'
    isplitr; · ipureintro; exact hY'
    isplitl [Hx]; · iexact Hx
    isplitl [Hw]; · iexact Hw
    iexact HY
  iexact Hd

/-- What a lane keeps while its slots are read: the slot just filled. -/
theorem L0_read (g : ℕ) (k : Fin 8) : L0 I c g k ⊢ iprop(Hs I c fullShare.right k g ∗ (Hs I c fullShare.right k g -∗ L0 I c g k)) := by
  unfold L0 sent
  iintro ⟨H1, H2, H3, H4, H5, H6⟩
  isplitl [H5]; · iexact H5
  iintro H5
  isplitl [H1]; · iexact H1
  isplitl [H2]; · iexact H2
  isplitl [H3]; · iexact H3
  isplitl [H4]; · iexact H4
  isplitl [H5]; · iexact H5
  iexact H6

/-- The last summing step, which delivers the chunk it completes. -/
theorem stepFin_wp {Φ : PUnit → sProp (MM F)} :
    iprop(know I K J ∗ St I c ax 14 ∗ crd c 14 ∗ outSt I c ao 14)
      ⊢ iprop(((St I c ax 15 ∗ crd c 15 ∗ outSt I c ao 15) -∗ Φ ⟨⟩) -∗ wpC c (stepFin ao (wd c) (scale I c)) Φ) := by
  unfold St
  simp only [stepFin, wpC_bind]
  iintro ⟨#Hk, ⟨HL, HO, HC, HP⟩, Hd, HZ⟩ HΦ
  ihave HP := (prods_flat I c ax (g := 14) (by decide)) $$ HP
  unfold prods
  icases HP with ⟨%Y, %hY, HP⟩
  unfold pst
  icases HP with ⟨Hx, Hw, HY⟩
  iapply (mapL_loop c (R := know I K J) (P := L0 I c 14) (Q := L1 I c 14) (v := fun k => Dv I k 15 c) (A := Ln c 14 (obCr c 14 ++ obG c 15) Y) (fun k l hm Φ =>
    laneRS_wp I K J c (g := 14) (by decide) hY (above_tail c 14) k l hm Φ) lanes (List.suffix_refl _)) $$ [HL HO HC HY]
  · isplitr; · iexact Hk
    isplitl [HL]; · iexact HL
    iapply (Ln_start c (g := 14) (by decide))
    isplitl [HO]; · iexact HO
    isplitl [HC]; · iexact HC
    iexact HY
  iintro ⟨HL, HA⟩
  ihave HA := (Ln_end c (g := 14) (by decide)) $$ HA
  icases HA with ⟨HO, HC, HY⟩
  iapply (lefts_wp I K J c (g := 14) (by decide) ((above_tail c 14).mono (by decide))) $$ [HL HO]
  · isplitr; · iexact Hk
    isplitl [HL]; · iexact HL
    iexact HO
  iintro ⟨HL, HO⟩
  have hcr := credits_wp I K J c (g := 14) (by decide) (rest := obG c 15)
    (Φ := fun _ => wpC c (forL (fun k => outTo ao (wd c) (scale I c) (ch 15) k ((lanes.map fun k => Dv I k 15 c).getD k.val (cut (constant S256x2048 .bf16 0) k))) lanes) Φ)
  simp only [credits, wpC_bind] at hcr
  iapply hcr $$ [HL HO Hd]
  · isplitr; · iexact Hk
    isplitl [HL]; · iexact HL
    isplitl [HO]; · iexact HO
    iexact Hd
  iintro ⟨HL, HO, Hd⟩
  iapply (forL_loop c (R := iprop(emp)) (P := fun _ => iprop(emp)) (Q := fun _ => iprop(emp)) (A := outMid I c ao 15) (fun k l _ Φ => by
    rw [getD_lanes]
    iintro ⟨-, -, HA⟩ HΦ
    iapply (out_lane I c ao (n := 15) (by decide) (by decide) (k := k) (l := l) rfl) $$ HA
    iintro HA
    iapply HΦ
    isplitr; · iempintro
    iexact HA) lanes (List.suffix_refl _)) $$ [HZ]
  · isplitr; · iempintro
    isplitr; · unfold sepL sepL sepL sepL sepL sepL sepL sepL sepL; repeat' (isplitr; · iempintro)
               iempintro
    iapply (out_start I c ao (n := 15)); iexact HZ
  iintro ⟨-, HA⟩
  iapply HΦ
  isplitr [Hd HA]
  · isplitl [HL]; · iexact HL
    isplitl [HO]; · iexact HO
    isplitl [HC]; · iexact HC
    iexists Y
    isplitr; · ipureintro; exact hY
    isplitl [Hx]; · iexact Hx
    isplitl [Hw]; · iexact Hw
    iexact HY
  isplitl [Hd]; · iexact Hd
  iapply (out_end I c ao (n := 15) (by decide) (by decide)); iexact HA

/-- The lanes of a copying step, and their sends left. -/
theorem frontAG_wp {g : ℕ} (h15 : 15 ≤ g) (hg : g < 30) {Y : S4096x2048.Idx → Elt F .bf16} {Φ : PUnit → sProp (MM F)} :
    iprop(know I K J ∗ sepL (L0 I c g) lanes ∗ ow c (obG c g) ∗ crb c g lanes ∗ owns (c : Thread nD τ) pM fullShare Y)
      ⊢ iprop(((sepL (L2 I c g) lanes ∗ ow c (obCr c g ++ obG c (g + 1)) ∗ crb c g [] ∗ owns (c : Thread nD τ) pM fullShare Y) -∗ Φ ⟨⟩)
          -∗ wpC c (forL (laneAG (wd c) g) lanes) (fun _ => wpC c (forL (waitSend g) lanes) Φ)) := by
  iintro ⟨#Hk, HL, HO, HC, HY⟩ HΦ
  iapply (forL_loop c (R := know I K J) (P := L0 I c g) (Q := L1 I c g) (A := Ln c g (obCr c g ++ obG c (g + 1)) Y) (fun k l hm Φ =>
    laneAG_wp I K J c h15 hg (above_tail c g) k l hm Φ) lanes (List.suffix_refl _)) $$ [HL HO HC HY]
  · isplitr; · iexact Hk
    isplitl [HL]; · iexact HL
    iapply (Ln_start c hg)
    isplitl [HO]; · iexact HO
    isplitl [HC]; · iexact HC
    iexact HY
  unfold Ln
  iintro ⟨HL, HO, HC, HY⟩
  rw [obSends_nil, List.nil_append]
  iapply (lefts_wp I K J c hg ((above_tail c g).mono (by omega))) $$ [HL HO]
  · isplitr; · iexact Hk
    isplitl [HL]; · iexact HL
    iexact HO
  iintro ⟨HL, HO⟩
  iapply HΦ
  isplitl [HL]; · iexact HL
  isplitl [HO]; · iexact HO
  isplitl [HC]; · iexact HC
  iexact HY

/-- A copying step that tells its neighbours. -/
theorem stepAG_wp {g : ℕ} (h15 : 15 ≤ g) (hg : g < 28) {Φ : PUnit → sProp (MM F)} :
    iprop(know I K J ∗ St I c ax g ∗ crd c g ∗ outSt I c ao g)
      ⊢ iprop(((St I c ax (g + 1) ∗ crd c (g + 1) ∗ outSt I c ao (g + 1)) -∗ Φ ⟨⟩) -∗ wpC c (stepAG ao (wd c) (scale I c) g) Φ) := by
  unfold St
  simp only [stepAG, wpC_bind]
  iintro ⟨#Hk, ⟨HL, HO, HC, HP⟩, Hd, HZ⟩ HΦ
  ihave HP := (prods_flat I c ax (g := g) (by omega)) $$ HP
  unfold prods
  icases HP with ⟨%Y, %hY, HP⟩
  unfold pst
  icases HP with ⟨Hx, Hw, HY⟩
  iapply (frontAG_wp I K J c h15 (g := g) (by omega)) $$ [HL HO HC HY]
  · isplitr; · iexact Hk
    isplitl [HL]; · iexact HL
    isplitl [HO]; · iexact HO
    isplitl [HC]; · iexact HC
    iexact HY
  rw [show Nat.blt g 28 = true from by rw [Nat.blt_eq]; exact hg, cond_true, crb_next c (show g ≤ 28 by omega)]
  iintro ⟨HL, HO, HC, HY⟩
  have hcr := credits_wp I K J c (g := g) hg (rest := obG c (g + 1))
    (Φ := fun _ => wpC c (forL (fun k => loadSlot k (sl (g + 1)) >>= fun a =>
      outTo ao (wd c) (scale I c) (ch (g + 1)) k (shapeCast S256x256 a shapeCasts_S1x256x256_S256x256)) lanes) Φ)
  simp only [credits, wpC_bind] at hcr ⊢
  iapply hcr $$ [HL HO Hd]
  · isplitr; · iexact Hk
    isplitl [HL]; · iexact HL
    isplitl [HO]; · iexact HO
    iexact Hd
  iintro ⟨HL, HO, Hd⟩
  iapply (outs_wp I c ao (n := g + 1) (by omega) (by omega) (t := ch (g + 1)) rfl (q := fullShare.right) (P := L0 I c (g + 1)) (L0_read I c (g + 1))) $$ [HL HZ]
  · isplitl [HL]; · iexact HL
    rw [Nat.add_sub_cancel]; iexact HZ
  iintro ⟨HL, HZ⟩
  iapply HΦ
  isplitr [Hd HZ]
  · isplitl [HL]; · iexact HL
    isplitl [HO]; · iexact HO
    isplitl [HC]; · iexact HC
    iexists Y
    isplitr; · ipureintro; exact hY
    isplitl [Hx]; · iexact Hx
    isplitl [Hw]; · iexact Hw
    iexact HY
  isplitl [Hd]; · iexact Hd
  iexact HZ

/-- What lane `k` holds after the last step but one beside what it goes on with: the slot sent last but one. -/
def L28 (k : Fin 8) : sProp (MM F) := iprop(L0 I c 29 k ∗ Hs I c fullShare k 28)

theorem L28_intro (k : Fin 8) : L2 I c 28 k ⊢ L28 I c k := by
  unfold L2 L28 L0
  iintro ⟨H1, H2, H3, H4, H5, H6⟩
  isplitr [H5]
  · isplitl [H1]; · iexact H1
    isplitl [H2]; · iexact H2
    isplitl [H3]; · iexact H3
    isplitl [H4]; · iexact H4
    iapply (show nxt I c k 28 ⊢ sent I c k 29 from Entails.of_eq (if_pos (by decide)))
    iexact H6
  iexact H5

theorem L28_read (k : Fin 8) : L28 I c k ⊢ iprop(Hs I c fullShare.right k 29 ∗ (Hs I c fullShare.right k 29 -∗ L28 I c k)) := by
  unfold L28
  iintro ⟨H1, H2⟩
  ihave H1 := (L0_read I c 29 k) $$ H1
  icases H1 with ⟨H1, Hb⟩
  isplitl [H1]; · iexact H1
  iintro H1
  isplitr [H2]
  · iapply Hb; iexact H1
  iexact H2

/-- The last step but one. -/
theorem step28_wp {Φ : PUnit → sProp (MM F)} :
    iprop(know I K J ∗ St I c ax 28 ∗ outSt I c ao 28)
      ⊢ iprop(((sepL (L28 I c) lanes ∗ ow c (obG c 29) ∗ crb c 29 lanes ∗ prods I c ax 29 ∗ outSt I c ao 29) -∗ Φ ⟨⟩) -∗ wpC c (stepAG ao (wd c) (scale I c) 28) Φ) := by
  unfold St
  simp only [stepAG, wpC_bind]
  iintro ⟨#Hk, ⟨HL, HO, HC, HP⟩, HZ⟩ HΦ
  ihave HP := (prods_flat I c ax (g := 28) (by decide)) $$ HP
  unfold prods
  icases HP with ⟨%Y, %hY, HP⟩
  unfold pst
  icases HP with ⟨Hx, Hw, HY⟩
  iapply (frontAG_wp I K J c (g := 28) (by decide) (by decide)) $$ [HL HO HC HY]
  · isplitr; · iexact Hk
    isplitl [HL]; · iexact HL
    isplitl [HO]; · iexact HO
    isplitl [HC]; · iexact HC
    iexact HY
  rw [show Nat.blt 28 28 = false from rfl, cond_false, crb_next c (show 28 ≤ 28 from le_rfl)]
  iintro ⟨HL, HO, HC, HY⟩
  iapply (wpC_ret c)
  ihave HL := (sepL_mono (L28_intro I c) lanes) $$ HL
  iapply (outs_wp I c ao (n := 29) (by decide) (by decide) (t := ch (28 + 1)) rfl (q := fullShare.right) (P := L28 I c) (L28_read I c)) $$ [HL HZ]
  · isplitl [HL]; · iexact HL
    iexact HZ
  iintro ⟨HL, HZ⟩
  iapply HΦ
  isplitl [HL]; · iexact HL
  isplitl [HO]
  · iapply (show ow (F := F) c (obCr c 28 ++ obG c (28 + 1)) ⊢ ow c (obG c 29) from .rfl); iexact HO
  isplitl [HC]; · iexact HC
  isplitr [HZ]
  · iexists Y
    isplitr; · ipureintro; exact hY
    isplitl [Hx]; · iexact Hx
    isplitl [Hw]; · iexact Hw
    iexact HY
  iexact HZ

/-- What lane `k` holds at the end: its three slots, and its places past the last round. -/
def L30 (k : Fin 8) : sProp (MM F) :=
  iprop((SS c k 30 ∗ RR c k 30) ∗ Hs I c fullShare k 28 ∗ Hs I c fullShare k 29 ∗ Hs I c fullShare k 30)

theorem L30_read (k : Fin 8) : L30 I c k ⊢ iprop(Hs I c fullShare k 30 ∗ (Hs I c fullShare k 30 -∗ L30 I c k)) := by
  unfold L30
  iintro ⟨H1, H2, H3, H4⟩
  isplitl [H4]; · iexact H4
  iintro H4
  isplitl [H1]; · iexact H1
  isplitl [H2]; · iexact H2
  isplitl [H3]; · iexact H3
  iexact H4

theorem sepL_sep (P Q : Fin 8 → sProp (MM F)) : ∀ l, sepL (fun k => iprop(P k ∗ Q k)) l ⊢ iprop(sepL P l ∗ sepL Q l)
  | [] => by unfold sepL; iintro -; isplitl <;> iempintro
  | k :: l => by
    unfold sepL
    iintro ⟨⟨H1, H2⟩, H3⟩
    ihave H3 := (sepL_sep P Q l) $$ H3
    icases H3 with ⟨H3, H4⟩
    isplitl [H1 H3]
    · isplitl [H1]; · iexact H1
      iexact H3
    isplitl [H2]; · iexact H2
    iexact H4

theorem sepL_join (P Q : Fin 8 → sProp (MM F)) : ∀ l, iprop(sepL P l ∗ sepL Q l) ⊢ sepL (fun k => iprop(P k ∗ Q k)) l
  | [] => by unfold sepL; iintro -; iempintro
  | k :: l => by
    unfold sepL
    iintro ⟨⟨H1, H2⟩, H3, H4⟩
    isplitl [H1 H3]
    · isplitl [H1]; · iexact H1
      iexact H3
    iapply (sepL_join P Q l)
    isplitl [H2]; · iexact H2
    iexact H4

theorem L30_intro (k : Fin 8) : iprop(L2 I c 29 k ∗ Hs I c fullShare k 28) ⊢ L30 I c k := by
  unfold L2 L30
  iintro ⟨⟨H1, H2, -, -, H5, H6⟩, H7⟩
  isplitl [H1 H2]
  · isplitl [H1]; · iexact H1
    iexact H2
  isplitl [H7]; · iexact H7
  isplitl [H5]; · iexact H5
  iapply (show nxt I c k 29 ⊢ Hs I c fullShare k 30 from Entails.of_eq (if_neg (by decide)))
  iexact H6

/-- The last step. -/
theorem step29_wp {Φ : PUnit → sProp (MM F)} :
    iprop(know I K J ∗ sepL (L28 I c) lanes ∗ ow c (obG c 29) ∗ crb c 29 lanes ∗ prods I c ax 29 ∗ outSt I c ao 29)
      ⊢ iprop(((sepL (L30 I c) lanes ∗ ow c [] ∗ (crs c true 28 ∗ crs c false 28) ∗ prods I c ax 29 ∗ outSt I c ao 30) -∗ Φ ⟨⟩)
          -∗ wpC c (stepAG ao (wd c) (scale I c) 29) Φ) := by
  simp only [stepAG, wpC_bind]
  iintro ⟨#Hk, HL, HO, HC, HP, HZ⟩ HΦ
  unfold prods
  icases HP with ⟨%Y, %hY, HP⟩
  unfold pst
  icases HP with ⟨Hx, Hw, HY⟩
  ihave HL := (show sepL (L28 I c) lanes ⊢ iprop(sepL (L0 I c 29) lanes ∗ sepL (fun k => Hs I c fullShare k 28) lanes) from
    sepL_sep (L0 I c 29) (fun k => Hs I c fullShare k 28) lanes) $$ HL
  icases HL with ⟨HL, HL28⟩
  iapply (frontAG_wp I K J c (g := 29) (by decide) (by decide)) $$ [HL HO HC HY]
  · isplitr; · iexact Hk
    isplitl [HL]; · iexact HL
    isplitl [HO]; · iexact HO
    isplitl [HC]; · iexact HC
    iexact HY
  rw [show Nat.blt 29 28 = false from rfl, cond_false]
  iintro ⟨HL, HO, HC, HY⟩
  iapply (wpC_ret c)
  ihave HL := ((sepL_join (L2 I c 29) (fun k => Hs I c fullShare k 28) lanes).trans (sepL_mono (L30_intro I c) lanes)) $$ [HL HL28]
  · isplitl [HL]; · iexact HL
    iexact HL28
  iapply (outs_wp I c ao (n := 30) (by decide) (by decide) (t := ch (29 + 1)) rfl (q := fullShare) (P := L30 I c) (L30_read I c)) $$ [HL HZ]
  · isplitl [HL]; · iexact HL
    iexact HZ
  iintro ⟨HL, HZ⟩
  iapply HΦ
  isplitl [HL]; · iexact HL
  isplitl [HO]
  · iapply (show ow (F := F) c (obCr c 29 ++ obG c (29 + 1)) ⊢ ow c [] from .rfl); iexact HO
  isplitl [HC]
  · iapply (show crb (F := F) c 29 [] ⊢ iprop(crs c true 28 ∗ crs c false 28) from .rfl); iexact HC
  isplitr [HZ]
  · iexists Y
    isplitr; · ipureintro; exact hY
    isplitl [Hx]; · iexact Hx
    isplitl [Hw]; · iexact Hw
    iexact HY
  iexact HZ

end Cert.Ring

end
-- ==== Proof.Body.lean ====
/- The whole body of a device: the handshake, the first sends, and the thirty steps. -/
module

public import proofs.«01_k».proof.Proof.Iter

@[expose] public section

noncomputable section

namespace Cert.Ring

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds (dutyTok atPos reached openTok cellInv)
open Idealize.ShloMosaic.Release (released readerAt writeTok slotInv)
open Cert.KernelIdeal Cert.KernelIdeal.Gen

variable {F : FTy → Type} [FloatOps F]
variable (I : Ins F) (K : GSem nD τ sig → ℕ) (J : Key → ℕ) (c : Dev nD)
variable (ax : Memref sig .tc .vmem S4096x256 .fp8e5m2) (aw : Memref sig .tc .vmem S256x2048 .fp8e5m2)
  (asx asw : Memref sig .tc .smem S1 .f32) (am : Memref sig .tc .smem S3 .i32) (ao : Memref sig .tc .vmem S4096x2048 .f32)

/-! ## The result of a device -/

/-- How far behind, along a direction, a chunk is. -/
def tOf (b : Bool) (c : Dev nD) (a : Fin 16) : Fin 16 := cond b (place c - a) (a - place c)

theorem chunkAt_tOf (b : Bool) (c : Dev nD) (a : Fin 16) : chunkAt b c (tOf b c a) = a := by
  unfold chunkAt tOf
  generalize place c = p
  revert b p a
  decide +kernel

/-- The chunk, the lane and the place in the block of an index of the result. -/
def rowOf (i : S4096x2048.Idx) : Fin 16 := ⟨(i 0 : ℕ) / 256, Nat.div_lt_of_lt_mul (i 0).isLt⟩
def laneOf (i : S4096x2048.Idx) : Fin 8 := ⟨(i 1 : ℕ) / 256, Nat.div_lt_of_lt_mul (i 1).isLt⟩
def locOf (i : S4096x2048.Idx) : S256x256.Idx := fun a => match a with
  | 0 => ⟨(i 0 : ℕ) % 256, Nat.mod_lt _ (by decide)⟩
  | 1 => ⟨(i 1 : ℕ) % 256, Nat.mod_lt _ (by decide)⟩

/-- The result of device `c`. -/
def res (I : Ins F) (c : Dev nD) : S4096x2048.Idx → Elt F .f32 := fun i =>
  outB I c (tOf (fwd (laneOf i)) c (rowOf i)) (laneOf i) (locOf i)

theorem blk_locOf (i : S4096x2048.Idx) : (blkRect (rowOf i) (laneOf i)).emb (locOf i) = i :=
  idx2_ext ((blk_emb0 _ _ _).trans (by change 256 * ((i 0 : ℕ) / 256) + (i 0 : ℕ) % 256 = _; omega))
    ((blk_emb1 _ _ _).trans (by change 256 * ((i 1 : ℕ) / 256) + (i 1 : ℕ) % 256 = _; omega))

/-- When every block has been delivered the result is there. -/
theorem ZOk_all {Z : S4096x2048.Idx → Elt F .f32} (h : ZOk I c (Od 30) Z) : Z = res I c := by
  funext i
  have h1 := h (tOf (fwd (laneOf i)) c (rowOf i)) (laneOf i) (by
    unfold Od
    have := (tOf (fwd (laneOf i)) c (rowOf i)).isLt
    omega) (locOf i)
  rw [chunkAt_tOf, blk_locOf] at h1
  exact h1

/-! ## The first sends -/

/-- Lane `k` before its first send. -/
def Ls (k : Fin 8) : sProp (MM F) := iprop((SS c k 0 ∗ RR c k 0 ∗ CC c k 0 ∗ TT c k 0) ∗ slotAny ((c, k, 0) : Key))

theorem seed_wp {x : FVec F S256x2048 .bf16} (hx : x = prod I c (place c)) {Φ : PUnit → sProp (MM F)} :
    iprop((know I K J ∗ Free (nb true c) true 2 ∗ Free (nb false c) false 2) ∗ sepL (Ls c) lanes ∗ ow c (obSends c 0 lanes ++ obG c 0))
      ⊢ iprop(((sepL (L0 I c 0) lanes ∗ ow c (obG c 0)) -∗ Φ ⟨⟩) -∗ wpC c (forL (seedL (wd c) x) lanes) Φ) := by
  subst hx
  iintro H HΦ
  iapply (forL_loop c (R := iprop(know I K J ∗ Free (nb true c) true 2 ∗ Free (nb false c) false 2)) (P := Ls c) (Q := L0 I c 0)
    (A := fun l => ow c (obSends c 0 l ++ obG c 0)) (fun k l _ Φ => by
    unfold Ls slotAny
    rw [wpC_bind]
    iintro ⟨⟨#Hk, #Hf1, #Hf2⟩, ⟨⟨HS, HR, HC, HT⟩, ⟨%X, Hs⟩⟩, HO⟩ HΦ
    iapply (load_slot c (k := k) (s := 0)) $$ Hs
    iintro Hs
    rw [wpC_bind]
    iapply (store_slot c (k := k) (s := 0)) $$ Hs
    iintro Hs
    ihave #Hr := (SS_fst c) $$ HS
    rw [obSends_cons c (show 0 < 30 by decide)]
    iapply (lane_send I K J c (k := k) (g := 0) (by decide) (l := obSends c 0 l ++ obG c 0)) $$ [HT Hs HO]
    · isplitr; · iexact Hk
      isplitl [Hs]; · unfold Hs; iexact Hs
      isplitl [HO]; · iexact HO
      isplitl [HT]; · iexact HT
      isplitr; · iexact Hr
      iapply (show iprop(Free (F := F) (nb true c) true 2 ∗ Free (nb false c) false 2) ⊢ iprop(fs (dst k c) 0 k) from by
        cases hk : fwd k
        · unfold dst; rw [hk]; iintro ⟨-, H⟩; iapply (Free_elim (n := 2) (g := 0) (by decide) hk); iexact H
        · unfold dst; rw [hk]; iintro ⟨H, -⟩; iapply (Free_elim (n := 2) (g := 0) (by decide) hk); iexact H)
      isplitr; · iexact Hf1
      iexact Hf2
    iintro ⟨Hn, HO, HT⟩
    iapply HΦ
    isplitr [HO]
    · unfold L0
      isplitl [HS]; · iexact HS
      isplitl [HR]; · iexact HR
      isplitl [HC]; · iexact HC
      isplitl [HT]; · iexact HT
      iexact Hn
    iexact HO) lanes (List.suffix_refl _)) $$ H
  rw [obSends_nil, List.nil_append]
  iexact HΦ

/-! ## The steps in turn -/

theorem forRS_wp : ∀ (n g : ℕ) (_ : g + n ≤ 14) (Φ : PUnit → sProp (MM F)),
    iprop(know I K J ∗ St I c ax g ∗ crd c g) ⊢ iprop(((St I c ax (g + n) ∗ crd c (g + n)) -∗ Φ ⟨⟩) -∗ wpC c (forN (stepRS ax (wd c)) (List.range' g n)) Φ)
  | 0, g, _, Φ => by
    iintro ⟨-, H⟩ HΦ
    iapply (wpC_ret c)
    iapply HΦ
    iexact H
  | n + 1, g, h, Φ => by
    rw [show List.range' g (n + 1) = g :: List.range' (g + 1) n from List.range'_succ, forN, wpC_bind]
    iintro ⟨#Hk, H1, H2⟩ HΦ
    iapply (stepRS_wp I K J c ax (g := g) (by omega)) $$ [H1 H2]
    · isplitr; · iexact Hk
      isplitl [H1]; · iexact H1
      iexact H2
    iintro ⟨H1, H2⟩
    iapply (forRS_wp n (g + 1) (by omega) Φ) $$ [H1 H2]
    · isplitr; · iexact Hk
      isplitl [H1]; · iexact H1
      iexact H2
    rw [show g + 1 + n = g + (n + 1) by omega]
    iexact HΦ

theorem forAG_wp : ∀ (n g : ℕ) (_ : 15 ≤ g) (_ : g + n ≤ 28) (l : List ℕ) (Φ : PUnit → sProp (MM F)),
    iprop(know I K J ∗ St I c ax g ∗ crd c g ∗ outSt I c ao g)
      ⊢ iprop(((St I c ax (g + n) ∗ crd c (g + n) ∗ outSt I c ao (g + n)) -∗ wpC c (forN (stepAG ao (wd c) (scale I c)) l) Φ)
        -∗ wpC c (forN (stepAG ao (wd c) (scale I c)) (List.range' g n ++ l)) Φ)
  | 0, g, _, _, l, Φ => by
    iintro ⟨-, H⟩ HΦ
    iapply HΦ
    iexact H
  | n + 1, g, h15, h, l, Φ => by
    rw [show List.range' g (n + 1) = g :: List.range' (g + 1) n from List.range'_succ, List.cons_append, forN, wpC_bind]
    iintro ⟨#Hk, H1, H2, H3⟩ HΦ
    iapply (stepAG_wp I K J c ax ao (g := g) h15 (by omega)) $$ [H1 H2 H3]
    · isplitr; · iexact Hk
      isplitl [H1]; · iexact H1
      isplitl [H2]; · iexact H2
      iexact H3
    iintro ⟨H1, H2, H3⟩
    iapply (forAG_wp n (g + 1) (by omega) (by omega) l Φ) $$ [H1 H2 H3]
    · isplitr; · iexact Hk
      isplitl [H1]; · iexact H1
      isplitl [H2]; · iexact H2
      iexact H3
    rw [show g + 1 + n = g + (n + 1) by omega]
    iexact HΦ

/-- A store on its own. -/
theorem store_one {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {X : s.Idx → Elt F e} {Q : PUnit → sProp (MM F)} :
    (owns (c : Thread nD τ) m fullShare X : sProp (MM F))
      ⊢ iprop((owns (c : Thread nD τ) m fullShare (r.overlay X w) -∗ Q ⟨⟩) -∗ wpC c (.lift (.store m r w Finset.univ hx hm)) Q) := by
  iintro H HQ
  iapply (store_owns c (m := m) (r := r) (k := .ret)) $$ H
  iintro H
  iapply (wpC_ret c)
  iapply HQ
  iexact H

/-! ## After the handshake -/

/-- What the ghost state of device `c` is at the end of its body. -/
def fin (c : Dev nD) : sProp (MM F) := iprop(sepL (L30 I c) lanes ∗ ow c [] ∗ (crs c true 28 ∗ crs c false 28))

/-- The inputs of the body. -/
def insAt : sProp (MM F) :=
  iprop(owns (c : Thread nD τ) aw fullShare (I.w c) ∗ owns (c : Thread nD τ) asx fullShare (I.sx c) ∗ owns (c : Thread nD τ) asw fullShare (I.sw c))

/-- The two arrays the body keeps for itself. -/
def keptAny : sProp (MM F) :=
  iprop((∃ W, owns (c : Thread nD τ) wM fullShare W) ∗ (∃ Y, owns (c : Thread nD τ) pM fullShare Y))

theorem afterBar_wp {Φ : PUnit → sProp (MM F)} :
    iprop((know I K J ∗ Free (nb true c) true 2 ∗ Free (nb false c) false 2)
        ∗ (owns (c : Thread nD τ) ax fullShare (I.x c) ∗ insAt I c aw asx asw ∗ (∃ Z, owns (c : Thread nD τ) ao fullShare Z) ∗ keptAny c)
        ∗ sepL (Ls c) lanes ∗ ow c (obSends c 0 lanes ++ obG c 0) ∗ crb c 0 lanes ∗ crd c 0)
      ⊢ iprop((((owns (c : Thread nD τ) ax fullShare (I.x c) ∗ insAt I c aw asx asw ∗ owns (c : Thread nD τ) ao fullShare (res I c) ∗ keptAny c) ∗ fin I c) -∗ Φ ⟨⟩)
          -∗ wpC c (afterBar ax aw asx asw ao (wd c)) Φ) := by
  unfold insAt keptAny
  iintro ⟨⟨#Hk, #Hf1, #Hf2⟩, ⟨Hx, ⟨Hw, Hsx, Hsw⟩, ⟨%Z, HZ⟩, ⟨%W0, HW⟩, ⟨%Y0, HY⟩⟩, HL, HO, HC, Hd⟩ HΦ
  unfold afterBar
  iapply (smem_owns c) $$ Hsx
  iintro Hsx
  iapply (smem_owns c) $$ Hsw
  iintro Hsw
  dsimp only
  rw [show Scalar.mulf (I.sx c ((Rect.unit (s := S1) ![0] S1.size inb_S1_S1_0).emb (Shape.Idx.first (numel1_S1.symm ▸ Nat.one_pos))))
    (I.sw c ((Rect.unit (s := S1) ![0] S1.size inb_S1_S1_0).emb (Shape.Idx.first (numel1_S1.symm ▸ Nat.one_pos)))) = scale I c from rfl]
  rw [wpC_bind]
  iapply (load_one c (m := aw) (r := rectW) (hl := View.loadsAt_vmem h_S256x2048)) $$ Hw
  iintro Hw
  rw [wpC_bind]
  iapply (load_one c (m := wM) (r := rectW) (hl := View.loadsAt_vmem h_S256x2048)) $$ HW
  iintro HW
  rw [wpC_bind]
  iapply (store_one c (m := wM) (r := rectW)) $$ HW
  iintro HW
  rw [wpC_bind]
  iapply (load_one c (m := ax) (hl := View.loadsAt_vmem h_S256x256)) $$ Hx
  iintro Hx
  rw [wpC_bind]
  iapply (load_one c (m := wM) (r := rectW) (hl := View.loadsAt_vmem h_S256x2048)) $$ HW
  iintro HW
  rw [wpC_bind]
  iapply (seed_wp I K J c (show gemmV _ _ = prod I c (place c) from by
    unfold prod
    congr 1
    · exact emb_congr (s := S4096x256) (off1_eq c) (I.x c)
    · funext j; exact Rect.overlay_emb _ _ _ _)) $$ [HL HO]
  · isplitr
    · isplitr; · iexact Hk
      isplitr; · iexact Hf1
      iexact Hf2
    isplitl [HL]; · iexact HL
    iexact HO
  iintro ⟨HL, HO⟩
  rw [wpC_bind]
  iapply (show _ ⊢ iprop(_ -∗ wpC c (forN (stepRS ax (wd c)) [0, 1, 2, 3, 4, 5, 6, 7, 8, 9, 10, 11, 12, 13]) _) from
    forRS_wp I K J c ax 14 0 (by decide) _) $$ [HL HO HC Hd Hx HW HY]
  · isplitr; · iexact Hk
    isplitr [Hd]
    · unfold St
      isplitl [HL]; · iexact HL
      isplitl [HO]; · iexact HO
      isplitl [HC]; · iexact HC
      unfold prods
      iexists Y0
      isplitr; · ipureintro; exact POk_zero I c Y0
      unfold pst
      isplitl [Hx]; · iexact Hx
      isplitl [HW]
      · iexists _
        isplitr [HW]
        rotate_left
        · iexact HW
        · ipureintro
          funext j
          exact Rect.overlay_emb _ _ _ _
      iexact HY
    iexact Hd
  iintro ⟨HS, Hd⟩
  rw [wpC_bind]
  iapply (stepFin_wp I K J c ax ao) $$ [HS Hd HZ]
  · isplitr; · iexact Hk
    isplitl [HS]; · iexact HS
    isplitl [Hd]; · iexact Hd
    unfold outSt
    iexists Z
    isplitr
    · ipureintro; intro t k h; exact absurd h.1 (by decide)
    iexact HZ
  iintro ⟨HS, Hd, HZ⟩
  rw [show [15, 16, 17, 18, 19, 20, 21, 22, 23, 24, 25, 26, 27, 28, 29] = List.range' 15 13 ++ [28, 29] from rfl]
  iapply (forAG_wp I K J c ax ao 13 15 (by decide) (by decide) [28, 29] Φ) $$ [HS Hd HZ]
  · isplitr; · iexact Hk
    isplitl [HS]; · iexact HS
    isplitl [Hd]; · iexact Hd
    iexact HZ
  iintro ⟨HS, -, HZ⟩
  rw [forN, wpC_bind]
  iapply (step28_wp I K J c ax ao) $$ [HS HZ]
  · isplitr; · iexact Hk
    isplitl [HS]; · iexact HS
    iexact HZ
  iintro H
  rw [forN, wpC_bind]
  iapply (step29_wp I K J c ax ao) $$ [H]
  · isplitr; · iexact Hk
    iexact H
  unfold prods pst outSt
  iintro ⟨HL, HO, HC, ⟨%Y, -, Hx, ⟨%Wv, -, HW⟩, HY⟩, ⟨%Z', %hZ', HZ⟩⟩
  rw [forN]
  iapply (wpC_ret c)
  iapply HΦ
  obtain rfl := ZOk_all I c hZ'
  isplitr [HL HO HC]
  · isplitl [Hx]; · iexact Hx
    isplitl [Hw Hsx Hsw]
    · isplitl [Hw]; · iexact Hw
      isplitl [Hsx]; · iexact Hsx
      iexact Hsw
    isplitl [HZ]; · iexact HZ
    isplitl [HW]
    · iexists Wv; iexact HW
    iexists Y; iexact HY
  unfold fin
  isplitl [HL]; · iexact HL
  isplitl [HO]; · iexact HO
  iexact HC

end Cert.Ring

end
-- ==== Proof.Start.lean ====
/- The body from its start: the words read, the slots given up for the first two steps, and the handshake. -/
module

public import proofs.«01_k».proof.Proof.Body

@[expose] public section

noncomputable section

namespace Cert.Ring

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds (dutyTok atPos reached openTok cellInv)
open Idealize.ShloMosaic.Release (released readerAt writeTok slotInv)
open Cert.KernelIdeal Cert.KernelIdeal.Gen

variable {F : FTy → Type} [FloatOps F]
variable (I : Ins F) (K : GSem nD τ sig → ℕ) (J : Key → ℕ) (c : Dev nD)
variable (ax : Memref sig .tc .vmem S4096x256 .fp8e5m2) (aw : Memref sig .tc .vmem S256x2048 .fp8e5m2)
  (asx asw : Memref sig .tc .smem S1 .f32) (am : Memref sig .tc .smem S3 .i32) (ao : Memref sig .tc .vmem S4096x2048 .f32)

/-- The single index of a one-element part. -/
abbrev one1 : S1.Idx := Shape.Idx.first (numel1_S1.symm ▸ Nat.one_pos)

/-- The three words of device `c` are in the array. -/
def MOk (M : S3.Idx → Elt F .i32) : Prop :=
  M ((Rect.unit (s := S3) ![0] S1.size inb_S3_S1_0).emb one1) = (wd c).v0 ∧ M ((Rect.unit (s := S3) ![1] S1.size inb_S3_S1_1).emb one1) = (wd c).v1
    ∧ M ((Rect.unit (s := S3) ![2] S1.size inb_S3_S1_2).emb one1) = (wd c).v2

/-- What lane `k` starts with: its places, its tickets, its three slots and the rights to give them up. -/
def Li (k : Fin 8) : sProp (MM F) :=
  iprop((SS c k 0 ∗ RR c k 0 ∗ TT c k 0)
    ∗ (readerAt ES ((c, k, 0) : Key) 0 ∗ readerAt ES ((c, k, 1) : Key) 0 ∗ readerAt ES ((c, k, 2) : Key) 0)
    ∗ slotAny ((c, k, 0) : Key) ∗ slotAny ((c, k, 1) : Key) ∗ slotAny ((c, k, 2) : Key))

/-- Lane `k` gives up slots 1 and 2 before the first sends. -/
theorem Li_free (k : Fin 8) : iprop(know I K J ∗ Li c k) ⊢ (|={Set.univ}=> (Ls c k ∗ (fs c 0 k ∗ fs c 1 k)) : sProp (MM F)) := by
  unfold Li Ls slotAny
  iintro ⟨#Hk, ⟨HS, HR, HT⟩, ⟨Hr0, Hr1, Hr2⟩, Hs0, ⟨%X1, Hs1⟩, ⟨%X2, Hs2⟩⟩
  imod (act_free I K J c (k := k) (s := 1) (n := 0) (X := X1)) $$ [Hr1 Hs1] with H
  · isplitr; · iexact Hk
    isplitl [Hr1]; · iexact Hr1
    iexact Hs1
  icases H with ⟨Hr1, #Hf1⟩
  imod (act_free I K J c (k := k) (s := 2) (n := 0) (X := X2)) $$ [Hr2 Hs2] with H
  · isplitr; · iexact Hk
    isplitl [Hr2]; · iexact Hr2
    iexact Hs2
  icases H with ⟨Hr2, #Hf2⟩
  imodintro
  ihave #Hq := (show RR (F := F) c k 0 ⊢ iprop(reached ER (cell c (.rcv k 1)) 0 ∗ reached ER (cell c (.rcv k 2)) 0) from by
    unfold RR Rp
    iintro ⟨⟨⟨-, #H1⟩, ⟨-, #H2⟩, -⟩, -⟩
    isplitr; · iexact H1
    iexact H2) $$ HR
  icases Hq with ⟨Hq1, Hq2⟩
  isplitl
  · isplitr [Hs0]
    · isplitl [HS]; · iexact HS
      isplitl [HR]; · iexact HR
      isplitr [HT]
      · unfold CC Cp
        isplitl [Hr0]; · iexact Hr0
        isplitl [Hr1]; · iexact Hr1
        iexact Hr2
      iexact HT
    iexact Hs0
  · isplitr
    · isplitr; · iexact Hf1
      iexact Hq1
    · isplitr; · iexact Hf2
      iexact Hq2

/-- The tickets of device `c` for telling its neighbours that slots are free. -/
def creditToks : sProp (MM F) :=
  bigSep (Finset.Ico 0 28) fun j => iprop(dutyTok ER (cell (nb (!true) c) (.cr true)) 0 j ∗ dutyTok ER (cell (nb (!false) c) (.cr false)) 0 j)

/-- What device `c` brings to the handshake. -/
def barIn : sProp (MM F) :=
  iprop((reached ER (cell c (.cr true)) 0 ∗ reached ER (cell c (.cr false)) 0)
    ∗ (reached ER (cell (lft c) .bar) 0 ∗ reached ER (cell (rgt c) .bar) 0)
    ∗ (dutyTok ER (cell (lft c) .bar) 0 0 ∗ dutyTok ER (cell (rgt c) .bar) 0 1)
    ∗ cred (tallyAt (cell c .bar) 0 2) ∗ atPos ER (cell c .bar) 0 ∅ 0)

/-- What device `c` starts with of direction `b`'s credits. -/
def crIn (b : Bool) : sProp (MM F) :=
  iprop(atPos ER (cell c (.cr b)) 0 ∅ 0 ∗ bigSep (Finset.Ico 0 28) fun j => cred (tallyAt (cell c (.cr b)) j 1))

/-- Everything device `c`'s body starts with beside its arrays. -/
def ghost : sProp (MM F) :=
  iprop(sepL (Li c) lanes ∗ ow c (obAll c) ∗ barIn c ∗ (crIn c true ∗ crIn c false) ∗ creditToks c)

theorem crs_zero (b : Bool) : iprop(crIn (F := F) c b ∗ Free (nb b c) b 2) ⊢ crs c b 0 := by
  unfold crIn crs
  iintro ⟨⟨Hat, Hc⟩, Hf⟩
  iexists ∅
  isplitr; · ipureintro; exact ⟨Finset.empty_subset _, Nat.zero_le _⟩
  isplitl [Hat]; · iexact Hat
  isplitl [Hc]; · iexact Hc
  isplitr; · rw [bs_empty]; iempintro
  iexact Hf

theorem pay_bar0 : (ringRd I).payload (cell (lft c) .bar) 0 0 = iprop(Free (F := F) c true 2 ∗ reached ER (cell c (.cr false)) 0) := by
  rw [payload_cell, payK]
  rw [show nb (0 == 0) (lft c) = c from nb_nb' true c]
  rfl
theorem pay_bar1 : (ringRd I).payload (cell (rgt c) .bar) 0 1 = iprop(Free (F := F) c false 2 ∗ reached ER (cell c (.cr true)) 0) := by
  rw [payload_cell, payK]
  rw [show nb (1 == 0) (rgt c) = c from nb_nb' false c]
  rfl
theorem got_bar : (bigSep ({0, 1} : Finset ℕ) fun d => (ringRd I).payload (cell c .bar) 0 d)
    = iprop((Free (F := F) (nb true c) true 2 ∗ reached ER (cell (nb true c) (.cr false)) 0)
      ∗ (Free (nb false c) false 2 ∗ reached ER (cell (nb false c) (.cr true)) 0)) := by
  rw [bs_insert _ (by decide), bigSep_singleton, payload_cell, payload_cell]
  rfl

theorem dut_bar : dutK .bar 0 = {0, 1} := by simp [dutK]

/-- One signal of the handshake. -/
theorem act_bar {e : Dev nD} {d : ℕ} (hd : d ∈ ({0, 1} : Finset ℕ)) {l : List Ob} {P : sProp (MM F)} (hp : P ⊢ (ringRd I).payload (cell e .bar) 0 d) {Q : PUnit → sProp (MM F)} :
    iprop(know I K J ∗ ow c (⟨e, .bar, 0⟩ :: l) ∗ dutyTok ER (cell e .bar) 0 d ∗ P ∗ reached ER (cell e .bar) 0)
      ⊢ iprop((ow c l -∗ Q ⟨⟩) -∗ wpC c (semSignalWord e barS 1#32) Q) := by
  unfold ow
  iintro ⟨#Hk, ⟨%W, HO⟩, Ht, Hf, #Hr⟩ HQ
  ihave #Hi := (know_bar I K J e) $$ Hk
  iapply (Rounds.wp_signal vars ER (ringRd I) (c : Thread nD τ) none (dst := (e : Thread nD τ)) (sem := barS) (r := 0) (d := d) (k' := 1)
      (κ := K (cell e .bar)) ((duties_cell I e .bar 0).trans dut_bar ▸ hd)
      (amount_cell I e .bar _ _) 0 (due l) (show due (⟨e, .bar, 0⟩ :: l) = due l + Ob.tally ⟨e, .bar, 0⟩ from rfl)) $$ [HO Ht Hf]
  · isplitr; · iexact Hi
    isplitl [HO]; · iexact HO
    isplitl [Ht]; · iexact Ht
    isplitl [Hf]; · iapply hp; iexact Hf
    iexact Hr
  iintro HO
  rw [wp_ret]
  imodintro
  iapply HQ
  iexists W; iexact HO

/-- The wait of the handshake. -/
theorem act_met {l : List Ob} (hl : Above 3 l) {Q : PUnit → sProp (MM F)} :
    iprop(know I K J ∗ cred (tallyAt (cell c .bar) 0 2) ∗ ow c l ∗ atPos ER (cell c .bar) 0 ∅ 0)
      ⊢ iprop((((bigSep ({0, 1} : Finset ℕ) fun d => (ringRd I).payload (cell c .bar) 0 d) ∗ ow c l ∗ atPos ER (cell c .bar) 1 ∅ 0) -∗ Q ⟨⟩)
          -∗ wpC c (semWaitWord barS 2#32) Q) := by
  unfold ow
  have hmw := mayWait (F := F) c .bar 0 l (by decide) (show Above (lvK .bar 0 + 1) l from hl)
  iintro ⟨#Hk, Hc, ⟨%W, HO⟩, Hat⟩ HQ
  ihave #Hi := (know_bar I K J c) $$ Hk
  ihave #Hlev := (know_lev I K J) $$ Hk
  iapply (Rounds.wp_wait_rest_token vars ER (ringRd I) (c : Thread nD τ) none (κ := K (cell c .bar)) (k' := 2)
      (wpE_semWait_eq vars (c : Thread nD τ) none Set.univ) (Set.mem_univ _) 0 (O := due l) (W := W) (R := 0) (m := 0) (T := ∅)
      (show 0 + 2 = (ringRd I).expect (cell c .bar) 0 from by rw [expect_cell, dut_bar]; rfl)) $$ [Hc HO Hat]
  · isplitr; · iexact Hi
    isplitl [Hc]; · iexact Hc
    isplitl [HO]; · iexact HO
    isplitr; · ihave Hmw := hmw $$ Hlev; iexact Hmw
    iexact Hat
  iintro ⟨HO, Hat, -, Hp⟩
  rw [wp_ret]
  imodintro
  iapply HQ
  isplitl [Hp]
  · iapply (show bigSep ((ringRd I).duties (cell c .bar) 0 \ ∅) (fun d => (ringRd I).payload (cell c .bar) 0 d)
        ⊢ (bigSep ({0, 1} : Finset ℕ) fun d => (ringRd I).payload (cell c .bar) 0 d) from by
      rw [duties_cell, dut_bar, Finset.sdiff_empty])
    iexact Hp
  isplitl [HO]; · iexists _; iexact HO
  iexact Hat

/-- A check that holds. -/
theorem assume_one {α : Type} {P : Prop} {d : Decidable P} {k : PLift P → Pg F α} {Q : α → sProp (MM F)} (h : P) :
    wpC c (k ⟨h⟩) Q ⊢ wpC c (Prog.lift (TpuEff.assume P d) >>= k) Q := by
  unfold wpC
  exact wp_assume vars (c : Thread nD τ) none Set.univ h

/-- An update may come before a program. -/
theorem fupdC {α : Type} {p : Pg F α} {Q : α → sProp (MM F)} : (|={Set.univ}=> wpC c p Q : sProp (MM F)) ⊢ wpC c p Q := fupd_wp _ _ _ _ _

/-- The whole body of device `c`. -/
theorem body_wp {M : S3.Idx → Elt F .i32} (hM : MOk c M) {Φ : PUnit → sProp (MM F)} :
    iprop(know I K J
        ∗ (owns (c : Thread nD τ) ax fullShare (I.x c) ∗ insAt I c aw asx asw ∗ owns (c : Thread nD τ) am fullShare M ∗ (∃ Z, owns (c : Thread nD τ) ao fullShare Z) ∗ keptAny c)
        ∗ ghost c)
      ⊢ iprop((((owns (c : Thread nD τ) ax fullShare (I.x c) ∗ insAt I c aw asx asw ∗ owns (c : Thread nD τ) am fullShare M ∗ owns (c : Thread nD τ) ao fullShare (res I c) ∗ keptAny c)
            ∗ fin I c ∗ atPos ER (cell c .bar) 1 ∅ 0) -∗ Φ ⟨⟩)
          -∗ wpC c (body ax aw asx asw am ao) Φ) := by
  obtain ⟨h0, h1, h2⟩ := hM
  unfold ghost barIn
  iintro ⟨#Hk, ⟨Hx, Hin, HM, HZ, Hkept⟩, HL, HO, ⟨⟨#Hc1, #Hc2⟩, ⟨#Hb1, #Hb2⟩, ⟨Ht1, Ht2⟩, Hbc, Hbat⟩, ⟨Hcr1, Hcr2⟩, Htoks⟩ HΦ
  unfold body
  iapply (smem_owns c) $$ HM
  iintro HM
  rw [h0]
  iapply (assume_one c (wd c).h0)
  iapply (smem_owns c) $$ HM
  iintro HM
  rw [h1]
  iapply (assume_one c (wd c).h1)
  iapply (smem_owns c) $$ HM
  iintro HM
  rw [h2]
  iapply (assume_one c (wd c).h2)
  dsimp only
  rw [show (⟨(wd c).v0, (wd c).h0, (wd c).v1, (wd c).h1, (wd c).v2, (wd c).h2⟩ : Wd) = wd c from rfl, wd_left, wd_right]
  iapply (fupdC c)
  imod (sepL_fupd (R := know I K J) (P := Li c) (Q := Ls c) (S := fun k => iprop(fs c 0 k ∗ fs c 1 k)) (Li_free I K J c) lanes) $$ [HL] with H
  · isplitr; · iexact Hk
    iexact HL
  imodintro
  icases H with ⟨HL, HF⟩
  ihave HF := (sepL_sep (fun k => iprop(fs c 0 k)) (fun k => iprop(fs c 1 k)) lanes) $$ HF
  icases HF with ⟨HF0, HF1⟩
  ihave #HF0 := (Entails.of_eq (sepL_lanes (fun k => iprop(fs c 0 k)))) $$ HF0
  ihave #HF1 := (Entails.of_eq (sepL_lanes (fun k => iprop(fs c 1 k)))) $$ HF1
  have hFree : ∀ b, iprop((bigSep Finset.univ fun k => iprop(fs (F := F) c 0 k)) ∗ bigSep Finset.univ fun k => iprop(fs c 1 k)) ⊢ Free (F := F) c b 2 := fun b => by
    iintro ⟨H0, H1⟩
    iapply (Free_succ (e := c) (b := b) (n := 1))
    isplitl [H0]
    · iapply (Free_succ (e := c) (b := b) (n := 0))
      isplitr; · iapply (Free_zero); iempintro
      iexact H0
    iexact H1
  ihave #Hfr1 := (hFree true) $$ []
  · isplitr; · iexact HF0
    iexact HF1
  ihave #Hfr2 := (hFree false) $$ []
  · isplitr; · iexact HF0
    iexact HF1
  rw [wpC_bind]
  iapply (act_bar I K J c (e := lft c) (d := 0) (l := ⟨rgt c, .bar, 0⟩ :: (obSends c 0 lanes ++ obG c 0)) (by decide) (Entails.of_eq (pay_bar0 I c).symm)) $$ [HO Ht1]
  · isplitr; · iexact Hk
    isplitl [HO]; · iexact HO
    isplitl [Ht1]; · iexact Ht1
    isplitr
    · isplitr; · iexact Hfr1
      iexact Hc2
    iexact Hb1
  iintro HO
  rw [wpC_bind]
  iapply (act_bar I K J c (e := rgt c) (d := 1) (l := obSends c 0 lanes ++ obG c 0) (by decide) (Entails.of_eq (pay_bar1 I c).symm)) $$ [HO Ht2]
  · isplitr; · iexact Hk
    isplitl [HO]; · iexact HO
    isplitl [Ht2]; · iexact Ht2
    isplitr
    · isplitr; · iexact Hfr2
      iexact Hc1
    iexact Hb2
  iintro HO
  rw [wpC_bind]
  iapply (act_met I K J c (l := obSends c 0 lanes ++ obG c 0) (((above_sends c 0 lanes).mono (by decide)).append ((above_G c 0).mono (by decide)))) $$ [HO Hbc Hbat]
  · isplitr; · iexact Hk
    isplitl [Hbc]; · iexact Hbc
    isplitl [HO]; · iexact HO
    iexact Hbat
  rw [got_bar]
  iintro ⟨⟨⟨#Hn1, #Hn2⟩, ⟨#Hn3, #Hn4⟩⟩, HO, Hbat⟩
  iapply (afterBar_wp I K J c ax aw asx asw ao) $$ [Hx Hin HZ Hkept HL HO Hcr1 Hcr2 Htoks]
  · isplitr
    · isplitr; · iexact Hk
      isplitr; · iexact Hn1
      iexact Hn3
    isplitl [Hx Hin HZ Hkept]
    · isplitl [Hx]; · iexact Hx
      isplitl [Hin]; · iexact Hin
      isplitl [HZ]; · iexact HZ
      iexact Hkept
    isplitl [HL]; · iexact HL
    isplitl [HO]; · iexact HO
    isplitl [Hcr1 Hcr2]
    · iapply (show iprop(crs (F := F) c true 0 ∗ crs c false 0) ⊢ crb c 0 lanes from .rfl)
      isplitl [Hcr1]
      · iapply (crs_zero c true); isplitl [Hcr1]; · iexact Hcr1
        iexact Hn1
      · iapply (crs_zero c false); isplitl [Hcr2]; · iexact Hcr2
        iexact Hn3
    unfold crd creditToks
    isplitl [Htoks]; · iexact Htoks
    isplitr
    · isplitr; · iexact Hfr1
      iexact Hfr2
    isplitr; · iexact Hn4
    iexact Hn2
  iintro ⟨⟨Hx, Hin, HZ, Hkept⟩, Hfin⟩
  iapply HΦ
  isplitr [Hfin Hbat]
  · isplitl [Hx]; · iexact Hx
    isplitl [Hin]; · iexact Hin
    isplitl [HM]; · iexact HM
    isplitl [HZ]; · iexact HZ
    iexact Hkept
  isplitl [Hfin]; · iexact Hfin
  iexact Hbat

end Cert.Ring

end
-- ==== Proof.Close.lean ====
/- The two ends of the exchange: a buffer as its three slots, the cells put to use, and every cell closed
   again with its counter at zero. -/
module

public import proofs.«01_k».proof.Proof.Start

@[expose] public section

noncomputable section

namespace Cert.Ring

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds (dutyTok atPos reached openTok cellInv)
open Idealize.ShloMosaic.Release (released readerAt writeTok slotInv)
open Cert.KernelIdeal Cert.KernelIdeal.Gen

variable {F : FTy → Type} [FloatOps F]
variable (I : Ins F) (K : GSem nD τ sig → ℕ) (J : Key → ℕ) (c : Dev nD)

/-! ## A buffer and its slots -/

theorem slot_emb0 (s : Fin 3) (j : S1x256x256.Idx) : ((slotRect s).emb j 0 : ℕ) = s.val := by
  rw [Rect.emb_apply]
  have h : (j 0 : ℕ) < 1 := (j 0).isLt
  change s.val + 1 * (j 0 : ℕ) = _
  omega

theorem slot_mem {s : Fin 3} {i : S3x256x256.Idx} (h : i ∈ (slotRect s).set) : (i 0 : ℕ) = s.val := by
  obtain ⟨j, hj⟩ := (slotRect s).exists_idx_of_mem h
  rw [← hj]; exact slot_emb0 s j

theorem slots_disjoint (s t : Fin 3) (h : s ≠ t) : Disjoint (slotRect s).set (slotRect t).set := by
  rw [Finset.disjoint_left]
  intro i hs ht
  exact h (Fin.ext ((slot_mem hs).symm.trans (slot_mem ht)))

theorem slots_cover : (Finset.univ : Finset (Fin 3)).biUnion (fun s => (slotRect s).set) = Finset.univ := by
  refine Finset.eq_univ_iff_forall.mpr fun i => Finset.mem_biUnion.mpr ⟨⟨(i 0 : ℕ), (i 0).isLt⟩, Finset.mem_univ _, ?_⟩
  rw [Rect.mem_set_unit]
  intro a
  fin_cases a
  · exact ⟨le_rfl, Nat.lt_succ_self _⟩
  · exact ⟨Nat.zero_le _, (i 1).isLt.trans_eq (Nat.zero_add _).symm⟩
  · exact ⟨Nat.zero_le _, (i 2).isLt.trans_eq (Nat.zero_add _).symm⟩

theorem bs_fin3 (Φ : Fin 3 → sProp (MM F)) : bigSep Finset.univ Φ = iprop(Φ 0 ∗ Φ 1 ∗ Φ 2) :=
  bigSep_univ_eq_bigSepL [(0 : Fin 3), 1, 2] (by decide) (by decide) Φ

/-- A buffer is its three slots. -/
theorem slots_split (k : Fin 8) (X : S3x256x256.Idx → Elt F .bf16) :
    (owns (c : Thread nD τ) (bufM k) fullShare X : sProp (MM F)) ⊢ iprop(slotAny ((c, k, 0) : Key) ∗ slotAny ((c, k, 1) : Key) ∗ slotAny ((c, k, 2) : Key)) := by
  have h := owns_rects (Ix := ℕ) (Name := ℕ) (U := UU) (Lvl := ℕ) (Val := Elt F) (c : Thread nD τ) (bufM k) fullShare slotRect (fun _ _ => rfl) slots_disjoint slots_cover X
  rw [bs_fin3] at h
  refine h.trans ?_
  unfold slotAny
  iintro ⟨H0, H1, H2⟩
  isplitl [H0]; · iexists _; iexact H0
  isplitl [H1]; · iexists _; iexact H1
  iexists _; iexact H2

/-- Three slots are the buffer. -/
theorem slots_join (k : Fin 8) :
    iprop(slotAny ((c, k, 0) : Key) ∗ slotAny ((c, k, 1) : Key) ∗ slotAny ((c, k, 2) : Key)) ⊢ (iprop(∃ X, owns (c : Thread nD τ) (bufM k) fullShare X) : sProp (MM F)) := by
  unfold slotAny
  iintro ⟨⟨%X0, H0⟩, ⟨%X1, H1⟩, ⟨%X2, H2⟩⟩
  have nm : ∀ (s t : Fin 3), s ≠ t → ∀ j, (slotRect s).emb j ∉ (slotRect t).set := fun s t h j hm =>
    h (Fin.ext ((slot_emb0 s j).symm.trans (slot_mem hm)))
  haveI hne : ∀ e, Nonempty (Elt F e) := Elt.nonempty F
  let X : S3x256x256.Idx → Elt F .bf16 := (slotRect 0).overlay ((slotRect 1).overlay ((slotRect 2).overlay (fun _ => (hne .bf16).some) X2) X1) X0
  have e0 : X0 = fun j => X ((slotRect 0).emb j) := funext fun j => by dsimp only [X]; rw [Rect.overlay_emb]
  have e1 : X1 = fun j => X ((slotRect 1).emb j) := funext fun j => by
    dsimp only [X]
    rw [Rect.overlay_of_not_mem _ _ _ (nm 1 0 (by decide) j), Rect.overlay_emb]
  have e2 : X2 = fun j => X ((slotRect 2).emb j) := funext fun j => by
    dsimp only [X]
    rw [Rect.overlay_of_not_mem _ _ _ (nm 2 0 (by decide) j), Rect.overlay_of_not_mem _ _ _ (nm 2 1 (by decide) j), Rect.overlay_emb]
  have h := owns_of_rects (Ix := ℕ) (Name := ℕ) (U := UU) (Lvl := ℕ) (Val := Elt F) (c : Thread nD τ) (bufM k) fullShare slotRect (fun _ _ => rfl) slots_disjoint slots_cover X
  rw [bs_fin3] at h
  iexists X
  iapply h
  rw [← e0, ← e1, ← e2]
  isplitl [H0]; · iexact H0
  isplitl [H1]; · iexact H1
  iexact H2

/-! ## Closing -/

theorem close_at (x : Kd) (n : ℕ) (h : ∀ r, n ≤ r → dutK x r = ∅) :
    iprop(cI I K c x ∗ atPos ER (cell c x) n ∅ 0) ⊢ (|={Set.univ}=> semVal (cell c x) 0 : sProp (MM F)) :=
  Rounds.cell_close ER (ringRd I) (Set.mem_univ _) id fun r hr => (duties_cell I c x r).trans (h r hr)

/-- A credit counter with all its credits taken closes. -/
theorem close_cr (b : Bool) : iprop(know I K J ∗ crs c b 28) ⊢ (|={Set.univ}=> semVal (cell c (.cr b)) 0 : sProp (MM F)) := by
  unfold crs
  iintro ⟨#Hk, ⟨%S, %hS, Hat, -, -, -⟩⟩
  obtain ⟨h1, h2⟩ := hS
  have hS : S = Finset.range 28 := Finset.eq_of_subset_of_card_le h1 (by rw [Finset.card_range]; exact h2)
  subst hS
  ihave #Hi := (know_cr I K J c b) $$ Hk
  imod (Rounds.fupd_skip ER (ringRd I) (g := cell c (.cr b)) (κ := K (cell c (.cr b))) (by rw [duties_cell, dut_cr b]) (by rw [expect_cell, dut_cr b, Finset.card_range]) (Set.mem_univ _)) $$ [Hat] with ⟨Hat, -⟩
  · isplitr; · iexact Hi
    iexact Hat
  iapply (close_at I K c (.cr b) 1 (fun r hr => if_neg (by omega)))
  isplitr; · iexact Hi
  iexact Hat

/-- All the counters of lane `k` at zero. -/
def laneZero (k : Fin 8) : sProp (MM F) :=
  iprop((semVal (cell c (.snd k 0)) 0 ∗ semVal (cell c (.snd k 1)) 0 ∗ semVal (cell c (.snd k 2)) 0)
    ∗ (semVal (cell c (.rcv k 0)) 0 ∗ semVal (cell c (.rcv k 1)) 0 ∗ semVal (cell c (.rcv k 2)) 0))

/-- The three slots of lane `k`, at whatever they hold. -/
def laneSlots (k : Fin 8) : sProp (MM F) := iprop(slotAny ((c, k, 0) : Key) ∗ slotAny ((c, k, 1) : Key) ∗ slotAny ((c, k, 2) : Key))

/-- The two credit counters at zero. -/
def crZero : sProp (MM F) := iprop(semVal (cell c (.cr true)) 0 ∗ semVal (cell c (.cr false)) 0)

/-- Lane `k` closes. -/
theorem close_lane (k : Fin 8) : iprop(know I K J ∗ L30 I c k) ⊢ (|={Set.univ}=> (laneZero c k ∗ laneSlots c k) : sProp (MM F)) := by
  unfold L30 SS RR Sp Rp laneZero laneSlots slotAny
  iintro ⟨#Hk, ⟨⟨⟨Ha0, -⟩, ⟨Ha1, -⟩, ⟨Ha2, -⟩⟩, ⟨⟨Hb0, -⟩, ⟨Hb1, -⟩, ⟨Hb2, -⟩⟩, -⟩, H0, H1, H2⟩
  have hs : ∀ s r, 10 ≤ r → dutK (.snd k s) r = ∅ := fun s r h => if_neg (by omega)
  have hr : ∀ s r, 10 ≤ r → dutK (.rcv k s) r = ∅ := fun s r h => if_neg (by omega)
  imod (close_at I K c (.snd k 0) 10 (hs 0)) $$ [Ha0] with Ha0
  · isplitr; · iapply (know_snd I K J c k 0); iexact Hk
    iexact Ha0
  imod (close_at I K c (.snd k 1) 10 (hs 1)) $$ [Ha1] with Ha1
  · isplitr; · iapply (know_snd I K J c k 1); iexact Hk
    iexact Ha1
  imod (close_at I K c (.snd k 2) 10 (hs 2)) $$ [Ha2] with Ha2
  · isplitr; · iapply (know_snd I K J c k 2); iexact Hk
    iexact Ha2
  imod (close_at I K c (.rcv k 1) 10 (hr 1)) $$ [Hb0] with Hb0
  · isplitr; · iapply (know_rcv I K J c k 1); iexact Hk
    iexact Hb0
  imod (close_at I K c (.rcv k 2) 10 (hr 2)) $$ [Hb1] with Hb1
  · isplitr; · iapply (know_rcv I K J c k 2); iexact Hk
    iexact Hb1
  imod (close_at I K c (.rcv k 0) 10 (hr 0)) $$ [Hb2] with Hb2
  · isplitr; · iapply (know_rcv I K J c k 0); iexact Hk
    iexact Hb2
  imodintro
  unfold Hs
  isplitl [Ha0 Ha1 Ha2 Hb0 Hb1 Hb2]
  · isplitl [Ha0 Ha1 Ha2]
    · isplitl [Ha0]; · iexact Ha0
      isplitl [Ha1]; · iexact Ha1
      iexact Ha2
    isplitl [Hb2]; · iexact Hb2
    isplitl [Hb0]; · iexact Hb0
    iexact Hb1
  isplitl [H2]; · iexists _; iexact H2
  isplitl [H0]; · iexists _; iexact H0
  iexists _; iexact H1

/-- Everything closes. -/
theorem close_fin : iprop(know I K J ∗ fin I c ∗ atPos ER (cell c .bar) 1 ∅ 0)
    ⊢ (|={Set.univ}=> ((sepL (laneZero c) lanes ∗ sepL (laneSlots c) lanes) ∗ ow c [] ∗ crZero c ∗ semVal (cell c .bar) 0) : sProp (MM F)) := by
  unfold fin crZero
  iintro ⟨#Hk, ⟨HL, HO, HC1, HC2⟩, Hb⟩
  imod (sepL_fupd (R := know I K J) (close_lane I K J c) lanes) $$ [HL] with HL
  · isplitr; · iexact Hk
    iexact HL
  imod (close_cr I K J c true) $$ [HC1] with HC1
  · isplitr; · iexact Hk
    iexact HC1
  imod (close_cr I K J c false) $$ [HC2] with HC2
  · isplitr; · iexact Hk
    iexact HC2
  imod (close_at I K c .bar 1 (fun r hr => if_neg (by omega))) $$ [Hb] with Hb
  · isplitr; · iapply (know_bar I K J c); iexact Hk
    iexact Hb
  imodintro
  isplitl [HL]; · iexact HL
  isplitl [HO]; · iexact HO
  isplitl [HC1 HC2]
  · isplitl [HC1]; · iexact HC1
    iexact HC2
  iexact Hb

end Cert.Ring

end
-- ==== Proof.Host.lean ====
/- The three words the host computes for a device: its place on the ring and its two neighbours. -/
module

public import proofs.«01_k».proof.Proof.Start
public import proofs.«01_k».proof.Proof.Gen.KernelIdeal.Regions
public import Idealize.ShloMosaic.Lib.StableHlo.Run
public import Idealize.ShloMosaic.Lib.StableHlo.RunClose
public import Idealize.ShloMosaic.PureOps.BitExact

@[expose] public section

noncomputable section

namespace Cert.Ring

open Idealize.ShloMosaic Idealize.ShloMosaic.TcCoe Idealize.SL Idealize.SL.RA Idealize.SL.BI Idealize.SL.Sem
open Cert.KernelIdeal Cert.KernelIdeal.Gen

variable {F : FTy → Type} [FloatOps F]

variable (V : Valuation τ sig (Elt F)) (c : Dev nD)

/-- A word, and a table of sixteen. -/
abbrev W0 (F : FTy → Type) : Type := (⟨S_, .i32⟩ : BufTy).Contents (Elt F)
abbrev W16 (F : FTy → Type) : Type := (⟨S16, .i32⟩ : BufTy).Contents (Elt F)

/-- The remainder of a word by another, with the sign of the other. -/
def remS (x d : W0 F) : W0 F :=
  let d' : W0 F := select (cmpi .eq d (constantI S_ 32 0#32)) (constantI S_ 32 1#32) d
  let r : W0 F := Host.remsi x d'
  select (andi (cmpi .ne (cmpi .slt r (constantI S_ 32 0#32)) (cmpi .slt d' (constantI S_ 32 0#32))) (cmpi .ne r (constantI S_ 32 0#32))) (addi r d') r

/-- An index counted from the end if negative. -/
def wrapS (x : W0 F) : W0 F := select (cmpi .slt x (constantI S_ 32 0#32)) (addi x (constantI S_ 32 16#32)) x

/-- A table's entry. -/
def lookS (t : W16 F) (x : W0 F) : W0 F :=
  shapeCast S_ (Host.dynamicSlice S1 t (fun k => ((![wrapS x] : Fin 1 → W0 F) k (Shape.Idx.first h_S_)).toInt) sliceFits_S16_S1 : (⟨S1, .i32⟩ : BufTy).Contents (Elt F)) shapeCasts_S1_S_

/-- The table of the ring. -/
def tabS : W16 F := fun i => lit0 (S16.rowMajor i)

/-- The place of the device in the table. -/
def placeS (c : Dev nD) : W0 F := fun j =>
  (Host.reduce2 reducer_argmax_i1_i32 (cmpi .eq (tabS (F := F)) (broadcastInDim S16 ![] bcast_S_S16 (Host.remui (Host.divui (constantI S_ 32 (Dev.word c)) (constantI S_ 32 1#32)) (constantI S_ 32 16#32))))
    (iotaInDim S16 32 0) (constantI S_ 1 0#1) (constantI S_ 32 0#32) reducesTo_S16_S_d0 h_S_ j).2

theorem host0_c : StableHlo.after (hostOps0 c) V (Proc.devRef .tc main_c) = tabS := by
  after_results
  rfl
theorem host0_v6 : StableHlo.after (hostOps0 c) V (Proc.devRef .tc main_v6)
    = cmpi .eq (tabS (F := F)) (broadcastInDim S16 ![] bcast_S_S16 (Host.remui (Host.divui (constantI S_ 32 (Dev.word c)) (constantI S_ 32 1#32)) (constantI S_ 32 16#32))) := by
  after_results
  rfl
theorem host1_v7 : StableHlo.after hostOps0_1 V (Proc.devRef .tc main_v7)
    = fun j => (Host.reduce2 reducer_argmax_i1_i32 (V (Proc.devRef .tc main_v6)) (iotaInDim S16 32 0) (constantI S_ 1 0#1) (constantI S_ 32 0#32) reducesTo_S16_S_d0 h_S_ j).2 := by
  after_results
  rfl
theorem host2_v8 : StableHlo.after hostOps0_2 V (Proc.devRef .tc main_v8) = subi (V (Proc.devRef .tc main_v7)) (constantI S_ 32 1#32) := by
  after_results
theorem host2_c3 : StableHlo.after hostOps0_2 V (Proc.devRef .tc main_c_3) = constantI S_ 32 16#32 := by
  after_results
theorem host3_v9 : StableHlo.after hostOps0_3 V (Proc.devRef .tc main_v9) = remS (V (Proc.devRef .tc main_v8)) (V (Proc.devRef .tc main_c_3)) := by
  after_results_simp
  simp only [StableHlo.TRef.ofBuf_toBuf]
  rfl
theorem host4_v14 : StableHlo.after hostOps0_4 V (Proc.devRef .tc main_v14) = lookS (V (Proc.devRef .tc main_c)) (V (Proc.devRef .tc main_v9)) := by
  after_results_simp_entrywise
  rfl
theorem host4_v15 : StableHlo.after hostOps0_4 V (Proc.devRef .tc main_v15) = addi (V (Proc.devRef .tc main_v7)) (constantI S_ 32 1#32) := by
  after_results
theorem host4_c7 : StableHlo.after hostOps0_4 V (Proc.devRef .tc main_c_7) = constantI S_ 32 16#32 := by
  after_results
theorem host5_v16 : StableHlo.after hostOps0_5 V (Proc.devRef .tc main_v16) = remS (V (Proc.devRef .tc main_v15)) (V (Proc.devRef .tc main_c_7)) := by
  after_results_simp
  simp only [StableHlo.TRef.ofBuf_toBuf]
  rfl
theorem host6_v22 : StableHlo.after (hostOps0_6.take 10) V (Proc.devRef .tc main_v22) = broadcastInDim S1 ![] bcast_S_S1 (V (Proc.devRef .tc main_v7)) := by
  simp only [List.take]
  after_results
theorem host6_v23 : StableHlo.after (hostOps0_6.take 10) V (Proc.devRef .tc main_v23) = broadcastInDim S1 ![] bcast_S_S1 (V (Proc.devRef .tc main_v14)) := by
  simp only [List.take]
  after_results
theorem host6_v24 : StableHlo.after (hostOps0_6.take 10) V (Proc.devRef .tc main_v24) = broadcastInDim S1 ![] bcast_S_S1 (lookS (V (Proc.devRef .tc main_c)) (V (Proc.devRef .tc main_v16))) := by
  simp only [List.take]
  after_results_simp_entrywise
  rfl
theorem host6_cat : StableHlo.after hostOps0_6 V (Proc.devRef .tc main_v25)
    = concatenate S3 0 [⟨S1, StableHlo.after (hostOps0_6.take 10) V (Proc.devRef .tc main_v22)⟩, ⟨S1, StableHlo.after (hostOps0_6.take 10) V (Proc.devRef .tc main_v23)⟩,
      ⟨S1, StableHlo.after (hostOps0_6.take 10) V (Proc.devRef .tc main_v24)⟩] concatenates_S1_S1_S1_S3_d0 := by
  simp only [List.take, StableHlo.after_cons, StableHlo.after_nil, StableHlo.nary_result]
  rfl

/-- The three words as the host computes them. -/
def wordsS (F : FTy → Type) [FloatOps F] (c : Dev nD) : (⟨S3, .i32⟩ : BufTy).Contents (Elt F) :=
  concatenate S3 0 [⟨S1, (broadcastInDim S1 ![] bcast_S_S1 (placeS (F := F) c) : (⟨S1, .i32⟩ : BufTy).Contents (Elt F))⟩,
    ⟨S1, broadcastInDim S1 ![] bcast_S_S1 (lookS (F := F) tabS (remS (subi (placeS (F := F) c) (constantI S_ 32 1#32)) (constantI S_ 32 16#32)))⟩,
    ⟨S1, broadcastInDim S1 ![] bcast_S_S1 (lookS (F := F) tabS (remS (addi (placeS (F := F) c) (constantI S_ 32 1#32)) (constantI S_ 32 16#32)))⟩] concatenates_S1_S1_S1_S3_d0

theorem words_bits0 : ∀ c : Dev nD, (wordsS Bits c ((Rect.unit (s := S3) ![0] S1.size inb_S3_S1_0).emb one1) : BitVec 32) = (wd c).v0 := by decide +kernel
theorem words_bits1 : ∀ c : Dev nD, (wordsS Bits c ((Rect.unit (s := S3) ![1] S1.size inb_S3_S1_1).emb one1) : BitVec 32) = (wd c).v1 := by decide +kernel
theorem words_bits2 : ∀ c : Dev nD, (wordsS Bits c ((Rect.unit (s := S3) ![2] S1.size inb_S3_S1_2).emb one1) : BitVec 32) = (wd c).v2 := by decide +kernel

/-- They do not depend on the values of the floats. -/
theorem words_any (i : S3.Idx) : (wordsS F c i : BitVec 32) = wordsS Bits c i := rfl

variable (m : (ℓ : Loc nD τ sig) → Buf (Elt F) ℓ)

theorem val_v7 : V2 m c (Proc.devRef .tc main_v7) = placeS (F := F) c := by
  unfold V2 placeS
  rw [host1_v7, show V1 m c (Proc.devRef .tc main_v6) = _ from host0_v6 (V0 m c) c]

theorem val_c : V1 m c (Proc.devRef .tc main_c) = tabS := host0_c (V0 m c) c

/-- The words as the host computes them. -/
theorem val_v25 : V7 m c (Proc.devRef .tc main_v25)
    = wordsS F c := by
  have e7 : V6 m c (Proc.devRef .tc main_v7) = placeS (F := F) c :=
    (V6_of m c main_v7 (by decide)).trans <| (V5_of m c main_v7 (by decide)).trans <| (V4_of m c main_v7 (by decide)).trans <| (V3_of m c main_v7 (by decide)).trans (val_v7 c m)
  have e7' : V4 m c (Proc.devRef .tc main_v7) = placeS (F := F) c :=
    (V4_of m c main_v7 (by decide)).trans <| (V3_of m c main_v7 (by decide)).trans (val_v7 c m)
  have ec : V4 m c (Proc.devRef .tc main_c) = tabS :=
    (V4_of m c main_c (by decide)).trans <| (V3_of m c main_c (by decide)).trans <| (V2_of m c main_c (by decide)).trans (val_c c m)
  have ec6 : V6 m c (Proc.devRef .tc main_c) = tabS := (V6_of m c main_c (by decide)).trans <| (V5_of m c main_c (by decide)).trans ec
  have e8 : V3 m c (Proc.devRef .tc main_v8) = subi (placeS (F := F) c) (constantI S_ 32 1#32) := (host2_v8 (V2 m c)).trans (by rw [val_v7])
  have e9 : V4 m c (Proc.devRef .tc main_v9) = remS (F := F) (subi (placeS c) (constantI S_ 32 1#32)) (constantI S_ 32 16#32) :=
    (host3_v9 (V3 m c)).trans (by rw [e8, show V3 m c (Proc.devRef .tc main_c_3) = _ from host2_c3 (V2 m c)])
  have e14 : V6 m c (Proc.devRef .tc main_v14) = lookS (F := F) tabS (remS (subi (placeS c) (constantI S_ 32 1#32)) (constantI S_ 32 16#32)) :=
    (V6_of m c main_v14 (by decide)).trans <| (host4_v14 (V4 m c)).trans (by rw [ec, e9])
  have e16 : V6 m c (Proc.devRef .tc main_v16) = remS (F := F) (addi (placeS c) (constantI S_ 32 1#32)) (constantI S_ 32 16#32) :=
    (host5_v16 (V5 m c)).trans (by
      rw [show V5 m c (Proc.devRef .tc main_v15) = _ from host4_v15 (V4 m c), show V5 m c (Proc.devRef .tc main_c_7) = _ from host4_c7 (V4 m c), e7'])
  rw [show V7 m c (Proc.devRef .tc main_v25) = _ from host6_cat (V6 m c), host6_v22, host6_v23, host6_v24, e7, e14, e16, ec6]
  rfl

/-- The words the body reads are the ones it works with. -/
theorem words_ok : MOk (F := F) c (V7 m c (Proc.devRef .tc main_v25)) := by
  rw [val_v25]
  exact ⟨(words_any c _).trans (words_bits0 c), (words_any c _).trans (words_bits1 c), (words_any c _).trans (words_bits2 c)⟩

end Cert.Ring

end
-- ==== Proof.BodyEq.lean ====
/- The printed body of the kernel and the body written by steps and lanes are one program. -/
module

public import proofs.«01_k».proof.Proof.Prog

@[expose] public section

noncomputable section

namespace Cert.Ring

open Idealize.ShloMosaic Idealize.ShloMosaic.TcCoe Idealize.SL Idealize.SL.Sem
open Cert.KernelIdeal Cert.KernelIdeal.Gen

variable {F : FTy → Type} [FloatOps F]

/-- Two programs that begin with the same operation agree when what follows agrees. -/
theorem op_congr {E : Type → Type} {α β : Type} {e : E β} {k k' : β → Prog E α} (h : ∀ x, k x = k' x) : Prog.op e k = Prog.op e k' :=
  congrArg _ (funext h)

set_option maxRecDepth 100000 in
set_option maxHeartbeats 0 in
/-- The printed body is this program. -/
theorem body_eq (t : Fin cfg0.N) : bodyAt0 (F := F) t = body (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) := by

  repeat (refine op_congr fun x => ?_)
  rfl

end Cert.Ring

end
-- ==== Proof.Region.lean ====
/- The region of the kernel: what its windows hold, its own semaphores, and its body on each device. -/
module

public import proofs.«01_k».proof.Proof.Close
public import proofs.«01_k».proof.Proof.Host
public import proofs.«01_k».proof.Proof.BodyEq
public import proofs.«01_k».proof.Proof.Gen.KernelIdeal.Points
public import proofs.«01_k».proof.Proof.Gen.KernelIdeal.Launch
public import Idealize.ShloMosaic.Lib.Pipeline.Value
public import Idealize.ShloMosaic.Lib.Pipeline.FrameBody
public import Idealize.ShloMosaic.Lib.Pipeline.RegionTalk

@[expose] public section

noncomputable section

namespace Cert.Ring

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds (dutyTok atPos reached openTok cellInv)
open Idealize.ShloMosaic.Release (released readerAt writeTok slotInv)
open Idealize.ShloMosaic.Pipeline (Dat BodyObligation)
open Cert.KernelIdeal Cert.KernelIdeal.Gen

variable {F : FTy → Type} [FloatOps F]
variable (m : (ℓ : Loc nD τ sig) → Buf (Elt F) ℓ) (c : Dev nD)

/-- The factors and the scales as the devices' memories hold them. -/
def insM : Ins F where
  x c := m ((c : Thread nD τ).loc main_arg0)
  w c := m ((c : Thread nD τ).loc main_arg1)
  sx c := m ((c : Thread nD τ).loc main_arg2)
  sw c := m ((c : Thread nD τ).loc main_arg3)

/-- The words the host hands to device `c`. -/
def wordsM : S3.Idx → Elt F .i32 := V7 m c (Proc.devRef .tc main_v25)

theorem v7_arg0 : V7 m c main_arg0 = (insM m).x c :=
  ((V7_of m c main_arg0 (by decide)).trans ((V6_of m c main_arg0 (by decide)).trans ((V5_of m c main_arg0 (by decide)).trans
    ((V4_of m c main_arg0 (by decide)).trans ((V3_of m c main_arg0 (by decide)).trans ((V2_of m c main_arg0 (by decide)).trans (V1_of m c main_arg0 (by decide))))))))
theorem v7_arg1 : V7 m c main_arg1 = (insM m).w c :=
  ((V7_of m c main_arg1 (by decide)).trans ((V6_of m c main_arg1 (by decide)).trans ((V5_of m c main_arg1 (by decide)).trans
    ((V4_of m c main_arg1 (by decide)).trans ((V3_of m c main_arg1 (by decide)).trans ((V2_of m c main_arg1 (by decide)).trans (V1_of m c main_arg1 (by decide))))))))
theorem v7_arg2 : V7 m c main_arg2 = (insM m).sx c :=
  ((V7_of m c main_arg2 (by decide)).trans ((V6_of m c main_arg2 (by decide)).trans ((V5_of m c main_arg2 (by decide)).trans
    ((V4_of m c main_arg2 (by decide)).trans ((V3_of m c main_arg2 (by decide)).trans ((V2_of m c main_arg2 (by decide)).trans (V1_of m c main_arg2 (by decide))))))))
theorem v7_arg3 : V7 m c main_arg3 = (insM m).sw c :=
  ((V7_of m c main_arg3 (by decide)).trans ((V6_of m c main_arg3 (by decide)).trans ((V5_of m c main_arg3 (by decide)).trans
    ((V4_of m c main_arg3 (by decide)).trans ((V3_of m c main_arg3 (by decide)).trans ((V2_of m c main_arg3 (by decide)).trans (V1_of m c main_arg3 (by decide))))))))

/-! ## The kernel's own semaphores -/

/-- The credit semaphores of the two directions; the semaphores of the slots sent; those of the slots received. -/
abbrev Sems : Type := Bool ⊕ (Fin 8 × Fin 3) ⊕ (Fin 8 × Fin 3)

/-- What kind of cell each is. -/
def kdOf : Sems → Kd
  | .inl b => .cr b
  | .inr (.inl ks) => .snd ks.1 ks.2
  | .inr (.inr ks) => .rcv ks.1 ks.2

/-- The semaphore itself. -/
def osem (q : Sems) : SemLoc sig := semK (kdOf q)

theorem osem_facts : Pipeline.OwnSemFacts spec0 osem := by decide +kernel

/-- A conjunction over the kernel's own cells, by kind. -/
theorem bs_sems (Φ : Sems → sProp (MM F)) : bigSep Finset.univ Φ
    = iprop(bigSep Finset.univ (fun b => Φ (.inl b)) ∗ bigSep Finset.univ (fun ks => Φ (.inr (.inl ks))) ∗ bigSep Finset.univ (fun ks => Φ (.inr (.inr ks)))) := by
  rw [bigSep_univ_sum, bigSep_univ_sum]
  rfl

theorem bs_bool (Φ : Bool → sProp (MM F)) : bigSep Finset.univ Φ = iprop(Φ true ∗ Φ false) :=
  bigSep_univ_eq_bigSepL [true, false] (by decide) (by decide) Φ

/-- A conjunction over the lanes is one over the list of lanes. -/
theorem bs_lanes (Φ : Fin 8 → sProp (MM F)) : bigSep Finset.univ Φ = sepL Φ lanes := by
  rw [sepL_lanes]

theorem bs_slots (Φ : Fin 8 × Fin 3 → sProp (MM F)) : bigSep Finset.univ Φ = sepL (fun k => iprop(Φ (k, 0) ∗ Φ (k, 1) ∗ Φ (k, 2))) lanes := by
  rw [bigSep_univ_prod, ← bs_lanes]
  exact bigSep_congr fun k _ => bs_fin3 _

/-- All the kernel's own counters at zero: the credits' and, lane by lane, those of the slots. -/
theorem ownSems_eq : (Pipeline.ownSems0 osem c : sProp (MM F)) = iprop(crZero c ∗ sepL (laneZero c) lanes) := by
  unfold Pipeline.ownSems0
  rw [bs_sems, bs_bool, bs_slots, bs_slots]
  unfold laneZero crZero
  rw [← bs_lanes, ← bs_lanes, ← bs_lanes, ← bigSep_sep']
  rfl

/-! ## What a device keeps from the launch, and what it enters the region with -/

variable (I : Ins F) (K : GSem nD τ sig → ℕ) (J : Key → ℕ)

/-- What lane `k` keeps from the launch: its cells not yet opened, what it is owed, its tickets, its slots' rights. -/
def Ld (k : Fin 8) : sProp (MM F) :=
  iprop((openTok ER (cell c (.snd k 0)) ∗ openTok ER (cell c (.snd k 1)) ∗ openTok ER (cell c (.snd k 2)))
    ∗ (openTok ER (cell c (.rcv k 0)) ∗ openTok ER (cell c (.rcv k 1)) ∗ openTok ER (cell c (.rcv k 2)))
    ∗ (bigSep (Finset.Ico 0 30) fun j => cred (tallyAt (cell c (.rcv k (sl (j + 1)))) j N)) ∗ TT c k 0
    ∗ (readerAt ES ((c, k, 0) : Key) 0 ∗ readerAt ES ((c, k, 1) : Key) 0 ∗ readerAt ES ((c, k, 2) : Key) 0))

/-- The same with the cells open. -/
def Lo (k : Fin 8) : sProp (MM F) :=
  iprop((SS c k 0 ∗ RR c k 0 ∗ TT c k 0)
    ∗ (readerAt ES ((c, k, 0) : Key) 0 ∗ readerAt ES ((c, k, 1) : Key) 0 ∗ readerAt ES ((c, k, 2) : Key) 0))

/-- What device `c` keeps of direction `b`'s credits. -/
def crD (b : Bool) : sProp (MM F) :=
  iprop(openTok ER (cell c (.cr b)) ∗ bigSep (Finset.Ico 0 28) fun j => cred (tallyAt (cell c (.cr b)) j 1))

/-- What device `c` keeps for the handshake. -/
def barD : sProp (MM F) :=
  iprop((reached ER (cell (lft c) .bar) 0 ∗ reached ER (cell (rgt c) .bar) 0)
    ∗ (dutyTok ER (cell (lft c) .bar) 0 0 ∗ dutyTok ER (cell (rgt c) .bar) 0 1)
    ∗ cred (tallyAt (cell c .bar) 0 2) ∗ atPos ER (cell c .bar) 0 ∅ 0)

/-- What device `c` keeps from the launch for the region. -/
def Tk : sProp (MM F) :=
  iprop(∃ K J, know I K J ∗ sepL (Ld c) lanes ∗ barD c ∗ (crD c true ∗ crD c false) ∗ creditToks c)

/-- What device `c` enters the region with. -/
def Xk : sProp (MM F) :=
  iprop(∃ K J, know I K J ∗ sepL (Lo c) lanes ∗ barIn c ∗ (crIn c true ∗ crIn c false) ∗ creditToks c)

theorem open_at (x : Kd) : iprop(cI I K c x ∗ openTok ER (cell c x) ∗ semVal (cell c x) 0)
    ⊢ (|={Set.univ}=> (atPos ER (cell c x) 0 ∅ 0 ∗ reached ER (cell c x) 0) : sProp (MM F)) := by
  iintro ⟨#HI, Ho, Hv⟩
  iapply (Rounds.cell_open ER (ringRd I) (g := cell c x) (Set.mem_univ (K (cell c x))))
  isplitr; · iexact HI
  isplitl [Ho]; · iexact Ho
  iexact Hv

theorem open_lane (k : Fin 8) : iprop(know I K J ∗ (Ld c k ∗ laneZero c k)) ⊢ (|={Set.univ}=> (Lo c k ∗ emp) : sProp (MM F)) := by
  unfold Ld laneZero Lo SS RR Sp Rp
  iintro ⟨#Hk, ⟨⟨Ho0, Ho1, Ho2⟩, ⟨Hp0, Hp1, Hp2⟩, Hc, HT, Hr⟩, ⟨Hv0, Hv1, Hv2⟩, Hu0, Hu1, Hu2⟩
  imod (open_at c I K (.snd k 0)) $$ [Ho0 Hv0] with H0
  · isplitr; · iapply (know_snd I K J c k 0); iexact Hk
    isplitl [Ho0]; · iexact Ho0
    iexact Hv0
  imod (open_at c I K (.snd k 1)) $$ [Ho1 Hv1] with H1
  · isplitr; · iapply (know_snd I K J c k 1); iexact Hk
    isplitl [Ho1]; · iexact Ho1
    iexact Hv1
  imod (open_at c I K (.snd k 2)) $$ [Ho2 Hv2] with H2
  · isplitr; · iapply (know_snd I K J c k 2); iexact Hk
    isplitl [Ho2]; · iexact Ho2
    iexact Hv2
  imod (open_at c I K (.rcv k 0)) $$ [Hp0 Hu0] with G0
  · isplitr; · iapply (know_rcv I K J c k 0); iexact Hk
    isplitl [Hp0]; · iexact Hp0
    iexact Hu0
  imod (open_at c I K (.rcv k 1)) $$ [Hp1 Hu1] with G1
  · isplitr; · iapply (know_rcv I K J c k 1); iexact Hk
    isplitl [Hp1]; · iexact Hp1
    iexact Hu1
  imod (open_at c I K (.rcv k 2)) $$ [Hp2 Hu2] with G2
  · isplitr; · iapply (know_rcv I K J c k 2); iexact Hk
    isplitl [Hp2]; · iexact Hp2
    iexact Hu2
  imodintro
  isplitl
  · isplitr [Hr]
    · isplitl [H0 H1 H2]
      · isplitl [H0]; · iexact H0
        isplitl [H1]; · iexact H1
        iexact H2
      isplitr [HT]
      · isplitr [Hc]
        · isplitl [G1]; · iexact G1
          isplitl [G2]; · iexact G2
          iexact G0
        iexact Hc
      iexact HT
    iexact Hr
  iempintro

/-- The kernel's own counters being at zero, its cells are opened. -/
theorem open_all : iprop(Tk c I ∗ Pipeline.ownSems0 osem c) ⊢ (|={Set.univ}=> Xk c I : sProp (MM F)) := by
  rw [ownSems_eq]
  unfold Tk crZero
  iintro ⟨⟨%K, %J, #Hk, HL, HB, ⟨HC1, HC2⟩, HD⟩, ⟨Hz1, Hz2⟩, HZ⟩
  unfold crD barD
  icases HB with ⟨HB1, HB2, HB3, HB4⟩
  icases HC1 with ⟨HC1, HE1⟩
  icases HC2 with ⟨HC2, HE2⟩
  imod (sepL_fupd (open_lane c I K J) lanes) $$ [HL HZ] with HL
  · isplitr; · iexact Hk
    iapply (sepL_join (Ld c) (laneZero c) lanes)
    isplitl [HL]; · iexact HL
    iexact HZ
  icases HL with ⟨HL, -⟩
  imod (open_at c I K (.cr true)) $$ [HC1 Hz1] with H1
  · isplitr; · iapply (know_cr I K J c true); iexact Hk
    isplitl [HC1]; · iexact HC1
    iexact Hz1
  imod (open_at c I K (.cr false)) $$ [HC2 Hz2] with H2
  · isplitr; · iapply (know_cr I K J c false); iexact Hk
    isplitl [HC2]; · iexact HC2
    iexact Hz2
  icases H1 with ⟨H1, #Hr1⟩
  icases H2 with ⟨H2, #Hr2⟩
  imodintro
  unfold Xk barIn crIn
  iexists K; iexists J
  isplitr; · iexact Hk
  isplitl [HL]; · iexact HL
  isplitl [HB1 HB2 HB3 HB4]
  · isplitr
    · isplitr; · iexact Hr1
      iexact Hr2
    isplitl [HB1]; · iexact HB1
    isplitl [HB2]; · iexact HB2
    isplitl [HB3]; · iexact HB3
    iexact HB4
  isplitr [HD]
  · isplitl [H1 HE1]
    · isplitl [H1]; · iexact H1
      iexact HE1
    isplitl [H2]; · iexact H2
    iexact HE2
  iexact HD

/-! ## The scratch arrays -/

/-- An array at anything, as the launch has it and as the body addresses it. -/
theorem any_eq (b : Ref sig .tc) : (iprop(∃ f : Buf (Elt F) ((c : Thread nD τ).loc b), ((c : Thread nD τ).loc b) ↦{fullShare} f) : sProp (MM F))
    = iprop(∃ X : b.ty.Contents (Elt F), owns (c : Thread nD τ) (Memref.whole b) fullShare X) := by
  congr 1; funext f; exact (owns_whole (c : Thread nD τ) b fullShare f).symm

theorem slots_any (k : Fin 8) : iprop(∃ X, owns (c : Thread nD τ) (bufM k) fullShare X) ⊢ (laneSlots (F := F) c k) := by
  unfold laneSlots
  iintro ⟨%X, H⟩
  iapply (slots_split c k X); iexact H

theorem slots_gather (k : Fin 8) : laneSlots (F := F) c k ⊢ iprop(∃ X, owns (c : Thread nD τ) (bufM k) fullShare X) := by
  unfold laneSlots
  exact slots_join c k

/-- The scratch arrays are the slots, lane by lane, and the two arrays the body keeps. -/
theorem scratch_in : (Pipeline.scopedRest spec0 c : sProp (MM F)) ⊢ iprop(sepL (laneSlots c) lanes ∗ keptAny c) := by
  rw [scopedRest0_eq]
  simp only [any_eq]
  iintro ⟨H0, H1, H2, H3, H4, H5, H6, H7, H8, H9⟩
  isplitr [H0 H1]
  · unfold lanes sepL sepL sepL sepL sepL sepL sepL sepL sepL
    isplitl [H2]; · iapply (slots_any c 0); iexact H2
    isplitl [H3]; · iapply (slots_any c 1); iexact H3
    isplitl [H4]; · iapply (slots_any c 2); iexact H4
    isplitl [H5]; · iapply (slots_any c 3); iexact H5
    isplitl [H6]; · iapply (slots_any c 4); iexact H6
    isplitl [H7]; · iapply (slots_any c 5); iexact H7
    isplitl [H8]; · iapply (slots_any c 6); iexact H8
    isplitl [H9]; · iapply (slots_any c 7); iexact H9
    iempintro
  unfold keptAny
  isplitl [H1]; · iexact H1
  iexact H0

theorem scratch_out : iprop(sepL (laneSlots c) lanes ∗ keptAny c) ⊢ (Pipeline.scopedRest spec0 c : sProp (MM F)) := by
  rw [scopedRest0_eq]
  simp only [any_eq]
  unfold lanes sepL sepL sepL sepL sepL sepL sepL sepL sepL keptAny
  iintro ⟨⟨H2, H3, H4, H5, H6, H7, H8, H9, -⟩, H1, H0⟩
  isplitl [H0]; · iexact H0
  isplitl [H1]; · iexact H1
  isplitl [H2]; · iapply (slots_gather c 0); iexact H2
  isplitl [H3]; · iapply (slots_gather c 1); iexact H3
  isplitl [H4]; · iapply (slots_gather c 2); iexact H4
  isplitl [H5]; · iapply (slots_gather c 3); iexact H5
  isplitl [H6]; · iapply (slots_gather c 4); iexact H6
  isplitl [H7]; · iapply (slots_gather c 5); iexact H7
  isplitl [H8]; · iapply (slots_gather c 6); iexact H8
  iapply (slots_gather c 7); iexact H9

/-! ## The windows -/

/-- The region's invariant before the body. -/
def Φin : sProp (MM F) := iprop(Xk c (insM m) ∗ (sepL (laneSlots c) lanes ∗ keptAny c) ∗ ∃ r, prngReg c r)

/-- And after it: every counter back at zero. -/
def Φend : sProp (MM F) :=
  iprop(((crZero c ∗ sepL (laneZero c) lanes) ∗ semVal (cell c .bar) 0) ∗ (sepL (laneSlots c) lanes ∗ keptAny c) ∗ ∃ r, prngReg c r)

/-- The proof data of the region on device `c`: the arrays as the host leaves them; after the body the inputs' buffers as
    they were fetched and the result's at the kernel's value; everything to be paid owed before it, nothing after. -/
def datM : Dat τ (Elt F) ℕ ℕ UU ℕ cfg0 c where
  A w := V7 m c (Proc.devRef .tc (Pipeline.arrRef spec0 w))
  after w _ := match w with
    | ⟨0, _⟩ => (insM m).x c
    | ⟨1, _⟩ => (insM m).w c
    | ⟨2, _⟩ => (insM m).sx c
    | ⟨3, _⟩ => (insM m).sw c
    | ⟨4, _⟩ => wordsM m c
    | ⟨5, _⟩ => res (insM m) c
  Φ t := match t with
    | ⟨0, _⟩ => Φin m c
    | ⟨_ + 1, _⟩ => Φend c
  q _ := fullShare
  owed t := match t with
    | ⟨0, _⟩ => due (obAll c)
    | ⟨_ + 1, _⟩ => 0

theorem block0 (f : main_arg0.ty.Contents (Elt F)) : (win0_0.blk t0_0).view.read (Elt F) f = f := by
  have hz : (fun a => (win0_0.index t0_0) a * main_arg0.ty.shape.size a) = fun _ => 0 := funext fun a => by fin_cases a <;> decide
  exact Memref.read_access_unit_zero (Elt F) main_arg0 hz (fun a => by fin_cases a <;> decide) f
theorem block1 (f : main_arg1.ty.Contents (Elt F)) : (win0_1.blk t0_0).view.read (Elt F) f = f := by
  have hz : (fun a => (win0_1.index t0_0) a * main_arg1.ty.shape.size a) = fun _ => 0 := funext fun a => by fin_cases a <;> decide
  exact Memref.read_access_unit_zero (Elt F) main_arg1 hz (fun a => by fin_cases a <;> decide) f
theorem block2 (f : main_arg2.ty.Contents (Elt F)) : (win0_2.blk t0_0).view.read (Elt F) f = f := by
  have hz : (fun a => (win0_2.index t0_0) a * main_arg2.ty.shape.size a) = fun _ => 0 := funext fun a => by fin_cases a; decide
  exact Memref.read_access_unit_zero (Elt F) main_arg2 hz (fun a => by fin_cases a; decide) f
theorem block3 (f : main_arg3.ty.Contents (Elt F)) : (win0_3.blk t0_0).view.read (Elt F) f = f := by
  have hz : (fun a => (win0_3.index t0_0) a * main_arg3.ty.shape.size a) = fun _ => 0 := funext fun a => by fin_cases a; decide
  exact Memref.read_access_unit_zero (Elt F) main_arg3 hz (fun a => by fin_cases a; decide) f
theorem block4 (f : main_v25.ty.Contents (Elt F)) : (win0_4.blk t0_0).view.read (Elt F) f = f := by
  have hz : (fun a => (win0_4.index t0_0) a * main_v25.ty.shape.size a) = fun _ => 0 := funext fun a => by fin_cases a; decide
  exact Memref.read_access_unit_zero (Elt F) main_v25 hz (fun a => by fin_cases a; decide) f
theorem block5 (f : main_v26.ty.Contents (Elt F)) : (win0_5.blk t0_0).view.read (Elt F) f = f := by
  have hz : (fun a => (win0_5.index t0_0) a * main_v26.ty.shape.size a) = fun _ => 0 := funext fun a => by fin_cases a <;> decide
  exact Memref.read_access_unit_zero (Elt F) main_v26 hz (fun a => by fin_cases a <;> decide) f

/-- An input's buffer holds the whole array at the body's one point. -/
theorem fetched0 (dat : Dat τ (Elt F) ℕ ℕ UU ℕ cfg0 c) (d) : dat.before 0 t0_0 d = dat.A 0 :=
  (dat.before_fetched 0 t0_0 (fetch0_0 _) d).trans (block0 (dat.A 0))
theorem fetched1 (dat : Dat τ (Elt F) ℕ ℕ UU ℕ cfg0 c) (d) : dat.before 1 t0_0 d = dat.A 1 :=
  (dat.before_fetched 1 t0_0 (fetch0_1 _) d).trans (block1 (dat.A 1))
theorem fetched2 (dat : Dat τ (Elt F) ℕ ℕ UU ℕ cfg0 c) (d) : dat.before 2 t0_0 d = dat.A 2 :=
  (dat.before_fetched 2 t0_0 (fetch0_2 _) d).trans (block2 (dat.A 2))
theorem fetched3 (dat : Dat τ (Elt F) ℕ ℕ UU ℕ cfg0 c) (d) : dat.before 3 t0_0 d = dat.A 3 :=
  (dat.before_fetched 3 t0_0 (fetch0_3 _) d).trans (block3 (dat.A 3))
theorem fetched4 (dat : Dat τ (Elt F) ℕ ℕ UU ℕ cfg0 c) (d) : dat.before 4 t0_0 d = dat.A 4 :=
  (dat.before_fetched 4 t0_0 (fetch0_4 _) d).trans (block4 (dat.A 4))
theorem before0 (d) : (datM m c).before 0 t0_0 d = (insM m).x c := (fetched0 c (datM m c) d).trans (v7_arg0 m c)
theorem before1 (d) : (datM m c).before 1 t0_0 d = (insM m).w c := (fetched1 c (datM m c) d).trans (v7_arg1 m c)
theorem before2 (d) : (datM m c).before 2 t0_0 d = (insM m).sx c := (fetched2 c (datM m c) d).trans (v7_arg2 m c)
theorem before3 (d) : (datM m c).before 3 t0_0 d = (insM m).sw c := (fetched3 c (datM m c) d).trans (v7_arg3 m c)
theorem before4 (d) : (datM m c).before 4 t0_0 d = wordsM m c := (fetched4 c (datM m c) d).trans (rfl)

/-- The kernel's result array is what the body leaves. -/
theorem out_eq : (datM m c).arrAt 5 cfg0.N = res (insM m) c := by
  have h : (win0_5.blk t0_0).view.read (Elt F) ((datM m c).arrAt 5 cfg0.N) = res (insM m) c := by
    rw [show cfg0.N = (t0_0 : Fin cfg0.N).val + 1 from N_0, (datM m c).arrAt_succ 5 t0_0, flush0_5 t0_0, if_pos rfl]
    exact View.read_write_univ _ _
  exact (block5 _).symm.trans h

theorem owesAt_intro (t : Fin (cfg0.N + 1)) (O : CellTallies nD τ sig ℕ) (h0 : (datM m c).owed t = O) (W : Waits sig ℕ) :
    owes (c : Thread nD τ) O W ⊢ (datM m c).owesAt 0 t := by
  unfold Dat.owesAt Pipeline.owesWithin Dat.bound; rw [h0]
  iintro H
  iexists W; isplitr; · ipureintro; exact fun _ _ => Or.inl trivial
  iexact H

theorem owesAt_elim (t : Fin (cfg0.N + 1)) (O : CellTallies nD τ sig ℕ) (h0 : (datM m c).owed t = O) :
    (datM m c).owesAt 0 t ⊢ (iprop(∃ W, owes (c : Thread nD τ) O W) : sProp (MM F)) := by
  unfold Dat.owesAt Pipeline.owesWithin; rw [h0]
  iintro ⟨%W, -, H⟩; iexists W; iexact H

end Cert.Ring

end
-- ==== Proof.RegBody.lean ====
/- The body of the region on each device, from what it enters with to every counter back at zero. -/
module

public import proofs.«01_k».proof.Proof.Region

@[expose] public section

noncomputable section

namespace Cert.Ring

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds (dutyTok atPos reached openTok cellInv)
open Idealize.ShloMosaic.Release (released readerAt writeTok slotInv)
open Idealize.ShloMosaic.Pipeline (Dat BodyObligation)
open Cert.KernelIdeal Cert.KernelIdeal.Gen

variable {F : FTy → Type} [FloatOps F]
variable (m : (ℓ : Loc nD τ sig) → Buf (Elt F) ℓ) (c : Dev nD)

/-- What the body is called with. -/
def pre1 : sProp (MM F) :=
  iprop(Φin m c ∗ (datM m c).owesAt 0 t0_0.castSucc
    ∗ (∃ d, owns (c : Thread nD τ) (st0_0 t0_0) fullShare ((datM m c).before 0 t0_0 d)) ∗ (∃ d, owns (c : Thread nD τ) (st0_1 t0_0) fullShare ((datM m c).before 1 t0_0 d))
    ∗ (∃ d, owns (c : Thread nD τ) (st0_2 t0_0) fullShare ((datM m c).before 2 t0_0 d)) ∗ (∃ d, owns (c : Thread nD τ) (st0_3 t0_0) fullShare ((datM m c).before 3 t0_0 d))
    ∗ (∃ d, owns (c : Thread nD τ) (st0_4 t0_0) fullShare ((datM m c).before 4 t0_0 d)) ∗ (∃ d, owns (c : Thread nD τ) (st0_5 t0_0) fullShare ((datM m c).before 5 t0_0 d)))

/-- What it returns. -/
def post1 : sProp (MM F) :=
  iprop(Φend c ∗ (datM m c).owesAt 0 t0_0.succ
    ∗ owns (c : Thread nD τ) (st0_0 t0_0) fullShare ((insM m).x c) ∗ owns (c : Thread nD τ) (st0_1 t0_0) fullShare ((insM m).w c)
    ∗ owns (c : Thread nD τ) (st0_2 t0_0) fullShare ((insM m).sx c) ∗ owns (c : Thread nD τ) (st0_3 t0_0) fullShare ((insM m).sw c)
    ∗ owns (c : Thread nD τ) (st0_4 t0_0) fullShare (wordsM m c) ∗ owns (c : Thread nD τ) (st0_5 t0_0) fullShare (res (insM m) c))

theorem upC {α : Type} {p : Pg F α} {Q : α → sProp (MM F)} : wpC c p (fun a => iprop(|={Set.univ}=> Q a)) ⊢ wpC c p Q := wp_fupd _ _ _ _ _

/-- The program the region calls. -/
theorem row1 (t : Fin cfg0.N) : defs₀ (F := F) .tc cfg0.body (cfg0.bodyArgs t (cfg0.slots t)) = bodyAt0 t := rfl

theorem run1 : pre1 m c ⊢ wpC c (bodyAt0 t0_0) (fun _ => post1 m c) := by
  rw [body_eq]
  unfold pre1 Φin Xk
  simp only [before0, before1, before2, before3, before4]
  iintro ⟨⟨⟨%K, %J, #Hk, HL, HB, HC, HD⟩, ⟨Hsl, Hkept⟩, Hreg⟩, HO, ⟨%_, H0⟩, ⟨%_, H1⟩, ⟨%_, H2⟩, ⟨%_, H3⟩, ⟨%_, H4⟩, ⟨%d5, H5⟩⟩
  ihave HO' := (owesAt_elim m c _ (due (obAll c)) rfl) $$ HO
  iapply (upC c)
  iapply (body_wp (insM m) K J c (st0_0 t0_0) (st0_1 t0_0) (st0_2 t0_0) (st0_3 t0_0) (st0_4 t0_0) (st0_5 t0_0) (words_ok c m)) $$ [HL HB HC HD Hsl Hkept HO' H0 H1 H2 H3 H4 H5]
  · isplitr; · iexact Hk
    isplitr [HL HB HC HD Hsl HO']
    · isplitl [H0]; · iexact H0
      isplitl [H1 H2 H3]
      · unfold insAt
        isplitl [H1]; · iexact H1
        isplitl [H2]; · iexact H2
        iexact H3
      isplitl [H4]; · iexact H4
      isplitl [H5]; · iexists _; iexact H5
      iexact Hkept
    unfold ghost
    isplitl [HL Hsl]
    · iapply (show iprop(sepL (Lo c) lanes ∗ sepL (laneSlots c) lanes) ⊢ sepL (Li (F := F) c) lanes from
        (sepL_join (Lo c) (laneSlots c) lanes).trans (sepL_mono (fun k => by
          unfold Lo laneSlots Li
          iintro ⟨⟨H1, H2⟩, H3⟩
          isplitl [H1]; · iexact H1
          isplitl [H2]; · iexact H2
          iexact H3) lanes))
      isplitl [HL]; · iexact HL
      iexact Hsl
    isplitl [HO']; · unfold ow; iexact HO'
    isplitl [HB]; · iexact HB
    isplitl [HC]; · iexact HC
    iexact HD
  iintro ⟨⟨H0, Hin, H4, H5, Hkept⟩, Hfin, Hat⟩
  imod (close_fin (insM m) K J c) $$ [Hfin Hat] with ⟨⟨HZ, HS⟩, HO, Hcr, Hb⟩
  · isplitr; · iexact Hk
    isplitl [Hfin]; · iexact Hfin
    iexact Hat
  imodintro
  unfold post1 Φend insAt ow
  icases Hin with ⟨H1, H2, H3⟩
  icases HO with ⟨%W, HO⟩
  isplitl [HZ HS Hcr Hb Hkept Hreg]
  · isplitl [HZ Hcr Hb]
    · isplitr [Hb]
      · isplitl [Hcr]; · iexact Hcr
        iexact HZ
      iexact Hb
    isplitr [Hreg]
    · isplitl [HS]; · iexact HS
      iexact Hkept
    iexact Hreg
  isplitl [HO]; · iapply (owesAt_intro m c t0_0.succ 0 rfl W); iexact HO
  isplitl [H0]; · iexact H0
  isplitl [H1]; · iexact H1
  isplitl [H2]; · iexact H2
  isplitl [H3]; · iexact H3
  isplitl [H4]; · iexact H4
  iexact H5

theorem run2 (p : Pg F PUnit) (hp : p = bodyAt0 t0_0) : pre1 m c ⊢ wpC c p (fun _ => post1 m c) := by
  rw [hp]
  exact run1 m c

/-- The region's body meets its proof data. -/
theorem body_ob : BodyObligation (datM m c) (defs₀ (F := F)) vars 0 Set.univ := by
  unfold BodyObligation
  intro t
  obtain rfl := fin_N0 t
  generalize hp : defs₀ (F := F) .tc cfg0.body (cfg0.bodyArgs t0_0 (cfg0.slots t0_0)) = p
  have hq : p = bodyAt0 t0_0 := hp.symm.trans (row1 t0_0)
  clear hp
  have h := run2 m c p hq
  clear hq
  rw [bigSep_W0, bigSep_W0]
  exact h

end Cert.Ring

end
-- ==== Proof.Seg.lean ====
/- The kernel's region as a segment of the program, entered from what the launch deals and left with nothing owed. -/
module

public import proofs.«01_k».proof.Proof.RegBody

@[expose] public section

noncomputable section

namespace Cert.Ring

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds (dutyTok atPos reached openTok cellInv)
open Idealize.ShloMosaic.Release (released readerAt writeTok slotInv)
open Idealize.ShloMosaic.Pipeline (Dat BodyObligation)
open Cert.KernelIdeal Cert.KernelIdeal.Gen

variable {F : FTy → Type} [FloatOps F]
variable (m : (ℓ : Loc nD τ sig) → Buf (Elt F) ℓ) (c : Dev nD)

/-- What the unscoped buffers hold at the end: the result's the kernel's value. -/
def VE : Valuation τ sig (Elt F) := Function.update (V7 m c) (Proc.devRef .tc main_v26) ((datM m c).arrAt 5 cfg0.N)

theorem VE_of (b : DevRef τ sig) (h : b ≠ Proc.devRef .tc main_v26) : VE m c b = V7 m c b := Function.update_of_ne h _ _

theorem VE_out : VE m c (Proc.devRef .tc main_v26) = res (insM m) c := (Function.update_self _ _ _).trans (out_eq m c)

/-- The family of proof data: one region. -/
def pdats : (p : Fin 1) → (c : Dev nD) → Dat τ (Elt F) ℕ ℕ UU ℕ (cfgs p) c
  | ⟨0, _⟩, c => datM m c

theorem win_in : ∀ w : Fin 6, w ≠ 5 → (spec0 w).isOut = false ∧ (Proc.devRef (τ := τ) .tc (Pipeline.arrRef spec0 w)) ≠ Proc.devRef .tc main_v26 := by
  decide +kernel

/-- Every window's array holds at the end what the end's valuation says. -/
theorem arr_end (w : Fin 6) : (datM m c).arrAt w cfg0.N = VE m c (Proc.devRef .tc (Pipeline.arrRef spec0 w)) := by
  by_cases h : w = 5
  · subst h
    exact (Function.update_self (β := fun b : DevRef τ sig => b.ty.Contents (Elt F)) _ _ _).symm
  · exact ((datM m c).arrAt_in w (win_in w h).1 _).trans (VE_of m c _ (win_in w h).2).symm

/-- The buffers the region leaves alone. -/
abbrev restRefs : Finset (DevRef τ sig) := Pipeline.ucRefs τ sig \ Pipeline.arrRefs spec0

theorem rest_eq (b : DevRef τ sig) (h : b ∈ restRefs) : VE m c b = V7 m c b :=
  VE_of m c b fun e => by
    subst e
    refine (Finset.mem_sdiff.mp h).2 ?_
    exact Finset.mem_map_of_mem _ (Finset.mem_image.mpr ⟨5, Finset.mem_univ _, rfl⟩)

/-- Everything owed sits above the level of the region's own waits. -/
theorem above_all : Above 1 (obAll c) := fun o ho => by
  unfold obAll at ho
  rcases List.mem_cons.mp ho with rfl | ho
  · exact ⟨Nat.le_succ 1, Nat.zero_lt_succ 29⟩
  rcases List.mem_cons.mp ho with rfl | ho
  · exact ⟨Nat.le_succ 1, Nat.zero_lt_succ 29⟩
  rcases List.mem_append.mp ho with ho | ho
  · exact (above_sends c 0 lanes).mono (by decide) o ho
  · exact (above_G c 0).mono (by decide) o ho

theorem stage_oth : ∀ (w : Fin 6) (s : Fin (spec0 w).nbuf), kd (.dma ((spec0 w).sem s)) = .oth := by decide +kernel

theorem cut0 : Pipeline.LevelCutOwed (pcfgs (F := F)) adm (pdats m) 0 L lv 0 (fun _ => 0) where
  hι c w s := by rw [L_tc]; decide
  hιb c w s := by
    show lvK (kd (.dma ((spec0 w).sem s))) 0 ≤ 0
    rw [stage_oth w s]
    exact le_refl 0
  hD c t g i h := by
    obtain ⟨t, ht⟩ := t
    cases t with
    | zero =>
      obtain ⟨o, ho, rfl, rfl⟩ := due_pos (l := obAll c) h
      obtain ⟨h1, h2⟩ := above_all c o ho
      refine ⟨?_, ?_⟩
      · show o.ix ∈ L ((o.dev : Thread nD τ), semK o.kind)
        rw [L_tc]; exact Finset.mem_range.mpr h2
      · rw [lv_cell]; exact h1
    | succ t => exact absurd h (Nat.lt_irrefl 0)

theorem reg_open : iprop(Tk c (insM m) ∗ Pipeline.ownSems0 osem c ∗ levAts L lv) ⊢ (|={Set.univ}=> Xk c (insM m) : sProp (MM F)) := by
  iintro ⟨H1, H2, -⟩
  iapply (open_all c (insM m))
  isplitl [H1]; · iexact H1
  iexact H2

theorem held_none (V : Valuation τ sig (Elt F)) : (StableHlo.held (c.tc : Thread nD τ) ∅ V : sProp (MM F)) = iprop(emp) := rfl

theorem reg_in : iprop(Pipeline.scopedRest spec0 c ∗ (∃ r, prngReg c r) ∗ StableHlo.held (c.tc : Thread nD τ) ∅ (V7 m c) ∗ Xk c (insM m)) ⊢ (Φin m c : sProp (MM F)) := by
  unfold Φin
  iintro ⟨H1, H2, -, H3⟩
  isplitl [H3]; · iexact H3
  isplitl [H1]; · iapply (scratch_in c); iexact H1
  iexact H2

theorem reg_out : (Φend c : sProp (MM F)) ⊢ iprop(Pipeline.scopedRest spec0 c ∗ (∃ r, prngReg c r) ∗ StableHlo.held (c.tc : Thread nD τ) ∅ (VE m c)
    ∗ Pipeline.ownSems0 osem c ∗ semVal (cell c .bar) 0) := by
  rw [ownSems_eq, held_none]
  unfold Φend
  iintro ⟨⟨H1, H2⟩, H3, H4⟩
  isplitl [H3]; · iapply (scratch_out c); iexact H3
  isplitl [H4]; · iexact H4
  isplitr; · iempintro
  isplitl [H1]; · iexact H1
  iexact H2

set_option backward.isDefEq.respectTransparency.types false in
/-- The region as a segment. -/
def regM : Pipeline.RegionSeg (pcfgs (F := F)) adm (pdats m) 0 (defs₀ (F := F)) vars L lv 0 :=
  Pipeline.RegionSeg.ofTalk (pcfgs (F := F)) adm (pdats m) 0 (defs₀ (F := F)) vars L lv 0 osem osem_facts
    ∅ restRefs (Finset.empty_subset _) launch0.toP rfl (fun c => (body_ob m c).loose)
    (fun _ => 0) (fun c => due (obAll c)) (fun c => (zero_add _).symm) (fun c => rfl) (fun _ => rfl) (fun c w => by unfold Dat.share; split <;> rfl)
    (V7 m) (VE m) (fun c b hb => rest_eq m c b (Finset.mem_sdiff.mp hb).1)
    (fun c => Tk c (insM m)) (fun c => semVal (cell c .bar) 0) (fun c => Xk c (insM m)) (fun c => semVal (cell c .bar) 0)
    (reg_open m) (reg_in m) (reg_out m) (fun c => by iintro H; imodintro; iexact H)
    (fun _ => 0) (cut0 m) (fun _ => iprop(emp))
    (fun c w => rfl) (fun c w => arr_end m c w)

/-- What rides beside the buffers before the region. -/
def E0 : sProp (MM F) := iprop((∃ r, prngReg c r) ∗ Tk c (insM m) ∗ ∃ W, owes (c : Thread nD τ) (due (obAll c)) W)

theorem arr_sub : Pipeline.arrRefs (τ := τ) spec0 ⊆ Pipeline.ucRefs τ sig := Pipeline.arrRefs_sub_ucRefs spec0 winFacts0.arr_unscoped

theorem reg_pre : iprop(StableHlo.held (c : Thread nD τ) (Pipeline.ucRefs τ sig) (V7 m c) ∗ E0 m c) ⊢ (regM m).pre c := by
  show _ ⊢ iprop(StableHlo.held (c.tc : Thread nD τ) (Pipeline.arrRefs (τ := τ) spec0) (V7 m c) ∗ (∃ r, prngReg c r)
    ∗ (StableHlo.held (c.tc : Thread nD τ) restRefs (V7 m c) ∗ emp) ∗ Tk c (insM m) ∗ ∃ Wd, owes (c : Thread nD τ) (0 + due (obAll c)) Wd)
  rw [StableHlo.held_sub_split (c : Thread nD τ) arr_sub (V7 m c), zero_add]
  unfold E0
  iintro ⟨⟨H1, H2⟩, H3, H4, H5⟩
  isplitl [H1]; · iexact H1
  isplitl [H3]; · iexact H3
  isplitl [H2]
  · isplitl [H2]; · iexact H2
    iempintro
  isplitl [H4]; · iexact H4
  iexact H5

/-- What a device ends with. -/
def TN : sProp (MM F) := iprop(StableHlo.held (c : Thread nD τ) (Pipeline.ucRefs τ sig) (VE m c) ∗ semVal (cell c .bar) 0)

theorem reg_post : (regM m).post c ⊢ iprop(TN m c ∗ ∃ W, owes (c.tc : Thread nD τ) (0 : CellTallies nD τ sig ℕ) W) := by
  show iprop(StableHlo.held (c.tc : Thread nD τ) (Pipeline.arrRefs (τ := τ) spec0) (VE m c) ∗ (∃ r, prngReg c r)
    ∗ (StableHlo.held (c.tc : Thread nD τ) restRefs (VE m c) ∗ emp) ∗ semVal (cell c .bar) 0 ∗ ∃ Wd, owes (c : Thread nD τ) (0 : CellTallies nD τ sig ℕ) Wd) ⊢ _
  unfold TN
  rw [StableHlo.held_sub_split (c : Thread nD τ) arr_sub (VE m c)]
  iintro ⟨H1, -, ⟨H2, -⟩, H3, H4⟩
  isplitr [H4]
  · isplitl [H1 H2]
    · isplitl [H1]; · iexact H1
      iexact H2
    iexact H3
  iexact H4

end Cert.Ring

end
-- ==== Proof.Credit.lean ====
/- What the devices owe at the launch is credited to the cells owed: each device's credits, cell by cell. -/
module

public import proofs.«01_k».proof.Proof.Region

@[expose] public section

noncomputable section

namespace Cert.Ring

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds (dutyTok atPos reached openTok cellInv)
open Idealize.ShloMosaic.Release (released readerAt writeTok slotInv)
open Idealize.ShloMosaic.Pipeline (Dat BodyObligation)
open Cert.KernelIdeal Cert.KernelIdeal.Gen

variable {F : FTy → Type} [FloatOps F]
variable (c : Dev nD)

/-! ## Dues named alike on every device -/

/-- A due as every device has it: to the neighbour on a side, a cell of a purpose, an index. -/
structure Fam where
  side : Bool
  kind : Kd
  ix : ℕ

/-- Device `c`'s due of a name. -/
def Fam.ob (c : Dev nD) (f : Fam) : Ob := ⟨nb f.side c, f.kind, f.ix⟩

/-- The names of the dues of one step, of the steps from one on, and of all. -/
def famSends (g : ℕ) (l : List (Fin 8)) : List Fam := if g < 30 then l.map (fun k => ⟨fwd k, .rcv k (sl (g + 1)), g⟩) else []
def famCr (g : ℕ) : List Fam := if g < 28 then [⟨false, .cr true, g⟩, ⟨true, .cr false, g⟩] else []
def famFrom : ℕ → ℕ → List Fam
  | _, 0 => []
  | g, n + 1 => famSends (g + 1) lanes ++ (famCr g ++ famFrom (g + 1) n)
def famAll : List Fam := ⟨false, .bar, 0⟩ :: ⟨true, .bar, 0⟩ :: (famSends 0 lanes ++ famFrom 0 30)

theorem famSends_ob (g : ℕ) (l : List (Fin 8)) : (famSends g l).map (Fam.ob c) = obSends c g l := by
  unfold famSends obSends
  split
  · rw [List.map_map]; rfl
  · rfl

theorem famCr_ob (g : ℕ) : (famCr g).map (Fam.ob c) = obCr c g := by
  unfold famCr obCr
  split <;> rfl

theorem famFrom_ob : ∀ n g, (famFrom g n).map (Fam.ob c) = obFrom c g n
  | 0, _ => rfl
  | n + 1, g => by
    unfold famFrom obFrom
    rw [List.map_append, List.map_append, famSends_ob, famCr_ob, famFrom_ob n (g + 1)]

theorem famAll_ob : famAll.map (Fam.ob c) = obAll c := by
  unfold famAll obAll
  rw [List.map_cons, List.map_cons, List.map_append, famSends_ob, famFrom_ob]
  rfl

/-! ## The credits they make -/

/-- Over the devices, what is owed to device `c`'s cell of a purpose by dues of one name. -/
theorem owed_fam (f : Fam) :
    tallyOn (cell c f.kind) (launchCredit (Pipeline.owing fun d => (f.ob d).tally) 0 (cell c f.kind)) = (tallyAt (cell c f.kind) f.ix (amtK f.kind) : CellTallies nD τ sig ℕ) := by
  unfold tallyAt
  refine congrArg _ (Finsupp.ext fun u => ?_)
  rw [Pipeline.launchCredit_owing, Finset.sum_congr rfl (g := fun d : Dev nD => if d = nb (!f.side) c then Finsupp.single f.ix (amtK f.kind) u else 0),
    Finset.sum_ite_eq' Finset.univ (nb (!f.side) c), if_pos (Finset.mem_univ _)]
  intro d _
  show tallyAt (cell (nb f.side d) f.kind) f.ix (amtK f.kind) (cell c f.kind) u = _
  rw [tallyAt_apply]
  by_cases h : d = nb (!f.side) c
  · subst h
    rw [nb_nb', if_pos rfl, Finsupp.single_apply]
    by_cases hu : u = f.ix
    · subst hu; rw [if_pos ⟨rfl, rfl⟩, if_pos rfl]
    · rw [if_neg (fun h => hu h.2), if_neg (fun h => hu h.symm)]
  · rw [if_neg h, if_neg]
    rintro ⟨h1, -⟩
    apply h
    rw [(cell_inj h1).1, nb_nb]

/-- The credits of a list of names. -/
def credL : List Fam → sProp (MM F)
  | [] => iprop(emp)
  | f :: l => iprop(credL l ∗ cred (tallyAt (cell c f.kind) f.ix (amtK f.kind)))

/-- What the launch credits to device `c`, when the devices owe the dues of a list of names. -/
theorem credL_intro : ∀ l : List Fam, (Pipeline.launchCred (fun d => due (l.map (Fam.ob d))) c : sProp (MM F)) ⊢ credL c l
  | [] => by unfold credL; iintro -; iempintro
  | f :: l => by
    have e : (Pipeline.launchCred (fun d => due ((f :: l).map (Fam.ob d))) c : sProp (MM F))
        = iprop(Pipeline.launchCred (fun d => due (l.map (Fam.ob d))) c ∗ Pipeline.launchCred (fun d => (f.ob d).tally) c) :=
      Pipeline.launchCred_add (fun d => due (l.map (Fam.ob d))) (fun d => (f.ob d).tally) c
    rw [e]
    unfold credL
    iintro ⟨H1, H2⟩
    isplitl [H1]; · iapply (credL_intro l); iexact H1
    rw [← owed_fam c f]
    iapply (Pipeline.launchCred_elim (fun d => (f.ob d).tally) c (semK f.kind)); iexact H2

theorem credL_append (l' : List Fam) : ∀ l : List Fam, (credL c (l ++ l') : sProp (MM F)) ⊢ iprop(credL c l ∗ credL c l')
  | [] => by
    show credL c l' ⊢ iprop(emp ∗ credL c l')
    iintro H
    isplitr; · iempintro
    iexact H
  | f :: l => by
    show iprop(credL c (l ++ l') ∗ cred (tallyAt (cell c f.kind) f.ix (amtK f.kind))) ⊢ iprop((credL c l ∗ cred (tallyAt (cell c f.kind) f.ix (amtK f.kind))) ∗ credL c l')
    iintro ⟨H1, H2⟩
    ihave H := (credL_append l' l) $$ H1
    icases H with ⟨H1, H3⟩
    isplitr [H3]
    · isplitl [H1]; · iexact H1
      iexact H2
    iexact H3

/-- The credit of a landing, and of a direction's credit. -/
abbrev cR (k : Fin 8) (j : ℕ) : sProp (MM F) := cred (tallyAt (cell c (.rcv k (sl (j + 1)))) j N)
abbrev cC (b : Bool) (j : ℕ) : sProp (MM F) := cred (tallyAt (cell c (.cr b)) j 1)

theorem credL_sends {g : ℕ} (h : g < 30) (l : List (Fin 8)) : (credL c (famSends g l) : sProp (MM F)) ⊢ sepL (fun k => cR c k g) l := by
  unfold famSends
  rw [if_pos h]
  induction l with
  | nil => exact .rfl
  | cons k l ih =>
    show iprop(credL c (l.map (fun k => (⟨fwd k, .rcv k (sl (g + 1)), g⟩ : Fam))) ∗ cR c k g) ⊢ iprop(cR c k g ∗ sepL (fun k => cR c k g) l)
    iintro ⟨H1, H2⟩
    isplitl [H2]; · iexact H2
    iapply ih; iexact H1

theorem sepL_none (l : List (Fin 8)) : (iprop(emp) : sProp (MM F)) ⊢ sepL (fun _ => iprop(emp)) l := by
  induction l with
  | nil => exact .rfl
  | cons k l ih =>
    unfold sepL
    iintro -
    isplitr; · iempintro
    iapply ih; iempintro

/-- One step's landings with those of the later steps. -/
theorem cR_join {a b : ℕ} (h : a < b) : iprop(sepL (fun k => cR c k a) lanes ∗ sepL (fun k => bigSep (Finset.Ico (a + 1) b) (cR c k)) lanes)
    ⊢ (sepL (fun k => bigSep (Finset.Ico a b) (cR c k)) lanes : sProp (MM F)) :=
  (sepL_join _ _ lanes).trans (sepL_mono (fun k => Entails.of_eq (bs_Ico h (cR c k)).symm) lanes)

/-- The credits from step `g` on, sorted. -/
def credFrom (g : ℕ) : sProp (MM F) :=
  iprop(sepL (fun k => bigSep (Finset.Ico (g + 1) 30) (cR c k)) lanes ∗ bigSep (Finset.Ico g 28) (cC c true) ∗ bigSep (Finset.Ico g 28) (cC c false))

theorem credFrom_none {g : ℕ} (h : 29 ≤ g) : (iprop(emp) : sProp (MM F)) ⊢ credFrom c g := by
  unfold credFrom
  simp only [Finset.Ico_eq_empty_of_le (show 30 ≤ g + 1 by omega), Finset.Ico_eq_empty_of_le (show 28 ≤ g by omega), bs_empty]
  iintro -
  isplitr; · iapply (sepL_none lanes); iempintro
  isplitr <;> iempintro

theorem credL_cr (g : ℕ) : iprop(credL c (famCr g) ∗ bigSep (Finset.Ico (g + 1) 28) (cC c true) ∗ bigSep (Finset.Ico (g + 1) 28) (cC c false))
    ⊢ (iprop(bigSep (Finset.Ico g 28) (cC c true) ∗ bigSep (Finset.Ico g 28) (cC c false)) : sProp (MM F)) := by
  by_cases h : g < 28
  · rw [bs_Ico h, bs_Ico h]
    unfold famCr
    rw [if_pos h]
    show iprop(((emp ∗ cC c false g) ∗ cC c true g) ∗ bigSep (Finset.Ico (g + 1) 28) (cC c true) ∗ bigSep (Finset.Ico (g + 1) 28) (cC c false)) ⊢ _
    iintro ⟨⟨⟨-, H1⟩, H2⟩, H3, H4⟩
    isplitl [H2 H3]
    · isplitl [H2]; · iexact H2
      iexact H3
    isplitl [H1]; · iexact H1
    iexact H4
  · simp only [Finset.Ico_eq_empty_of_le (show 28 ≤ g by omega), Finset.Ico_eq_empty_of_le (show 28 ≤ g + 1 by omega), bs_empty]
    iintro -
    isplitr <;> iempintro

theorem credL_from : ∀ n g, g + n = 30 → (credL c (famFrom g n) : sProp (MM F)) ⊢ credFrom c g
  | 0, g, h => by
    show iprop(emp) ⊢ _
    exact credFrom_none c (by omega)
  | n + 1, g, h => by
    show credL c (famSends (g + 1) lanes ++ (famCr g ++ famFrom (g + 1) n)) ⊢ _
    have ih := credL_from n (g + 1) (by omega)
    by_cases hg : g + 1 < 30
    · unfold credFrom at ih ⊢
      iintro H
      ihave H := (credL_append c (famCr g ++ famFrom (g + 1) n) (famSends (g + 1) lanes)) $$ H
      icases H with ⟨H1, H⟩
      ihave H := (credL_append c (famFrom (g + 1) n) (famCr g)) $$ H
      icases H with ⟨H2, H⟩
      ihave H := ih $$ H
      icases H with ⟨H3, H4⟩
      isplitl [H1 H3]
      · iapply (cR_join c hg)
        isplitl [H1]; · iapply (credL_sends c hg lanes); iexact H1
        iexact H3
      iapply (credL_cr c g)
      isplitl [H2]; · iexact H2
      iexact H4
    · iintro -
      iapply (credFrom_none c (by omega)); iempintro

/-- Everything the launch credits to device `c`: the handshake's two units, the two directions' credits, the landings. -/
theorem creds_all : (Pipeline.launchCred (fun d => due (obAll d)) c : sProp (MM F))
    ⊢ iprop(cred (tallyAt (cell c .bar) 0 2) ∗ sepL (fun k => bigSep (Finset.Ico 0 30) (cR c k)) lanes
      ∗ bigSep (Finset.Ico 0 28) (cC c true) ∗ bigSep (Finset.Ico 0 28) (cC c false)) := by
  rw [show (fun d : Dev nD => due (obAll d)) = fun d => due (famAll.map (Fam.ob d)) from funext fun d => by rw [famAll_ob]]
  refine (credL_intro c famAll).trans ?_
  show iprop((credL c (famSends 0 lanes ++ famFrom 0 30) ∗ cred (tallyAt (cell c .bar) 0 1)) ∗ cred (tallyAt (cell c .bar) 0 1)) ⊢ _
  iintro ⟨⟨H, H1⟩, H2⟩
  ihave H := (credL_append c (famFrom 0 30) (famSends 0 lanes)) $$ H
  icases H with ⟨H3, H⟩
  ihave H := (credL_from c 30 0 rfl) $$ H
  unfold credFrom
  icases H with ⟨H4, H5⟩
  isplitl [H1 H2]
  · rw [← tallyAt_add (cell c .bar) 0 1 1]
    iapply (cred_add _ _).2
    isplitl [H1]; · iexact H1
    iexact H2
  isplitl [H3 H4]
  · iapply (cR_join c (by omega))
    isplitl [H3]; · iapply (credL_sends c (by omega) lanes); iexact H3
    iexact H4
  iexact H5

end Cert.Ring

end
-- ==== Proof.Deal.lean ====
/- The tokens the launch makes, and how they are dealt: each device gets those of the duties it pays. -/
module

public import proofs.«01_k».proof.Proof.Region

@[expose] public section

noncomputable section

namespace Cert.Ring

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds (dutyTok atPos reached openTok cellInv)
open Idealize.ShloMosaic.Release (released readerAt writeTok slotInv)
open Idealize.ShloMosaic.Pipeline (Dat BodyObligation)
open Cert.KernelIdeal Cert.KernelIdeal.Gen

variable {F : FTy → Type} [FloatOps F]
variable (c : Dev nD)

/-! ## The cells and the tokens of the launch -/

theorem kdOf_inj : Function.Injective kdOf := fun a b h => by
  rcases a with a | ⟨a, a'⟩ | ⟨a, a'⟩ <;> rcases b with b | ⟨b, b'⟩ | ⟨b, b'⟩ <;> simp [kdOf] at h ⊢ <;> exact h

/-- The handshake's cells. -/
def barEmb : Dev nD ↪ GSem nD τ sig := ⟨fun c => cell c .bar, fun _ _ h => (cell_inj h).1⟩
/-- The kernel's own cells. -/
def scEmb : Dev nD × Sems ↪ GSem nD τ sig :=
  ⟨fun p => cell p.1 (kdOf p.2), fun _ _ h => Prod.ext (cell_inj h).1 (kdOf_inj (cell_inj h).2)⟩

abbrev barCells : Finset (GSem nD τ sig) := Finset.univ.map barEmb
abbrev scCells : Finset (GSem nD τ sig) := Finset.univ.map scEmb

theorem disjoint_cells : Disjoint barCells scCells := by
  rw [Finset.disjoint_left]
  rintro g h₁ h₂
  obtain ⟨c, -, rfl⟩ := Finset.mem_map.mp h₁
  obtain ⟨⟨d, q⟩, -, h⟩ := Finset.mem_map.mp h₂
  have e := (cell_inj (show cell d (kdOf q) = cell c .bar from h)).2
  rcases q with b | ks | ks <;> exact Kd.noConfusion e

/-- The tokens of one device's cells: the handshake's two, the credits', and a step's leaving and landing. -/
abbrev TokIx : Type := Bool ⊕ (Bool × Fin 28) ⊕ (Fin 8 × Fin 30) ⊕ (Fin 8 × Fin 30)

def tokK : TokIx → Kd × ℕ × ℕ
  | .inl b => (.bar, 0, cond b 1 0)
  | .inr (.inl p) => (.cr p.1, 0, p.2.val)
  | .inr (.inr (.inl p)) => (.snd p.1 (sl p.2.val), p.2.val / 3, 0)
  | .inr (.inr (.inr p)) => (.rcv p.1 (sl (p.2.val + 1)), p.2.val / 3, 0)

theorem tokK_inj : Function.Injective tokK := fun a b h => by
  rcases a with a | ⟨a, a'⟩ | ⟨a, a'⟩ | ⟨a, a'⟩ <;> rcases b with b | ⟨b, b'⟩ | ⟨b, b'⟩ | ⟨b, b'⟩ <;> simp only [tokK, Prod.mk.injEq, reduceCtorEq, false_and] at h
  · obtain ⟨-, -, h⟩ := h
    cases a <;> cases b <;> first | rfl | exact absurd h (by decide)
  · obtain ⟨h1, -, h2⟩ := h
    cases h1; rw [Fin.ext h2]
  · obtain ⟨h1, h2, -⟩ := h
    injection h1 with h1 h3
    have h3 := congrArg Fin.val h3
    dsimp only [sl] at h3
    rw [h1, show a' = b' from Fin.ext (by omega)]
  · obtain ⟨h1, h2, -⟩ := h
    injection h1 with h1 h3
    have h3 := congrArg Fin.val h3
    dsimp only [sl] at h3
    rw [h1, show a' = b' from Fin.ext (by omega)]

def tokEmb : Dev nD × TokIx ↪ GSem nD τ sig × ℕ × ℕ :=
  ⟨fun p => (cell p.1 (tokK p.2).1, (tokK p.2).2.1, (tokK p.2).2.2), fun a b h => by
    obtain ⟨h1, h2⟩ := Prod.mk.inj h
    obtain ⟨h3, h4⟩ := cell_inj h1
    exact Prod.ext h3 (tokK_inj (Prod.ext h4 h2))⟩

abbrev ringToks : Finset (GSem nD τ sig × ℕ × ℕ) := Finset.univ.map tokEmb

/-- A conjunction over the first numbers. -/
theorem bs_first (n : ℕ) (Φ : ℕ → sProp (MM F)) : bigSep (Finset.univ : Finset (Fin n)) (fun i => Φ i.val) = bigSep (Finset.Ico 0 n) Φ := by
  have e : (Finset.Ico 0 n) = (Finset.univ : Finset (Fin n)).map Fin.valEmbedding := by
    ext i
    rw [Finset.mem_Ico, Finset.mem_map]
    constructor
    · rintro ⟨-, h⟩; exact ⟨⟨i, h⟩, Finset.mem_univ _, rfl⟩
    · rintro ⟨a, -, rfl⟩; exact ⟨Nat.zero_le _, a.isLt⟩
  rw [e, bigSep_map]
  rfl

/-- The tokens, device by device. -/
theorem toks_dealt : (bigSep ringToks fun x => (dutyTok ER x.1 x.2.1 x.2.2 : sProp (MM F)))
    = bigSep Finset.univ fun c : Dev nD => iprop((dutyTok ER (cell c .bar) 0 1 ∗ dutyTok ER (cell c .bar) 0 0)
      ∗ ((bigSep (Finset.Ico 0 28) fun j => dutyTok ER (cell c (.cr true)) 0 j) ∗ (bigSep (Finset.Ico 0 28) fun j => dutyTok ER (cell c (.cr false)) 0 j))
      ∗ (bigSep Finset.univ fun k : Fin 8 => bigSep (Finset.Ico 0 30) fun g => dutyTok ER (cell c (.snd k (sl g))) (g / 3) 0)
      ∗ (bigSep Finset.univ fun k : Fin 8 => bigSep (Finset.Ico 0 30) fun g => dutyTok ER (cell c (.rcv k (sl (g + 1)))) (g / 3) 0)) := by
  rw [bigSep_map, bigSep_univ_prod]
  refine bigSep_congr fun c _ => ?_
  rw [bigSep_univ_sum, bigSep_univ_sum, bigSep_univ_sum, bs_bool, bigSep_univ_prod, bigSep_univ_prod, bigSep_univ_prod, bs_bool]
  simp only [← bs_first]
  rfl

/-! ## Handing them on -/

/-- A conjunction over the devices, each taking its neighbour's part. -/
theorem bs_turn (b : Bool) (Φ : Dev nD → sProp (MM F)) : bigSep Finset.univ Φ = bigSep Finset.univ fun c => Φ (nb b c) :=
  bigSep_univ_equiv (nbEquiv b) Φ

/-- Lane by lane, each device taking the part of the one it sends to. -/
theorem bs_turn_lanes (Φ : Dev nD → Fin 8 → sProp (MM F)) :
    (bigSep Finset.univ fun c => bigSep Finset.univ (Φ c)) = bigSep Finset.univ fun c => bigSep Finset.univ fun k => Φ (dst k c) k := by
  rw [bigSep_univ_comm, bigSep_univ_comm (fun (c : Dev nD) (k : Fin 8) => Φ (dst k c) k)]
  exact bigSep_congr fun k _ => bs_turn (fwd k) (fun c => Φ c k)

/-- The ticket of each step: the slot it writes and which of the slot's writes it is. -/
def writeEmb : Dev nD × Fin 8 × Fin 30 ↪ Key × ℕ :=
  ⟨fun p => ((p.1, p.2.1, sl (p.2.2.val + 1)), p.2.2.val / 3), fun ⟨c, k, a⟩ ⟨d, l, b⟩ h => by
    obtain ⟨h1, h2⟩ := Prod.mk.inj h
    obtain ⟨h3, h4⟩ := Prod.mk.inj h1
    obtain ⟨h5, h6⟩ := Prod.mk.inj h4
    have h6 := congrArg Fin.val h6
    dsimp only [sl] at h2 h3 h5 h6
    rw [h3, h5, show a = b from Fin.ext (by omega)]⟩

theorem step_of : ∀ (s : Fin 3) (r : Fin 10), ∃ g : Fin 30, sl (g.val + 1) = s ∧ g.val / 3 = r.val := by decide +kernel

theorem writes_all : ((Finset.univ : Finset Key) ×ˢ Finset.range 10) = Finset.univ.map writeEmb := by
  ext ⟨⟨c, k, s⟩, r⟩
  rw [Finset.mem_product, Finset.mem_map]
  constructor
  · rintro ⟨-, h⟩
    obtain ⟨g, h1, h2⟩ := step_of s ⟨r, Finset.mem_range.mp h⟩
    exact ⟨(c, k, g), Finset.mem_univ _, by show ((c, k, sl (g.val + 1)), g.val / 3) = _; rw [h1, h2]⟩
  · rintro ⟨⟨d, l, g⟩, -, h⟩
    refine ⟨Finset.mem_univ _, Finset.mem_range.mpr ?_⟩
    have h2 : g.val / 3 = r := congrArg (fun x : Key × ℕ => x.2) h
    have := g.isLt
    show r < 10
    omega

/-- The tickets to write into the slots, by step. -/
theorem writes_dealt : (bigSep ((Finset.univ : Finset Key) ×ˢ Finset.range 10) fun x => (writeTok ES x.1 (x.2 + 1) : sProp (MM F)))
    = bigSep Finset.univ fun c : Dev nD => bigSep Finset.univ fun k : Fin 8 => bigSep (Finset.Ico 0 30) fun g => writeTok ES ((c, k, sl (g + 1)) : Key) (g / 3 + 1) := by
  rw [writes_all, bigSep_map, bigSep_univ_prod]
  refine bigSep_congr fun c _ => ?_
  rw [bigSep_univ_prod]
  refine bigSep_congr fun k _ => ?_
  rw [← bs_first]
  rfl

/-- The tokens and tickets device `c` pays with. -/
def pays : sProp (MM F) :=
  iprop((dutyTok ER (cell (lft c) .bar) 0 0 ∗ dutyTok ER (cell (rgt c) .bar) 0 1) ∗ creditToks c ∗ sepL (fun k => TT c k 0) lanes)

theorem pays_eq : (bigSep Finset.univ (pays (F := F)) : sProp (MM F))
    = iprop((bigSep Finset.univ (fun c : Dev nD => dutyTok ER (cell c .bar) 0 0) ∗ bigSep Finset.univ (fun c : Dev nD => dutyTok ER (cell c .bar) 0 1))
      ∗ (bigSep Finset.univ (fun c : Dev nD => bigSep (Finset.Ico 0 28) fun j => dutyTok ER (cell c (.cr true)) 0 j)
        ∗ bigSep Finset.univ (fun c : Dev nD => bigSep (Finset.Ico 0 28) fun j => dutyTok ER (cell c (.cr false)) 0 j))
      ∗ bigSep Finset.univ (fun c : Dev nD => bigSep Finset.univ fun k : Fin 8 => bigSep (Finset.Ico 0 30) fun g => dutyTok ER (cell c (.snd k (sl g))) (g / 3) 0)
      ∗ bigSep Finset.univ (fun c : Dev nD => bigSep Finset.univ fun k : Fin 8 => bigSep (Finset.Ico 0 30) fun g => dutyTok ER (cell c (.rcv k (sl (g + 1)))) (g / 3) 0)
      ∗ bigSep Finset.univ (fun c : Dev nD => bigSep Finset.univ fun k : Fin 8 => bigSep (Finset.Ico 0 30) fun g => writeTok ES ((c, k, sl (g + 1)) : Key) (g / 3 + 1))) := by
  rw [bs_turn false (fun c : Dev nD => (dutyTok ER (cell c .bar) 0 0 : sProp (MM F))), bs_turn true (fun c : Dev nD => (dutyTok ER (cell c .bar) 0 1 : sProp (MM F))),
    bs_turn (!true) (fun c : Dev nD => (bigSep (Finset.Ico 0 28) fun j => dutyTok ER (cell c (.cr true)) 0 j : sProp (MM F))),
    bs_turn (!false) (fun c : Dev nD => (bigSep (Finset.Ico 0 28) fun j => dutyTok ER (cell c (.cr false)) 0 j : sProp (MM F))),
    bs_turn_lanes (fun (c : Dev nD) (k : Fin 8) => (bigSep (Finset.Ico 0 30) fun g => dutyTok ER (cell c (.rcv k (sl (g + 1)))) (g / 3) 0 : sProp (MM F))),
    bs_turn_lanes (fun (c : Dev nD) (k : Fin 8) => (bigSep (Finset.Ico 0 30) fun g => writeTok ES ((c, k, sl (g + 1)) : Key) (g / 3 + 1) : sProp (MM F)))]
  simp only [← bigSep_sep']
  refine bigSep_congr fun c _ => ?_
  unfold pays creditToks TT toks
  rw [← bs_lanes]
  simp only [bigSep_sep']
  rfl

/-- Each device gets the tokens and tickets it pays with. -/
theorem pays_deal : iprop((bigSep ringToks fun x => (dutyTok ER x.1 x.2.1 x.2.2 : sProp (MM F)))
      ∗ (bigSep ((Finset.univ : Finset Key) ×ˢ Finset.range 10) fun x => writeTok ES x.1 (x.2 + 1))) ⊢ bigSep Finset.univ (pays (F := F)) := by
  rw [toks_dealt, writes_dealt, pays_eq]
  simp only [bigSep_sep']
  iintro ⟨⟨⟨H1, H0⟩, ⟨H2, H3⟩, H4, H5⟩, H6⟩
  isplitl [H0 H1]
  · isplitl [H0]; · iexact H0
    iexact H1
  isplitl [H2 H3]
  · isplitl [H2]; · iexact H2
    iexact H3
  isplitl [H4]; · iexact H4
  isplitl [H5]; · iexact H5
  iexact H6

/-- The rights to open the kernel's own cells, device by device. -/
theorem opens_dealt : (bigSep scCells fun g => (openTok ER g : sProp (MM F)))
    = bigSep Finset.univ fun c : Dev nD => iprop((openTok ER (cell c (.cr true)) ∗ openTok ER (cell c (.cr false)))
      ∗ sepL (fun k => iprop(openTok ER (cell c (.snd k 0)) ∗ openTok ER (cell c (.snd k 1)) ∗ openTok ER (cell c (.snd k 2)))) lanes
      ∗ sepL (fun k => iprop(openTok ER (cell c (.rcv k 0)) ∗ openTok ER (cell c (.rcv k 1)) ∗ openTok ER (cell c (.rcv k 2)))) lanes) := by
  rw [bigSep_map, bigSep_univ_prod]
  refine bigSep_congr fun c _ => ?_
  rw [bs_sems, bs_bool, bs_slots, bs_slots]
  rfl

/-- The slots' readers, device by device. -/
theorem readers_dealt : (bigSep (Finset.univ : Finset Key) fun y => (readerAt ES y 0 : sProp (MM F)))
    = bigSep Finset.univ fun c : Dev nD => sepL (fun k => iprop(readerAt ES ((c, k, 0) : Key) 0 ∗ readerAt ES ((c, k, 1) : Key) 0 ∗ readerAt ES ((c, k, 2) : Key) 0)) lanes := by
  rw [bigSep_univ_prod]
  refine bigSep_congr fun c _ => ?_
  rw [bs_slots]

end Cert.Ring

end
-- ==== Proof.Run.lean ====
/- The run: from any memory with counters at zero, every device's program ends with the result at the kernel's value,
   the arguments as they were and every counter at zero. -/
module

public import proofs.«01_k».proof.Proof.Seg
public import proofs.«01_k».proof.Proof.Credit
public import proofs.«01_k».proof.Proof.Deal
public import proofs.«01_k».proof.Proof.Gen.KernelIdeal.Regions

@[expose] public section

noncomputable section

namespace Cert.Ring

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds (dutyTok atPos reached openTok cellInv launchOf initOf)
open Idealize.ShloMosaic.Release (released readerAt writeTok slotInv)
open Idealize.ShloMosaic.Pipeline (Dat BodyObligation)
open Cert.KernelIdeal Cert.KernelIdeal.Gen

variable {F : FTy → Type} [FloatOps F]
variable (m : (ℓ : Loc nD τ sig) → Buf (Elt F) ℓ) (ρ : Dev nD → PrngReg)

/-! ## The launch element -/

/-- What the ring's protocol starts from, and the slots' releases. -/
def ringU : Rounds.URounds (GSem nD τ sig) ℕ × Release.USlots Key :=
  (launchOf barCells scCells ringToks, Release.initSlots Finset.univ 10)

/-- What the whole launch starts from. -/
def u₀ : UU := (initOf (Pipeline.cells cfgs cellOf_inj) (Pipeline.launchToks cfgs cellOf_inj), ringU)

/-- The launch's element is held together, on device 0, until it is dealt. -/
def onZero (X : sProp (MM F)) (c : Dev nD) : sProp (MM F) := if c = 0 then X else iprop(emp)

theorem bs_onZero (X : sProp (MM F)) : bigSep Finset.univ (onZero X) = X := by
  rw [bigSep_univ_at _ 0, bigSep_congr (s := Finset.univ.erase 0) (Ψ := fun _ => (BI.emp : sProp (MM F)))
    fun c hc => by unfold onZero; rw [if_neg (Finset.ne_of_mem_erase hc)]; rfl, BI.bigSep_emp_const]
  unfold onZero
  rw [if_pos rfl]
  exact BI.equiv_iff.mp sep_emp

def G : Dev nD → sProp (MM F) := onZero (BI.own (embR ringU))

theorem u₀_split : (ownU u₀ : sProp (MM F)) ⊢ |={Set.univ}=> iprop(BI.own (EP (initOf (Pipeline.cells cfgs cellOf_inj) (Pipeline.launchToks cfgs cellOf_inj))) ∗ bigSep Finset.univ G) := by
  unfold u₀ G
  rw [bs_onZero]
  iintro Hu
  ihave H := (ownU_pair _ _) $$ Hu
  icases H with ⟨H1, H2⟩
  imodintro
  isplitl [H1]; · iexact H1
  iexact H2

theorem ringU_split : (BI.own (embR ringU) : sProp (MM F))
    ⊢ iprop(BI.own (ER (launchOf barCells scCells ringToks)) ∗ BI.own (ES (Release.initSlots (Finset.univ : Finset Key) 10))) :=
  own_pair_emb embR (launchOf barCells scCells ringToks) (Release.initSlots (Finset.univ : Finset Key) 10)

/-! ## What everyone may consult -/

variable (I : Ins F) (K : GSem nD τ sig → ℕ) (J : Key → ℕ)

abbrev invs : sProp (MM F) := bigSep (barCells ∪ scCells) fun g => cellInv ER (ringRd I) (K g) g

theorem inv_bar (c : Dev nD) : invs I K ⊢ cI I K c .bar :=
  bs_elim (fun g => (cellInv ER (ringRd I) (K g) g : sProp (MM F))) (Finset.mem_union_left _ (Finset.mem_map_of_mem barEmb (Finset.mem_univ c)))

theorem inv_own (c : Dev nD) (q : Sems) : invs I K ⊢ cI I K c (kdOf q) :=
  bs_elim (fun g => (cellInv ER (ringRd I) (K g) g : sProp (MM F))) (Finset.mem_union_right _ (Finset.mem_map_of_mem scEmb (Finset.mem_univ (c, q))))

/-- The launch's invariants and levels are what the body relies on. -/
theorem know_intro : iprop(invs I K ∗ (bigSep Finset.univ fun y : Key => sI J y) ∗ levAts L lv) ⊢ (know I K J : sProp (MM F)) := by
  unfold know levs
  iintro ⟨#H1, H2, H3⟩
  isplitr; · iapply (bigSep_intro_persistent (S := Finset.univ) (Φ := fun c : Dev nD => cI I K c .bar) fun c _ => inv_bar I K c); iexact H1
  isplitr; · iapply (bigSep_intro_persistent (S := Finset.univ) (Φ := fun p : Dev nD × Bool => cI I K p.1 (.cr p.2)) fun p _ => inv_own I K p.1 (.inl p.2)); iexact H1
  isplitr; · iapply (bigSep_intro_persistent (S := Finset.univ) (Φ := fun y : Key => cI I K y.1 (.snd y.2.1 y.2.2)) fun y _ => inv_own I K y.1 (.inr (.inl y.2))); iexact H1
  isplitr; · iapply (bigSep_intro_persistent (S := Finset.univ) (Φ := fun y : Key => cI I K y.1 (.rcv y.2.1 y.2.2)) fun y _ => inv_own I K y.1 (.inr (.inr y.2))); iexact H1
  isplitl [H2]; · iexact H2
  iexact H3

/-- What everyone may consult. -/
def shared : sProp (MM F) := iprop(know I K J ∗ bigSep barCells fun g => reached ER g 0)

instance shared_persistent : BI.Persistent (shared I K J) := by unfold shared; infer_instance

/-! ## What each device gets -/

variable (c : Dev nD)

/-- The rights to open its own cells, and its slots' readers. -/
def opens : sProp (MM F) :=
  iprop((openTok ER (cell c (.cr true)) ∗ openTok ER (cell c (.cr false)))
    ∗ sepL (fun k => iprop(openTok ER (cell c (.snd k 0)) ∗ openTok ER (cell c (.snd k 1)) ∗ openTok ER (cell c (.snd k 2)))) lanes
    ∗ sepL (fun k => iprop(openTok ER (cell c (.rcv k 0)) ∗ openTok ER (cell c (.rcv k 1)) ∗ openTok ER (cell c (.rcv k 2)))) lanes)

def reads : sProp (MM F) :=
  sepL (fun k => iprop(readerAt ES ((c, k, 0) : Key) 0 ∗ readerAt ES ((c, k, 1) : Key) 0 ∗ readerAt ES ((c, k, 2) : Key) 0)) lanes

/-- What of a device's launch holdings is not the protocol's. -/
def bundle : sProp (MM F) :=
  iprop(StableHlo.held (c : Thread nD τ) (Pipeline.ucRefs τ sig) (V0 m c)
    ∗ Pipeline.launchCred (fun d => due (obAll d)) c
    ∗ owes (c : Thread nD τ) (due (obAll c)) ∅ ∗ ∃ r, prngReg c r)

/-- A device's first state. -/
def T0 : sProp (MM F) := iprop(StableHlo.held (c : Thread nD τ) (Pipeline.ucRefs τ sig) (V0 m c) ∗ E0 m c)

theorem sepL_five (P Q R S T : Fin 8 → sProp (MM F)) : iprop(sepL P lanes ∗ sepL Q lanes ∗ sepL R lanes ∗ sepL S lanes ∗ sepL T lanes)
    ⊢ sepL (fun k => iprop(P k ∗ Q k ∗ R k ∗ S k ∗ T k)) lanes := by
  simp only [← bs_lanes, ← bigSep_sep']
  exact BI.Entails.refl _

theorem reached_bar (d : Dev nD) : (bigSep barCells fun g => (reached ER g 0 : sProp (MM F))) ⊢ reached ER (cell d .bar) 0 :=
  bs_elim (fun g => (reached ER g 0 : sProp (MM F))) (Finset.mem_map_of_mem barEmb (Finset.mem_univ d))

theorem T0_intro : iprop(shared (insM m) K J ∗ ((pays c ∗ opens c ∗ reads c ∗ atPos ER (cell c .bar) 0 ∅ 0) ∗ bundle m c)) ⊢ T0 m c := by
  unfold shared pays opens reads bundle T0 E0 Tk barD crD
  iintro ⟨⟨#Hk, #Hr⟩, ⟨⟨⟨Hb0, Hb1⟩, Hct, HT⟩, ⟨⟨Ho1, Ho2⟩, Hos, Hor⟩, Hrd, Hat⟩, Hh, Hcr, HO, Hp⟩
  ihave Hcr := (creds_all c) $$ Hcr
  icases Hcr with ⟨Hc0, Hc1, Hc2, Hc3⟩
  isplitl [Hh]; · iexact Hh
  isplitl [Hp]; · iexact Hp
  isplitr [HO]
  · iexists K; iexists J
    isplitr; · iexact Hk
    isplitl [Hos Hor Hc1 HT Hrd]
    · iapply (sepL_five (F := F))
      isplitl [Hos]; · iexact Hos
      isplitl [Hor]; · iexact Hor
      isplitl [Hc1]; · iexact Hc1
      isplitl [HT]; · iexact HT
      iexact Hrd
    isplitl [Hb0 Hb1 Hc0 Hat]
    · isplitr
      · isplitr; · iapply (reached_bar (F := F) (lft c)); iexact Hr
        iapply (reached_bar (F := F) (rgt c)); iexact Hr
      isplitl [Hb0 Hb1]
      · isplitl [Hb0]; · iexact Hb0
        iexact Hb1
      isplitl [Hc0]; · iexact Hc0
      iexact Hat
    isplitr [Hct]
    · isplitl [Ho1 Hc2]
      · isplitl [Ho1]; · iexact Ho1
        iexact Hc2
      isplitl [Ho2]; · iexact Ho2
      iexact Hc3
    iexact Hct
  iexists ∅; iexact HO

/-- The only counter the launch hands over is the handshake's. -/
theorem unscoped_sems : (unscopedSems0 c : sProp (MM F)) = semVal (cell c .bar) 0 := by
  unfold unscopedSems0
  rw [show (Finset.univ.filter fun sm : SemLoc sig => ¬ sm.isScoped .tc) = {SemLoc.reg barS} from by decide +kernel, bigSep_singleton]

theorem unscoped_is : ∀ sm : SemLoc sig, sm.isScoped .tc = false → sm = .reg barS := by decide +kernel

/-- A device's launch holdings, sorted. -/
theorem launch_sort : iprop(unscopedBufs c (fun b => m ((c : Thread nD τ).loc b)) ∗ unscopedSems0 c
      ∗ owes (c : Thread nD τ) (due (obAll c)) ∅ ∗ Pipeline.launchCred (fun d => due (obAll d)) c ∗ prngReg c (ρ c) ∗ G c)
    ⊢ (iprop(bundle m c ∗ (semVal (cell c .bar) 0 ∗ G c)) : sProp (MM F)) := by
  rw [show unscopedBufs c (fun b => m ((c : Thread nD τ).loc b)) = (StableHlo.held (c : Thread nD τ) (Pipeline.ucRefs τ sig) (V0 m c) : sProp (MM F)) from
    Pipeline.unscopedBufs_held (Ix := ℕ) (Name := ℕ) (U := UU) (Lvl := ℕ) c (V0 m c), unscoped_sems]
  unfold bundle
  iintro ⟨Hh, Hs, HO, Hc, Hp, HG⟩
  isplitr [Hs HG]
  · isplitl [Hh]; · iexact Hh
    isplitl [Hc]; · iexact Hc
    isplitl [HO]; · iexact HO
    iexists (ρ c); iexact Hp
  isplitl [Hs]; · iexact Hs
  iexact HG

/-- The launch's holdings are dealt: every device in its first state. -/
theorem deal :
    iprop((bigSep Finset.univ fun c : Dev nD => iprop(unscopedBufs c (fun b => m ((c : Thread nD τ).loc b)) ∗ unscopedSems0 c
          ∗ owes (c : Thread nD τ) (due (obAll c)) ∅ ∗ Pipeline.launchCred (fun d => due (obAll d)) c ∗ prngReg c (ρ c) ∗ G c)) ∗ levAts L lv)
      ⊢ (|={Set.univ}=> bigSep Finset.univ (T0 m) : sProp (MM F)) := by
  have hs : (bigSep Finset.univ fun c : Dev nD => iprop(unscopedBufs c (fun b => m ((c : Thread nD τ).loc b)) ∗ unscopedSems0 c
          ∗ owes (c : Thread nD τ) (due (obAll c)) ∅ ∗ Pipeline.launchCred (fun d => due (obAll d)) c ∗ prngReg c (ρ c) ∗ G c))
      ⊢ (iprop((bigSep Finset.univ (bundle m)) ∗ (bigSep barCells (fun g => semVal g 0)) ∗ BI.own (embR ringU)) : sProp (MM F)) := by
    rw [bigSep_map, ← bs_onZero (BI.own (embR ringU)), ← bigSep_sep', ← bigSep_sep']
    exact bigSep_mono fun c _ => launch_sort m ρ c
  have hat : bigSep barCells (fun g => (atPos ER g 0 ∅ 0 : sProp (MM F))) = bigSep Finset.univ fun c : Dev nD => atPos ER (cell c .bar) 0 ∅ 0 := bigSep_map barEmb
  have hop : bigSep scCells (fun g => (openTok ER g : sProp (MM F))) = bigSep Finset.univ opens := opens_dealt
  have hrd : (bigSep (Finset.univ : Finset Key) fun y => (readerAt ES y 0 : sProp (MM F))) = bigSep Finset.univ reads := readers_dealt
  have hfin (K : GSem nD τ sig → ℕ) (J : Key → ℕ) : iprop(shared (insM m) K J ∗ bigSep Finset.univ fun c => iprop((pays c ∗ opens c ∗ reads c ∗ atPos ER (cell c .bar) 0 ∅ 0) ∗ bundle m c))
      ⊢ (bigSep Finset.univ (T0 m) : sProp (MM F)) := bigSep_with_persistent fun c _ => T0_intro m K J c
  simp only [bigSep_sep'] at hfin
  iintro ⟨H, Hl⟩
  ihave H := hs $$ H
  icases H with ⟨HB, Hv, Hu⟩
  ihave Hu := (ringU_split (F := F)) $$ Hu
  icases Hu with ⟨Hu, Hw⟩
  imod (Rounds.fund_launch ER (ringRd (insM m)) disjoint_cells (fun g _ h => h) ringToks) $$ [Hv Hu] with ⟨%K, -, #Hinv, #Hr, Hat, Hopen, Htok⟩
  · isplitl [Hv]; · iexact Hv
    iexact Hu
  imod (Release.slots_init ES (Finset.univ : Finset Key) 10 (slotAny (F := F))) $$ Hw with ⟨%J, -, Hsl, Hread, Hwrite⟩
  imodintro
  iapply (hfin K J)
  isplitl [Hsl Hl]
  · unfold shared
    isplitl [Hsl Hl]
    · iapply (know_intro (insM m) K J)
      isplitr; · iexact Hinv
      isplitl [Hsl]; · iexact Hsl
      iexact Hl
    iexact Hr
  isplitr [HB]
  · isplitl [Htok Hwrite]
    · iapply (pays_deal (F := F))
      isplitl [Htok]; · iexact Htok
      iexact Hwrite
    isplitl [Hopen]; · rw [← hop]; iexact Hopen
    isplitl [Hread]; · rw [← hrd]; iexact Hread
    rw [← hat]; iexact Hat
  iexact HB

/-! ## The run -/

/-- What rides beside the buffers before and after the region. -/
def Ea : Fin 2 → Dev nD → sProp (MM F)
  | 0, c => E0 m c
  | 1, _ => iprop(emp)

/-- What is read off the end: every argument as it was, the result at the kernel's value, the handshake's counter at zero. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_v26) = res (insM m) c)
  ∧ s.sem (cell c .bar) = 0

theorem VE_arg0 : VE m c (Proc.devRef .tc main_arg0) = m ((c.tc : Thread nD τ).loc main_arg0) := (VE_of m c _ (by decide)).trans (v7_arg0 m c)
theorem VE_arg1 : VE m c (Proc.devRef .tc main_arg1) = m ((c.tc : Thread nD τ).loc main_arg1) := (VE_of m c _ (by decide)).trans (v7_arg1 m c)
theorem VE_arg2 : VE m c (Proc.devRef .tc main_arg2) = m ((c.tc : Thread nD τ).loc main_arg2) := (VE_of m c _ (by decide)).trans (v7_arg2 m c)
theorem VE_arg3 : VE m c (Proc.devRef .tc main_arg3) = m ((c.tc : Thread nD τ).loc main_arg3) := (VE_of m c _ (by decide)).trans (v7_arg3 m c)

theorem in_uc (b : Ref sig .tc) (h : ¬ (b.isScoped = true)) : Proc.devRef (τ := τ) .tc b ∈ Pipeline.ucRefs τ sig :=
  Finset.mem_filter.mpr ⟨StableHlo.devRef_mem_tcRefs b, h⟩

theorem read_end (s' : Phys nD τ sig (Elt F)) : iprop(TN m c ∗ SI s') ⊢ (|={Set.univ}=> iprop(⌜Ends m c s'.mem⌝ ∗ SI s') : sProp (MM F)) := by
  unfold TN StableHlo.held
  iintro ⟨⟨Hh, Hb⟩, HSI⟩
  icombine HSI Hb gives %hb
  ihave Hr := (pointsTo_read_all (Pipeline.ucRefs τ sig) (fun b => ((c : Thread nD τ).1, b)) (VE m c) s') $$ [Hh HSI]
  · isplitl [Hh] <;> iassumption
  icases Hr with ⟨%h, HSI⟩
  imodintro
  isplitr
  · ipureintro
    exact ⟨⟨(h _ (in_uc main_arg0 (by decide))).trans (VE_arg0 m c), (h _ (in_uc main_arg1 (by decide))).trans (VE_arg1 m c),
      (h _ (in_uc main_arg2 (by decide))).trans (VE_arg2 m c), (h _ (in_uc main_arg3 (by decide))).trans (VE_arg3 m c),
      (h _ (in_uc main_v26 (by decide))).trans (VE_out m c)⟩, by simpa using hb⟩
  iexact HSI

set_option backward.isDefEq.respectTransparency.types false in
/-- The run, at any float values: from any memory with every counter at zero, every weakly fair execution of the program
    on the sixteen devices ends, with every argument as it was, every device's result at the kernel's value and every
    counter at zero. -/
theorem run_main : θ_run (defs (F := F)) (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v26) = res (insM m) c) ∧ r.2.sem = fun _ => 0) := by
  haveI hne : ∀ e, Nonempty (Elt F e) := Elt.nonempty F
  exact Pipeline.θ_run_regions_kit_dev_sems (pcfgs (F := F)) adm (pdats m) 0 cellOf_inj EP defs₀ vars L lv m ρ main
    (segs m vars L lv (Ea m) 0 (pdats m) (regM m))
    (fun c Q => by
      rewrite [main_chain c, Pipeline.Seg.run_eq_chain,
        show (segs m vars L lv (Ea m) 0 (pdats m) (regM m) c).map Pipeline.Seg.prog = [
          StableHlo.seq (hostOps0 c), StableHlo.seq hostOps0_1, StableHlo.seq hostOps0_2, StableHlo.seq hostOps0_3,
          StableHlo.seq hostOps0_4, StableHlo.seq hostOps0_5, StableHlo.seq hostOps0_6,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (fun c => due (obAll c)) L_of_ne G u₀ u₀_split
    (T₀ := T0 m) (Tₙ := TN m)
    (hch := fun c => ⟨.rfl, .rfl, .rfl, .rfl, .rfl, .rfl, .rfl, reg_pre m c, reg_post m c⟩)
    (hinit := deal m ρ) (QY := Ends m) (hfin := fun c s' => read_end m c s')
    (hQ := fun s h hs => ⟨fun c => (h c).1, sem_eq_zero hs fun c sm hsm => by
      obtain rfl := unscoped_is sm hsm
      exact (h c).2⟩)

end Cert.Ring

end
-- ==== Proof.Same.lean ====
/- The kernel as read on bit patterns and as read in exact arithmetic are one program: their texts are the same. -/
module

public import proofs.«01_k».proof.Proof.Gen.Kernel
public import proofs.«01_k».proof.Proof.Gen.KernelIdeal

@[expose] public section

noncomputable section

namespace Cert.Ring

open Idealize.ShloMosaic Idealize.SL Idealize.SL.Sem

variable {F : FTy → Type} [FloatOps F]

set_option smartUnfolding false in
set_option maxRecDepth 100000 in
set_option maxHeartbeats 0 in
/-- The two tables of kernel bodies agree. -/
theorem defs₀_same : Cert.Kernel.defs₀ (F := F) = Cert.KernelIdeal.defs₀ (F := F) := by rfl

set_option smartUnfolding false in
set_option maxRecDepth 100000 in
/-- The two tables of pipelines agree. -/
theorem pcfgs_same : Cert.Kernel.pcfgs (F := F) = Cert.KernelIdeal.pcfgs (F := F) := by rfl

set_option maxRecDepth 100000 in
/-- The two tables of the whole programs agree. -/
theorem defs_same : Cert.Kernel.defs (F := F) = Cert.KernelIdeal.defs (F := F) := by
  delta Cert.Kernel.defs Cert.KernelIdeal.defs
  rw [defs₀_same]
  rfl

set_option smartUnfolding false in
set_option maxRecDepth 100000 in
set_option maxHeartbeats 0 in
/-- The two host programs agree. -/
theorem main_same : Cert.Kernel.main (F := F) = Cert.KernelIdeal.main (F := F) := by rfl

end Cert.Ring

end
-- ==== Proof.Frames.lean ====
/- The frames: the run of the whole program at each kind of float value, with what it computes forgotten. -/
module

public import proofs.«01_k».proof.Defs
public import proofs.«01_k».proof.Proof.Gen.Kernel
public import proofs.«01_k».proof.Proof.Run
public import proofs.«01_k».proof.Proof.Same
public import Idealize.ShloMosaic.PureOps.BitExact

@[expose] public section

noncomputable section

namespace Cert.Ring

open Idealize.ShloMosaic Idealize.SL.Sem

/-- In exact arithmetic the kernel ends, its arguments as they were and its semaphores at zero. -/
theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1, (h.1 c).2.2.1, (h.1 c).2.2.2.1⟩, h.2⟩)
    (run_main (F := Ideal) m ρ)

/-- What is run at any float values, said of the program read on bit patterns: the two programs are one. -/
theorem run_bits {F : FTy → Type} [FloatOps F] (σ) (Q)
    (h : θ_run (Cert.KernelIdeal.defs (F := F)) (onTc (τ := Cert.KernelIdeal.τ) (Cert.KernelIdeal.main (F := F))) σ Q) :
    θ_run (Cert.Kernel.defs (F := F)) (onTc (τ := Cert.Kernel.τ) (Cert.Kernel.main (F := F))) σ Q := by
  rw [defs_same, main_same]
  exact h

set_option smartUnfolding false in
set_option maxRecDepth 100000 in
/-- On bit patterns the kernel ends, its arguments as they were and its semaphores at zero. -/
theorem frame_bits : Cert.quiescent_Kernel (hKernel := Cert.Kernel.Gen.facts) := fun m ρ _ =>
  run_bits (F := Bits) _ _
    ((θ_run Cert.KernelIdeal.defs _ _).mono (fun _ h => ⟨fun c => ⟨(h.1 c).1, (h.1 c).2.1, (h.1 c).2.2.1, (h.1 c).2.2.2.1⟩, h.2⟩)
      (run_main (F := Bits) m ρ))

end Cert.Ring

end
-- ==== Proof.Sum.lean ====
/- The sum that goes round the ring, in exact arithmetic: what a lane holds after fifteen steps is the sum, over
   the sixteen devices, of their parts of one chunk of the product. -/
module

public import proofs.«01_k».proof.Proof.Body
public import Idealize.ShloMosaic.Lib.ValueIdx
public import Idealize.ShloMosaic.Lib.MatmulPlain

@[expose] public section

noncomputable section

namespace Cert.Ring

open Idealize.ShloMosaic Idealize.ShloMosaic.TcCoe Idealize.SL.Sem
open Idealize.ShloMosaic.ValueIdx (addf_apply truncf_apply extf_apply mulf_apply constant_apply)
open Cert.KernelIdeal Cert.KernelIdeal.Gen

variable (I : Ins Ideal)

/-- The device `t` places back along a direction. -/
def back (b : Bool) (t : Fin 16) (c : Dev nD) : Dev nD := (nb (!b))^[t.val] c

/-- Going back 0 to 15 places reaches every device once. -/
theorem back_bij : ∀ (b : Bool) (c : Dev nD), Function.Bijective fun t => back b t c := by
  unfold Function.Bijective Function.Injective Function.Surjective
  decide +kernel

theorem chunkAt_zero : ∀ (b : Bool) (c : Dev nD), chunkAt b c (ch 0) = place c := by decide +kernel

theorem ch_succ (g : ℕ) : ch (g + 1) = ch g + 1 := by
  apply Fin.ext
  unfold ch
  simp [Fin.val_add]

/-- After `g` steps, up to the fifteenth: the sum of the last `g + 1` devices' parts of the chunk. -/
theorem Dv_sum (k : Fin 8) (j : S256x256.Idx) : ∀ (g : ℕ), g ≤ 15 → ∀ c : Dev nD,
    Dv I k g c j = ∑ t ∈ Finset.range (g + 1), (cut (prod I ((nb (!fwd k))^[t] c) (chunkAt (fwd k) c (ch g))) k j : EReal)
  | 0, _, c => by
    rw [Finset.sum_range_one, chunkAt_zero]; rfl
  | g + 1, h, c => by
    rw [Dv_rs I k (by omega) c, addf_apply, Dv_sum k j g (by omega), Finset.sum_range_succ' _ (g + 1), chunkAt_nb, ← ch_succ]
    rfl

/-- After fifteen steps: the sum of all devices' parts of the chunk. -/
theorem Dv_all (k : Fin 8) (c : Dev nD) (j : S256x256.Idx) :
    Dv I k 15 c j = ∑ d : Dev nD, (cut (prod I d (chunkAt (fwd k) c (ch 15))) k j : EReal) := by
  rw [Dv_sum I k j 15 le_rfl c, Finset.sum_range]
  exact (back_bij (fwd k) c).sum_comp fun d => (cut (prod I d (chunkAt (fwd k) c (ch 15))) k j : EReal)

/-- From the fifteenth step on the sums are handed on. -/
theorem Dv_on (k : Fin 8) (j : S256x256.Idx) : ∀ (t : ℕ) (c : Dev nD), Dv I k (15 + t) c j
      = ∑ d : Dev nD, (cut (prod I d (chunkAt (fwd k) c (ch (15 + t)))) k j : EReal)
  | 0, c => Dv_all I k c j
  | t + 1, c => by
    rw [← Nat.add_assoc, Dv_ag I k (by omega) c, Dv_on k j t, chunkAt_nb, ← ch_succ]

/-- What lane `k` delivers at the chunk `t` places behind, before the scaling. -/
theorem Dv_out (k : Fin 8) (t : Fin 16) (c : Dev nD) (j : S256x256.Idx) :
    Dv I k (if t.val = 15 then 15 else 16 + t.val) c j
      = ∑ d : Dev nD, (cut (prod I d (chunkAt (fwd k) c t)) k j : EReal) := by
  have e : ∀ t : Fin 16, ch (15 + if t.val = 15 then 0 else 1 + t.val) = t := by decide +kernel
  have h : (if t.val = 15 then 15 else 16 + t.val) = 15 + if t.val = 15 then 0 else 1 + t.val := by split <;> omega
  rw [h, Dv_on, e]

/-- The entry at row `r`, column `q` of device `d`'s part of the product. -/
def part (d : Dev nD) (r : Fin 4096) (q : Fin 2048) : EReal :=
  ∑ n : Fin 256, (I.x d (ValueIdx.ix2 r n) : EReal) * (I.w d (ValueIdx.ix2 n q) : EReal)

theorem shapeCast_same {s : Shape} {α : Type} (v : s.Idx → α) (h : s.ShapeCasts s) : shapeCast s v h = v :=
  funext fun i => congrArg v (Shape.reshapeEquiv_self h i)

theorem rectW_emb (j : S256x2048.Idx) : rectW.emb j = j := by
  funext a; apply Fin.ext
  match a with
  | ⟨0, _⟩ => show 0 + 1 * (j 0).val = (j 0).val; omega
  | ⟨1, _⟩ => show 0 + 1 * (j 1).val = (j 1).val; omega

theorem w16_eq (w : Vec Ideal S256x2048 .fp8e5m2) : w16 w = w := by
  have e : (fun j => w (rectW.emb j)) = w := funext fun j => congrArg w (rectW_emb j)
  unfold w16
  rw [shapeCast_same, e]
  exact shapeCast_same w _

theorem dot_plain : dot_S256x256_S256x2048_S256x2048_1_0_0_1_n_n = DotDims.plain 256 256 2048 := rfl

/-- An entry of chunk `a` of device `d`'s part. -/
theorem prod_apply (d : Dev nD) (a : Fin 16) (r : Fin 256) (q : Fin 2048) :
    (prod I d a (ValueIdx.ix2 r q) : EReal) = part I d ⟨256 * a.val + r.val, by omega⟩ q := by
  unfold prod gemmV part
  rw [truncf_apply, shapeCast_same, w16_eq, dot_plain]
  refine (Ideal.matmul_plain_apply none _ _ _ r q).trans ?_
  have h0 : (constant S256x2048 .f32 0x00000000#32 (ValueIdx.ix2 r q) : Ideal .f32) = (0 : EReal) := Ideal.ofBits_zero_f32
  refine (congrArg (· + _) h0).trans ((zero_add _).trans (Finset.sum_congr rfl fun n _ => ?_))
  rw [extf_apply]
  refine congrArg (fun z => (I.x d z : EReal) * (I.w d (ValueIdx.ix2 n q) : EReal)) ?_
  funext b; apply Fin.ext
  match b with
  | ⟨0, _⟩ => show 256 * a.val + 1 * r.val = 256 * a.val + r.val; omega
  | ⟨1, _⟩ => show 0 + 1 * n.val = n.val; omega

/-- An entry of the result of device `c`: the parts of all devices, scaled. -/
theorem res_apply (c : Dev nD) (r : Fin 4096) (q : Fin 2048) :
    (res I c (ValueIdx.ix2 r q) : EReal) = (∑ d : Dev nD, part I d r q) * (scale I c : EReal) := by
  unfold res outB outV
  rw [mulf_apply, extf_apply, Dv_out]
  refine congrArg (· * (scale I c : EReal)) (Finset.sum_congr rfl fun d _ => ?_)
  rw [chunkAt_tOf, cut_apply]
  refine (prod_apply I d _ _ _).trans ?_
  congr 1
  · apply Fin.ext; show 256 * (r.val / 256) + r.val % 256 = r.val; omega
  · apply Fin.ext; show 256 * (q.val / 256) + q.val % 256 = q.val; omega

/-- The parts of the devices holding columns `256 d …` of one factor and rows `256 d …` of the other add up to the
    product of the two. -/
theorem sum_parts (X : Fin 4096 → EReal) (Y : Fin 4096 → EReal) :
    (∑ d : Fin 16, ∑ n : Fin 256, X ⟨d.val * 256 + n.val, by omega⟩ * Y ⟨d.val * 256 + n.val, by omega⟩)
      = ∑ n : Fin 4096, X n * Y n := by
  rw [← Fintype.sum_prod_type']
  refine Fintype.sum_equiv (finProdFinEquiv (m := 16) (n := 256)) _ _ fun p => ?_
  have e : (⟨p.1.val * 256 + p.2.val, by omega⟩ : Fin 4096) = finProdFinEquiv (m := 16) (n := 256) p := by
    apply Fin.ext; show p.1.val * 256 + p.2.val = p.2.val + 256 * p.1.val; omega
  rw [e]

end Cert.Ring

end
-- ==== Proof.RefVal.lean ====
/- What the reference program leaves in its result: the product of the two factors, scaled. -/
module

public import proofs.«01_k».proof.Proof.Gen.ReferenceIdeal.Value
public import Idealize.ShloMosaic.Lib.ValueIdx
public import Idealize.ShloMosaic.Lib.MatmulPlain

@[expose] public section

noncomputable section

namespace Cert.RefVal

open Cert.ReferenceIdeal Cert.ReferenceIdeal.Gen Cert.ReferenceIdeal.Value
open Idealize.ShloMosaic Idealize.ShloMosaic.TcCoe Idealize.SL.Sem

/-- The one index of a scale. -/
def only : S1.Idx := fun a => match a with | ⟨0, _⟩ => ⟨0, Nat.one_pos⟩

section
variable {F : FTy → Type} [FloatOps F]

/-- The result as a function of the four arguments. -/
def out (x : Vec F S4096x4096 .fp8e5m2) (w : Vec F S4096x2048 .fp8e5m2) (sx sw : Vec F S1 .f32) : Vec F S4096x2048 .f32 :=
  k0_pay1 x w (sx only) (sw only)

theorem zero2 : (![0, 0] : Fin 2 → Nat) = fun _ => 0 := funext fun a => by fin_cases a <;> rfl

/-- What the body leaves in the result's buffer: its one store covers it, its loads read whole blocks. -/
theorem body_out (c : Dev nD) (a0 : Memref sig .tc .vmem S4096x4096 .fp8e5m2) (h0 : a0.IsWhole)
    (a1 : Memref sig .tc .vmem S4096x2048 .fp8e5m2) (h1 : a1.IsWhole) (a2 : Memref sig .tc .smem S1 .f32) (h2 : a2.IsWhole)
    (a3 : Memref sig .tc .smem S1 .f32) (h3 : a3.IsWhole) (a4 : Memref sig .tc .vmem S4096x2048 .f32) (h4 : a4.IsWhole)
    (x0 : Vec F S4096x4096 .fp8e5m2) (x1 : Vec F S4096x2048 .fp8e5m2) (x2 x3 : Vec F S1 .f32) :
    out0_A_4 c a0 h0 a1 h1 a2 h2 a3 h3 a4 h4 x0 x1 x2 x3 = out x0 x1 x2 x3 := by
  unfold out0_A_4
  rw [View.read_writes_junk_eq_canon]
  show View.canon ([⟨Rect.unit ![0, 0] S4096x2048.size inb_S4096x2048_S4096x2048_0_0,
      k0_pay1
        (View.readAt (Elt F) a0.view (Rect.unit ![0, 0] S4096x4096.size inb_S4096x4096_S4096x4096_0_0).toLoadRect (h0.unread x0))
        (View.readAt (Elt F) a1.view (Rect.unit ![0, 0] S4096x2048.size inb_S4096x2048_S4096x2048_0_0).toLoadRect (h1.unread x1))
        (View.readAt (Elt F) a2.view (Rect.unit (s := S1) ![0] S1.size inb_S1_S1_0).toLoadRect (h2.unread x2) _)
        (View.readAt (Elt F) a3.view (Rect.unit (s := S1) ![0] S1.size inb_S1_S1_0).toLoadRect (h3.unread x3) _)⟩] :
      List (View.Piece (Elt F) S4096x2048 .f32)) = _
  rw [View.canon_unit_zero zero2, View.readAt_eq_ld, View.readAt_eq_ld, View.readAt_eq_ld, View.readAt_eq_ld,
    h0.read_unread, h1.read_unread, h2.read_unread, h3.read_unread, View.ld_unit_zero zero2, View.ld_unit_zero zero2]
  exact congrArg₂ (k0_pay1 x0 x1) (congrArg x2 (funext fun a => by match a with | ⟨0, _⟩ => rfl))
    (congrArg x3 (funext fun a => by match a with | ⟨0, _⟩ => rfl))

variable (m : (ℓ : Loc nD τ sig) → Buf (Elt F) ℓ) (ρ : Dev nD → PrngReg)

theorem at0 : ∀ t : Fin cfg0.N, win0_0.index t (0 : Fin 2) = 0 ∧ win0_0.index t (1 : Fin 2) = 0 := (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 1) = 0 := (by decide +kernel : ∀ t : Fin grid0.N, _)
theorem at3 : ∀ t : Fin cfg0.N, win0_3.index t (0 : Fin 1) = 0 := (by decide +kernel : ∀ t : Fin grid0.N, _)
theorem at4 : ∀ t : Fin cfg0.N, win0_4.index t (0 : Fin 2) = 0 ∧ win0_4.index t (1 : Fin 2) = 0 := (by decide +kernel : ∀ t : Fin grid0.N, _)

/-- Each window's one block is its whole array. -/
theorem emb0 (t : Fin cfg0.N) (j : S4096x4096.Idx) : ((cfg0.win 0).blk t).view.emb j = j := by
  obtain ⟨e, e'⟩ := at0 t
  funext a; apply Fin.ext
  match a with
  | ⟨0, _⟩ => show win0_0.index t (0 : Fin 2) * 4096 + 1 * (j 0).val = (j 0).val; omega
  | ⟨1, _⟩ => show win0_0.index t (1 : Fin 2) * 4096 + 1 * (j 1).val = (j 1).val; omega

theorem emb1 (t : Fin cfg0.N) (j : S4096x2048.Idx) : ((cfg0.win 1).blk t).view.emb j = j := by
  obtain ⟨e, e'⟩ := at1 t
  funext a; apply Fin.ext
  match a with
  | ⟨0, _⟩ => show win0_1.index t (0 : Fin 2) * 4096 + 1 * (j 0).val = (j 0).val; omega
  | ⟨1, _⟩ => show win0_1.index t (1 : Fin 2) * 2048 + 1 * (j 1).val = (j 1).val; omega

theorem emb2 (t : Fin cfg0.N) (j : S1.Idx) : ((cfg0.win 2).blk t).view.emb j = j := by
  have e := at2 t
  funext a; apply Fin.ext
  match a with
  | ⟨0, _⟩ => show win0_2.index t (0 : Fin 1) * 1 + 1 * (j 0).val = (j 0).val; omega

theorem emb3 (t : Fin cfg0.N) (j : S1.Idx) : ((cfg0.win 3).blk t).view.emb j = j := by
  have e := at3 t
  funext a; apply Fin.ext
  match a with
  | ⟨0, _⟩ => show win0_3.index t (0 : Fin 1) * 1 + 1 * (j 0).val = (j 0).val; omega

theorem emb4 (t : Fin cfg0.N) (j : S4096x2048.Idx) : ((cfg0.win 4).blk t).view.emb j = j := by
  obtain ⟨e, e'⟩ := at4 t
  funext a; apply Fin.ext
  match a with
  | ⟨0, _⟩ => show win0_4.index t (0 : Fin 2) * 4096 + 1 * (j 0).val = (j 0).val; omega
  | ⟨1, _⟩ => show win0_4.index t (1 : Fin 2) * 2048 + 1 * (j 1).val = (j 1).val; omega

theorem blk0 (c : Dev nD) (t : Fin cfg0.N) : iblk m c 0 t = V m c main_arg0 :=
  funext fun j => congrArg (V m c main_arg0) (emb0 t j)
theorem blk1 (c : Dev nD) (t : Fin cfg0.N) : iblk m c 1 t = V m c main_arg1 :=
  funext fun j => congrArg (V m c main_arg1) (emb1 t j)
theorem blk2 (c : Dev nD) (t : Fin cfg0.N) : iblk m c 2 t = V m c main_arg2 :=
  funext fun j => congrArg (V m c main_arg2) (emb2 t j)
theorem blk3 (c : Dev nD) (t : Fin cfg0.N) : iblk m c 3 t = V m c main_arg3 :=
  funext fun j => congrArg (V m c main_arg3) (emb3 t j)

/-- What is written back is the result, as the window sees it. -/
theorem back4 (c : Dev nD) (t : Fin cfg0.N) : (dats m 0 c).flushed 4 t
    = ((cfg0.win 4).blk t).view.read (Elt F) (out (V m c main_arg0) (V m c main_arg1) (V m c main_arg2) (V m c main_arg3)) := by
  rw [flushed4_A, body_out, blk0, blk1, blk2, blk3]
  generalize out (V m c main_arg0) (V m c main_arg1) (V m c main_arg2) (V m c main_arg3) = X
  funext j
  show X j = X (((cfg0.win 4).blk t).view.emb j)
  rw [emb4]

theorem all4 (i : S4096x2048.Idx) : ∃ t : Fin cfg0.N, (cfg0.win 4).flush t = true ∧ i ∈ ((cfg0.win 4).blk t).view.set :=
  ⟨(⟨0, by decide⟩ : Fin cfg0.N), flush0_4 _, by
    have h := ((cfg0.win 4).blk (⟨0, by decide⟩ : Fin cfg0.N)).view.emb_mem_set i; rwa [emb4] at h⟩

/-- The result array after the run. -/
theorem end4 (c : Dev nD) : (dats m 0 c).arrAt 4 cfg0.N
    = out (m ((c : Thread nD τ).loc main_arg0)) (m ((c : Thread nD τ).loc main_arg1)) (m ((c : Thread nD τ).loc main_arg2))
        (m ((c : Thread nD τ).loc main_arg3)) :=
  ((dats m 0 c).arrAt_eq_of_cover 4 (out (V m c main_arg0) (V m c main_arg1) (V m c main_arg2) (V m c main_arg3))
    (fun t _ => back4 m c t) all4).trans (by rw [V_main_arg0, V_main_arg1, V_main_arg2, V_main_arg3])

/-- The reference's run: the result is `out` of the arguments, which are as they were. -/
theorem run : θ_run defs (onTc (τ := τ) (main (F := F))) ⟨m, fun _ => 0, ρ⟩ fun r => ∀ c : Dev nD,
      r.2.mem ((c : Thread nD τ).loc main_v0)
        = out (m ((c : Thread nD τ).loc main_arg0)) (m ((c : Thread nD τ).loc main_arg1)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (end4 m c), (h c).2⟩) (run_blocks m ρ)

end

/-- An entry of the result in exact arithmetic: a row of one factor times a column of the other, scaled. -/
theorem out_apply (x : Vec Ideal S4096x4096 .fp8e5m2) (w : Vec Ideal S4096x2048 .fp8e5m2) (sx sw : Vec Ideal S1 .f32)
    (r : Fin 4096) (q : Fin 2048) : (out x w sx sw (ValueIdx.ix2 r q) : EReal)
      = (∑ n : Fin 4096, (x (ValueIdx.ix2 r n) : EReal) * (w (ValueIdx.ix2 n q) : EReal)) * ((sx only : EReal) * (sw only : EReal)) := by
  have e : dot_S4096x4096_S4096x2048_S4096x2048_1_0_0_1_n_n = DotDims.plain 4096 4096 2048 := rfl
  unfold out k0_pay1
  rw [ValueIdx.mulf_apply, e]
  refine congrArg (· * ((sx only : EReal) * (sw only : EReal))) ?_
  refine (Ideal.matmul_plain_apply none _ _ _ r q).trans ?_
  have h0 : (constant S4096x2048 .f32 0x00000000#32 (ValueIdx.ix2 r q) : Ideal .f32) = (0 : EReal) := Ideal.ofBits_zero_f32
  exact (congrArg (· + _) h0).trans (zero_add _)

end Cert.RefVal

end
-- ==== Proof.Equal.lean ====
/- The kernel and the reference give the same result, in exact arithmetic. -/
module

public import proofs.«01_k».proof.Defs
public import proofs.«01_k».proof.Proof.Run
public import proofs.«01_k».proof.Proof.Sum
public import proofs.«01_k».proof.Proof.RefVal

@[expose] public section

noncomputable section

namespace Cert.Ring

open Idealize.ShloMosaic Idealize.SL.Sem

theorem tilesX : Layout.Tiles ⟨2, ![4096, 256]⟩ ⟨2, ![4096, 4096]⟩ 1 16 := by decide
theorem tilesW : Layout.Tiles ⟨2, ![256, 2048]⟩ ⟨2, ![4096, 2048]⟩ 0 16 := by decide

/-- Where column `n` of device `d`'s part of the first factor is in the whole. -/
theorem idxX (d : Fin 16) (r : Fin 4096) (n : Fin 256) :
    tilesX.idx d (ValueIdx.ix2 r n) = ValueIdx.ix2 r ⟨d.val * 256 + n.val, by omega⟩ := by
  funext b; apply Fin.ext
  rw [Layout.Tiles.idx_val]
  match b with
  | ⟨0, _⟩ => rfl
  | ⟨1, _⟩ => rfl

/-- Where row `n` of device `d`'s part of the second factor is in the whole. -/
theorem idxW (d : Fin 16) (n : Fin 256) (q : Fin 2048) :
    tilesW.idx d (ValueIdx.ix2 n q) = ValueIdx.ix2 ⟨d.val * 256 + n.val, by omega⟩ q := by
  funext b; apply Fin.ext
  rw [Layout.Tiles.idx_val]
  match b with
  | ⟨0, _⟩ => rfl
  | ⟨1, _⟩ => rfl

/-- When the devices hold the blocks of the reference's two factors and the same two scales, each of them ends with
    the reference's result. -/
theorem res_eq (I : Ins Ideal) (x : Vec Ideal Cert.ReferenceIdeal.S4096x4096 .fp8e5m2)
    (w : Vec Ideal Cert.ReferenceIdeal.S4096x2048 .fp8e5m2) (sx sw : Vec Ideal Cert.ReferenceIdeal.S1 .f32)
    (hx : ∀ d, I.x d = Layout.block ⟨2, ![4096, 256]⟩ ⟨2, ![4096, 4096]⟩ 1 16 d x tilesX)
    (hw : ∀ d, I.w d = Layout.block ⟨2, ![256, 2048]⟩ ⟨2, ![4096, 2048]⟩ 0 16 d w tilesW)
    (hsx : ∀ d, I.sx d = sx) (hsw : ∀ d, I.sw d = sw) (c : Dev Cert.KernelIdeal.nD) :
    res I c = Cert.RefVal.out x w sx sw := by
  funext i
  rw [ValueIdx.eq_ix2 i]
  generalize i 0 = r
  generalize i 1 = q
  refine (res_apply I c r q).trans (Eq.trans ?_ (Cert.RefVal.out_apply x w sx sw r q).symm)
  have hs : (scale I c : EReal) = (sx Cert.RefVal.only : EReal) * (sw Cert.RefVal.only : EReal) := by
    unfold scale
    rw [hsx, hsw]
    exact congrArg₂ (fun a b => (sx a : EReal) * (sw b : EReal)) (funext fun a => by match a with | ⟨0, _⟩ => rfl)
      (funext fun a => by match a with | ⟨0, _⟩ => rfl)
  rw [hs, ← sum_parts (fun n => x (ValueIdx.ix2 r n)) (fun n => w (ValueIdx.ix2 n q))]
  refine congrArg (· * _) (Finset.sum_congr rfl fun d _ => Finset.sum_congr rfl fun n _ => ?_)
  rw [hx, hw, Layout.block_apply, Layout.block_apply]
  exact congrArg₂ (fun a b => (x a : EReal) * (w b : EReal)) (idxX d r n) (idxW d n q)

/-- The kernel computes what the reference computes. -/
theorem algebra : Cert.algebraic_KernelIdeal_ReferenceIdeal (hKernelIdeal := Cert.KernelIdeal.Gen.facts)
    (hReferenceIdeal := Cert.ReferenceIdeal.Gen.facts) := fun m ρ m' ρ' _ hag =>
  ⟨_, (θ_run Cert.KernelIdeal.defs _ _).mono (fun _ h c => ⟨(h.1 c).2.2.2.2.trans
        (res_eq (insM m) _ _ _ _ (fun d => (hag d).1) (fun d => (hag d).2.1) (fun d => (hag d).2.2.1) (fun d => (hag d).2.2.2) c),
        (h.1 c).1, (h.1 c).2.1, (h.1 c).2.2.1, (h.1 c).2.2.2.1⟩) (run_main (F := Ideal) m ρ),
    (θ_run Cert.ReferenceIdeal.defs _ _).mono (fun _ h => h 0) (Cert.RefVal.run (F := Ideal) m' ρ')⟩

end Cert.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Every claim of the certificate: the kernel's frame on bit patterns and in exact arithmetic, the reference's frame, the
    idealisation that rewrites nothing, and the kernel's result equal to the reference's in exact arithmetic. -/
theorem claim : Cert.Claim :=
  ⟨Cert.Kernel.Gen.facts, Cert.KernelIdeal.Gen.facts, Cert.ReferenceIdeal.Gen.facts,
    Cert.Ring.frame_bits, Cert.Ring.frame_ideal, fun m ρ _ => Cert.ReferenceIdeal.Gen.frame m ρ, trivial, Cert.Ring.algebra⟩

end Cert.Proof

end
